-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1280x48x2560 : Shape := ⟨3, ![1280, 48, 2560]⟩
abbrev S1280x48 : Shape := ⟨2, ![1280, 48]⟩
abbrev S2560x5120 : Shape := ⟨2, ![2560, 5120]⟩
abbrev S5120 : Shape := ⟨1, ![5120]⟩
abbrev S48x1280 : Shape := ⟨2, ![48, 1280]⟩
abbrev S2560x2x128x4x5 : Shape := ⟨5, ![2560, 2, 128, 4, 5]⟩
abbrev S2560x2x128x4x1 : Shape := ⟨5, ![2560, 2, 128, 4, 1]⟩
abbrev S2560x2x128x4 : Shape := ⟨4, ![2560, 2, 128, 4]⟩
abbrev S2560x1024 : Shape := ⟨2, ![2560, 1024]⟩
abbrev S2560x2x128x4x4 : Shape := ⟨5, ![2560, 2, 128, 4, 4]⟩
abbrev S2560x4x2x4x128 : Shape := ⟨5, ![2560, 4, 2, 4, 128]⟩
abbrev S2560x4096 : Shape := ⟨2, ![2560, 4096]⟩
abbrev S2x128x4x5 : Shape := ⟨4, ![2, 128, 4, 5]⟩
abbrev S2x128x4x1 : Shape := ⟨4, ![2, 128, 4, 1]⟩
abbrev S2x128x4 : Shape := ⟨3, ![2, 128, 4]⟩
abbrev S1024 : Shape := ⟨1, ![1024]⟩
abbrev S2x128x4x4 : Shape := ⟨4, ![2, 128, 4, 4]⟩
abbrev S4x2x4x128 : Shape := ⟨4, ![4, 2, 4, 128]⟩
abbrev S4096 : Shape := ⟨1, ![4096]⟩
abbrev S1x5120 : Shape := ⟨2, ![1, 5120]⟩
abbrev S1280x5x48x1024 : Shape := ⟨4, ![1280, 5, 48, 1024]⟩
abbrev S1280x48x1024 : Shape := ⟨3, ![1280, 48, 1024]⟩
abbrev S20x48x2560 : Shape := ⟨3, ![20, 48, 2560]⟩
abbrev S20x48x1024 : Shape := ⟨3, ![20, 48, 1024]⟩
abbrev S960x2560 : Shape := ⟨2, ![960, 2560]⟩
abbrev S20x48x128 : Shape := ⟨3, ![20, 48, 128]⟩
abbrev S2x20x5x48x1024 : Shape := ⟨5, ![2, 20, 5, 48, 1024]⟩
abbrev S48x1024 : Shape := ⟨2, ![48, 1024]⟩
abbrev S2 : Shape := ⟨1, ![2]⟩
abbrev S1 : Shape := ⟨1, ![1]⟩
abbrev S_ : Shape := ⟨0, ![]⟩
abbrev S20x5x48x1024 : Shape := ⟨4, ![20, 5, 48, 1024]⟩
abbrev S1x20x5x48x1024 : Shape := ⟨5, ![1, 20, 5, 48, 1024]⟩
abbrev S1x48x2560 : Shape := ⟨3, ![1, 48, 2560]⟩
abbrev S48x2560 : Shape := ⟨2, ![48, 2560]⟩
abbrev S8x128 : Shape := ⟨2, ![8, 128]⟩
abbrev S8x128x1 : Shape := ⟨3, ![8, 128, 1]⟩
abbrev S1x8x128 : Shape := ⟨3, ![1, 8, 128]⟩
abbrev S2560x256 : Shape := ⟨2, ![2560, 256]⟩
abbrev S960x256 : Shape := ⟨2, ![960, 256]⟩
abbrev S1x256 : Shape := ⟨2, ![1, 256]⟩
abbrev S960x128 : Shape := ⟨2, ![960, 128]⟩
abbrev S20x48x256 : Shape := ⟨3, ![20, 48, 256]⟩
abbrev S1x20x1x48x256 : Shape := ⟨5, ![1, 20, 1, 48, 256]⟩
abbrev S8 : Shape := ⟨1, ![8]⟩
abbrev S8x1 : Shape := ⟨2, ![8, 1]⟩
abbrev S1x1x1x8x128 : Shape := ⟨5, ![1, 1, 1, 8, 128]⟩
abbrev S48 : Shape := ⟨1, ![48]⟩
abbrev S48x1 : Shape := ⟨2, ![48, 1]⟩

abbrev nBuf : Space → Nat
  | .hbm => 36
  | .vmem => 14
  | .smem => 0
  | _ => 0

abbrev bufTy : (tb : Table) → Fin (tcTables nBuf tb) → BufTy
  | .hbm, ⟨0, _⟩ => ⟨S1280x48x2560, .fp8e4m3⟩
  | .hbm, ⟨1, _⟩ => ⟨S1280x48, .f32⟩
  | .hbm, ⟨2, _⟩ => ⟨S2560x5120, .fp8e4m3⟩
  | .hbm, ⟨3, _⟩ => ⟨S5120, .f32⟩
  | .hbm, ⟨4, _⟩ => ⟨S5120, .f32⟩
  | .hbm, ⟨5, _⟩ => ⟨S48x1280, .f32⟩
  | .hbm, ⟨6, _⟩ => ⟨S2560x2x128x4x5, .fp8e4m3⟩
  | .hbm, ⟨7, _⟩ => ⟨S2560x2x128x4x1, .fp8e4m3⟩
  | .hbm, ⟨8, _⟩ => ⟨S2560x2x128x4, .fp8e4m3⟩
  | .hbm, ⟨9, _⟩ => ⟨S2560x1024, .fp8e4m3⟩
  | .hbm, ⟨10, _⟩ => ⟨S2560x2x128x4x4, .fp8e4m3⟩
  | .hbm, ⟨11, _⟩ => ⟨S2560x4x2x4x128, .fp8e4m3⟩
  | .hbm, ⟨12, _⟩ => ⟨S2560x4096, .fp8e4m3⟩
  | .hbm, ⟨13, _⟩ => ⟨S2560x5120, .fp8e4m3⟩
  | .hbm, ⟨14, _⟩ => ⟨S2x128x4x5, .f32⟩
  | .hbm, ⟨15, _⟩ => ⟨S2x128x4x1, .f32⟩
  | .hbm, ⟨16, _⟩ => ⟨S2x128x4, .f32⟩
  | .hbm, ⟨17, _⟩ => ⟨S1024, .f32⟩
  | .hbm, ⟨18, _⟩ => ⟨S2x128x4x4, .f32⟩
  | .hbm, ⟨19, _⟩ => ⟨S4x2x4x128, .f32⟩
  | .hbm, ⟨20, _⟩ => ⟨S4096, .f32⟩
  | .hbm, ⟨21, _⟩ => ⟨S5120, .f32⟩
  | .hbm, ⟨22, _⟩ => ⟨S1x5120, .f32⟩
  | .hbm, ⟨23, _⟩ => ⟨S2x128x4x5, .f32⟩
  | .hbm, ⟨24, _⟩ => ⟨S2x128x4x1, .f32⟩
  | .hbm, ⟨25, _⟩ => ⟨S2x128x4, .f32⟩
  | .hbm, ⟨26, _⟩ => ⟨S1024, .f32⟩
  | .hbm, ⟨27, _⟩ => ⟨S2x128x4x4, .f32⟩
  | .hbm, ⟨28, _⟩ => ⟨S4x2x4x128, .f32⟩
  | .hbm, ⟨29, _⟩ => ⟨S4096, .f32⟩
  | .hbm, ⟨30, _⟩ => ⟨S5120, .f32⟩
  | .hbm, ⟨31, _⟩ => ⟨S1x5120, .f32⟩
  | .hbm, ⟨32, _⟩ => ⟨S1280x5x48x1024, .bf16⟩
  | .hbm, ⟨33, _⟩ => ⟨S1280x48x1024, .f32⟩
  | .hbm, ⟨34, _⟩ => ⟨S48x1280, .f32⟩
  | .hbm, ⟨35, _⟩ => ⟨S48x1280, .f32⟩
  | .local _ .vmem, ⟨0, _⟩ => ⟨S20x48x2560, .fp8e4m3⟩
  | .local _ .vmem, ⟨1, _⟩ => ⟨S20x48x2560, .fp8e4m3⟩
  | .local _ .vmem, ⟨2, _⟩ => ⟨S48x1280, .f32⟩
  | .local _ .vmem, ⟨3, _⟩ => ⟨S2560x5120, .fp8e4m3⟩
  | .local _ .vmem, ⟨4, _⟩ => ⟨S1x5120, .f32⟩
  | .local _ .vmem, ⟨5, _⟩ => ⟨S1x5120, .f32⟩
  | .local _ .vmem, ⟨6, _⟩ => ⟨S20x48x1024, .f32⟩
  | .local _ .vmem, ⟨7, _⟩ => ⟨S20x48x1024, .f32⟩
  | .local _ .vmem, ⟨8, _⟩ => ⟨S48x1280, .f32⟩
  | .local _ .vmem, ⟨9, _⟩ => ⟨S48x1280, .f32⟩
  | .local _ .vmem, ⟨10, _⟩ => ⟨S960x2560, .fp8e4m3⟩
  | .local _ .vmem, ⟨11, _⟩ => ⟨S20x48x128, .f32⟩
  | .local _ .vmem, ⟨12, _⟩ => ⟨S2x20x5x48x1024, .bf16⟩
  | .local _ .vmem, ⟨13, _⟩ => ⟨S48x1024, .f32⟩
  | _, _ => ⟨S1280x48x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27_0 : Ref sig .tc := ⟨.hbm, 32, rfl⟩
abbrev main_v27_1 : Ref sig .tc := ⟨.hbm, 33, rfl⟩
abbrev main_v27_2 : Ref sig .tc := ⟨.hbm, 34, rfl⟩
abbrev main_v27_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let v6 : BitVec 32 := Scalar.extui v5
  let c0_i32_2 : BitVec 32 := 0#32
  let v7 : BitVec 1 := Scalar.cmpi .ne v6 c0_i32_2
  v7

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 4 → Nat :=
  let arg0 : BitVec 32 := BitVec.ofNat 32 (i 0).val
  let c2_i32_14 : BitVec 32 := 2#32
  let v27 : BitVec 32 := Scalar.subi arg0 c2_i32_14
  let c20_i32 : BitVec 32 := 20#32
  let v28 : BitVec 32 := Scalar.muli v27 c20_i32
  let c0_i32_15 : BitVec 32 := 0#32
  let c0_i32_16 : BitVec 32 := 0#32
  let c0_i32_17 : BitVec 32 := 0#32
  ![v28.toNat, 0, 0, 0]
def k0_off3 (i : grid0.Coords) : Fin 5 → Nat :=
  let arg0 : BitVec 32 := BitVec.ofNat 32 (i 0).val
  let c2_i32 : BitVec 32 := 2#32
  let v0 : BitVec 32 := Scalar.remsi arg0 c2_i32
  let c0_i32_18 : BitVec 32 := 0#32
  let c0_i32_19 : BitVec 32 := 0#32
  let c0_i32_20 : BitVec 32 := 0#32
  let c0_i32_21 : BitVec 32 := 0#32
  ![v0.toNat, 0, 0, 0, 0]
def k0_cond3 (i : grid0.Coords) : BitVec 1 :=
  let arg0 : BitVec 32 := BitVec.ofNat 32 (i 0).val
  let c1_i32_3 : BitVec 32 := 1#32
  let v8 : BitVec 1 := Scalar.cmpi .sge arg0 c1_i32_3
  let c64_i32 : BitVec 32 := 64#32
  let v9 : BitVec 1 := Scalar.cmpi .sle arg0 c64_i32
  let v10 : BitVec 1 := Scalar.andi v8 v9
  let v11 : BitVec 32 := Scalar.extui v10
  let c0_i32_4 : BitVec 32 := 0#32
  let v12 : BitVec 1 := Scalar.cmpi .ne v11 c0_i32_4
  v12

def k0_off4 (i : grid0.Coords) : Fin 1 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  ![v1.toNat]
def k0_off5 (i : grid0.Coords) : Fin 4 → Nat :=
  let arg0 : BitVec 32 := BitVec.ofNat 32 (i 0).val
  let c1_i32_14 : BitVec 32 := 1#32
  let v27 : BitVec 32 := Scalar.subi arg0 c1_i32_14
  let c20_i32 : BitVec 32 := 20#32
  let v28 : BitVec 32 := Scalar.muli v27 c20_i32
  let c0_i32_15 : BitVec 32 := 0#32
  let c0_i32_16 : BitVec 32 := 0#32
  let c0_i32_17 : BitVec 32 := 0#32
  ![v28.toNat, 0, 0, 0]
def k0_off6 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_18 : BitVec 32 := 0#32
  let c0_i32_19 : BitVec 32 := 0#32
  let c0_i32_20 : BitVec 32 := 0#32
  let c0_i32_21 : BitVec 32 := 0#32
  ![v1.toNat, 0, 0, 0, 0]
def k0_cond4 (i : grid0.Coords) : BitVec 1 :=
  let arg0 : BitVec 32 := BitVec.ofNat 32 (i 0).val
  let c64_i32_5 : BitVec 32 := 64#32
  let v13 : BitVec 1 := Scalar.cmpi .slt arg0 c64_i32_5
  let v14 : BitVec 32 := Scalar.extui v13
  let c0_i32_6 : BitVec 32 := 0#32
  let v15 : BitVec 1 := Scalar.cmpi .ne v14 c0_i32_6
  v15

@[reducible] def k0_t1_loop : Scf.Loop 32 :=
  let c0_i32_75 : BitVec 32 := 0#32
  let c20_i32 : BitVec 32 := 20#32
  let v127 : BitVec 32 := Scalar.addi c0_i32_75 c20_i32
  let c1_i32_76 : BitVec 32 := 1#32
  ⟨c0_i32_75, v127, c1_i32_76⟩
def k0_mult1 (i : grid0.Coords) (k0_t1 : Fin k0_t1_loop.trips) : BitVec 32 :=
  let arg0 : BitVec 32 := BitVec.ofNat 32 (i 0).val
  let c20_i32_78 : BitVec 32 := 20#32
  let v128 : BitVec 32 := Scalar.muli arg0 c20_i32_78
  let c0_i32_75 : BitVec 32 := 0#32
  let c1_i32_76 : BitVec 32 := 1#32
  let arg15 : BitVec 32 := Scf.iv c0_i32_75 c1_i32_76 k0_t1
  let v129 : BitVec 32 := Scalar.addi v128 arg15
  let c7_i32 : BitVec 32 := 7#32
  let v130 : BitVec 32 := Scalar.shrsi v129 c7_i32
  let c7_i32_79 : BitVec 32 := 7#32
  let v131 : BitVec 32 := Scalar.shli v130 c7_i32_79
  v131
def k0_off7 (i : grid0.Coords) (k0_t1 : Fin k0_t1_loop.trips) : Fin 2 → Nat :=
  let c0_80 : Index := 0#32
  let arg0 : BitVec 32 := BitVec.ofNat 32 (i 0).val
  let c20_i32_78 : BitVec 32 := 20#32
  let v128 : BitVec 32 := Scalar.muli arg0 c20_i32_78
  let c0_i32_75 : BitVec 32 := 0#32
  let c1_i32_76 : BitVec 32 := 1#32
  let arg15 : BitVec 32 := Scf.iv c0_i32_75 c1_i32_76 k0_t1
  let v129 : BitVec 32 := Scalar.addi v128 arg15
  let c7_i32 : BitVec 32 := 7#32
  let v130 : BitVec 32 := Scalar.shrsi v129 c7_i32
  let c7_i32_79 : BitVec 32 := 7#32
  let v131 : BitVec 32 := Scalar.shli v130 c7_i32_79
  let v132 : BitVec 32 := v131
  let v133 : Index := Scalar.indexCast v132
  ![0, v133.toNat]
def k0_off8 (k0_t1 : Fin k0_t1_loop.trips) : Fin 3 → Nat :=
  let c0_i32_75 : BitVec 32 := 0#32
  let c1_i32_76 : BitVec 32 := 1#32
  let arg15 : BitVec 32 := Scf.iv c0_i32_75 c1_i32_76 k0_t1
  let v148 : Index := Scalar.indexCast arg15
  let c0_83 : Index := 0#32
  let c0_84 : Index := 0#32
  ![v148.toNat, 0, 0]
def k0_mult2 (i : grid0.Coords) (k0_t1 : Fin k0_t1_loop.trips) : BitVec 32 :=
  let arg0 : BitVec 32 := BitVec.ofNat 32 (i 0).val
  let c20_i32_78 : BitVec 32 := 20#32
  let v128 : BitVec 32 := Scalar.muli arg0 c20_i32_78
  let c0_i32_75 : BitVec 32 := 0#32
  let c1_i32_76 : BitVec 32 := 1#32
  let arg15 : BitVec 32 := Scf.iv c0_i32_75 c1_i32_76 k0_t1
  let v129 : BitVec 32 := Scalar.addi v128 arg15
  let c7_i32_85 : BitVec 32 := 7#32
  let v152 : BitVec 32 := Scalar.shrsi v129 c7_i32_85
  let c7_i32_86 : BitVec 32 := 7#32
  let v153 : BitVec 32 := Scalar.shli v152 c7_i32_86
  v153
def k0_off9 (i : grid0.Coords) (k0_t1 : Fin k0_t1_loop.trips) : Fin 2 → Nat :=
  let c8_87 : Index := 8#32
  let arg0 : BitVec 32 := BitVec.ofNat 32 (i 0).val
  let c20_i32_78 : BitVec 32 := 20#32
  let v128 : BitVec 32 := Scalar.muli arg0 c20_i32_78
  let c0_i32_75 : BitVec 32 := 0#32
  let c1_i32_76 : BitVec 32 := 1#32
  let arg15 : BitVec 32 := Scf.iv c0_i32_75 c1_i32_76 k0_t1
  let v129 : BitVec 32 := Scalar.addi v128 arg15
  let c7_i32_85 : BitVec 32 := 7#32
  let v152 : BitVec 32 := Scalar.shrsi v129 c7_i32_85
  let c7_i32_86 : BitVec 32 := 7#32
  let v153 : BitVec 32 := Scalar.shli v152 c7_i32_86
  let v154 : BitVec 32 := v153
  let v155 : Index := Scalar.indexCast v154
  ![8, v155.toNat]
def k0_off10 (k0_t1 : Fin k0_t1_loop.trips) : Fin 3 → Nat :=
  let c0_i32_75 : BitVec 32 := 0#32
  let c1_i32_76 : BitVec 32 := 1#32
  let arg15 : BitVec 32 := Scf.iv c0_i32_75 c1_i32_76 k0_t1
  let v170 : Index := Scalar.indexCast arg15
  let c8_92 : Index := 8#32
  let c0_93 : Index := 0#32
  ![v170.toNat, 8, 0]
def k0_mult3 (i : grid0.Coords) (k0_t1 : Fin k0_t1_loop.trips) : BitVec 32 :=
  let arg0 : BitVec 32 := BitVec.ofNat 32 (i 0).val
  let c20_i32_78 : BitVec 32 := 20#32
  let v128 : BitVec 32 := Scalar.muli arg0 c20_i32_78
  let c0_i32_75 : BitVec 32 := 0#32
  let c1_i32_76 : BitVec 32 := 1#32
  let arg15 : BitVec 32 := Scf.iv c0_i32_75 c1_i32_76 k0_t1
  let v129 : BitVec 32 := Scalar.addi v128 arg15
  let c7_i32_94 : BitVec 32 := 7#32
  let v174 : BitVec 32 := Scalar.shrsi v129 c7_i32_94
  let c7_i32_95 : BitVec 32 := 7#32
  let v175 : BitVec 32 := Scalar.shli v174 c7_i32_95
  v175
def k0_off11 (i : grid0.Coords) (k0_t1 : Fin k0_t1_loop.trips) : Fin 2 → Nat :=
  let c16_96 : Index := 16#32
  let arg0 : BitVec 32 := BitVec.ofNat 32 (i 0).val
  let c20_i32_78 : BitVec 32 := 20#32
  let v128 : BitVec 32 := Scalar.muli arg0 c20_i32_78
  let c0_i32_75 : BitVec 32 := 0#32
  let c1_i32_76 : BitVec 32 := 1#32
  let arg15 : BitVec 32 := Scf.iv c0_i32_75 c1_i32_76 k0_t1
  let v129 : BitVec 32 := Scalar.addi v128 arg15
  let c7_i32_94 : BitVec 32 := 7#32
  let v174 : BitVec 32 := Scalar.shrsi v129 c7_i32_94
  let c7_i32_95 : BitVec 32 := 7#32
  let v175 : BitVec 32 := Scalar.shli v174 c7_i32_95
  let v176 : BitVec 32 := v175
  let v177 : Index := Scalar.indexCast v176
  ![16, v177.toNat]
def k0_off12 (k0_t1 : Fin k0_t1_loop.trips) : Fin 3 → Nat :=
  let c0_i32_75 : BitVec 32 := 0#32
  let c1_i32_76 : BitVec 32 := 1#32
  let arg15 : BitVec 32 := Scf.iv c0_i32_75 c1_i32_76 k0_t1
  let v192 : Index := Scalar.indexCast arg15
  let c16_101 : Index := 16#32
  let c0_102 : Index := 0#32
  ![v192.toNat, 16, 0]
def k0_mult4 (i : grid0.Coords) (k0_t1 : Fin k0_t1_loop.trips) : BitVec 32 :=
  let arg0 : BitVec 32 := BitVec.ofNat 32 (i 0).val
  let c20_i32_78 : BitVec 32 := 20#32
  let v128 : BitVec 32 := Scalar.muli arg0 c20_i32_78
  let c0_i32_75 : BitVec 32 := 0#32
  let c1_i32_76 : BitVec 32 := 1#32
  let arg15 : BitVec 32 := Scf.iv c0_i32_75 c1_i32_76 k0_t1
  let v129 : BitVec 32 := Scalar.addi v128 arg15
  let c7_i32_103 : BitVec 32 := 7#32
  let v196 : BitVec 32 := Scalar.shrsi v129 c7_i32_103
  let c7_i32_104 : BitVec 32 := 7#32
  let v197 : BitVec 32 := Scalar.shli v196 c7_i32_104
  v197
def k0_off13 (i : grid0.Coords) (k0_t1 : Fin k0_t1_loop.trips) : Fin 2 → Nat :=
  let c24 : Index := 24#32
  let arg0 : BitVec 32 := BitVec.ofNat 32 (i 0).val
  let c20_i32_78 : BitVec 32 := 20#32
  let v128 : BitVec 32 := Scalar.muli arg0 c20_i32_78
  let c0_i32_75 : BitVec 32 := 0#32
  let c1_i32_76 : BitVec 32 := 1#32
  let arg15 : BitVec 32 := Scf.iv c0_i32_75 c1_i32_76 k0_t1
  let v129 : BitVec 32 := Scalar.addi v128 arg15
  let c7_i32_103 : BitVec 32 := 7#32
  let v196 : BitVec 32 := Scalar.shrsi v129 c7_i32_103
  let c7_i32_104 : BitVec 32 := 7#32
  let v197 : BitVec 32 := Scalar.shli v196 c7_i32_104
  let v198 : BitVec 32 := v197
  let v199 : Index := Scalar.indexCast v198
  ![24, v199.toNat]
def k0_off14 (k0_t1 : Fin k0_t1_loop.trips) : Fin 3 → Nat :=
  let c0_i32_75 : BitVec 32 := 0#32
  let c1_i32_76 : BitVec 32 := 1#32
  let arg15 : BitVec 32 := Scf.iv c0_i32_75 c1_i32_76 k0_t1
  let v214 : Index := Scalar.indexCast arg15
  let c24_109 : Index := 24#32
  let c0_110 : Index := 0#32
  ![v214.toNat, 24, 0]
def k0_mult5 (i : grid0.Coords) (k0_t1 : Fin k0_t1_loop.trips) : BitVec 32 :=
  let arg0 : BitVec 32 := BitVec.ofNat 32 (i 0).val
  let c20_i32_78 : BitVec 32 := 20#32
  let v128 : BitVec 32 := Scalar.muli arg0 c20_i32_78
  let c0_i32_75 : BitVec 32 := 0#32
  let c1_i32_76 : BitVec 32 := 1#32
  let arg15 : BitVec 32 := Scf.iv c0_i32_75 c1_i32_76 k0_t1
  let v129 : BitVec 32 := Scalar.addi v128 arg15
  let c7_i32_111 : BitVec 32 := 7#32
  let v218 : BitVec 32 := Scalar.shrsi v129 c7_i32_111
  let c7_i32_112 : BitVec 32 := 7#32
  let v219 : BitVec 32 := Scalar.shli v218 c7_i32_112
  v219
def k0_off15 (i : grid0.Coords) (k0_t1 : Fin k0_t1_loop.trips) : Fin 2 → Nat :=
  let c32 : Index := 32#32
  let arg0 : BitVec 32 := BitVec.ofNat 32 (i 0).val
  let c20_i32_78 : BitVec 32 := 20#32
  let v128 : BitVec 32 := Scalar.muli arg0 c20_i32_78
  let c0_i32_75 : BitVec 32 := 0#32
  let c1_i32_76 : BitVec 32 := 1#32
  let arg15 : BitVec 32 := Scf.iv c0_i32_75 c1_i32_76 k0_t1
  let v129 : BitVec 32 := Scalar.addi v128 arg15
  let c7_i32_111 : BitVec 32 := 7#32
  let v218 : BitVec 32 := Scalar.shrsi v129 c7_i32_111
  let c7_i32_112 : BitVec 32 := 7#32
  let v219 : BitVec 32 := Scalar.shli v218 c7_i32_112
  let v220 : BitVec 32 := v219
  let v221 : Index := Scalar.indexCast v220
  ![32, v221.toNat]
def k0_off16 (k0_t1 : Fin k0_t1_loop.trips) : Fin 3 → Nat :=
  let c0_i32_75 : BitVec 32 := 0#32
  let c1_i32_76 : BitVec 32 := 1#32
  let arg15 : BitVec 32 := Scf.iv c0_i32_75 c1_i32_76 k0_t1
  let v236 : Index := Scalar.indexCast arg15
  let c32_117 : Index := 32#32
  let c0_118 : Index := 0#32
  ![v236.toNat, 32, 0]
def k0_mult6 (i : grid0.Coords) (k0_t1 : Fin k0_t1_loop.trips) : BitVec 32 :=
  let arg0 : BitVec 32 := BitVec.ofNat 32 (i 0).val
  let c20_i32_78 : BitVec 32 := 20#32
  let v128 : BitVec 32 := Scalar.muli arg0 c20_i32_78
  let c0_i32_75 : BitVec 32 := 0#32
  let c1_i32_76 : BitVec 32 := 1#32
  let arg15 : BitVec 32 := Scf.iv c0_i32_75 c1_i32_76 k0_t1
  let v129 : BitVec 32 := Scalar.addi v128 arg15
  let c7_i32_119 : BitVec 32 := 7#32
  let v240 : BitVec 32 := Scalar.shrsi v129 c7_i32_119
  let c7_i32_120 : BitVec 32 := 7#32
  let v241 : BitVec 32 := Scalar.shli v240 c7_i32_120
  v241
def k0_off17 (i : grid0.Coords) (k0_t1 : Fin k0_t1_loop.trips) : Fin 2 → Nat :=
  let c40 : Index := 40#32
  let arg0 : BitVec 32 := BitVec.ofNat 32 (i 0).val
  let c20_i32_78 : BitVec 32 := 20#32
  let v128 : BitVec 32 := Scalar.muli arg0 c20_i32_78
  let c0_i32_75 : BitVec 32 := 0#32
  let c1_i32_76 : BitVec 32 := 1#32
  let arg15 : BitVec 32 := Scf.iv c0_i32_75 c1_i32_76 k0_t1
  let v129 : BitVec 32 := Scalar.addi v128 arg15
  let c7_i32_119 : BitVec 32 := 7#32
  let v240 : BitVec 32 := Scalar.shrsi v129 c7_i32_119
  let c7_i32_120 : BitVec 32 := 7#32
  let v241 : BitVec 32 := Scalar.shli v240 c7_i32_120
  let v242 : BitVec 32 := v241
  let v243 : Index := Scalar.indexCast v242
  ![40, v243.toNat]
def k0_off18 (k0_t1 : Fin k0_t1_loop.trips) : Fin 3 → Nat :=
  let c0_i32_75 : BitVec 32 := 0#32
  let c1_i32_76 : BitVec 32 := 1#32
  let arg15 : BitVec 32 := Scf.iv c0_i32_75 c1_i32_76 k0_t1
  let v258 : Index := Scalar.indexCast arg15
  let c40_125 : Index := 40#32
  let c0_126 : Index := 0#32
  ![v258.toNat, 40, 0]
def k0_cond5 (i : grid0.Coords) : BitVec 1 :=
  let arg0 : BitVec 32 := BitVec.ofNat 32 (i 0).val
  let c0_i32_7 : BitVec 32 := 0#32
  let v16 : BitVec 1 := Scalar.cmpi .eq arg0 c0_i32_7
  let v17 : BitVec 32 := Scalar.extui v16
  let c0_i32_8 : BitVec 32 := 0#32
  let v18 : BitVec 1 := Scalar.cmpi .ne v17 c0_i32_8
  v18

@[reducible] def k0_t2_loop : Scf.Loop 32 :=
  let c0_i32_14 : BitVec 32 := 0#32
  let c20_i32 : BitVec 32 := 20#32
  let v27 : BitVec 32 := Scalar.addi c0_i32_14 c20_i32
  let c1_i32_15 : BitVec 32 := 1#32
  ⟨c0_i32_14, v27, c1_i32_15⟩
def k0_mult7 (k0_t2 : Fin k0_t2_loop.trips) : BitVec 32 :=
  let c0_i32_14 : BitVec 32 := 0#32
  let c1_i32_15 : BitVec 32 := 1#32
  let arg15 : BitVec 32 := Scf.iv c0_i32_14 c1_i32_15 k0_t2
  let c256_i32 : BitVec 32 := 256#32
  let v28 : BitVec 32 := Scalar.muli arg15 c256_i32
  v28
def k0_off19 (k0_t2 : Fin k0_t2_loop.trips) : Fin 2 → Nat :=
  let c0_18 : Index := 0#32
  let c0_i32_14 : BitVec 32 := 0#32
  let c1_i32_15 : BitVec 32 := 1#32
  let arg15 : BitVec 32 := Scf.iv c0_i32_14 c1_i32_15 k0_t2
  let c256_i32 : BitVec 32 := 256#32
  let v28 : BitVec 32 := Scalar.muli arg15 c256_i32
  let v29 : BitVec 32 := v28
  let v31 : Index := Scalar.indexCast v29
  ![0, v31.toNat]
def k0_off20 (k0_t2 : Fin k0_t2_loop.trips) : Fin 2 → Nat :=
  let c0_19 : Index := 0#32
  let c0_i32_14 : BitVec 32 := 0#32
  let c1_i32_15 : BitVec 32 := 1#32
  let arg15 : BitVec 32 := Scf.iv c0_i32_14 c1_i32_15 k0_t2
  let c256_i32 : BitVec 32 := 256#32
  let v28 : BitVec 32 := Scalar.muli arg15 c256_i32
  let v29 : BitVec 32 := v28
  let v35 : Index := Scalar.indexCast v29
  ![0, v35.toNat]
def k0_mult8 (k0_t2 : Fin k0_t2_loop.trips) : BitVec 32 :=
  let c0_i32_14 : BitVec 32 := 0#32
  let c1_i32_15 : BitVec 32 := 1#32
  let arg15 : BitVec 32 := Scf.iv c0_i32_14 c1_i32_15 k0_t2
  let c3_i32 : BitVec 32 := 3#32
  let v42 : BitVec 32 := Scalar.andi arg15 c3_i32
  let c256_i32_22 : BitVec 32 := 256#32
  let v43 : BitVec 32 := Scalar.muli v42 c256_i32_22
  v43
def k0_off21 (i : grid0.Coords) (k0_t2 : Fin k0_t2_loop.trips) : Fin 5 → Nat :=
  let arg0 : BitVec 32 := BitVec.ofNat 32 (i 0).val
  let c2_i32 : BitVec 32 := 2#32
  let v0 : BitVec 32 := Scalar.remsi arg0 c2_i32
  let v58 : Index := Scalar.indexCast v0
  let c0_27 : Index := 0#32
  let c0_i32_14 : BitVec 32 := 0#32
  let c1_i32_15 : BitVec 32 := 1#32
  let arg15 : BitVec 32 := Scf.iv c0_i32_14 c1_i32_15 k0_t2
  let c2_i32_21 : BitVec 32 := 2#32
  let v41 : BitVec 32 := Scalar.shrsi arg15 c2_i32_21
  let v59 : Index := Scalar.indexCast v41
  let c0_28 : Index := 0#32
  let c3_i32 : BitVec 32 := 3#32
  let v42 : BitVec 32 := Scalar.andi arg15 c3_i32
  let c256_i32_22 : BitVec 32 := 256#32
  let v43 : BitVec 32 := Scalar.muli v42 c256_i32_22
  let v44 : BitVec 32 := v43
  let v60 : Index := Scalar.indexCast v44
  ![v58.toNat, 0, v59.toNat, 0, v60.toNat]
def k0_cond6 (i : grid0.Coords) : BitVec 1 :=
  let arg0 : BitVec 32 := BitVec.ofNat 32 (i 0).val
  let c0_i32_9 : BitVec 32 := 0#32
  let v19 : BitVec 1 := Scalar.cmpi .sgt arg0 c0_i32_9
  let c64_i32_10 : BitVec 32 := 64#32
  let v20 : BitVec 1 := Scalar.cmpi .slt arg0 c64_i32_10
  let v21 : BitVec 1 := Scalar.andi v19 v20
  let v22 : BitVec 32 := Scalar.extui v21
  let c0_i32_11 : BitVec 32 := 0#32
  let v23 : BitVec 1 := Scalar.cmpi .ne v22 c0_i32_11
  v23

@[reducible] def k0_t3_loop : Scf.Loop 32 :=
  let c0_i32_14 : BitVec 32 := 0#32
  let c20_i32 : BitVec 32 := 20#32
  let v27 : BitVec 32 := Scalar.addi c0_i32_14 c20_i32
  let c1_i32_15 : BitVec 32 := 1#32
  ⟨c0_i32_14, v27, c1_i32_15⟩
def k0_mult9 (k0_t3 : Fin k0_t3_loop.trips) : BitVec 32 :=
  let c0_i32_14 : BitVec 32 := 0#32
  let c1_i32_15 : BitVec 32 := 1#32
  let arg15 : BitVec 32 := Scf.iv c0_i32_14 c1_i32_15 k0_t3
  let c256_i32 : BitVec 32 := 256#32
  let v28 : BitVec 32 := Scalar.muli arg15 c256_i32
  v28
def k0_off22 (k0_t3 : Fin k0_t3_loop.trips) : Fin 2 → Nat :=
  let c0_18 : Index := 0#32
  let c0_i32_14 : BitVec 32 := 0#32
  let c1_i32_15 : BitVec 32 := 1#32
  let arg15 : BitVec 32 := Scf.iv c0_i32_14 c1_i32_15 k0_t3
  let c256_i32 : BitVec 32 := 256#32
  let v28 : BitVec 32 := Scalar.muli arg15 c256_i32
  let v29 : BitVec 32 := v28
  let v31 : Index := Scalar.indexCast v29
  ![0, v31.toNat]
def k0_off23 (k0_t3 : Fin k0_t3_loop.trips) : Fin 2 → Nat :=
  let c0_19 : Index := 0#32
  let c0_i32_14 : BitVec 32 := 0#32
  let c1_i32_15 : BitVec 32 := 1#32
  let arg15 : BitVec 32 := Scf.iv c0_i32_14 c1_i32_15 k0_t3
  let c256_i32 : BitVec 32 := 256#32
  let v28 : BitVec 32 := Scalar.muli arg15 c256_i32
  let v29 : BitVec 32 := v28
  let v35 : Index := Scalar.indexCast v29
  ![0, v35.toNat]
def k0_mult10 (k0_t3 : Fin k0_t3_loop.trips) : BitVec 32 :=
  let c0_i32_14 : BitVec 32 := 0#32
  let c1_i32_15 : BitVec 32 := 1#32
  let arg15 : BitVec 32 := Scf.iv c0_i32_14 c1_i32_15 k0_t3
  let c3_i32 : BitVec 32 := 3#32
  let v42 : BitVec 32 := Scalar.andi arg15 c3_i32
  let c256_i32_22 : BitVec 32 := 256#32
  let v43 : BitVec 32 := Scalar.muli v42 c256_i32_22
  v43
def k0_off24 (i : grid0.Coords) (k0_t3 : Fin k0_t3_loop.trips) : Fin 5 → Nat :=
  let arg0 : BitVec 32 := BitVec.ofNat 32 (i 0).val
  let c2_i32 : BitVec 32 := 2#32
  let v0 : BitVec 32 := Scalar.remsi arg0 c2_i32
  let v58 : Index := Scalar.indexCast v0
  let c0_27 : Index := 0#32
  let c0_i32_14 : BitVec 32 := 0#32
  let c1_i32_15 : BitVec 32 := 1#32
  let arg15 : BitVec 32 := Scf.iv c0_i32_14 c1_i32_15 k0_t3
  let c2_i32_21 : BitVec 32 := 2#32
  let v41 : BitVec 32 := Scalar.shrsi arg15 c2_i32_21
  let v59 : Index := Scalar.indexCast v41
  let c0_28 : Index := 0#32
  let c3_i32 : BitVec 32 := 3#32
  let v42 : BitVec 32 := Scalar.andi arg15 c3_i32
  let c256_i32_22 : BitVec 32 := 256#32
  let v43 : BitVec 32 := Scalar.muli v42 c256_i32_22
  let v44 : BitVec 32 := v43
  let v60 : Index := Scalar.indexCast v44
  ![v58.toNat, 0, v59.toNat, 0, v60.toNat]
def k0_off25 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v79 : Index := Scalar.indexCast arg15
  let c0_40 : Index := 0#32
  let c0_41 : Index := 0#32
  ![v79.toNat, 0, 0]
def k0_off26 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v83 : Index := Scalar.indexCast arg15
  let c0_42 : Index := 0#32
  let c128_43 : Index := 128#32
  ![v83.toNat, 0, 128]
def k0_off27 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v87 : Index := Scalar.indexCast arg15
  let c0_44 : Index := 0#32
  let c256_45 : Index := 256#32
  ![v87.toNat, 0, 256]
def k0_off28 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v91 : Index := Scalar.indexCast arg15
  let c0_46 : Index := 0#32
  let c384_47 : Index := 384#32
  ![v91.toNat, 0, 384]
def k0_off29 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v95 : Index := Scalar.indexCast arg15
  let c0_48 : Index := 0#32
  let c512_49 : Index := 512#32
  ![v95.toNat, 0, 512]
def k0_off30 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v99 : Index := Scalar.indexCast arg15
  let c0_50 : Index := 0#32
  let c640_51 : Index := 640#32
  ![v99.toNat, 0, 640]
def k0_off31 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v103 : Index := Scalar.indexCast arg15
  let c0_52 : Index := 0#32
  let c768_53 : Index := 768#32
  ![v103.toNat, 0, 768]
def k0_off32 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v107 : Index := Scalar.indexCast arg15
  let c0_54 : Index := 0#32
  let c896_55 : Index := 896#32
  ![v107.toNat, 0, 896]
def k0_mult11 (i : grid0.Coords) (k0_t3 : Fin k0_t3_loop.trips) : BitVec 32 :=
  let arg0 : BitVec 32 := BitVec.ofNat 32 (i 0).val
  let c1_i32_29 : BitVec 32 := 1#32
  let v64 : BitVec 32 := Scalar.subi arg0 c1_i32_29
  let c20_i32_30 : BitVec 32 := 20#32
  let v65 : BitVec 32 := Scalar.muli v64 c20_i32_30
  let c0_i32_14 : BitVec 32 := 0#32
  let c1_i32_15 : BitVec 32 := 1#32
  let arg15 : BitVec 32 := Scf.iv c0_i32_14 c1_i32_15 k0_t3
  let v66 : BitVec 32 := Scalar.addi v65 arg15
  let c7_i32 : BitVec 32 := 7#32
  let v125 : BitVec 32 := Scalar.shrsi v66 c7_i32
  let c7_i32_60 : BitVec 32 := 7#32
  let v126 : BitVec 32 := Scalar.shli v125 c7_i32_60
  v126
def k0_off33 (i : grid0.Coords) (k0_t3 : Fin k0_t3_loop.trips) : Fin 2 → Nat :=
  let c0_61 : Index := 0#32
  let arg0 : BitVec 32 := BitVec.ofNat 32 (i 0).val
  let c1_i32_29 : BitVec 32 := 1#32
  let v64 : BitVec 32 := Scalar.subi arg0 c1_i32_29
  let c20_i32_30 : BitVec 32 := 20#32
  let v65 : BitVec 32 := Scalar.muli v64 c20_i32_30
  let c0_i32_14 : BitVec 32 := 0#32
  let c1_i32_15 : BitVec 32 := 1#32
  let arg15 : BitVec 32 := Scf.iv c0_i32_14 c1_i32_15 k0_t3
  let v66 : BitVec 32 := Scalar.addi v65 arg15
  let c7_i32 : BitVec 32 := 7#32
  let v125 : BitVec 32 := Scalar.shrsi v66 c7_i32
  let c7_i32_60 : BitVec 32 := 7#32
  let v126 : BitVec 32 := Scalar.shli v125 c7_i32_60
  let v127 : BitVec 32 := v126
  let v128 : Index := Scalar.indexCast v127
  ![0, v128.toNat]
def k0_off34 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v136 : Index := Scalar.indexCast v1
  let c0_i32_14 : BitVec 32 := 0#32
  let c1_i32_15 : BitVec 32 := 1#32
  let arg15 : BitVec 32 := Scf.iv c0_i32_14 c1_i32_15 k0_t3
  let v137 : Index := Scalar.indexCast arg15
  let c1 : Index := 1#32
  let c0_63 : Index := 0#32
  let c0_64 : Index := 0#32
  ![v136.toNat, v137.toNat, 1, 0, 0]
def k0_off35 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v145 : Index := Scalar.indexCast v1
  let c0_i32_14 : BitVec 32 := 0#32
  let c1_i32_15 : BitVec 32 := 1#32
  let arg15 : BitVec 32 := Scf.iv c0_i32_14 c1_i32_15 k0_t3
  let v146 : Index := Scalar.indexCast arg15
  let c2 : Index := 2#32
  let c0_66 : Index := 0#32
  let c0_67 : Index := 0#32
  ![v145.toNat, v146.toNat, 2, 0, 0]
def k0_off36 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v154 : Index := Scalar.indexCast v1
  let c0_i32_14 : BitVec 32 := 0#32
  let c1_i32_15 : BitVec 32 := 1#32
  let arg15 : BitVec 32 := Scf.iv c0_i32_14 c1_i32_15 k0_t3
  let v155 : Index := Scalar.indexCast arg15
  let c3 : Index := 3#32
  let c0_69 : Index := 0#32
  let c0_70 : Index := 0#32
  ![v154.toNat, v155.toNat, 3, 0, 0]
def k0_off37 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v163 : Index := Scalar.indexCast v1
  let c0_i32_14 : BitVec 32 := 0#32
  let c1_i32_15 : BitVec 32 := 1#32
  let arg15 : BitVec 32 := Scf.iv c0_i32_14 c1_i32_15 k0_t3
  let v164 : Index := Scalar.indexCast arg15
  let c4 : Index := 4#32
  let c0_72 : Index := 0#32
  let c0_73 : Index := 0#32
  ![v163.toNat, v164.toNat, 4, 0, 0]
def k0_off38 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v175 : Index := Scalar.indexCast v1
  let c0_i32_14 : BitVec 32 := 0#32
  let c1_i32_15 : BitVec 32 := 1#32
  let arg15 : BitVec 32 := Scf.iv c0_i32_14 c1_i32_15 k0_t3
  let v176 : Index := Scalar.indexCast arg15
  let c1_75 : Index := 1#32
  let c0_76 : Index := 0#32
  let c128_77 : Index := 128#32
  ![v175.toNat, v176.toNat, 1, 0, 128]
def k0_off39 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v184 : Index := Scalar.indexCast v1
  let c0_i32_14 : BitVec 32 := 0#32
  let c1_i32_15 : BitVec 32 := 1#32
  let arg15 : BitVec 32 := Scf.iv c0_i32_14 c1_i32_15 k0_t3
  let v185 : Index := Scalar.indexCast arg15
  let c2_79 : Index := 2#32
  let c0_80 : Index := 0#32
  let c128_81 : Index := 128#32
  ![v184.toNat, v185.toNat, 2, 0, 128]
def k0_off40 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v193 : Index := Scalar.indexCast v1
  let c0_i32_14 : BitVec 32 := 0#32
  let c1_i32_15 : BitVec 32 := 1#32
  let arg15 : BitVec 32 := Scf.iv c0_i32_14 c1_i32_15 k0_t3
  let v194 : Index := Scalar.indexCast arg15
  let c3_83 : Index := 3#32
  let c0_84 : Index := 0#32
  let c128_85 : Index := 128#32
  ![v193.toNat, v194.toNat, 3, 0, 128]
def k0_off41 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v202 : Index := Scalar.indexCast v1
  let c0_i32_14 : BitVec 32 := 0#32
  let c1_i32_15 : BitVec 32 := 1#32
  let arg15 : BitVec 32 := Scf.iv c0_i32_14 c1_i32_15 k0_t3
  let v203 : Index := Scalar.indexCast arg15
  let c4_87 : Index := 4#32
  let c0_88 : Index := 0#32
  let c128_89 : Index := 128#32
  ![v202.toNat, v203.toNat, 4, 0, 128]
def k0_off42 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v214 : Index := Scalar.indexCast v1
  let c0_i32_14 : BitVec 32 := 0#32
  let c1_i32_15 : BitVec 32 := 1#32
  let arg15 : BitVec 32 := Scf.iv c0_i32_14 c1_i32_15 k0_t3
  let v215 : Index := Scalar.indexCast arg15
  let c1_91 : Index := 1#32
  let c0_92 : Index := 0#32
  let c256_93 : Index := 256#32
  ![v214.toNat, v215.toNat, 1, 0, 256]
def k0_off43 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v223 : Index := Scalar.indexCast v1
  let c0_i32_14 : BitVec 32 := 0#32
  let c1_i32_15 : BitVec 32 := 1#32
  let arg15 : BitVec 32 := Scf.iv c0_i32_14 c1_i32_15 k0_t3
  let v224 : Index := Scalar.indexCast arg15
  let c2_95 : Index := 2#32
  let c0_96 : Index := 0#32
  let c256_97 : Index := 256#32
  ![v223.toNat, v224.toNat, 2, 0, 256]
def k0_off44 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v232 : Index := Scalar.indexCast v1
  let c0_i32_14 : BitVec 32 := 0#32
  let c1_i32_15 : BitVec 32 := 1#32
  let arg15 : BitVec 32 := Scf.iv c0_i32_14 c1_i32_15 k0_t3
  let v233 : Index := Scalar.indexCast arg15
  let c3_99 : Index := 3#32
  let c0_100 : Index := 0#32
  let c256_101 : Index := 256#32
  ![v232.toNat, v233.toNat, 3, 0, 256]
def k0_off45 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v241 : Index := Scalar.indexCast v1
  let c0_i32_14 : BitVec 32 := 0#32
  let c1_i32_15 : BitVec 32 := 1#32
  let arg15 : BitVec 32 := Scf.iv c0_i32_14 c1_i32_15 k0_t3
  let v242 : Index := Scalar.indexCast arg15
  let c4_103 : Index := 4#32
  let c0_104 : Index := 0#32
  let c256_105 : Index := 256#32
  ![v241.toNat, v242.toNat, 4, 0, 256]
def k0_off46 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v253 : Index := Scalar.indexCast v1
  let c0_i32_14 : BitVec 32 := 0#32
  let c1_i32_15 : BitVec 32 := 1#32
  let arg15 : BitVec 32 := Scf.iv c0_i32_14 c1_i32_15 k0_t3
  let v254 : Index := Scalar.indexCast arg15
  let c1_107 : Index := 1#32
  let c0_108 : Index := 0#32
  let c384_109 : Index := 384#32
  ![v253.toNat, v254.toNat, 1, 0, 384]
def k0_off47 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v262 : Index := Scalar.indexCast v1
  let c0_i32_14 : BitVec 32 := 0#32
  let c1_i32_15 : BitVec 32 := 1#32
  let arg15 : BitVec 32 := Scf.iv c0_i32_14 c1_i32_15 k0_t3
  let v263 : Index := Scalar.indexCast arg15
  let c2_111 : Index := 2#32
  let c0_112 : Index := 0#32
  let c384_113 : Index := 384#32
  ![v262.toNat, v263.toNat, 2, 0, 384]
def k0_off48 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v271 : Index := Scalar.indexCast v1
  let c0_i32_14 : BitVec 32 := 0#32
  let c1_i32_15 : BitVec 32 := 1#32
  let arg15 : BitVec 32 := Scf.iv c0_i32_14 c1_i32_15 k0_t3
  let v272 : Index := Scalar.indexCast arg15
  let c3_115 : Index := 3#32
  let c0_116 : Index := 0#32
  let c384_117 : Index := 384#32
  ![v271.toNat, v272.toNat, 3, 0, 384]
def k0_off49 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v280 : Index := Scalar.indexCast v1
  let c0_i32_14 : BitVec 32 := 0#32
  let c1_i32_15 : BitVec 32 := 1#32
  let arg15 : BitVec 32 := Scf.iv c0_i32_14 c1_i32_15 k0_t3
  let v281 : Index := Scalar.indexCast arg15
  let c4_119 : Index := 4#32
  let c0_120 : Index := 0#32
  let c384_121 : Index := 384#32
  ![v280.toNat, v281.toNat, 4, 0, 384]
def k0_off50 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v374 : Index := Scalar.indexCast v1
  let c0_i32_14 : BitVec 32 := 0#32
  let c1_i32_15 : BitVec 32 := 1#32
  let arg15 : BitVec 32 := Scf.iv c0_i32_14 c1_i32_15 k0_t3
  let v375 : Index := Scalar.indexCast arg15
  let c0_148 : Index := 0#32
  let c0_149 : Index := 0#32
  let c0_150 : Index := 0#32
  ![v374.toNat, v375.toNat, 0, 0, 0]
def k0_off51 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v389 : Index := Scalar.indexCast v1
  let c0_i32_14 : BitVec 32 := 0#32
  let c1_i32_15 : BitVec 32 := 1#32
  let arg15 : BitVec 32 := Scf.iv c0_i32_14 c1_i32_15 k0_t3
  let v390 : Index := Scalar.indexCast arg15
  let c0_154 : Index := 0#32
  let c0_155 : Index := 0#32
  let c128_156 : Index := 128#32
  ![v389.toNat, v390.toNat, 0, 0, 128]
def k0_off52 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v404 : Index := Scalar.indexCast v1
  let c0_i32_14 : BitVec 32 := 0#32
  let c1_i32_15 : BitVec 32 := 1#32
  let arg15 : BitVec 32 := Scf.iv c0_i32_14 c1_i32_15 k0_t3
  let v405 : Index := Scalar.indexCast arg15
  let c0_160 : Index := 0#32
  let c0_161 : Index := 0#32
  let c256_162 : Index := 256#32
  ![v404.toNat, v405.toNat, 0, 0, 256]
def k0_off53 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v419 : Index := Scalar.indexCast v1
  let c0_i32_14 : BitVec 32 := 0#32
  let c1_i32_15 : BitVec 32 := 1#32
  let arg15 : BitVec 32 := Scf.iv c0_i32_14 c1_i32_15 k0_t3
  let v420 : Index := Scalar.indexCast arg15
  let c0_166 : Index := 0#32
  let c0_167 : Index := 0#32
  let c384_168 : Index := 384#32
  ![v419.toNat, v420.toNat, 0, 0, 384]
def k0_off54 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v434 : Index := Scalar.indexCast v1
  let c0_i32_14 : BitVec 32 := 0#32
  let c1_i32_15 : BitVec 32 := 1#32
  let arg15 : BitVec 32 := Scf.iv c0_i32_14 c1_i32_15 k0_t3
  let v435 : Index := Scalar.indexCast arg15
  let c1_172 : Index := 1#32
  let c0_173 : Index := 0#32
  let c512_174 : Index := 512#32
  ![v434.toNat, v435.toNat, 1, 0, 512]
def k0_off55 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v443 : Index := Scalar.indexCast v1
  let c0_i32_14 : BitVec 32 := 0#32
  let c1_i32_15 : BitVec 32 := 1#32
  let arg15 : BitVec 32 := Scf.iv c0_i32_14 c1_i32_15 k0_t3
  let v444 : Index := Scalar.indexCast arg15
  let c2_176 : Index := 2#32
  let c0_177 : Index := 0#32
  let c512_178 : Index := 512#32
  ![v443.toNat, v444.toNat, 2, 0, 512]
def k0_off56 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v452 : Index := Scalar.indexCast v1
  let c0_i32_14 : BitVec 32 := 0#32
  let c1_i32_15 : BitVec 32 := 1#32
  let arg15 : BitVec 32 := Scf.iv c0_i32_14 c1_i32_15 k0_t3
  let v453 : Index := Scalar.indexCast arg15
  let c3_180 : Index := 3#32
  let c0_181 : Index := 0#32
  let c512_182 : Index := 512#32
  ![v452.toNat, v453.toNat, 3, 0, 512]
def k0_off57 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v461 : Index := Scalar.indexCast v1
  let c0_i32_14 : BitVec 32 := 0#32
  let c1_i32_15 : BitVec 32 := 1#32
  let arg15 : BitVec 32 := Scf.iv c0_i32_14 c1_i32_15 k0_t3
  let v462 : Index := Scalar.indexCast arg15
  let c4_184 : Index := 4#32
  let c0_185 : Index := 0#32
  let c512_186 : Index := 512#32
  ![v461.toNat, v462.toNat, 4, 0, 512]
def k0_off58 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v473 : Index := Scalar.indexCast v1
  let c0_i32_14 : BitVec 32 := 0#32
  let c1_i32_15 : BitVec 32 := 1#32
  let arg15 : BitVec 32 := Scf.iv c0_i32_14 c1_i32_15 k0_t3
  let v474 : Index := Scalar.indexCast arg15
  let c1_188 : Index := 1#32
  let c0_189 : Index := 0#32
  let c640_190 : Index := 640#32
  ![v473.toNat, v474.toNat, 1, 0, 640]
def k0_off59 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v482 : Index := Scalar.indexCast v1
  let c0_i32_14 : BitVec 32 := 0#32
  let c1_i32_15 : BitVec 32 := 1#32
  let arg15 : BitVec 32 := Scf.iv c0_i32_14 c1_i32_15 k0_t3
  let v483 : Index := Scalar.indexCast arg15
  let c2_192 : Index := 2#32
  let c0_193 : Index := 0#32
  let c640_194 : Index := 640#32
  ![v482.toNat, v483.toNat, 2, 0, 640]
def k0_off60 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v491 : Index := Scalar.indexCast v1
  let c0_i32_14 : BitVec 32 := 0#32
  let c1_i32_15 : BitVec 32 := 1#32
  let arg15 : BitVec 32 := Scf.iv c0_i32_14 c1_i32_15 k0_t3
  let v492 : Index := Scalar.indexCast arg15
  let c3_196 : Index := 3#32
  let c0_197 : Index := 0#32
  let c640_198 : Index := 640#32
  ![v491.toNat, v492.toNat, 3, 0, 640]
def k0_off61 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v500 : Index := Scalar.indexCast v1
  let c0_i32_14 : BitVec 32 := 0#32
  let c1_i32_15 : BitVec 32 := 1#32
  let arg15 : BitVec 32 := Scf.iv c0_i32_14 c1_i32_15 k0_t3
  let v501 : Index := Scalar.indexCast arg15
  let c4_200 : Index := 4#32
  let c0_201 : Index := 0#32
  let c640_202 : Index := 640#32
  ![v500.toNat, v501.toNat, 4, 0, 640]
def k0_off62 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v512 : Index := Scalar.indexCast v1
  let c0_i32_14 : BitVec 32 := 0#32
  let c1_i32_15 : BitVec 32 := 1#32
  let arg15 : BitVec 32 := Scf.iv c0_i32_14 c1_i32_15 k0_t3
  let v513 : Index := Scalar.indexCast arg15
  let c1_204 : Index := 1#32
  let c0_205 : Index := 0#32
  let c768_206 : Index := 768#32
  ![v512.toNat, v513.toNat, 1, 0, 768]
def k0_off63 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v521 : Index := Scalar.indexCast v1
  let c0_i32_14 : BitVec 32 := 0#32
  let c1_i32_15 : BitVec 32 := 1#32
  let arg15 : BitVec 32 := Scf.iv c0_i32_14 c1_i32_15 k0_t3
  let v522 : Index := Scalar.indexCast arg15
  let c2_208 : Index := 2#32
  let c0_209 : Index := 0#32
  let c768_210 : Index := 768#32
  ![v521.toNat, v522.toNat, 2, 0, 768]
def k0_off64 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v530 : Index := Scalar.indexCast v1
  let c0_i32_14 : BitVec 32 := 0#32
  let c1_i32_15 : BitVec 32 := 1#32
  let arg15 : BitVec 32 := Scf.iv c0_i32_14 c1_i32_15 k0_t3
  let v531 : Index := Scalar.indexCast arg15
  let c3_212 : Index := 3#32
  let c0_213 : Index := 0#32
  let c768_214 : Index := 768#32
  ![v530.toNat, v531.toNat, 3, 0, 768]
def k0_off65 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v539 : Index := Scalar.indexCast v1
  let c0_i32_14 : BitVec 32 := 0#32
  let c1_i32_15 : BitVec 32 := 1#32
  let arg15 : BitVec 32 := Scf.iv c0_i32_14 c1_i32_15 k0_t3
  let v540 : Index := Scalar.indexCast arg15
  let c4_216 : Index := 4#32
  let c0_217 : Index := 0#32
  let c768_218 : Index := 768#32
  ![v539.toNat, v540.toNat, 4, 0, 768]
def k0_off66 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v551 : Index := Scalar.indexCast v1
  let c0_i32_14 : BitVec 32 := 0#32
  let c1_i32_15 : BitVec 32 := 1#32
  let arg15 : BitVec 32 := Scf.iv c0_i32_14 c1_i32_15 k0_t3
  let v552 : Index := Scalar.indexCast arg15
  let c1_220 : Index := 1#32
  let c0_221 : Index := 0#32
  let c896_222 : Index := 896#32
  ![v551.toNat, v552.toNat, 1, 0, 896]
def k0_off67 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v560 : Index := Scalar.indexCast v1
  let c0_i32_14 : BitVec 32 := 0#32
  let c1_i32_15 : BitVec 32 := 1#32
  let arg15 : BitVec 32 := Scf.iv c0_i32_14 c1_i32_15 k0_t3
  let v561 : Index := Scalar.indexCast arg15
  let c2_224 : Index := 2#32
  let c0_225 : Index := 0#32
  let c896_226 : Index := 896#32
  ![v560.toNat, v561.toNat, 2, 0, 896]
def k0_off68 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v569 : Index := Scalar.indexCast v1
  let c0_i32_14 : BitVec 32 := 0#32
  let c1_i32_15 : BitVec 32 := 1#32
  let arg15 : BitVec 32 := Scf.iv c0_i32_14 c1_i32_15 k0_t3
  let v570 : Index := Scalar.indexCast arg15
  let c3_228 : Index := 3#32
  let c0_229 : Index := 0#32
  let c896_230 : Index := 896#32
  ![v569.toNat, v570.toNat, 3, 0, 896]
def k0_off69 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v578 : Index := Scalar.indexCast v1
  let c0_i32_14 : BitVec 32 := 0#32
  let c1_i32_15 : BitVec 32 := 1#32
  let arg15 : BitVec 32 := Scf.iv c0_i32_14 c1_i32_15 k0_t3
  let v579 : Index := Scalar.indexCast arg15
  let c4_232 : Index := 4#32
  let c0_233 : Index := 0#32
  let c896_234 : Index := 896#32
  ![v578.toNat, v579.toNat, 4, 0, 896]
def k0_off70 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v672 : Index := Scalar.indexCast v1
  let c0_i32_14 : BitVec 32 := 0#32
  let c1_i32_15 : BitVec 32 := 1#32
  let arg15 : BitVec 32 := Scf.iv c0_i32_14 c1_i32_15 k0_t3
  let v673 : Index := Scalar.indexCast arg15
  let c0_265 : Index := 0#32
  let c0_266 : Index := 0#32
  let c512_267 : Index := 512#32
  ![v672.toNat, v673.toNat, 0, 0, 512]
def k0_off71 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v687 : Index := Scalar.indexCast v1
  let c0_i32_14 : BitVec 32 := 0#32
  let c1_i32_15 : BitVec 32 := 1#32
  let arg15 : BitVec 32 := Scf.iv c0_i32_14 c1_i32_15 k0_t3
  let v688 : Index := Scalar.indexCast arg15
  let c0_271 : Index := 0#32
  let c0_272 : Index := 0#32
  let c640_273 : Index := 640#32
  ![v687.toNat, v688.toNat, 0, 0, 640]
def k0_off72 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v702 : Index := Scalar.indexCast v1
  let c0_i32_14 : BitVec 32 := 0#32
  let c1_i32_15 : BitVec 32 := 1#32
  let arg15 : BitVec 32 := Scf.iv c0_i32_14 c1_i32_15 k0_t3
  let v703 : Index := Scalar.indexCast arg15
  let c0_277 : Index := 0#32
  let c0_278 : Index := 0#32
  let c768_279 : Index := 768#32
  ![v702.toNat, v703.toNat, 0, 0, 768]
def k0_off73 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v717 : Index := Scalar.indexCast v1
  let c0_i32_14 : BitVec 32 := 0#32
  let c1_i32_15 : BitVec 32 := 1#32
  let arg15 : BitVec 32 := Scf.iv c0_i32_14 c1_i32_15 k0_t3
  let v718 : Index := Scalar.indexCast arg15
  let c0_283 : Index := 0#32
  let c0_284 : Index := 0#32
  let c896_285 : Index := 896#32
  ![v717.toNat, v718.toNat, 0, 0, 896]
def k0_off74 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v740 : Index := Scalar.indexCast arg15
  let c8_304 : Index := 8#32
  let c0_305 : Index := 0#32
  ![v740.toNat, 8, 0]
def k0_off75 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v744 : Index := Scalar.indexCast arg15
  let c8_306 : Index := 8#32
  let c128_307 : Index := 128#32
  ![v744.toNat, 8, 128]
def k0_off76 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v748 : Index := Scalar.indexCast arg15
  let c8_308 : Index := 8#32
  let c256_309 : Index := 256#32
  ![v748.toNat, 8, 256]
def k0_off77 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v752 : Index := Scalar.indexCast arg15
  let c8_310 : Index := 8#32
  let c384_311 : Index := 384#32
  ![v752.toNat, 8, 384]
def k0_off78 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v756 : Index := Scalar.indexCast arg15
  let c8_312 : Index := 8#32
  let c512_313 : Index := 512#32
  ![v756.toNat, 8, 512]
def k0_off79 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v760 : Index := Scalar.indexCast arg15
  let c8_314 : Index := 8#32
  let c640_315 : Index := 640#32
  ![v760.toNat, 8, 640]
def k0_off80 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v764 : Index := Scalar.indexCast arg15
  let c8_316 : Index := 8#32
  let c768_317 : Index := 768#32
  ![v764.toNat, 8, 768]
def k0_off81 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v768 : Index := Scalar.indexCast arg15
  let c8_318 : Index := 8#32
  let c896_319 : Index := 896#32
  ![v768.toNat, 8, 896]
def k0_mult12 (i : grid0.Coords) (k0_t3 : Fin k0_t3_loop.trips) : BitVec 32 :=
  let arg0 : BitVec 32 := BitVec.ofNat 32 (i 0).val
  let c1_i32_29 : BitVec 32 := 1#32
  let v64 : BitVec 32 := Scalar.subi arg0 c1_i32_29
  let c20_i32_30 : BitVec 32 := 20#32
  let v65 : BitVec 32 := Scalar.muli v64 c20_i32_30
  let c0_i32_14 : BitVec 32 := 0#32
  let c1_i32_15 : BitVec 32 := 1#32
  let arg15 : BitVec 32 := Scf.iv c0_i32_14 c1_i32_15 k0_t3
  let v66 : BitVec 32 := Scalar.addi v65 arg15
  let c7_i32_324 : BitVec 32 := 7#32
  let v786 : BitVec 32 := Scalar.shrsi v66 c7_i32_324
  let c7_i32_325 : BitVec 32 := 7#32
  let v787 : BitVec 32 := Scalar.shli v786 c7_i32_325
  v787
def k0_off82 (i : grid0.Coords) (k0_t3 : Fin k0_t3_loop.trips) : Fin 2 → Nat :=
  let c8_326 : Index := 8#32
  let arg0 : BitVec 32 := BitVec.ofNat 32 (i 0).val
  let c1_i32_29 : BitVec 32 := 1#32
  let v64 : BitVec 32 := Scalar.subi arg0 c1_i32_29
  let c20_i32_30 : BitVec 32 := 20#32
  let v65 : BitVec 32 := Scalar.muli v64 c20_i32_30
  let c0_i32_14 : BitVec 32 := 0#32
  let c1_i32_15 : BitVec 32 := 1#32
  let arg15 : BitVec 32 := Scf.iv c0_i32_14 c1_i32_15 k0_t3
  let v66 : BitVec 32 := Scalar.addi v65 arg15
  let c7_i32_324 : BitVec 32 := 7#32
  let v786 : BitVec 32 := Scalar.shrsi v66 c7_i32_324
  let c7_i32_325 : BitVec 32 := 7#32
  let v787 : BitVec 32 := Scalar.shli v786 c7_i32_325
  let v788 : BitVec 32 := v787
  let v789 : Index := Scalar.indexCast v788
  ![8, v789.toNat]
def k0_off83 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v797 : Index := Scalar.indexCast v1
  let c0_i32_14 : BitVec 32 := 0#32
  let c1_i32_15 : BitVec 32 := 1#32
  let arg15 : BitVec 32 := Scf.iv c0_i32_14 c1_i32_15 k0_t3
  let v798 : Index := Scalar.indexCast arg15
  let c1_328 : Index := 1#32
  let c8_329 : Index := 8#32
  let c0_330 : Index := 0#32
  ![v797.toNat, v798.toNat, 1, 8, 0]
def k0_off84 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v806 : Index := Scalar.indexCast v1
  let c0_i32_14 : BitVec 32 := 0#32
  let c1_i32_15 : BitVec 32 := 1#32
  let arg15 : BitVec 32 := Scf.iv c0_i32_14 c1_i32_15 k0_t3
  let v807 : Index := Scalar.indexCast arg15
  let c2_332 : Index := 2#32
  let c8_333 : Index := 8#32
  let c0_334 : Index := 0#32
  ![v806.toNat, v807.toNat, 2, 8, 0]
def k0_off85 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v815 : Index := Scalar.indexCast v1
  let c0_i32_14 : BitVec 32 := 0#32
  let c1_i32_15 : BitVec 32 := 1#32
  let arg15 : BitVec 32 := Scf.iv c0_i32_14 c1_i32_15 k0_t3
  let v816 : Index := Scalar.indexCast arg15
  let c3_336 : Index := 3#32
  let c8_337 : Index := 8#32
  let c0_338 : Index := 0#32
  ![v815.toNat, v816.toNat, 3, 8, 0]
def k0_off86 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v824 : Index := Scalar.indexCast v1
  let c0_i32_14 : BitVec 32 := 0#32
  let c1_i32_15 : BitVec 32 := 1#32
  let arg15 : BitVec 32 := Scf.iv c0_i32_14 c1_i32_15 k0_t3
  let v825 : Index := Scalar.indexCast arg15
  let c4_340 : Index := 4#32
  let c8_341 : Index := 8#32
  let c0_342 : Index := 0#32
  ![v824.toNat, v825.toNat, 4, 8, 0]
def k0_off87 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v836 : Index := Scalar.indexCast v1
  let c0_i32_14 : BitVec 32 := 0#32
  let c1_i32_15 : BitVec 32 := 1#32
  let arg15 : BitVec 32 := Scf.iv c0_i32_14 c1_i32_15 k0_t3
  let v837 : Index := Scalar.indexCast arg15
  let c1_344 : Index := 1#32
  let c8_345 : Index := 8#32
  let c128_346 : Index := 128#32
  ![v836.toNat, v837.toNat, 1, 8, 128]
def k0_off88 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v845 : Index := Scalar.indexCast v1
  let c0_i32_14 : BitVec 32 := 0#32
  let c1_i32_15 : BitVec 32 := 1#32
  let arg15 : BitVec 32 := Scf.iv c0_i32_14 c1_i32_15 k0_t3
  let v846 : Index := Scalar.indexCast arg15
  let c2_348 : Index := 2#32
  let c8_349 : Index := 8#32
  let c128_350 : Index := 128#32
  ![v845.toNat, v846.toNat, 2, 8, 128]
def k0_off89 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v854 : Index := Scalar.indexCast v1
  let c0_i32_14 : BitVec 32 := 0#32
  let c1_i32_15 : BitVec 32 := 1#32
  let arg15 : BitVec 32 := Scf.iv c0_i32_14 c1_i32_15 k0_t3
  let v855 : Index := Scalar.indexCast arg15
  let c3_352 : Index := 3#32
  let c8_353 : Index := 8#32
  let c128_354 : Index := 128#32
  ![v854.toNat, v855.toNat, 3, 8, 128]
def k0_off90 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v863 : Index := Scalar.indexCast v1
  let c0_i32_14 : BitVec 32 := 0#32
  let c1_i32_15 : BitVec 32 := 1#32
  let arg15 : BitVec 32 := Scf.iv c0_i32_14 c1_i32_15 k0_t3
  let v864 : Index := Scalar.indexCast arg15
  let c4_356 : Index := 4#32
  let c8_357 : Index := 8#32
  let c128_358 : Index := 128#32
  ![v863.toNat, v864.toNat, 4, 8, 128]
def k0_off91 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v875 : Index := Scalar.indexCast v1
  let c0_i32_14 : BitVec 32 := 0#32
  let c1_i32_15 : BitVec 32 := 1#32
  let arg15 : BitVec 32 := Scf.iv c0_i32_14 c1_i32_15 k0_t3
  let v876 : Index := Scalar.indexCast arg15
  let c1_360 : Index := 1#32
  let c8_361 : Index := 8#32
  let c256_362 : Index := 256#32
  ![v875.toNat, v876.toNat, 1, 8, 256]
def k0_off92 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v884 : Index := Scalar.indexCast v1
  let c0_i32_14 : BitVec 32 := 0#32
  let c1_i32_15 : BitVec 32 := 1#32
  let arg15 : BitVec 32 := Scf.iv c0_i32_14 c1_i32_15 k0_t3
  let v885 : Index := Scalar.indexCast arg15
  let c2_364 : Index := 2#32
  let c8_365 : Index := 8#32
  let c256_366 : Index := 256#32
  ![v884.toNat, v885.toNat, 2, 8, 256]
def k0_off93 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v893 : Index := Scalar.indexCast v1
  let c0_i32_14 : BitVec 32 := 0#32
  let c1_i32_15 : BitVec 32 := 1#32
  let arg15 : BitVec 32 := Scf.iv c0_i32_14 c1_i32_15 k0_t3
  let v894 : Index := Scalar.indexCast arg15
  let c3_368 : Index := 3#32
  let c8_369 : Index := 8#32
  let c256_370 : Index := 256#32
  ![v893.toNat, v894.toNat, 3, 8, 256]
def k0_off94 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v902 : Index := Scalar.indexCast v1
  let c0_i32_14 : BitVec 32 := 0#32
  let c1_i32_15 : BitVec 32 := 1#32
  let arg15 : BitVec 32 := Scf.iv c0_i32_14 c1_i32_15 k0_t3
  let v903 : Index := Scalar.indexCast arg15
  let c4_372 : Index := 4#32
  let c8_373 : Index := 8#32
  let c256_374 : Index := 256#32
  ![v902.toNat, v903.toNat, 4, 8, 256]
def k0_off95 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v914 : Index := Scalar.indexCast v1
  let c0_i32_14 : BitVec 32 := 0#32
  let c1_i32_15 : BitVec 32 := 1#32
  let arg15 : BitVec 32 := Scf.iv c0_i32_14 c1_i32_15 k0_t3
  let v915 : Index := Scalar.indexCast arg15
  let c1_376 : Index := 1#32
  let c8_377 : Index := 8#32
  let c384_378 : Index := 384#32
  ![v914.toNat, v915.toNat, 1, 8, 384]
def k0_off96 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v923 : Index := Scalar.indexCast v1
  let c0_i32_14 : BitVec 32 := 0#32
  let c1_i32_15 : BitVec 32 := 1#32
  let arg15 : BitVec 32 := Scf.iv c0_i32_14 c1_i32_15 k0_t3
  let v924 : Index := Scalar.indexCast arg15
  let c2_380 : Index := 2#32
  let c8_381 : Index := 8#32
  let c384_382 : Index := 384#32
  ![v923.toNat, v924.toNat, 2, 8, 384]
def k0_off97 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v932 : Index := Scalar.indexCast v1
  let c0_i32_14 : BitVec 32 := 0#32
  let c1_i32_15 : BitVec 32 := 1#32
  let arg15 : BitVec 32 := Scf.iv c0_i32_14 c1_i32_15 k0_t3
  let v933 : Index := Scalar.indexCast arg15
  let c3_384 : Index := 3#32
  let c8_385 : Index := 8#32
  let c384_386 : Index := 384#32
  ![v932.toNat, v933.toNat, 3, 8, 384]
def k0_off98 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v941 : Index := Scalar.indexCast v1
  let c0_i32_14 : BitVec 32 := 0#32
  let c1_i32_15 : BitVec 32 := 1#32
  let arg15 : BitVec 32 := Scf.iv c0_i32_14 c1_i32_15 k0_t3
  let v942 : Index := Scalar.indexCast arg15
  let c4_388 : Index := 4#32
  let c8_389 : Index := 8#32
  let c384_390 : Index := 384#32
  ![v941.toNat, v942.toNat, 4, 8, 384]
def k0_off99 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1035 : Index := Scalar.indexCast v1
  let c0_i32_14 : BitVec 32 := 0#32
  let c1_i32_15 : BitVec 32 := 1#32
  let arg15 : BitVec 32 := Scf.iv c0_i32_14 c1_i32_15 k0_t3
  let v1036 : Index := Scalar.indexCast arg15
  let c0_421 : Index := 0#32
  let c8_422 : Index := 8#32
  let c0_423 : Index := 0#32
  ![v1035.toNat, v1036.toNat, 0, 8, 0]
def k0_off100 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1050 : Index := Scalar.indexCast v1
  let c0_i32_14 : BitVec 32 := 0#32
  let c1_i32_15 : BitVec 32 := 1#32
  let arg15 : BitVec 32 := Scf.iv c0_i32_14 c1_i32_15 k0_t3
  let v1051 : Index := Scalar.indexCast arg15
  let c0_427 : Index := 0#32
  let c8_428 : Index := 8#32
  let c128_429 : Index := 128#32
  ![v1050.toNat, v1051.toNat, 0, 8, 128]
def k0_off101 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1065 : Index := Scalar.indexCast v1
  let c0_i32_14 : BitVec 32 := 0#32
  let c1_i32_15 : BitVec 32 := 1#32
  let arg15 : BitVec 32 := Scf.iv c0_i32_14 c1_i32_15 k0_t3
  let v1066 : Index := Scalar.indexCast arg15
  let c0_433 : Index := 0#32
  let c8_434 : Index := 8#32
  let c256_435 : Index := 256#32
  ![v1065.toNat, v1066.toNat, 0, 8, 256]
def k0_off102 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1080 : Index := Scalar.indexCast v1
  let c0_i32_14 : BitVec 32 := 0#32
  let c1_i32_15 : BitVec 32 := 1#32
  let arg15 : BitVec 32 := Scf.iv c0_i32_14 c1_i32_15 k0_t3
  let v1081 : Index := Scalar.indexCast arg15
  let c0_439 : Index := 0#32
  let c8_440 : Index := 8#32
  let c384_441 : Index := 384#32
  ![v1080.toNat, v1081.toNat, 0, 8, 384]
def k0_off103 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1095 : Index := Scalar.indexCast v1
  let c0_i32_14 : BitVec 32 := 0#32
  let c1_i32_15 : BitVec 32 := 1#32
  let arg15 : BitVec 32 := Scf.iv c0_i32_14 c1_i32_15 k0_t3
  let v1096 : Index := Scalar.indexCast arg15
  let c1_445 : Index := 1#32
  let c8_446 : Index := 8#32
  let c512_447 : Index := 512#32
  ![v1095.toNat, v1096.toNat, 1, 8, 512]
def k0_off104 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1104 : Index := Scalar.indexCast v1
  let c0_i32_14 : BitVec 32 := 0#32
  let c1_i32_15 : BitVec 32 := 1#32
  let arg15 : BitVec 32 := Scf.iv c0_i32_14 c1_i32_15 k0_t3
  let v1105 : Index := Scalar.indexCast arg15
  let c2_449 : Index := 2#32
  let c8_450 : Index := 8#32
  let c512_451 : Index := 512#32
  ![v1104.toNat, v1105.toNat, 2, 8, 512]
def k0_off105 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1113 : Index := Scalar.indexCast v1
  let c0_i32_14 : BitVec 32 := 0#32
  let c1_i32_15 : BitVec 32 := 1#32
  let arg15 : BitVec 32 := Scf.iv c0_i32_14 c1_i32_15 k0_t3
  let v1114 : Index := Scalar.indexCast arg15
  let c3_453 : Index := 3#32
  let c8_454 : Index := 8#32
  let c512_455 : Index := 512#32
  ![v1113.toNat, v1114.toNat, 3, 8, 512]
def k0_off106 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1122 : Index := Scalar.indexCast v1
  let c0_i32_14 : BitVec 32 := 0#32
  let c1_i32_15 : BitVec 32 := 1#32
  let arg15 : BitVec 32 := Scf.iv c0_i32_14 c1_i32_15 k0_t3
  let v1123 : Index := Scalar.indexCast arg15
  let c4_457 : Index := 4#32
  let c8_458 : Index := 8#32
  let c512_459 : Index := 512#32
  ![v1122.toNat, v1123.toNat, 4, 8, 512]
def k0_off107 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1134 : Index := Scalar.indexCast v1
  let c0_i32_14 : BitVec 32 := 0#32
  let c1_i32_15 : BitVec 32 := 1#32
  let arg15 : BitVec 32 := Scf.iv c0_i32_14 c1_i32_15 k0_t3
  let v1135 : Index := Scalar.indexCast arg15
  let c1_461 : Index := 1#32
  let c8_462 : Index := 8#32
  let c640_463 : Index := 640#32
  ![v1134.toNat, v1135.toNat, 1, 8, 640]
def k0_off108 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1143 : Index := Scalar.indexCast v1
  let c0_i32_14 : BitVec 32 := 0#32
  let c1_i32_15 : BitVec 32 := 1#32
  let arg15 : BitVec 32 := Scf.iv c0_i32_14 c1_i32_15 k0_t3
  let v1144 : Index := Scalar.indexCast arg15
  let c2_465 : Index := 2#32
  let c8_466 : Index := 8#32
  let c640_467 : Index := 640#32
  ![v1143.toNat, v1144.toNat, 2, 8, 640]
def k0_off109 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1152 : Index := Scalar.indexCast v1
  let c0_i32_14 : BitVec 32 := 0#32
  let c1_i32_15 : BitVec 32 := 1#32
  let arg15 : BitVec 32 := Scf.iv c0_i32_14 c1_i32_15 k0_t3
  let v1153 : Index := Scalar.indexCast arg15
  let c3_469 : Index := 3#32
  let c8_470 : Index := 8#32
  let c640_471 : Index := 640#32
  ![v1152.toNat, v1153.toNat, 3, 8, 640]
def k0_off110 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1161 : Index := Scalar.indexCast v1
  let c0_i32_14 : BitVec 32 := 0#32
  let c1_i32_15 : BitVec 32 := 1#32
  let arg15 : BitVec 32 := Scf.iv c0_i32_14 c1_i32_15 k0_t3
  let v1162 : Index := Scalar.indexCast arg15
  let c4_473 : Index := 4#32
  let c8_474 : Index := 8#32
  let c640_475 : Index := 640#32
  ![v1161.toNat, v1162.toNat, 4, 8, 640]
def k0_off111 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1173 : Index := Scalar.indexCast v1
  let c0_i32_14 : BitVec 32 := 0#32
  let c1_i32_15 : BitVec 32 := 1#32
  let arg15 : BitVec 32 := Scf.iv c0_i32_14 c1_i32_15 k0_t3
  let v1174 : Index := Scalar.indexCast arg15
  let c1_477 : Index := 1#32
  let c8_478 : Index := 8#32
  let c768_479 : Index := 768#32
  ![v1173.toNat, v1174.toNat, 1, 8, 768]
def k0_off112 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1182 : Index := Scalar.indexCast v1
  let c0_i32_14 : BitVec 32 := 0#32
  let c1_i32_15 : BitVec 32 := 1#32
  let arg15 : BitVec 32 := Scf.iv c0_i32_14 c1_i32_15 k0_t3
  let v1183 : Index := Scalar.indexCast arg15
  let c2_481 : Index := 2#32
  let c8_482 : Index := 8#32
  let c768_483 : Index := 768#32
  ![v1182.toNat, v1183.toNat, 2, 8, 768]
def k0_off113 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1191 : Index := Scalar.indexCast v1
  let c0_i32_14 : BitVec 32 := 0#32
  let c1_i32_15 : BitVec 32 := 1#32
  let arg15 : BitVec 32 := Scf.iv c0_i32_14 c1_i32_15 k0_t3
  let v1192 : Index := Scalar.indexCast arg15
  let c3_485 : Index := 3#32
  let c8_486 : Index := 8#32
  let c768_487 : Index := 768#32
  ![v1191.toNat, v1192.toNat, 3, 8, 768]
def k0_off114 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1200 : Index := Scalar.indexCast v1
  let c0_i32_14 : BitVec 32 := 0#32
  let c1_i32_15 : BitVec 32 := 1#32
  let arg15 : BitVec 32 := Scf.iv c0_i32_14 c1_i32_15 k0_t3
  let v1201 : Index := Scalar.indexCast arg15
  let c4_489 : Index := 4#32
  let c8_490 : Index := 8#32
  let c768_491 : Index := 768#32
  ![v1200.toNat, v1201.toNat, 4, 8, 768]
def k0_off115 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1212 : Index := Scalar.indexCast v1
  let c0_i32_14 : BitVec 32 := 0#32
  let c1_i32_15 : BitVec 32 := 1#32
  let arg15 : BitVec 32 := Scf.iv c0_i32_14 c1_i32_15 k0_t3
  let v1213 : Index := Scalar.indexCast arg15
  let c1_493 : Index := 1#32
  let c8_494 : Index := 8#32
  let c896_495 : Index := 896#32
  ![v1212.toNat, v1213.toNat, 1, 8, 896]
def k0_off116 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1221 : Index := Scalar.indexCast v1
  let c0_i32_14 : BitVec 32 := 0#32
  let c1_i32_15 : BitVec 32 := 1#32
  let arg15 : BitVec 32 := Scf.iv c0_i32_14 c1_i32_15 k0_t3
  let v1222 : Index := Scalar.indexCast arg15
  let c2_497 : Index := 2#32
  let c8_498 : Index := 8#32
  let c896_499 : Index := 896#32
  ![v1221.toNat, v1222.toNat, 2, 8, 896]
def k0_off117 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1230 : Index := Scalar.indexCast v1
  let c0_i32_14 : BitVec 32 := 0#32
  let c1_i32_15 : BitVec 32 := 1#32
  let arg15 : BitVec 32 := Scf.iv c0_i32_14 c1_i32_15 k0_t3
  let v1231 : Index := Scalar.indexCast arg15
  let c3_501 : Index := 3#32
  let c8_502 : Index := 8#32
  let c896_503 : Index := 896#32
  ![v1230.toNat, v1231.toNat, 3, 8, 896]
def k0_off118 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1239 : Index := Scalar.indexCast v1
  let c0_i32_14 : BitVec 32 := 0#32
  let c1_i32_15 : BitVec 32 := 1#32
  let arg15 : BitVec 32 := Scf.iv c0_i32_14 c1_i32_15 k0_t3
  let v1240 : Index := Scalar.indexCast arg15
  let c4_505 : Index := 4#32
  let c8_506 : Index := 8#32
  let c896_507 : Index := 896#32
  ![v1239.toNat, v1240.toNat, 4, 8, 896]
def k0_off119 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1333 : Index := Scalar.indexCast v1
  let c0_i32_14 : BitVec 32 := 0#32
  let c1_i32_15 : BitVec 32 := 1#32
  let arg15 : BitVec 32 := Scf.iv c0_i32_14 c1_i32_15 k0_t3
  let v1334 : Index := Scalar.indexCast arg15
  let c0_538 : Index := 0#32
  let c8_539 : Index := 8#32
  let c512_540 : Index := 512#32
  ![v1333.toNat, v1334.toNat, 0, 8, 512]
def k0_off120 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1348 : Index := Scalar.indexCast v1
  let c0_i32_14 : BitVec 32 := 0#32
  let c1_i32_15 : BitVec 32 := 1#32
  let arg15 : BitVec 32 := Scf.iv c0_i32_14 c1_i32_15 k0_t3
  let v1349 : Index := Scalar.indexCast arg15
  let c0_544 : Index := 0#32
  let c8_545 : Index := 8#32
  let c640_546 : Index := 640#32
  ![v1348.toNat, v1349.toNat, 0, 8, 640]
def k0_off121 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1363 : Index := Scalar.indexCast v1
  let c0_i32_14 : BitVec 32 := 0#32
  let c1_i32_15 : BitVec 32 := 1#32
  let arg15 : BitVec 32 := Scf.iv c0_i32_14 c1_i32_15 k0_t3
  let v1364 : Index := Scalar.indexCast arg15
  let c0_550 : Index := 0#32
  let c8_551 : Index := 8#32
  let c768_552 : Index := 768#32
  ![v1363.toNat, v1364.toNat, 0, 8, 768]
def k0_off122 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1378 : Index := Scalar.indexCast v1
  let c0_i32_14 : BitVec 32 := 0#32
  let c1_i32_15 : BitVec 32 := 1#32
  let arg15 : BitVec 32 := Scf.iv c0_i32_14 c1_i32_15 k0_t3
  let v1379 : Index := Scalar.indexCast arg15
  let c0_556 : Index := 0#32
  let c8_557 : Index := 8#32
  let c896_558 : Index := 896#32
  ![v1378.toNat, v1379.toNat, 0, 8, 896]
def k0_off123 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v1401 : Index := Scalar.indexCast arg15
  let c16_577 : Index := 16#32
  let c0_578 : Index := 0#32
  ![v1401.toNat, 16, 0]
def k0_off124 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v1405 : Index := Scalar.indexCast arg15
  let c16_579 : Index := 16#32
  let c128_580 : Index := 128#32
  ![v1405.toNat, 16, 128]
def k0_off125 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v1409 : Index := Scalar.indexCast arg15
  let c16_581 : Index := 16#32
  let c256_582 : Index := 256#32
  ![v1409.toNat, 16, 256]
def k0_off126 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v1413 : Index := Scalar.indexCast arg15
  let c16_583 : Index := 16#32
  let c384_584 : Index := 384#32
  ![v1413.toNat, 16, 384]
def k0_off127 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v1417 : Index := Scalar.indexCast arg15
  let c16_585 : Index := 16#32
  let c512_586 : Index := 512#32
  ![v1417.toNat, 16, 512]
def k0_off128 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v1421 : Index := Scalar.indexCast arg15
  let c16_587 : Index := 16#32
  let c640_588 : Index := 640#32
  ![v1421.toNat, 16, 640]
def k0_off129 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v1425 : Index := Scalar.indexCast arg15
  let c16_589 : Index := 16#32
  let c768_590 : Index := 768#32
  ![v1425.toNat, 16, 768]
def k0_off130 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v1429 : Index := Scalar.indexCast arg15
  let c16_591 : Index := 16#32
  let c896_592 : Index := 896#32
  ![v1429.toNat, 16, 896]
def k0_mult13 (i : grid0.Coords) (k0_t3 : Fin k0_t3_loop.trips) : BitVec 32 :=
  let arg0 : BitVec 32 := BitVec.ofNat 32 (i 0).val
  let c1_i32_29 : BitVec 32 := 1#32
  let v64 : BitVec 32 := Scalar.subi arg0 c1_i32_29
  let c20_i32_30 : BitVec 32 := 20#32
  let v65 : BitVec 32 := Scalar.muli v64 c20_i32_30
  let c0_i32_14 : BitVec 32 := 0#32
  let c1_i32_15 : BitVec 32 := 1#32
  let arg15 : BitVec 32 := Scf.iv c0_i32_14 c1_i32_15 k0_t3
  let v66 : BitVec 32 := Scalar.addi v65 arg15
  let c7_i32_597 : BitVec 32 := 7#32
  let v1447 : BitVec 32 := Scalar.shrsi v66 c7_i32_597
  let c7_i32_598 : BitVec 32 := 7#32
  let v1448 : BitVec 32 := Scalar.shli v1447 c7_i32_598
  v1448
def k0_off131 (i : grid0.Coords) (k0_t3 : Fin k0_t3_loop.trips) : Fin 2 → Nat :=
  let c16_599 : Index := 16#32
  let arg0 : BitVec 32 := BitVec.ofNat 32 (i 0).val
  let c1_i32_29 : BitVec 32 := 1#32
  let v64 : BitVec 32 := Scalar.subi arg0 c1_i32_29
  let c20_i32_30 : BitVec 32 := 20#32
  let v65 : BitVec 32 := Scalar.muli v64 c20_i32_30
  let c0_i32_14 : BitVec 32 := 0#32
  let c1_i32_15 : BitVec 32 := 1#32
  let arg15 : BitVec 32 := Scf.iv c0_i32_14 c1_i32_15 k0_t3
  let v66 : BitVec 32 := Scalar.addi v65 arg15
  let c7_i32_597 : BitVec 32 := 7#32
  let v1447 : BitVec 32 := Scalar.shrsi v66 c7_i32_597
  let c7_i32_598 : BitVec 32 := 7#32
  let v1448 : BitVec 32 := Scalar.shli v1447 c7_i32_598
  let v1449 : BitVec 32 := v1448
  let v1450 : Index := Scalar.indexCast v1449
  ![16, v1450.toNat]
def k0_off132 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1458 : Index := Scalar.indexCast v1
  let c0_i32_14 : BitVec 32 := 0#32
  let c1_i32_15 : BitVec 32 := 1#32
  let arg15 : BitVec 32 := Scf.iv c0_i32_14 c1_i32_15 k0_t3
  let v1459 : Index := Scalar.indexCast arg15
  let c1_601 : Index := 1#32
  let c16_602 : Index := 16#32
  let c0_603 : Index := 0#32
  ![v1458.toNat, v1459.toNat, 1, 16, 0]
def k0_off133 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1467 : Index := Scalar.indexCast v1
  let c0_i32_14 : BitVec 32 := 0#32
  let c1_i32_15 : BitVec 32 := 1#32
  let arg15 : BitVec 32 := Scf.iv c0_i32_14 c1_i32_15 k0_t3
  let v1468 : Index := Scalar.indexCast arg15
  let c2_605 : Index := 2#32
  let c16_606 : Index := 16#32
  let c0_607 : Index := 0#32
  ![v1467.toNat, v1468.toNat, 2, 16, 0]
def k0_off134 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1476 : Index := Scalar.indexCast v1
  let c0_i32_14 : BitVec 32 := 0#32
  let c1_i32_15 : BitVec 32 := 1#32
  let arg15 : BitVec 32 := Scf.iv c0_i32_14 c1_i32_15 k0_t3
  let v1477 : Index := Scalar.indexCast arg15
  let c3_609 : Index := 3#32
  let c16_610 : Index := 16#32
  let c0_611 : Index := 0#32
  ![v1476.toNat, v1477.toNat, 3, 16, 0]
def k0_off135 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1485 : Index := Scalar.indexCast v1
  let c0_i32_14 : BitVec 32 := 0#32
  let c1_i32_15 : BitVec 32 := 1#32
  let arg15 : BitVec 32 := Scf.iv c0_i32_14 c1_i32_15 k0_t3
  let v1486 : Index := Scalar.indexCast arg15
  let c4_613 : Index := 4#32
  let c16_614 : Index := 16#32
  let c0_615 : Index := 0#32
  ![v1485.toNat, v1486.toNat, 4, 16, 0]
def k0_off136 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1497 : Index := Scalar.indexCast v1
  let c0_i32_14 : BitVec 32 := 0#32
  let c1_i32_15 : BitVec 32 := 1#32
  let arg15 : BitVec 32 := Scf.iv c0_i32_14 c1_i32_15 k0_t3
  let v1498 : Index := Scalar.indexCast arg15
  let c1_617 : Index := 1#32
  let c16_618 : Index := 16#32
  let c128_619 : Index := 128#32
  ![v1497.toNat, v1498.toNat, 1, 16, 128]
def k0_off137 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1506 : Index := Scalar.indexCast v1
  let c0_i32_14 : BitVec 32 := 0#32
  let c1_i32_15 : BitVec 32 := 1#32
  let arg15 : BitVec 32 := Scf.iv c0_i32_14 c1_i32_15 k0_t3
  let v1507 : Index := Scalar.indexCast arg15
  let c2_621 : Index := 2#32
  let c16_622 : Index := 16#32
  let c128_623 : Index := 128#32
  ![v1506.toNat, v1507.toNat, 2, 16, 128]
def k0_off138 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1515 : Index := Scalar.indexCast v1
  let c0_i32_14 : BitVec 32 := 0#32
  let c1_i32_15 : BitVec 32 := 1#32
  let arg15 : BitVec 32 := Scf.iv c0_i32_14 c1_i32_15 k0_t3
  let v1516 : Index := Scalar.indexCast arg15
  let c3_625 : Index := 3#32
  let c16_626 : Index := 16#32
  let c128_627 : Index := 128#32
  ![v1515.toNat, v1516.toNat, 3, 16, 128]
def k0_off139 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1524 : Index := Scalar.indexCast v1
  let c0_i32_14 : BitVec 32 := 0#32
  let c1_i32_15 : BitVec 32 := 1#32
  let arg15 : BitVec 32 := Scf.iv c0_i32_14 c1_i32_15 k0_t3
  let v1525 : Index := Scalar.indexCast arg15
  let c4_629 : Index := 4#32
  let c16_630 : Index := 16#32
  let c128_631 : Index := 128#32
  ![v1524.toNat, v1525.toNat, 4, 16, 128]
def k0_off140 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1536 : Index := Scalar.indexCast v1
  let c0_i32_14 : BitVec 32 := 0#32
  let c1_i32_15 : BitVec 32 := 1#32
  let arg15 : BitVec 32 := Scf.iv c0_i32_14 c1_i32_15 k0_t3
  let v1537 : Index := Scalar.indexCast arg15
  let c1_633 : Index := 1#32
  let c16_634 : Index := 16#32
  let c256_635 : Index := 256#32
  ![v1536.toNat, v1537.toNat, 1, 16, 256]
def k0_off141 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1545 : Index := Scalar.indexCast v1
  let c0_i32_14 : BitVec 32 := 0#32
  let c1_i32_15 : BitVec 32 := 1#32
  let arg15 : BitVec 32 := Scf.iv c0_i32_14 c1_i32_15 k0_t3
  let v1546 : Index := Scalar.indexCast arg15
  let c2_637 : Index := 2#32
  let c16_638 : Index := 16#32
  let c256_639 : Index := 256#32
  ![v1545.toNat, v1546.toNat, 2, 16, 256]
def k0_off142 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1554 : Index := Scalar.indexCast v1
  let c0_i32_14 : BitVec 32 := 0#32
  let c1_i32_15 : BitVec 32 := 1#32
  let arg15 : BitVec 32 := Scf.iv c0_i32_14 c1_i32_15 k0_t3
  let v1555 : Index := Scalar.indexCast arg15
  let c3_641 : Index := 3#32
  let c16_642 : Index := 16#32
  let c256_643 : Index := 256#32
  ![v1554.toNat, v1555.toNat, 3, 16, 256]
def k0_off143 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1563 : Index := Scalar.indexCast v1
  let c0_i32_14 : BitVec 32 := 0#32
  let c1_i32_15 : BitVec 32 := 1#32
  let arg15 : BitVec 32 := Scf.iv c0_i32_14 c1_i32_15 k0_t3
  let v1564 : Index := Scalar.indexCast arg15
  let c4_645 : Index := 4#32
  let c16_646 : Index := 16#32
  let c256_647 : Index := 256#32
  ![v1563.toNat, v1564.toNat, 4, 16, 256]
def k0_off144 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1575 : Index := Scalar.indexCast v1
  let c0_i32_14 : BitVec 32 := 0#32
  let c1_i32_15 : BitVec 32 := 1#32
  let arg15 : BitVec 32 := Scf.iv c0_i32_14 c1_i32_15 k0_t3
  let v1576 : Index := Scalar.indexCast arg15
  let c1_649 : Index := 1#32
  let c16_650 : Index := 16#32
  let c384_651 : Index := 384#32
  ![v1575.toNat, v1576.toNat, 1, 16, 384]
def k0_off145 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1584 : Index := Scalar.indexCast v1
  let c0_i32_14 : BitVec 32 := 0#32
  let c1_i32_15 : BitVec 32 := 1#32
  let arg15 : BitVec 32 := Scf.iv c0_i32_14 c1_i32_15 k0_t3
  let v1585 : Index := Scalar.indexCast arg15
  let c2_653 : Index := 2#32
  let c16_654 : Index := 16#32
  let c384_655 : Index := 384#32
  ![v1584.toNat, v1585.toNat, 2, 16, 384]
def k0_off146 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1593 : Index := Scalar.indexCast v1
  let c0_i32_14 : BitVec 32 := 0#32
  let c1_i32_15 : BitVec 32 := 1#32
  let arg15 : BitVec 32 := Scf.iv c0_i32_14 c1_i32_15 k0_t3
  let v1594 : Index := Scalar.indexCast arg15
  let c3_657 : Index := 3#32
  let c16_658 : Index := 16#32
  let c384_659 : Index := 384#32
  ![v1593.toNat, v1594.toNat, 3, 16, 384]
def k0_off147 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1602 : Index := Scalar.indexCast v1
  let c0_i32_14 : BitVec 32 := 0#32
  let c1_i32_15 : BitVec 32 := 1#32
  let arg15 : BitVec 32 := Scf.iv c0_i32_14 c1_i32_15 k0_t3
  let v1603 : Index := Scalar.indexCast arg15
  let c4_661 : Index := 4#32
  let c16_662 : Index := 16#32
  let c384_663 : Index := 384#32
  ![v1602.toNat, v1603.toNat, 4, 16, 384]
def k0_off148 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1696 : Index := Scalar.indexCast v1
  let c0_i32_14 : BitVec 32 := 0#32
  let c1_i32_15 : BitVec 32 := 1#32
  let arg15 : BitVec 32 := Scf.iv c0_i32_14 c1_i32_15 k0_t3
  let v1697 : Index := Scalar.indexCast arg15
  let c0_694 : Index := 0#32
  let c16_695 : Index := 16#32
  let c0_696 : Index := 0#32
  ![v1696.toNat, v1697.toNat, 0, 16, 0]
def k0_off149 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1711 : Index := Scalar.indexCast v1
  let c0_i32_14 : BitVec 32 := 0#32
  let c1_i32_15 : BitVec 32 := 1#32
  let arg15 : BitVec 32 := Scf.iv c0_i32_14 c1_i32_15 k0_t3
  let v1712 : Index := Scalar.indexCast arg15
  let c0_700 : Index := 0#32
  let c16_701 : Index := 16#32
  let c128_702 : Index := 128#32
  ![v1711.toNat, v1712.toNat, 0, 16, 128]
def k0_off150 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1726 : Index := Scalar.indexCast v1
  let c0_i32_14 : BitVec 32 := 0#32
  let c1_i32_15 : BitVec 32 := 1#32
  let arg15 : BitVec 32 := Scf.iv c0_i32_14 c1_i32_15 k0_t3
  let v1727 : Index := Scalar.indexCast arg15
  let c0_706 : Index := 0#32
  let c16_707 : Index := 16#32
  let c256_708 : Index := 256#32
  ![v1726.toNat, v1727.toNat, 0, 16, 256]
def k0_off151 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1741 : Index := Scalar.indexCast v1
  let c0_i32_14 : BitVec 32 := 0#32
  let c1_i32_15 : BitVec 32 := 1#32
  let arg15 : BitVec 32 := Scf.iv c0_i32_14 c1_i32_15 k0_t3
  let v1742 : Index := Scalar.indexCast arg15
  let c0_712 : Index := 0#32
  let c16_713 : Index := 16#32
  let c384_714 : Index := 384#32
  ![v1741.toNat, v1742.toNat, 0, 16, 384]
def k0_off152 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1756 : Index := Scalar.indexCast v1
  let c0_i32_14 : BitVec 32 := 0#32
  let c1_i32_15 : BitVec 32 := 1#32
  let arg15 : BitVec 32 := Scf.iv c0_i32_14 c1_i32_15 k0_t3
  let v1757 : Index := Scalar.indexCast arg15
  let c1_718 : Index := 1#32
  let c16_719 : Index := 16#32
  let c512_720 : Index := 512#32
  ![v1756.toNat, v1757.toNat, 1, 16, 512]
def k0_off153 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1765 : Index := Scalar.indexCast v1
  let c0_i32_14 : BitVec 32 := 0#32
  let c1_i32_15 : BitVec 32 := 1#32
  let arg15 : BitVec 32 := Scf.iv c0_i32_14 c1_i32_15 k0_t3
  let v1766 : Index := Scalar.indexCast arg15
  let c2_722 : Index := 2#32
  let c16_723 : Index := 16#32
  let c512_724 : Index := 512#32
  ![v1765.toNat, v1766.toNat, 2, 16, 512]
def k0_off154 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1774 : Index := Scalar.indexCast v1
  let c0_i32_14 : BitVec 32 := 0#32
  let c1_i32_15 : BitVec 32 := 1#32
  let arg15 : BitVec 32 := Scf.iv c0_i32_14 c1_i32_15 k0_t3
  let v1775 : Index := Scalar.indexCast arg15
  let c3_726 : Index := 3#32
  let c16_727 : Index := 16#32
  let c512_728 : Index := 512#32
  ![v1774.toNat, v1775.toNat, 3, 16, 512]
def k0_off155 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1783 : Index := Scalar.indexCast v1
  let c0_i32_14 : BitVec 32 := 0#32
  let c1_i32_15 : BitVec 32 := 1#32
  let arg15 : BitVec 32 := Scf.iv c0_i32_14 c1_i32_15 k0_t3
  let v1784 : Index := Scalar.indexCast arg15
  let c4_730 : Index := 4#32
  let c16_731 : Index := 16#32
  let c512_732 : Index := 512#32
  ![v1783.toNat, v1784.toNat, 4, 16, 512]
def k0_off156 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1795 : Index := Scalar.indexCast v1
  let c0_i32_14 : BitVec 32 := 0#32
  let c1_i32_15 : BitVec 32 := 1#32
  let arg15 : BitVec 32 := Scf.iv c0_i32_14 c1_i32_15 k0_t3
  let v1796 : Index := Scalar.indexCast arg15
  let c1_734 : Index := 1#32
  let c16_735 : Index := 16#32
  let c640_736 : Index := 640#32
  ![v1795.toNat, v1796.toNat, 1, 16, 640]
def k0_off157 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1804 : Index := Scalar.indexCast v1
  let c0_i32_14 : BitVec 32 := 0#32
  let c1_i32_15 : BitVec 32 := 1#32
  let arg15 : BitVec 32 := Scf.iv c0_i32_14 c1_i32_15 k0_t3
  let v1805 : Index := Scalar.indexCast arg15
  let c2_738 : Index := 2#32
  let c16_739 : Index := 16#32
  let c640_740 : Index := 640#32
  ![v1804.toNat, v1805.toNat, 2, 16, 640]
def k0_off158 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1813 : Index := Scalar.indexCast v1
  let c0_i32_14 : BitVec 32 := 0#32
  let c1_i32_15 : BitVec 32 := 1#32
  let arg15 : BitVec 32 := Scf.iv c0_i32_14 c1_i32_15 k0_t3
  let v1814 : Index := Scalar.indexCast arg15
  let c3_742 : Index := 3#32
  let c16_743 : Index := 16#32
  let c640_744 : Index := 640#32
  ![v1813.toNat, v1814.toNat, 3, 16, 640]
def k0_off159 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1822 : Index := Scalar.indexCast v1
  let c0_i32_14 : BitVec 32 := 0#32
  let c1_i32_15 : BitVec 32 := 1#32
  let arg15 : BitVec 32 := Scf.iv c0_i32_14 c1_i32_15 k0_t3
  let v1823 : Index := Scalar.indexCast arg15
  let c4_746 : Index := 4#32
  let c16_747 : Index := 16#32
  let c640_748 : Index := 640#32
  ![v1822.toNat, v1823.toNat, 4, 16, 640]
def k0_off160 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1834 : Index := Scalar.indexCast v1
  let c0_i32_14 : BitVec 32 := 0#32
  let c1_i32_15 : BitVec 32 := 1#32
  let arg15 : BitVec 32 := Scf.iv c0_i32_14 c1_i32_15 k0_t3
  let v1835 : Index := Scalar.indexCast arg15
  let c1_750 : Index := 1#32
  let c16_751 : Index := 16#32
  let c768_752 : Index := 768#32
  ![v1834.toNat, v1835.toNat, 1, 16, 768]
def k0_off161 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1843 : Index := Scalar.indexCast v1
  let c0_i32_14 : BitVec 32 := 0#32
  let c1_i32_15 : BitVec 32 := 1#32
  let arg15 : BitVec 32 := Scf.iv c0_i32_14 c1_i32_15 k0_t3
  let v1844 : Index := Scalar.indexCast arg15
  let c2_754 : Index := 2#32
  let c16_755 : Index := 16#32
  let c768_756 : Index := 768#32
  ![v1843.toNat, v1844.toNat, 2, 16, 768]
def k0_off162 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1852 : Index := Scalar.indexCast v1
  let c0_i32_14 : BitVec 32 := 0#32
  let c1_i32_15 : BitVec 32 := 1#32
  let arg15 : BitVec 32 := Scf.iv c0_i32_14 c1_i32_15 k0_t3
  let v1853 : Index := Scalar.indexCast arg15
  let c3_758 : Index := 3#32
  let c16_759 : Index := 16#32
  let c768_760 : Index := 768#32
  ![v1852.toNat, v1853.toNat, 3, 16, 768]
def k0_off163 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1861 : Index := Scalar.indexCast v1
  let c0_i32_14 : BitVec 32 := 0#32
  let c1_i32_15 : BitVec 32 := 1#32
  let arg15 : BitVec 32 := Scf.iv c0_i32_14 c1_i32_15 k0_t3
  let v1862 : Index := Scalar.indexCast arg15
  let c4_762 : Index := 4#32
  let c16_763 : Index := 16#32
  let c768_764 : Index := 768#32
  ![v1861.toNat, v1862.toNat, 4, 16, 768]
def k0_off164 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1873 : Index := Scalar.indexCast v1
  let c0_i32_14 : BitVec 32 := 0#32
  let c1_i32_15 : BitVec 32 := 1#32
  let arg15 : BitVec 32 := Scf.iv c0_i32_14 c1_i32_15 k0_t3
  let v1874 : Index := Scalar.indexCast arg15
  let c1_766 : Index := 1#32
  let c16_767 : Index := 16#32
  let c896_768 : Index := 896#32
  ![v1873.toNat, v1874.toNat, 1, 16, 896]
def k0_off165 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1882 : Index := Scalar.indexCast v1
  let c0_i32_14 : BitVec 32 := 0#32
  let c1_i32_15 : BitVec 32 := 1#32
  let arg15 : BitVec 32 := Scf.iv c0_i32_14 c1_i32_15 k0_t3
  let v1883 : Index := Scalar.indexCast arg15
  let c2_770 : Index := 2#32
  let c16_771 : Index := 16#32
  let c896_772 : Index := 896#32
  ![v1882.toNat, v1883.toNat, 2, 16, 896]
def k0_off166 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1891 : Index := Scalar.indexCast v1
  let c0_i32_14 : BitVec 32 := 0#32
  let c1_i32_15 : BitVec 32 := 1#32
  let arg15 : BitVec 32 := Scf.iv c0_i32_14 c1_i32_15 k0_t3
  let v1892 : Index := Scalar.indexCast arg15
  let c3_774 : Index := 3#32
  let c16_775 : Index := 16#32
  let c896_776 : Index := 896#32
  ![v1891.toNat, v1892.toNat, 3, 16, 896]
def k0_off167 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1900 : Index := Scalar.indexCast v1
  let c0_i32_14 : BitVec 32 := 0#32
  let c1_i32_15 : BitVec 32 := 1#32
  let arg15 : BitVec 32 := Scf.iv c0_i32_14 c1_i32_15 k0_t3
  let v1901 : Index := Scalar.indexCast arg15
  let c4_778 : Index := 4#32
  let c16_779 : Index := 16#32
  let c896_780 : Index := 896#32
  ![v1900.toNat, v1901.toNat, 4, 16, 896]
def k0_off168 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1994 : Index := Scalar.indexCast v1
  let c0_i32_14 : BitVec 32 := 0#32
  let c1_i32_15 : BitVec 32 := 1#32
  let arg15 : BitVec 32 := Scf.iv c0_i32_14 c1_i32_15 k0_t3
  let v1995 : Index := Scalar.indexCast arg15
  let c0_811 : Index := 0#32
  let c16_812 : Index := 16#32
  let c512_813 : Index := 512#32
  ![v1994.toNat, v1995.toNat, 0, 16, 512]
def k0_off169 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2009 : Index := Scalar.indexCast v1
  let c0_i32_14 : BitVec 32 := 0#32
  let c1_i32_15 : BitVec 32 := 1#32
  let arg15 : BitVec 32 := Scf.iv c0_i32_14 c1_i32_15 k0_t3
  let v2010 : Index := Scalar.indexCast arg15
  let c0_817 : Index := 0#32
  let c16_818 : Index := 16#32
  let c640_819 : Index := 640#32
  ![v2009.toNat, v2010.toNat, 0, 16, 640]
def k0_off170 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2024 : Index := Scalar.indexCast v1
  let c0_i32_14 : BitVec 32 := 0#32
  let c1_i32_15 : BitVec 32 := 1#32
  let arg15 : BitVec 32 := Scf.iv c0_i32_14 c1_i32_15 k0_t3
  let v2025 : Index := Scalar.indexCast arg15
  let c0_823 : Index := 0#32
  let c16_824 : Index := 16#32
  let c768_825 : Index := 768#32
  ![v2024.toNat, v2025.toNat, 0, 16, 768]
def k0_off171 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2039 : Index := Scalar.indexCast v1
  let c0_i32_14 : BitVec 32 := 0#32
  let c1_i32_15 : BitVec 32 := 1#32
  let arg15 : BitVec 32 := Scf.iv c0_i32_14 c1_i32_15 k0_t3
  let v2040 : Index := Scalar.indexCast arg15
  let c0_829 : Index := 0#32
  let c16_830 : Index := 16#32
  let c896_831 : Index := 896#32
  ![v2039.toNat, v2040.toNat, 0, 16, 896]
def k0_off172 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2062 : Index := Scalar.indexCast arg15
  let c24_850 : Index := 24#32
  let c0_851 : Index := 0#32
  ![v2062.toNat, 24, 0]
def k0_off173 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2066 : Index := Scalar.indexCast arg15
  let c24_852 : Index := 24#32
  let c128_853 : Index := 128#32
  ![v2066.toNat, 24, 128]
def k0_off174 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2070 : Index := Scalar.indexCast arg15
  let c24_854 : Index := 24#32
  let c256_855 : Index := 256#32
  ![v2070.toNat, 24, 256]
def k0_off175 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2074 : Index := Scalar.indexCast arg15
  let c24_856 : Index := 24#32
  let c384_857 : Index := 384#32
  ![v2074.toNat, 24, 384]
def k0_off176 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2078 : Index := Scalar.indexCast arg15
  let c24_858 : Index := 24#32
  let c512_859 : Index := 512#32
  ![v2078.toNat, 24, 512]
def k0_off177 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2082 : Index := Scalar.indexCast arg15
  let c24_860 : Index := 24#32
  let c640_861 : Index := 640#32
  ![v2082.toNat, 24, 640]
def k0_off178 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2086 : Index := Scalar.indexCast arg15
  let c24_862 : Index := 24#32
  let c768_863 : Index := 768#32
  ![v2086.toNat, 24, 768]
def k0_off179 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2090 : Index := Scalar.indexCast arg15
  let c24_864 : Index := 24#32
  let c896_865 : Index := 896#32
  ![v2090.toNat, 24, 896]
def k0_mult14 (i : grid0.Coords) (k0_t3 : Fin k0_t3_loop.trips) : BitVec 32 :=
  let arg0 : BitVec 32 := BitVec.ofNat 32 (i 0).val
  let c1_i32_29 : BitVec 32 := 1#32
  let v64 : BitVec 32 := Scalar.subi arg0 c1_i32_29
  let c20_i32_30 : BitVec 32 := 20#32
  let v65 : BitVec 32 := Scalar.muli v64 c20_i32_30
  let c0_i32_14 : BitVec 32 := 0#32
  let c1_i32_15 : BitVec 32 := 1#32
  let arg15 : BitVec 32 := Scf.iv c0_i32_14 c1_i32_15 k0_t3
  let v66 : BitVec 32 := Scalar.addi v65 arg15
  let c7_i32_870 : BitVec 32 := 7#32
  let v2108 : BitVec 32 := Scalar.shrsi v66 c7_i32_870
  let c7_i32_871 : BitVec 32 := 7#32
  let v2109 : BitVec 32 := Scalar.shli v2108 c7_i32_871
  v2109
def k0_off180 (i : grid0.Coords) (k0_t3 : Fin k0_t3_loop.trips) : Fin 2 → Nat :=
  let c24_872 : Index := 24#32
  let arg0 : BitVec 32 := BitVec.ofNat 32 (i 0).val
  let c1_i32_29 : BitVec 32 := 1#32
  let v64 : BitVec 32 := Scalar.subi arg0 c1_i32_29
  let c20_i32_30 : BitVec 32 := 20#32
  let v65 : BitVec 32 := Scalar.muli v64 c20_i32_30
  let c0_i32_14 : BitVec 32 := 0#32
  let c1_i32_15 : BitVec 32 := 1#32
  let arg15 : BitVec 32 := Scf.iv c0_i32_14 c1_i32_15 k0_t3
  let v66 : BitVec 32 := Scalar.addi v65 arg15
  let c7_i32_870 : BitVec 32 := 7#32
  let v2108 : BitVec 32 := Scalar.shrsi v66 c7_i32_870
  let c7_i32_871 : BitVec 32 := 7#32
  let v2109 : BitVec 32 := Scalar.shli v2108 c7_i32_871
  let v2110 : BitVec 32 := v2109
  let v2111 : Index := Scalar.indexCast v2110
  ![24, v2111.toNat]
def k0_off181 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2119 : Index := Scalar.indexCast v1
  let c0_i32_14 : BitVec 32 := 0#32
  let c1_i32_15 : BitVec 32 := 1#32
  let arg15 : BitVec 32 := Scf.iv c0_i32_14 c1_i32_15 k0_t3
  let v2120 : Index := Scalar.indexCast arg15
  let c1_874 : Index := 1#32
  let c24_875 : Index := 24#32
  let c0_876 : Index := 0#32
  ![v2119.toNat, v2120.toNat, 1, 24, 0]
def k0_off182 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2128 : Index := Scalar.indexCast v1
  let c0_i32_14 : BitVec 32 := 0#32
  let c1_i32_15 : BitVec 32 := 1#32
  let arg15 : BitVec 32 := Scf.iv c0_i32_14 c1_i32_15 k0_t3
  let v2129 : Index := Scalar.indexCast arg15
  let c2_878 : Index := 2#32
  let c24_879 : Index := 24#32
  let c0_880 : Index := 0#32
  ![v2128.toNat, v2129.toNat, 2, 24, 0]
def k0_off183 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2137 : Index := Scalar.indexCast v1
  let c0_i32_14 : BitVec 32 := 0#32
  let c1_i32_15 : BitVec 32 := 1#32
  let arg15 : BitVec 32 := Scf.iv c0_i32_14 c1_i32_15 k0_t3
  let v2138 : Index := Scalar.indexCast arg15
  let c3_882 : Index := 3#32
  let c24_883 : Index := 24#32
  let c0_884 : Index := 0#32
  ![v2137.toNat, v2138.toNat, 3, 24, 0]
def k0_off184 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2146 : Index := Scalar.indexCast v1
  let c0_i32_14 : BitVec 32 := 0#32
  let c1_i32_15 : BitVec 32 := 1#32
  let arg15 : BitVec 32 := Scf.iv c0_i32_14 c1_i32_15 k0_t3
  let v2147 : Index := Scalar.indexCast arg15
  let c4_886 : Index := 4#32
  let c24_887 : Index := 24#32
  let c0_888 : Index := 0#32
  ![v2146.toNat, v2147.toNat, 4, 24, 0]
def k0_off185 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2158 : Index := Scalar.indexCast v1
  let c0_i32_14 : BitVec 32 := 0#32
  let c1_i32_15 : BitVec 32 := 1#32
  let arg15 : BitVec 32 := Scf.iv c0_i32_14 c1_i32_15 k0_t3
  let v2159 : Index := Scalar.indexCast arg15
  let c1_890 : Index := 1#32
  let c24_891 : Index := 24#32
  let c128_892 : Index := 128#32
  ![v2158.toNat, v2159.toNat, 1, 24, 128]
def k0_off186 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2167 : Index := Scalar.indexCast v1
  let c0_i32_14 : BitVec 32 := 0#32
  let c1_i32_15 : BitVec 32 := 1#32
  let arg15 : BitVec 32 := Scf.iv c0_i32_14 c1_i32_15 k0_t3
  let v2168 : Index := Scalar.indexCast arg15
  let c2_894 : Index := 2#32
  let c24_895 : Index := 24#32
  let c128_896 : Index := 128#32
  ![v2167.toNat, v2168.toNat, 2, 24, 128]
def k0_off187 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2176 : Index := Scalar.indexCast v1
  let c0_i32_14 : BitVec 32 := 0#32
  let c1_i32_15 : BitVec 32 := 1#32
  let arg15 : BitVec 32 := Scf.iv c0_i32_14 c1_i32_15 k0_t3
  let v2177 : Index := Scalar.indexCast arg15
  let c3_898 : Index := 3#32
  let c24_899 : Index := 24#32
  let c128_900 : Index := 128#32
  ![v2176.toNat, v2177.toNat, 3, 24, 128]
def k0_off188 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2185 : Index := Scalar.indexCast v1
  let c0_i32_14 : BitVec 32 := 0#32
  let c1_i32_15 : BitVec 32 := 1#32
  let arg15 : BitVec 32 := Scf.iv c0_i32_14 c1_i32_15 k0_t3
  let v2186 : Index := Scalar.indexCast arg15
  let c4_902 : Index := 4#32
  let c24_903 : Index := 24#32
  let c128_904 : Index := 128#32
  ![v2185.toNat, v2186.toNat, 4, 24, 128]
def k0_off189 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2197 : Index := Scalar.indexCast v1
  let c0_i32_14 : BitVec 32 := 0#32
  let c1_i32_15 : BitVec 32 := 1#32
  let arg15 : BitVec 32 := Scf.iv c0_i32_14 c1_i32_15 k0_t3
  let v2198 : Index := Scalar.indexCast arg15
  let c1_906 : Index := 1#32
  let c24_907 : Index := 24#32
  let c256_908 : Index := 256#32
  ![v2197.toNat, v2198.toNat, 1, 24, 256]
def k0_off190 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2206 : Index := Scalar.indexCast v1
  let c0_i32_14 : BitVec 32 := 0#32
  let c1_i32_15 : BitVec 32 := 1#32
  let arg15 : BitVec 32 := Scf.iv c0_i32_14 c1_i32_15 k0_t3
  let v2207 : Index := Scalar.indexCast arg15
  let c2_910 : Index := 2#32
  let c24_911 : Index := 24#32
  let c256_912 : Index := 256#32
  ![v2206.toNat, v2207.toNat, 2, 24, 256]
def k0_off191 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2215 : Index := Scalar.indexCast v1
  let c0_i32_14 : BitVec 32 := 0#32
  let c1_i32_15 : BitVec 32 := 1#32
  let arg15 : BitVec 32 := Scf.iv c0_i32_14 c1_i32_15 k0_t3
  let v2216 : Index := Scalar.indexCast arg15
  let c3_914 : Index := 3#32
  let c24_915 : Index := 24#32
  let c256_916 : Index := 256#32
  ![v2215.toNat, v2216.toNat, 3, 24, 256]
def k0_off192 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2224 : Index := Scalar.indexCast v1
  let c0_i32_14 : BitVec 32 := 0#32
  let c1_i32_15 : BitVec 32 := 1#32
  let arg15 : BitVec 32 := Scf.iv c0_i32_14 c1_i32_15 k0_t3
  let v2225 : Index := Scalar.indexCast arg15
  let c4_918 : Index := 4#32
  let c24_919 : Index := 24#32
  let c256_920 : Index := 256#32
  ![v2224.toNat, v2225.toNat, 4, 24, 256]
def k0_off193 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2236 : Index := Scalar.indexCast v1
  let c0_i32_14 : BitVec 32 := 0#32
  let c1_i32_15 : BitVec 32 := 1#32
  let arg15 : BitVec 32 := Scf.iv c0_i32_14 c1_i32_15 k0_t3
  let v2237 : Index := Scalar.indexCast arg15
  let c1_922 : Index := 1#32
  let c24_923 : Index := 24#32
  let c384_924 : Index := 384#32
  ![v2236.toNat, v2237.toNat, 1, 24, 384]
def k0_off194 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2245 : Index := Scalar.indexCast v1
  let c0_i32_14 : BitVec 32 := 0#32
  let c1_i32_15 : BitVec 32 := 1#32
  let arg15 : BitVec 32 := Scf.iv c0_i32_14 c1_i32_15 k0_t3
  let v2246 : Index := Scalar.indexCast arg15
  let c2_926 : Index := 2#32
  let c24_927 : Index := 24#32
  let c384_928 : Index := 384#32
  ![v2245.toNat, v2246.toNat, 2, 24, 384]
def k0_off195 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2254 : Index := Scalar.indexCast v1
  let c0_i32_14 : BitVec 32 := 0#32
  let c1_i32_15 : BitVec 32 := 1#32
  let arg15 : BitVec 32 := Scf.iv c0_i32_14 c1_i32_15 k0_t3
  let v2255 : Index := Scalar.indexCast arg15
  let c3_930 : Index := 3#32
  let c24_931 : Index := 24#32
  let c384_932 : Index := 384#32
  ![v2254.toNat, v2255.toNat, 3, 24, 384]
def k0_off196 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2263 : Index := Scalar.indexCast v1
  let c0_i32_14 : BitVec 32 := 0#32
  let c1_i32_15 : BitVec 32 := 1#32
  let arg15 : BitVec 32 := Scf.iv c0_i32_14 c1_i32_15 k0_t3
  let v2264 : Index := Scalar.indexCast arg15
  let c4_934 : Index := 4#32
  let c24_935 : Index := 24#32
  let c384_936 : Index := 384#32
  ![v2263.toNat, v2264.toNat, 4, 24, 384]
def k0_off197 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2357 : Index := Scalar.indexCast v1
  let c0_i32_14 : BitVec 32 := 0#32
  let c1_i32_15 : BitVec 32 := 1#32
  let arg15 : BitVec 32 := Scf.iv c0_i32_14 c1_i32_15 k0_t3
  let v2358 : Index := Scalar.indexCast arg15
  let c0_967 : Index := 0#32
  let c24_968 : Index := 24#32
  let c0_969 : Index := 0#32
  ![v2357.toNat, v2358.toNat, 0, 24, 0]
def k0_off198 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2372 : Index := Scalar.indexCast v1
  let c0_i32_14 : BitVec 32 := 0#32
  let c1_i32_15 : BitVec 32 := 1#32
  let arg15 : BitVec 32 := Scf.iv c0_i32_14 c1_i32_15 k0_t3
  let v2373 : Index := Scalar.indexCast arg15
  let c0_973 : Index := 0#32
  let c24_974 : Index := 24#32
  let c128_975 : Index := 128#32
  ![v2372.toNat, v2373.toNat, 0, 24, 128]
def k0_off199 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2387 : Index := Scalar.indexCast v1
  let c0_i32_14 : BitVec 32 := 0#32
  let c1_i32_15 : BitVec 32 := 1#32
  let arg15 : BitVec 32 := Scf.iv c0_i32_14 c1_i32_15 k0_t3
  let v2388 : Index := Scalar.indexCast arg15
  let c0_979 : Index := 0#32
  let c24_980 : Index := 24#32
  let c256_981 : Index := 256#32
  ![v2387.toNat, v2388.toNat, 0, 24, 256]
def k0_off200 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2402 : Index := Scalar.indexCast v1
  let c0_i32_14 : BitVec 32 := 0#32
  let c1_i32_15 : BitVec 32 := 1#32
  let arg15 : BitVec 32 := Scf.iv c0_i32_14 c1_i32_15 k0_t3
  let v2403 : Index := Scalar.indexCast arg15
  let c0_985 : Index := 0#32
  let c24_986 : Index := 24#32
  let c384_987 : Index := 384#32
  ![v2402.toNat, v2403.toNat, 0, 24, 384]
def k0_off201 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2417 : Index := Scalar.indexCast v1
  let c0_i32_14 : BitVec 32 := 0#32
  let c1_i32_15 : BitVec 32 := 1#32
  let arg15 : BitVec 32 := Scf.iv c0_i32_14 c1_i32_15 k0_t3
  let v2418 : Index := Scalar.indexCast arg15
  let c1_991 : Index := 1#32
  let c24_992 : Index := 24#32
  let c512_993 : Index := 512#32
  ![v2417.toNat, v2418.toNat, 1, 24, 512]
def k0_off202 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2426 : Index := Scalar.indexCast v1
  let c0_i32_14 : BitVec 32 := 0#32
  let c1_i32_15 : BitVec 32 := 1#32
  let arg15 : BitVec 32 := Scf.iv c0_i32_14 c1_i32_15 k0_t3
  let v2427 : Index := Scalar.indexCast arg15
  let c2_995 : Index := 2#32
  let c24_996 : Index := 24#32
  let c512_997 : Index := 512#32
  ![v2426.toNat, v2427.toNat, 2, 24, 512]
def k0_off203 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2435 : Index := Scalar.indexCast v1
  let c0_i32_14 : BitVec 32 := 0#32
  let c1_i32_15 : BitVec 32 := 1#32
  let arg15 : BitVec 32 := Scf.iv c0_i32_14 c1_i32_15 k0_t3
  let v2436 : Index := Scalar.indexCast arg15
  let c3_999 : Index := 3#32
  let c24_1000 : Index := 24#32
  let c512_1001 : Index := 512#32
  ![v2435.toNat, v2436.toNat, 3, 24, 512]
def k0_off204 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2444 : Index := Scalar.indexCast v1
  let c0_i32_14 : BitVec 32 := 0#32
  let c1_i32_15 : BitVec 32 := 1#32
  let arg15 : BitVec 32 := Scf.iv c0_i32_14 c1_i32_15 k0_t3
  let v2445 : Index := Scalar.indexCast arg15
  let c4_1003 : Index := 4#32
  let c24_1004 : Index := 24#32
  let c512_1005 : Index := 512#32
  ![v2444.toNat, v2445.toNat, 4, 24, 512]
def k0_off205 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2456 : Index := Scalar.indexCast v1
  let c0_i32_14 : BitVec 32 := 0#32
  let c1_i32_15 : BitVec 32 := 1#32
  let arg15 : BitVec 32 := Scf.iv c0_i32_14 c1_i32_15 k0_t3
  let v2457 : Index := Scalar.indexCast arg15
  let c1_1007 : Index := 1#32
  let c24_1008 : Index := 24#32
  let c640_1009 : Index := 640#32
  ![v2456.toNat, v2457.toNat, 1, 24, 640]
def k0_off206 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2465 : Index := Scalar.indexCast v1
  let c0_i32_14 : BitVec 32 := 0#32
  let c1_i32_15 : BitVec 32 := 1#32
  let arg15 : BitVec 32 := Scf.iv c0_i32_14 c1_i32_15 k0_t3
  let v2466 : Index := Scalar.indexCast arg15
  let c2_1011 : Index := 2#32
  let c24_1012 : Index := 24#32
  let c640_1013 : Index := 640#32
  ![v2465.toNat, v2466.toNat, 2, 24, 640]
def k0_off207 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2474 : Index := Scalar.indexCast v1
  let c0_i32_14 : BitVec 32 := 0#32
  let c1_i32_15 : BitVec 32 := 1#32
  let arg15 : BitVec 32 := Scf.iv c0_i32_14 c1_i32_15 k0_t3
  let v2475 : Index := Scalar.indexCast arg15
  let c3_1015 : Index := 3#32
  let c24_1016 : Index := 24#32
  let c640_1017 : Index := 640#32
  ![v2474.toNat, v2475.toNat, 3, 24, 640]
def k0_off208 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2483 : Index := Scalar.indexCast v1
  let c0_i32_14 : BitVec 32 := 0#32
  let c1_i32_15 : BitVec 32 := 1#32
  let arg15 : BitVec 32 := Scf.iv c0_i32_14 c1_i32_15 k0_t3
  let v2484 : Index := Scalar.indexCast arg15
  let c4_1019 : Index := 4#32
  let c24_1020 : Index := 24#32
  let c640_1021 : Index := 640#32
  ![v2483.toNat, v2484.toNat, 4, 24, 640]
def k0_off209 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2495 : Index := Scalar.indexCast v1
  let c0_i32_14 : BitVec 32 := 0#32
  let c1_i32_15 : BitVec 32 := 1#32
  let arg15 : BitVec 32 := Scf.iv c0_i32_14 c1_i32_15 k0_t3
  let v2496 : Index := Scalar.indexCast arg15
  let c1_1023 : Index := 1#32
  let c24_1024 : Index := 24#32
  let c768_1025 : Index := 768#32
  ![v2495.toNat, v2496.toNat, 1, 24, 768]
def k0_off210 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2504 : Index := Scalar.indexCast v1
  let c0_i32_14 : BitVec 32 := 0#32
  let c1_i32_15 : BitVec 32 := 1#32
  let arg15 : BitVec 32 := Scf.iv c0_i32_14 c1_i32_15 k0_t3
  let v2505 : Index := Scalar.indexCast arg15
  let c2_1027 : Index := 2#32
  let c24_1028 : Index := 24#32
  let c768_1029 : Index := 768#32
  ![v2504.toNat, v2505.toNat, 2, 24, 768]
def k0_off211 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2513 : Index := Scalar.indexCast v1
  let c0_i32_14 : BitVec 32 := 0#32
  let c1_i32_15 : BitVec 32 := 1#32
  let arg15 : BitVec 32 := Scf.iv c0_i32_14 c1_i32_15 k0_t3
  let v2514 : Index := Scalar.indexCast arg15
  let c3_1031 : Index := 3#32
  let c24_1032 : Index := 24#32
  let c768_1033 : Index := 768#32
  ![v2513.toNat, v2514.toNat, 3, 24, 768]
def k0_off212 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2522 : Index := Scalar.indexCast v1
  let c0_i32_14 : BitVec 32 := 0#32
  let c1_i32_15 : BitVec 32 := 1#32
  let arg15 : BitVec 32 := Scf.iv c0_i32_14 c1_i32_15 k0_t3
  let v2523 : Index := Scalar.indexCast arg15
  let c4_1035 : Index := 4#32
  let c24_1036 : Index := 24#32
  let c768_1037 : Index := 768#32
  ![v2522.toNat, v2523.toNat, 4, 24, 768]
def k0_off213 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2534 : Index := Scalar.indexCast v1
  let c0_i32_14 : BitVec 32 := 0#32
  let c1_i32_15 : BitVec 32 := 1#32
  let arg15 : BitVec 32 := Scf.iv c0_i32_14 c1_i32_15 k0_t3
  let v2535 : Index := Scalar.indexCast arg15
  let c1_1039 : Index := 1#32
  let c24_1040 : Index := 24#32
  let c896_1041 : Index := 896#32
  ![v2534.toNat, v2535.toNat, 1, 24, 896]
def k0_off214 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2543 : Index := Scalar.indexCast v1
  let c0_i32_14 : BitVec 32 := 0#32
  let c1_i32_15 : BitVec 32 := 1#32
  let arg15 : BitVec 32 := Scf.iv c0_i32_14 c1_i32_15 k0_t3
  let v2544 : Index := Scalar.indexCast arg15
  let c2_1043 : Index := 2#32
  let c24_1044 : Index := 24#32
  let c896_1045 : Index := 896#32
  ![v2543.toNat, v2544.toNat, 2, 24, 896]
def k0_off215 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2552 : Index := Scalar.indexCast v1
  let c0_i32_14 : BitVec 32 := 0#32
  let c1_i32_15 : BitVec 32 := 1#32
  let arg15 : BitVec 32 := Scf.iv c0_i32_14 c1_i32_15 k0_t3
  let v2553 : Index := Scalar.indexCast arg15
  let c3_1047 : Index := 3#32
  let c24_1048 : Index := 24#32
  let c896_1049 : Index := 896#32
  ![v2552.toNat, v2553.toNat, 3, 24, 896]
def k0_off216 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2561 : Index := Scalar.indexCast v1
  let c0_i32_14 : BitVec 32 := 0#32
  let c1_i32_15 : BitVec 32 := 1#32
  let arg15 : BitVec 32 := Scf.iv c0_i32_14 c1_i32_15 k0_t3
  let v2562 : Index := Scalar.indexCast arg15
  let c4_1051 : Index := 4#32
  let c24_1052 : Index := 24#32
  let c896_1053 : Index := 896#32
  ![v2561.toNat, v2562.toNat, 4, 24, 896]
def k0_off217 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2655 : Index := Scalar.indexCast v1
  let c0_i32_14 : BitVec 32 := 0#32
  let c1_i32_15 : BitVec 32 := 1#32
  let arg15 : BitVec 32 := Scf.iv c0_i32_14 c1_i32_15 k0_t3
  let v2656 : Index := Scalar.indexCast arg15
  let c0_1084 : Index := 0#32
  let c24_1085 : Index := 24#32
  let c512_1086 : Index := 512#32
  ![v2655.toNat, v2656.toNat, 0, 24, 512]
def k0_off218 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2670 : Index := Scalar.indexCast v1
  let c0_i32_14 : BitVec 32 := 0#32
  let c1_i32_15 : BitVec 32 := 1#32
  let arg15 : BitVec 32 := Scf.iv c0_i32_14 c1_i32_15 k0_t3
  let v2671 : Index := Scalar.indexCast arg15
  let c0_1090 : Index := 0#32
  let c24_1091 : Index := 24#32
  let c640_1092 : Index := 640#32
  ![v2670.toNat, v2671.toNat, 0, 24, 640]
def k0_off219 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2685 : Index := Scalar.indexCast v1
  let c0_i32_14 : BitVec 32 := 0#32
  let c1_i32_15 : BitVec 32 := 1#32
  let arg15 : BitVec 32 := Scf.iv c0_i32_14 c1_i32_15 k0_t3
  let v2686 : Index := Scalar.indexCast arg15
  let c0_1096 : Index := 0#32
  let c24_1097 : Index := 24#32
  let c768_1098 : Index := 768#32
  ![v2685.toNat, v2686.toNat, 0, 24, 768]
def k0_off220 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2700 : Index := Scalar.indexCast v1
  let c0_i32_14 : BitVec 32 := 0#32
  let c1_i32_15 : BitVec 32 := 1#32
  let arg15 : BitVec 32 := Scf.iv c0_i32_14 c1_i32_15 k0_t3
  let v2701 : Index := Scalar.indexCast arg15
  let c0_1102 : Index := 0#32
  let c24_1103 : Index := 24#32
  let c896_1104 : Index := 896#32
  ![v2700.toNat, v2701.toNat, 0, 24, 896]
def k0_off221 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2723 : Index := Scalar.indexCast arg15
  let c32_1123 : Index := 32#32
  let c0_1124 : Index := 0#32
  ![v2723.toNat, 32, 0]
def k0_off222 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2727 : Index := Scalar.indexCast arg15
  let c32_1125 : Index := 32#32
  let c128_1126 : Index := 128#32
  ![v2727.toNat, 32, 128]
def k0_off223 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2731 : Index := Scalar.indexCast arg15
  let c32_1127 : Index := 32#32
  let c256_1128 : Index := 256#32
  ![v2731.toNat, 32, 256]
def k0_off224 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2735 : Index := Scalar.indexCast arg15
  let c32_1129 : Index := 32#32
  let c384_1130 : Index := 384#32
  ![v2735.toNat, 32, 384]
def k0_off225 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2739 : Index := Scalar.indexCast arg15
  let c32_1131 : Index := 32#32
  let c512_1132 : Index := 512#32
  ![v2739.toNat, 32, 512]
def k0_off226 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2743 : Index := Scalar.indexCast arg15
  let c32_1133 : Index := 32#32
  let c640_1134 : Index := 640#32
  ![v2743.toNat, 32, 640]
def k0_off227 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2747 : Index := Scalar.indexCast arg15
  let c32_1135 : Index := 32#32
  let c768_1136 : Index := 768#32
  ![v2747.toNat, 32, 768]
def k0_off228 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v2751 : Index := Scalar.indexCast arg15
  let c32_1137 : Index := 32#32
  let c896_1138 : Index := 896#32
  ![v2751.toNat, 32, 896]
def k0_mult15 (i : grid0.Coords) (k0_t3 : Fin k0_t3_loop.trips) : BitVec 32 :=
  let arg0 : BitVec 32 := BitVec.ofNat 32 (i 0).val
  let c1_i32_29 : BitVec 32 := 1#32
  let v64 : BitVec 32 := Scalar.subi arg0 c1_i32_29
  let c20_i32_30 : BitVec 32 := 20#32
  let v65 : BitVec 32 := Scalar.muli v64 c20_i32_30
  let c0_i32_14 : BitVec 32 := 0#32
  let c1_i32_15 : BitVec 32 := 1#32
  let arg15 : BitVec 32 := Scf.iv c0_i32_14 c1_i32_15 k0_t3
  let v66 : BitVec 32 := Scalar.addi v65 arg15
  let c7_i32_1143 : BitVec 32 := 7#32
  let v2769 : BitVec 32 := Scalar.shrsi v66 c7_i32_1143
  let c7_i32_1144 : BitVec 32 := 7#32
  let v2770 : BitVec 32 := Scalar.shli v2769 c7_i32_1144
  v2770
def k0_off229 (i : grid0.Coords) (k0_t3 : Fin k0_t3_loop.trips) : Fin 2 → Nat :=
  let c32_1145 : Index := 32#32
  let arg0 : BitVec 32 := BitVec.ofNat 32 (i 0).val
  let c1_i32_29 : BitVec 32 := 1#32
  let v64 : BitVec 32 := Scalar.subi arg0 c1_i32_29
  let c20_i32_30 : BitVec 32 := 20#32
  let v65 : BitVec 32 := Scalar.muli v64 c20_i32_30
  let c0_i32_14 : BitVec 32 := 0#32
  let c1_i32_15 : BitVec 32 := 1#32
  let arg15 : BitVec 32 := Scf.iv c0_i32_14 c1_i32_15 k0_t3
  let v66 : BitVec 32 := Scalar.addi v65 arg15
  let c7_i32_1143 : BitVec 32 := 7#32
  let v2769 : BitVec 32 := Scalar.shrsi v66 c7_i32_1143
  let c7_i32_1144 : BitVec 32 := 7#32
  let v2770 : BitVec 32 := Scalar.shli v2769 c7_i32_1144
  let v2771 : BitVec 32 := v2770
  let v2772 : Index := Scalar.indexCast v2771
  ![32, v2772.toNat]
def k0_off230 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2780 : Index := Scalar.indexCast v1
  let c0_i32_14 : BitVec 32 := 0#32
  let c1_i32_15 : BitVec 32 := 1#32
  let arg15 : BitVec 32 := Scf.iv c0_i32_14 c1_i32_15 k0_t3
  let v2781 : Index := Scalar.indexCast arg15
  let c1_1147 : Index := 1#32
  let c32_1148 : Index := 32#32
  let c0_1149 : Index := 0#32
  ![v2780.toNat, v2781.toNat, 1, 32, 0]
def k0_off231 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2789 : Index := Scalar.indexCast v1
  let c0_i32_14 : BitVec 32 := 0#32
  let c1_i32_15 : BitVec 32 := 1#32
  let arg15 : BitVec 32 := Scf.iv c0_i32_14 c1_i32_15 k0_t3
  let v2790 : Index := Scalar.indexCast arg15
  let c2_1151 : Index := 2#32
  let c32_1152 : Index := 32#32
  let c0_1153 : Index := 0#32
  ![v2789.toNat, v2790.toNat, 2, 32, 0]
def k0_off232 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2798 : Index := Scalar.indexCast v1
  let c0_i32_14 : BitVec 32 := 0#32
  let c1_i32_15 : BitVec 32 := 1#32
  let arg15 : BitVec 32 := Scf.iv c0_i32_14 c1_i32_15 k0_t3
  let v2799 : Index := Scalar.indexCast arg15
  let c3_1155 : Index := 3#32
  let c32_1156 : Index := 32#32
  let c0_1157 : Index := 0#32
  ![v2798.toNat, v2799.toNat, 3, 32, 0]
def k0_off233 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2807 : Index := Scalar.indexCast v1
  let c0_i32_14 : BitVec 32 := 0#32
  let c1_i32_15 : BitVec 32 := 1#32
  let arg15 : BitVec 32 := Scf.iv c0_i32_14 c1_i32_15 k0_t3
  let v2808 : Index := Scalar.indexCast arg15
  let c4_1159 : Index := 4#32
  let c32_1160 : Index := 32#32
  let c0_1161 : Index := 0#32
  ![v2807.toNat, v2808.toNat, 4, 32, 0]
def k0_off234 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2819 : Index := Scalar.indexCast v1
  let c0_i32_14 : BitVec 32 := 0#32
  let c1_i32_15 : BitVec 32 := 1#32
  let arg15 : BitVec 32 := Scf.iv c0_i32_14 c1_i32_15 k0_t3
  let v2820 : Index := Scalar.indexCast arg15
  let c1_1163 : Index := 1#32
  let c32_1164 : Index := 32#32
  let c128_1165 : Index := 128#32
  ![v2819.toNat, v2820.toNat, 1, 32, 128]
def k0_off235 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2828 : Index := Scalar.indexCast v1
  let c0_i32_14 : BitVec 32 := 0#32
  let c1_i32_15 : BitVec 32 := 1#32
  let arg15 : BitVec 32 := Scf.iv c0_i32_14 c1_i32_15 k0_t3
  let v2829 : Index := Scalar.indexCast arg15
  let c2_1167 : Index := 2#32
  let c32_1168 : Index := 32#32
  let c128_1169 : Index := 128#32
  ![v2828.toNat, v2829.toNat, 2, 32, 128]
def k0_off236 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2837 : Index := Scalar.indexCast v1
  let c0_i32_14 : BitVec 32 := 0#32
  let c1_i32_15 : BitVec 32 := 1#32
  let arg15 : BitVec 32 := Scf.iv c0_i32_14 c1_i32_15 k0_t3
  let v2838 : Index := Scalar.indexCast arg15
  let c3_1171 : Index := 3#32
  let c32_1172 : Index := 32#32
  let c128_1173 : Index := 128#32
  ![v2837.toNat, v2838.toNat, 3, 32, 128]
def k0_off237 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2846 : Index := Scalar.indexCast v1
  let c0_i32_14 : BitVec 32 := 0#32
  let c1_i32_15 : BitVec 32 := 1#32
  let arg15 : BitVec 32 := Scf.iv c0_i32_14 c1_i32_15 k0_t3
  let v2847 : Index := Scalar.indexCast arg15
  let c4_1175 : Index := 4#32
  let c32_1176 : Index := 32#32
  let c128_1177 : Index := 128#32
  ![v2846.toNat, v2847.toNat, 4, 32, 128]
def k0_off238 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2858 : Index := Scalar.indexCast v1
  let c0_i32_14 : BitVec 32 := 0#32
  let c1_i32_15 : BitVec 32 := 1#32
  let arg15 : BitVec 32 := Scf.iv c0_i32_14 c1_i32_15 k0_t3
  let v2859 : Index := Scalar.indexCast arg15
  let c1_1179 : Index := 1#32
  let c32_1180 : Index := 32#32
  let c256_1181 : Index := 256#32
  ![v2858.toNat, v2859.toNat, 1, 32, 256]
def k0_off239 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2867 : Index := Scalar.indexCast v1
  let c0_i32_14 : BitVec 32 := 0#32
  let c1_i32_15 : BitVec 32 := 1#32
  let arg15 : BitVec 32 := Scf.iv c0_i32_14 c1_i32_15 k0_t3
  let v2868 : Index := Scalar.indexCast arg15
  let c2_1183 : Index := 2#32
  let c32_1184 : Index := 32#32
  let c256_1185 : Index := 256#32
  ![v2867.toNat, v2868.toNat, 2, 32, 256]
def k0_off240 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2876 : Index := Scalar.indexCast v1
  let c0_i32_14 : BitVec 32 := 0#32
  let c1_i32_15 : BitVec 32 := 1#32
  let arg15 : BitVec 32 := Scf.iv c0_i32_14 c1_i32_15 k0_t3
  let v2877 : Index := Scalar.indexCast arg15
  let c3_1187 : Index := 3#32
  let c32_1188 : Index := 32#32
  let c256_1189 : Index := 256#32
  ![v2876.toNat, v2877.toNat, 3, 32, 256]
def k0_off241 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2885 : Index := Scalar.indexCast v1
  let c0_i32_14 : BitVec 32 := 0#32
  let c1_i32_15 : BitVec 32 := 1#32
  let arg15 : BitVec 32 := Scf.iv c0_i32_14 c1_i32_15 k0_t3
  let v2886 : Index := Scalar.indexCast arg15
  let c4_1191 : Index := 4#32
  let c32_1192 : Index := 32#32
  let c256_1193 : Index := 256#32
  ![v2885.toNat, v2886.toNat, 4, 32, 256]
def k0_off242 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2897 : Index := Scalar.indexCast v1
  let c0_i32_14 : BitVec 32 := 0#32
  let c1_i32_15 : BitVec 32 := 1#32
  let arg15 : BitVec 32 := Scf.iv c0_i32_14 c1_i32_15 k0_t3
  let v2898 : Index := Scalar.indexCast arg15
  let c1_1195 : Index := 1#32
  let c32_1196 : Index := 32#32
  let c384_1197 : Index := 384#32
  ![v2897.toNat, v2898.toNat, 1, 32, 384]
def k0_off243 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2906 : Index := Scalar.indexCast v1
  let c0_i32_14 : BitVec 32 := 0#32
  let c1_i32_15 : BitVec 32 := 1#32
  let arg15 : BitVec 32 := Scf.iv c0_i32_14 c1_i32_15 k0_t3
  let v2907 : Index := Scalar.indexCast arg15
  let c2_1199 : Index := 2#32
  let c32_1200 : Index := 32#32
  let c384_1201 : Index := 384#32
  ![v2906.toNat, v2907.toNat, 2, 32, 384]
def k0_off244 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2915 : Index := Scalar.indexCast v1
  let c0_i32_14 : BitVec 32 := 0#32
  let c1_i32_15 : BitVec 32 := 1#32
  let arg15 : BitVec 32 := Scf.iv c0_i32_14 c1_i32_15 k0_t3
  let v2916 : Index := Scalar.indexCast arg15
  let c3_1203 : Index := 3#32
  let c32_1204 : Index := 32#32
  let c384_1205 : Index := 384#32
  ![v2915.toNat, v2916.toNat, 3, 32, 384]
def k0_off245 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2924 : Index := Scalar.indexCast v1
  let c0_i32_14 : BitVec 32 := 0#32
  let c1_i32_15 : BitVec 32 := 1#32
  let arg15 : BitVec 32 := Scf.iv c0_i32_14 c1_i32_15 k0_t3
  let v2925 : Index := Scalar.indexCast arg15
  let c4_1207 : Index := 4#32
  let c32_1208 : Index := 32#32
  let c384_1209 : Index := 384#32
  ![v2924.toNat, v2925.toNat, 4, 32, 384]
def k0_off246 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3018 : Index := Scalar.indexCast v1
  let c0_i32_14 : BitVec 32 := 0#32
  let c1_i32_15 : BitVec 32 := 1#32
  let arg15 : BitVec 32 := Scf.iv c0_i32_14 c1_i32_15 k0_t3
  let v3019 : Index := Scalar.indexCast arg15
  let c0_1240 : Index := 0#32
  let c32_1241 : Index := 32#32
  let c0_1242 : Index := 0#32
  ![v3018.toNat, v3019.toNat, 0, 32, 0]
def k0_off247 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3033 : Index := Scalar.indexCast v1
  let c0_i32_14 : BitVec 32 := 0#32
  let c1_i32_15 : BitVec 32 := 1#32
  let arg15 : BitVec 32 := Scf.iv c0_i32_14 c1_i32_15 k0_t3
  let v3034 : Index := Scalar.indexCast arg15
  let c0_1246 : Index := 0#32
  let c32_1247 : Index := 32#32
  let c128_1248 : Index := 128#32
  ![v3033.toNat, v3034.toNat, 0, 32, 128]
def k0_off248 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3048 : Index := Scalar.indexCast v1
  let c0_i32_14 : BitVec 32 := 0#32
  let c1_i32_15 : BitVec 32 := 1#32
  let arg15 : BitVec 32 := Scf.iv c0_i32_14 c1_i32_15 k0_t3
  let v3049 : Index := Scalar.indexCast arg15
  let c0_1252 : Index := 0#32
  let c32_1253 : Index := 32#32
  let c256_1254 : Index := 256#32
  ![v3048.toNat, v3049.toNat, 0, 32, 256]
def k0_off249 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3063 : Index := Scalar.indexCast v1
  let c0_i32_14 : BitVec 32 := 0#32
  let c1_i32_15 : BitVec 32 := 1#32
  let arg15 : BitVec 32 := Scf.iv c0_i32_14 c1_i32_15 k0_t3
  let v3064 : Index := Scalar.indexCast arg15
  let c0_1258 : Index := 0#32
  let c32_1259 : Index := 32#32
  let c384_1260 : Index := 384#32
  ![v3063.toNat, v3064.toNat, 0, 32, 384]
def k0_off250 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3078 : Index := Scalar.indexCast v1
  let c0_i32_14 : BitVec 32 := 0#32
  let c1_i32_15 : BitVec 32 := 1#32
  let arg15 : BitVec 32 := Scf.iv c0_i32_14 c1_i32_15 k0_t3
  let v3079 : Index := Scalar.indexCast arg15
  let c1_1264 : Index := 1#32
  let c32_1265 : Index := 32#32
  let c512_1266 : Index := 512#32
  ![v3078.toNat, v3079.toNat, 1, 32, 512]
def k0_off251 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3087 : Index := Scalar.indexCast v1
  let c0_i32_14 : BitVec 32 := 0#32
  let c1_i32_15 : BitVec 32 := 1#32
  let arg15 : BitVec 32 := Scf.iv c0_i32_14 c1_i32_15 k0_t3
  let v3088 : Index := Scalar.indexCast arg15
  let c2_1268 : Index := 2#32
  let c32_1269 : Index := 32#32
  let c512_1270 : Index := 512#32
  ![v3087.toNat, v3088.toNat, 2, 32, 512]
def k0_off252 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3096 : Index := Scalar.indexCast v1
  let c0_i32_14 : BitVec 32 := 0#32
  let c1_i32_15 : BitVec 32 := 1#32
  let arg15 : BitVec 32 := Scf.iv c0_i32_14 c1_i32_15 k0_t3
  let v3097 : Index := Scalar.indexCast arg15
  let c3_1272 : Index := 3#32
  let c32_1273 : Index := 32#32
  let c512_1274 : Index := 512#32
  ![v3096.toNat, v3097.toNat, 3, 32, 512]
def k0_off253 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3105 : Index := Scalar.indexCast v1
  let c0_i32_14 : BitVec 32 := 0#32
  let c1_i32_15 : BitVec 32 := 1#32
  let arg15 : BitVec 32 := Scf.iv c0_i32_14 c1_i32_15 k0_t3
  let v3106 : Index := Scalar.indexCast arg15
  let c4_1276 : Index := 4#32
  let c32_1277 : Index := 32#32
  let c512_1278 : Index := 512#32
  ![v3105.toNat, v3106.toNat, 4, 32, 512]
def k0_off254 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3117 : Index := Scalar.indexCast v1
  let c0_i32_14 : BitVec 32 := 0#32
  let c1_i32_15 : BitVec 32 := 1#32
  let arg15 : BitVec 32 := Scf.iv c0_i32_14 c1_i32_15 k0_t3
  let v3118 : Index := Scalar.indexCast arg15
  let c1_1280 : Index := 1#32
  let c32_1281 : Index := 32#32
  let c640_1282 : Index := 640#32
  ![v3117.toNat, v3118.toNat, 1, 32, 640]
def k0_off255 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3126 : Index := Scalar.indexCast v1
  let c0_i32_14 : BitVec 32 := 0#32
  let c1_i32_15 : BitVec 32 := 1#32
  let arg15 : BitVec 32 := Scf.iv c0_i32_14 c1_i32_15 k0_t3
  let v3127 : Index := Scalar.indexCast arg15
  let c2_1284 : Index := 2#32
  let c32_1285 : Index := 32#32
  let c640_1286 : Index := 640#32
  ![v3126.toNat, v3127.toNat, 2, 32, 640]
def k0_off256 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3135 : Index := Scalar.indexCast v1
  let c0_i32_14 : BitVec 32 := 0#32
  let c1_i32_15 : BitVec 32 := 1#32
  let arg15 : BitVec 32 := Scf.iv c0_i32_14 c1_i32_15 k0_t3
  let v3136 : Index := Scalar.indexCast arg15
  let c3_1288 : Index := 3#32
  let c32_1289 : Index := 32#32
  let c640_1290 : Index := 640#32
  ![v3135.toNat, v3136.toNat, 3, 32, 640]
def k0_off257 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3144 : Index := Scalar.indexCast v1
  let c0_i32_14 : BitVec 32 := 0#32
  let c1_i32_15 : BitVec 32 := 1#32
  let arg15 : BitVec 32 := Scf.iv c0_i32_14 c1_i32_15 k0_t3
  let v3145 : Index := Scalar.indexCast arg15
  let c4_1292 : Index := 4#32
  let c32_1293 : Index := 32#32
  let c640_1294 : Index := 640#32
  ![v3144.toNat, v3145.toNat, 4, 32, 640]
def k0_off258 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3156 : Index := Scalar.indexCast v1
  let c0_i32_14 : BitVec 32 := 0#32
  let c1_i32_15 : BitVec 32 := 1#32
  let arg15 : BitVec 32 := Scf.iv c0_i32_14 c1_i32_15 k0_t3
  let v3157 : Index := Scalar.indexCast arg15
  let c1_1296 : Index := 1#32
  let c32_1297 : Index := 32#32
  let c768_1298 : Index := 768#32
  ![v3156.toNat, v3157.toNat, 1, 32, 768]
def k0_off259 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3165 : Index := Scalar.indexCast v1
  let c0_i32_14 : BitVec 32 := 0#32
  let c1_i32_15 : BitVec 32 := 1#32
  let arg15 : BitVec 32 := Scf.iv c0_i32_14 c1_i32_15 k0_t3
  let v3166 : Index := Scalar.indexCast arg15
  let c2_1300 : Index := 2#32
  let c32_1301 : Index := 32#32
  let c768_1302 : Index := 768#32
  ![v3165.toNat, v3166.toNat, 2, 32, 768]
def k0_off260 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3174 : Index := Scalar.indexCast v1
  let c0_i32_14 : BitVec 32 := 0#32
  let c1_i32_15 : BitVec 32 := 1#32
  let arg15 : BitVec 32 := Scf.iv c0_i32_14 c1_i32_15 k0_t3
  let v3175 : Index := Scalar.indexCast arg15
  let c3_1304 : Index := 3#32
  let c32_1305 : Index := 32#32
  let c768_1306 : Index := 768#32
  ![v3174.toNat, v3175.toNat, 3, 32, 768]
def k0_off261 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3183 : Index := Scalar.indexCast v1
  let c0_i32_14 : BitVec 32 := 0#32
  let c1_i32_15 : BitVec 32 := 1#32
  let arg15 : BitVec 32 := Scf.iv c0_i32_14 c1_i32_15 k0_t3
  let v3184 : Index := Scalar.indexCast arg15
  let c4_1308 : Index := 4#32
  let c32_1309 : Index := 32#32
  let c768_1310 : Index := 768#32
  ![v3183.toNat, v3184.toNat, 4, 32, 768]
def k0_off262 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3195 : Index := Scalar.indexCast v1
  let c0_i32_14 : BitVec 32 := 0#32
  let c1_i32_15 : BitVec 32 := 1#32
  let arg15 : BitVec 32 := Scf.iv c0_i32_14 c1_i32_15 k0_t3
  let v3196 : Index := Scalar.indexCast arg15
  let c1_1312 : Index := 1#32
  let c32_1313 : Index := 32#32
  let c896_1314 : Index := 896#32
  ![v3195.toNat, v3196.toNat, 1, 32, 896]
def k0_off263 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3204 : Index := Scalar.indexCast v1
  let c0_i32_14 : BitVec 32 := 0#32
  let c1_i32_15 : BitVec 32 := 1#32
  let arg15 : BitVec 32 := Scf.iv c0_i32_14 c1_i32_15 k0_t3
  let v3205 : Index := Scalar.indexCast arg15
  let c2_1316 : Index := 2#32
  let c32_1317 : Index := 32#32
  let c896_1318 : Index := 896#32
  ![v3204.toNat, v3205.toNat, 2, 32, 896]
def k0_off264 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3213 : Index := Scalar.indexCast v1
  let c0_i32_14 : BitVec 32 := 0#32
  let c1_i32_15 : BitVec 32 := 1#32
  let arg15 : BitVec 32 := Scf.iv c0_i32_14 c1_i32_15 k0_t3
  let v3214 : Index := Scalar.indexCast arg15
  let c3_1320 : Index := 3#32
  let c32_1321 : Index := 32#32
  let c896_1322 : Index := 896#32
  ![v3213.toNat, v3214.toNat, 3, 32, 896]
def k0_off265 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3222 : Index := Scalar.indexCast v1
  let c0_i32_14 : BitVec 32 := 0#32
  let c1_i32_15 : BitVec 32 := 1#32
  let arg15 : BitVec 32 := Scf.iv c0_i32_14 c1_i32_15 k0_t3
  let v3223 : Index := Scalar.indexCast arg15
  let c4_1324 : Index := 4#32
  let c32_1325 : Index := 32#32
  let c896_1326 : Index := 896#32
  ![v3222.toNat, v3223.toNat, 4, 32, 896]
def k0_off266 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3316 : Index := Scalar.indexCast v1
  let c0_i32_14 : BitVec 32 := 0#32
  let c1_i32_15 : BitVec 32 := 1#32
  let arg15 : BitVec 32 := Scf.iv c0_i32_14 c1_i32_15 k0_t3
  let v3317 : Index := Scalar.indexCast arg15
  let c0_1357 : Index := 0#32
  let c32_1358 : Index := 32#32
  let c512_1359 : Index := 512#32
  ![v3316.toNat, v3317.toNat, 0, 32, 512]
def k0_off267 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3331 : Index := Scalar.indexCast v1
  let c0_i32_14 : BitVec 32 := 0#32
  let c1_i32_15 : BitVec 32 := 1#32
  let arg15 : BitVec 32 := Scf.iv c0_i32_14 c1_i32_15 k0_t3
  let v3332 : Index := Scalar.indexCast arg15
  let c0_1363 : Index := 0#32
  let c32_1364 : Index := 32#32
  let c640_1365 : Index := 640#32
  ![v3331.toNat, v3332.toNat, 0, 32, 640]
def k0_off268 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3346 : Index := Scalar.indexCast v1
  let c0_i32_14 : BitVec 32 := 0#32
  let c1_i32_15 : BitVec 32 := 1#32
  let arg15 : BitVec 32 := Scf.iv c0_i32_14 c1_i32_15 k0_t3
  let v3347 : Index := Scalar.indexCast arg15
  let c0_1369 : Index := 0#32
  let c32_1370 : Index := 32#32
  let c768_1371 : Index := 768#32
  ![v3346.toNat, v3347.toNat, 0, 32, 768]
def k0_off269 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3361 : Index := Scalar.indexCast v1
  let c0_i32_14 : BitVec 32 := 0#32
  let c1_i32_15 : BitVec 32 := 1#32
  let arg15 : BitVec 32 := Scf.iv c0_i32_14 c1_i32_15 k0_t3
  let v3362 : Index := Scalar.indexCast arg15
  let c0_1375 : Index := 0#32
  let c32_1376 : Index := 32#32
  let c896_1377 : Index := 896#32
  ![v3361.toNat, v3362.toNat, 0, 32, 896]
def k0_off270 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v3384 : Index := Scalar.indexCast arg15
  let c40_1396 : Index := 40#32
  let c0_1397 : Index := 0#32
  ![v3384.toNat, 40, 0]
def k0_off271 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v3388 : Index := Scalar.indexCast arg15
  let c40_1398 : Index := 40#32
  let c128_1399 : Index := 128#32
  ![v3388.toNat, 40, 128]
def k0_off272 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v3392 : Index := Scalar.indexCast arg15
  let c40_1400 : Index := 40#32
  let c256_1401 : Index := 256#32
  ![v3392.toNat, 40, 256]
def k0_off273 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v3396 : Index := Scalar.indexCast arg15
  let c40_1402 : Index := 40#32
  let c384_1403 : Index := 384#32
  ![v3396.toNat, 40, 384]
def k0_off274 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v3400 : Index := Scalar.indexCast arg15
  let c40_1404 : Index := 40#32
  let c512_1405 : Index := 512#32
  ![v3400.toNat, 40, 512]
def k0_off275 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v3404 : Index := Scalar.indexCast arg15
  let c40_1406 : Index := 40#32
  let c640_1407 : Index := 640#32
  ![v3404.toNat, 40, 640]
def k0_off276 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v3408 : Index := Scalar.indexCast arg15
  let c40_1408 : Index := 40#32
  let c768_1409 : Index := 768#32
  ![v3408.toNat, 40, 768]
def k0_off277 (k0_t3 : Fin k0_t3_loop.trips) : Fin 3 → Nat :=
  let c0_i32_14 : BitVec 32 := 0#32
  let c1_i32_15 : BitVec 32 := 1#32
  let arg15 : BitVec 32 := Scf.iv c0_i32_14 c1_i32_15 k0_t3
  let v3412 : Index := Scalar.indexCast arg15
  let c40_1410 : Index := 40#32
  let c896_1411 : Index := 896#32
  ![v3412.toNat, 40, 896]
def k0_mult16 (i : grid0.Coords) (k0_t3 : Fin k0_t3_loop.trips) : BitVec 32 :=
  let arg0 : BitVec 32 := BitVec.ofNat 32 (i 0).val
  let c1_i32_29 : BitVec 32 := 1#32
  let v64 : BitVec 32 := Scalar.subi arg0 c1_i32_29
  let c20_i32_30 : BitVec 32 := 20#32
  let v65 : BitVec 32 := Scalar.muli v64 c20_i32_30
  let c0_i32_14 : BitVec 32 := 0#32
  let c1_i32_15 : BitVec 32 := 1#32
  let arg15 : BitVec 32 := Scf.iv c0_i32_14 c1_i32_15 k0_t3
  let v66 : BitVec 32 := Scalar.addi v65 arg15
  let c7_i32_1416 : BitVec 32 := 7#32
  let v3430 : BitVec 32 := Scalar.shrsi v66 c7_i32_1416
  let c7_i32_1417 : BitVec 32 := 7#32
  let v3431 : BitVec 32 := Scalar.shli v3430 c7_i32_1417
  v3431
def k0_off278 (i : grid0.Coords) (k0_t3 : Fin k0_t3_loop.trips) : Fin 2 → Nat :=
  let c40_1418 : Index := 40#32
  let arg0 : BitVec 32 := BitVec.ofNat 32 (i 0).val
  let c1_i32_29 : BitVec 32 := 1#32
  let v64 : BitVec 32 := Scalar.subi arg0 c1_i32_29
  let c20_i32_30 : BitVec 32 := 20#32
  let v65 : BitVec 32 := Scalar.muli v64 c20_i32_30
  let c0_i32_14 : BitVec 32 := 0#32
  let c1_i32_15 : BitVec 32 := 1#32
  let arg15 : BitVec 32 := Scf.iv c0_i32_14 c1_i32_15 k0_t3
  let v66 : BitVec 32 := Scalar.addi v65 arg15
  let c7_i32_1416 : BitVec 32 := 7#32
  let v3430 : BitVec 32 := Scalar.shrsi v66 c7_i32_1416
  let c7_i32_1417 : BitVec 32 := 7#32
  let v3431 : BitVec 32 := Scalar.shli v3430 c7_i32_1417
  let v3432 : BitVec 32 := v3431
  let v3433 : Index := Scalar.indexCast v3432
  ![40, v3433.toNat]
def k0_off279 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3441 : Index := Scalar.indexCast v1
  let c0_i32_14 : BitVec 32 := 0#32
  let c1_i32_15 : BitVec 32 := 1#32
  let arg15 : BitVec 32 := Scf.iv c0_i32_14 c1_i32_15 k0_t3
  let v3442 : Index := Scalar.indexCast arg15
  let c1_1420 : Index := 1#32
  let c40_1421 : Index := 40#32
  let c0_1422 : Index := 0#32
  ![v3441.toNat, v3442.toNat, 1, 40, 0]
def k0_off280 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3450 : Index := Scalar.indexCast v1
  let c0_i32_14 : BitVec 32 := 0#32
  let c1_i32_15 : BitVec 32 := 1#32
  let arg15 : BitVec 32 := Scf.iv c0_i32_14 c1_i32_15 k0_t3
  let v3451 : Index := Scalar.indexCast arg15
  let c2_1424 : Index := 2#32
  let c40_1425 : Index := 40#32
  let c0_1426 : Index := 0#32
  ![v3450.toNat, v3451.toNat, 2, 40, 0]
def k0_off281 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3459 : Index := Scalar.indexCast v1
  let c0_i32_14 : BitVec 32 := 0#32
  let c1_i32_15 : BitVec 32 := 1#32
  let arg15 : BitVec 32 := Scf.iv c0_i32_14 c1_i32_15 k0_t3
  let v3460 : Index := Scalar.indexCast arg15
  let c3_1428 : Index := 3#32
  let c40_1429 : Index := 40#32
  let c0_1430 : Index := 0#32
  ![v3459.toNat, v3460.toNat, 3, 40, 0]
def k0_off282 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3468 : Index := Scalar.indexCast v1
  let c0_i32_14 : BitVec 32 := 0#32
  let c1_i32_15 : BitVec 32 := 1#32
  let arg15 : BitVec 32 := Scf.iv c0_i32_14 c1_i32_15 k0_t3
  let v3469 : Index := Scalar.indexCast arg15
  let c4_1432 : Index := 4#32
  let c40_1433 : Index := 40#32
  let c0_1434 : Index := 0#32
  ![v3468.toNat, v3469.toNat, 4, 40, 0]
def k0_off283 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3480 : Index := Scalar.indexCast v1
  let c0_i32_14 : BitVec 32 := 0#32
  let c1_i32_15 : BitVec 32 := 1#32
  let arg15 : BitVec 32 := Scf.iv c0_i32_14 c1_i32_15 k0_t3
  let v3481 : Index := Scalar.indexCast arg15
  let c1_1436 : Index := 1#32
  let c40_1437 : Index := 40#32
  let c128_1438 : Index := 128#32
  ![v3480.toNat, v3481.toNat, 1, 40, 128]
def k0_off284 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3489 : Index := Scalar.indexCast v1
  let c0_i32_14 : BitVec 32 := 0#32
  let c1_i32_15 : BitVec 32 := 1#32
  let arg15 : BitVec 32 := Scf.iv c0_i32_14 c1_i32_15 k0_t3
  let v3490 : Index := Scalar.indexCast arg15
  let c2_1440 : Index := 2#32
  let c40_1441 : Index := 40#32
  let c128_1442 : Index := 128#32
  ![v3489.toNat, v3490.toNat, 2, 40, 128]
def k0_off285 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3498 : Index := Scalar.indexCast v1
  let c0_i32_14 : BitVec 32 := 0#32
  let c1_i32_15 : BitVec 32 := 1#32
  let arg15 : BitVec 32 := Scf.iv c0_i32_14 c1_i32_15 k0_t3
  let v3499 : Index := Scalar.indexCast arg15
  let c3_1444 : Index := 3#32
  let c40_1445 : Index := 40#32
  let c128_1446 : Index := 128#32
  ![v3498.toNat, v3499.toNat, 3, 40, 128]
def k0_off286 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3507 : Index := Scalar.indexCast v1
  let c0_i32_14 : BitVec 32 := 0#32
  let c1_i32_15 : BitVec 32 := 1#32
  let arg15 : BitVec 32 := Scf.iv c0_i32_14 c1_i32_15 k0_t3
  let v3508 : Index := Scalar.indexCast arg15
  let c4_1448 : Index := 4#32
  let c40_1449 : Index := 40#32
  let c128_1450 : Index := 128#32
  ![v3507.toNat, v3508.toNat, 4, 40, 128]
def k0_off287 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3519 : Index := Scalar.indexCast v1
  let c0_i32_14 : BitVec 32 := 0#32
  let c1_i32_15 : BitVec 32 := 1#32
  let arg15 : BitVec 32 := Scf.iv c0_i32_14 c1_i32_15 k0_t3
  let v3520 : Index := Scalar.indexCast arg15
  let c1_1452 : Index := 1#32
  let c40_1453 : Index := 40#32
  let c256_1454 : Index := 256#32
  ![v3519.toNat, v3520.toNat, 1, 40, 256]
def k0_off288 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3528 : Index := Scalar.indexCast v1
  let c0_i32_14 : BitVec 32 := 0#32
  let c1_i32_15 : BitVec 32 := 1#32
  let arg15 : BitVec 32 := Scf.iv c0_i32_14 c1_i32_15 k0_t3
  let v3529 : Index := Scalar.indexCast arg15
  let c2_1456 : Index := 2#32
  let c40_1457 : Index := 40#32
  let c256_1458 : Index := 256#32
  ![v3528.toNat, v3529.toNat, 2, 40, 256]
def k0_off289 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3537 : Index := Scalar.indexCast v1
  let c0_i32_14 : BitVec 32 := 0#32
  let c1_i32_15 : BitVec 32 := 1#32
  let arg15 : BitVec 32 := Scf.iv c0_i32_14 c1_i32_15 k0_t3
  let v3538 : Index := Scalar.indexCast arg15
  let c3_1460 : Index := 3#32
  let c40_1461 : Index := 40#32
  let c256_1462 : Index := 256#32
  ![v3537.toNat, v3538.toNat, 3, 40, 256]
def k0_off290 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3546 : Index := Scalar.indexCast v1
  let c0_i32_14 : BitVec 32 := 0#32
  let c1_i32_15 : BitVec 32 := 1#32
  let arg15 : BitVec 32 := Scf.iv c0_i32_14 c1_i32_15 k0_t3
  let v3547 : Index := Scalar.indexCast arg15
  let c4_1464 : Index := 4#32
  let c40_1465 : Index := 40#32
  let c256_1466 : Index := 256#32
  ![v3546.toNat, v3547.toNat, 4, 40, 256]
def k0_off291 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3558 : Index := Scalar.indexCast v1
  let c0_i32_14 : BitVec 32 := 0#32
  let c1_i32_15 : BitVec 32 := 1#32
  let arg15 : BitVec 32 := Scf.iv c0_i32_14 c1_i32_15 k0_t3
  let v3559 : Index := Scalar.indexCast arg15
  let c1_1468 : Index := 1#32
  let c40_1469 : Index := 40#32
  let c384_1470 : Index := 384#32
  ![v3558.toNat, v3559.toNat, 1, 40, 384]
def k0_off292 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3567 : Index := Scalar.indexCast v1
  let c0_i32_14 : BitVec 32 := 0#32
  let c1_i32_15 : BitVec 32 := 1#32
  let arg15 : BitVec 32 := Scf.iv c0_i32_14 c1_i32_15 k0_t3
  let v3568 : Index := Scalar.indexCast arg15
  let c2_1472 : Index := 2#32
  let c40_1473 : Index := 40#32
  let c384_1474 : Index := 384#32
  ![v3567.toNat, v3568.toNat, 2, 40, 384]
def k0_off293 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3576 : Index := Scalar.indexCast v1
  let c0_i32_14 : BitVec 32 := 0#32
  let c1_i32_15 : BitVec 32 := 1#32
  let arg15 : BitVec 32 := Scf.iv c0_i32_14 c1_i32_15 k0_t3
  let v3577 : Index := Scalar.indexCast arg15
  let c3_1476 : Index := 3#32
  let c40_1477 : Index := 40#32
  let c384_1478 : Index := 384#32
  ![v3576.toNat, v3577.toNat, 3, 40, 384]
def k0_off294 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3585 : Index := Scalar.indexCast v1
  let c0_i32_14 : BitVec 32 := 0#32
  let c1_i32_15 : BitVec 32 := 1#32
  let arg15 : BitVec 32 := Scf.iv c0_i32_14 c1_i32_15 k0_t3
  let v3586 : Index := Scalar.indexCast arg15
  let c4_1480 : Index := 4#32
  let c40_1481 : Index := 40#32
  let c384_1482 : Index := 384#32
  ![v3585.toNat, v3586.toNat, 4, 40, 384]
def k0_off295 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3679 : Index := Scalar.indexCast v1
  let c0_i32_14 : BitVec 32 := 0#32
  let c1_i32_15 : BitVec 32 := 1#32
  let arg15 : BitVec 32 := Scf.iv c0_i32_14 c1_i32_15 k0_t3
  let v3680 : Index := Scalar.indexCast arg15
  let c0_1513 : Index := 0#32
  let c40_1514 : Index := 40#32
  let c0_1515 : Index := 0#32
  ![v3679.toNat, v3680.toNat, 0, 40, 0]
def k0_off296 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3694 : Index := Scalar.indexCast v1
  let c0_i32_14 : BitVec 32 := 0#32
  let c1_i32_15 : BitVec 32 := 1#32
  let arg15 : BitVec 32 := Scf.iv c0_i32_14 c1_i32_15 k0_t3
  let v3695 : Index := Scalar.indexCast arg15
  let c0_1519 : Index := 0#32
  let c40_1520 : Index := 40#32
  let c128_1521 : Index := 128#32
  ![v3694.toNat, v3695.toNat, 0, 40, 128]
def k0_off297 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3709 : Index := Scalar.indexCast v1
  let c0_i32_14 : BitVec 32 := 0#32
  let c1_i32_15 : BitVec 32 := 1#32
  let arg15 : BitVec 32 := Scf.iv c0_i32_14 c1_i32_15 k0_t3
  let v3710 : Index := Scalar.indexCast arg15
  let c0_1525 : Index := 0#32
  let c40_1526 : Index := 40#32
  let c256_1527 : Index := 256#32
  ![v3709.toNat, v3710.toNat, 0, 40, 256]
def k0_off298 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3724 : Index := Scalar.indexCast v1
  let c0_i32_14 : BitVec 32 := 0#32
  let c1_i32_15 : BitVec 32 := 1#32
  let arg15 : BitVec 32 := Scf.iv c0_i32_14 c1_i32_15 k0_t3
  let v3725 : Index := Scalar.indexCast arg15
  let c0_1531 : Index := 0#32
  let c40_1532 : Index := 40#32
  let c384_1533 : Index := 384#32
  ![v3724.toNat, v3725.toNat, 0, 40, 384]
def k0_off299 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3739 : Index := Scalar.indexCast v1
  let c0_i32_14 : BitVec 32 := 0#32
  let c1_i32_15 : BitVec 32 := 1#32
  let arg15 : BitVec 32 := Scf.iv c0_i32_14 c1_i32_15 k0_t3
  let v3740 : Index := Scalar.indexCast arg15
  let c1_1537 : Index := 1#32
  let c40_1538 : Index := 40#32
  let c512_1539 : Index := 512#32
  ![v3739.toNat, v3740.toNat, 1, 40, 512]
def k0_off300 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3748 : Index := Scalar.indexCast v1
  let c0_i32_14 : BitVec 32 := 0#32
  let c1_i32_15 : BitVec 32 := 1#32
  let arg15 : BitVec 32 := Scf.iv c0_i32_14 c1_i32_15 k0_t3
  let v3749 : Index := Scalar.indexCast arg15
  let c2_1541 : Index := 2#32
  let c40_1542 : Index := 40#32
  let c512_1543 : Index := 512#32
  ![v3748.toNat, v3749.toNat, 2, 40, 512]
def k0_off301 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3757 : Index := Scalar.indexCast v1
  let c0_i32_14 : BitVec 32 := 0#32
  let c1_i32_15 : BitVec 32 := 1#32
  let arg15 : BitVec 32 := Scf.iv c0_i32_14 c1_i32_15 k0_t3
  let v3758 : Index := Scalar.indexCast arg15
  let c3_1545 : Index := 3#32
  let c40_1546 : Index := 40#32
  let c512_1547 : Index := 512#32
  ![v3757.toNat, v3758.toNat, 3, 40, 512]
def k0_off302 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3766 : Index := Scalar.indexCast v1
  let c0_i32_14 : BitVec 32 := 0#32
  let c1_i32_15 : BitVec 32 := 1#32
  let arg15 : BitVec 32 := Scf.iv c0_i32_14 c1_i32_15 k0_t3
  let v3767 : Index := Scalar.indexCast arg15
  let c4_1549 : Index := 4#32
  let c40_1550 : Index := 40#32
  let c512_1551 : Index := 512#32
  ![v3766.toNat, v3767.toNat, 4, 40, 512]
def k0_off303 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3778 : Index := Scalar.indexCast v1
  let c0_i32_14 : BitVec 32 := 0#32
  let c1_i32_15 : BitVec 32 := 1#32
  let arg15 : BitVec 32 := Scf.iv c0_i32_14 c1_i32_15 k0_t3
  let v3779 : Index := Scalar.indexCast arg15
  let c1_1553 : Index := 1#32
  let c40_1554 : Index := 40#32
  let c640_1555 : Index := 640#32
  ![v3778.toNat, v3779.toNat, 1, 40, 640]
def k0_off304 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3787 : Index := Scalar.indexCast v1
  let c0_i32_14 : BitVec 32 := 0#32
  let c1_i32_15 : BitVec 32 := 1#32
  let arg15 : BitVec 32 := Scf.iv c0_i32_14 c1_i32_15 k0_t3
  let v3788 : Index := Scalar.indexCast arg15
  let c2_1557 : Index := 2#32
  let c40_1558 : Index := 40#32
  let c640_1559 : Index := 640#32
  ![v3787.toNat, v3788.toNat, 2, 40, 640]
def k0_off305 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3796 : Index := Scalar.indexCast v1
  let c0_i32_14 : BitVec 32 := 0#32
  let c1_i32_15 : BitVec 32 := 1#32
  let arg15 : BitVec 32 := Scf.iv c0_i32_14 c1_i32_15 k0_t3
  let v3797 : Index := Scalar.indexCast arg15
  let c3_1561 : Index := 3#32
  let c40_1562 : Index := 40#32
  let c640_1563 : Index := 640#32
  ![v3796.toNat, v3797.toNat, 3, 40, 640]
def k0_off306 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3805 : Index := Scalar.indexCast v1
  let c0_i32_14 : BitVec 32 := 0#32
  let c1_i32_15 : BitVec 32 := 1#32
  let arg15 : BitVec 32 := Scf.iv c0_i32_14 c1_i32_15 k0_t3
  let v3806 : Index := Scalar.indexCast arg15
  let c4_1565 : Index := 4#32
  let c40_1566 : Index := 40#32
  let c640_1567 : Index := 640#32
  ![v3805.toNat, v3806.toNat, 4, 40, 640]
def k0_off307 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3817 : Index := Scalar.indexCast v1
  let c0_i32_14 : BitVec 32 := 0#32
  let c1_i32_15 : BitVec 32 := 1#32
  let arg15 : BitVec 32 := Scf.iv c0_i32_14 c1_i32_15 k0_t3
  let v3818 : Index := Scalar.indexCast arg15
  let c1_1569 : Index := 1#32
  let c40_1570 : Index := 40#32
  let c768_1571 : Index := 768#32
  ![v3817.toNat, v3818.toNat, 1, 40, 768]
def k0_off308 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3826 : Index := Scalar.indexCast v1
  let c0_i32_14 : BitVec 32 := 0#32
  let c1_i32_15 : BitVec 32 := 1#32
  let arg15 : BitVec 32 := Scf.iv c0_i32_14 c1_i32_15 k0_t3
  let v3827 : Index := Scalar.indexCast arg15
  let c2_1573 : Index := 2#32
  let c40_1574 : Index := 40#32
  let c768_1575 : Index := 768#32
  ![v3826.toNat, v3827.toNat, 2, 40, 768]
def k0_off309 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3835 : Index := Scalar.indexCast v1
  let c0_i32_14 : BitVec 32 := 0#32
  let c1_i32_15 : BitVec 32 := 1#32
  let arg15 : BitVec 32 := Scf.iv c0_i32_14 c1_i32_15 k0_t3
  let v3836 : Index := Scalar.indexCast arg15
  let c3_1577 : Index := 3#32
  let c40_1578 : Index := 40#32
  let c768_1579 : Index := 768#32
  ![v3835.toNat, v3836.toNat, 3, 40, 768]
def k0_off310 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3844 : Index := Scalar.indexCast v1
  let c0_i32_14 : BitVec 32 := 0#32
  let c1_i32_15 : BitVec 32 := 1#32
  let arg15 : BitVec 32 := Scf.iv c0_i32_14 c1_i32_15 k0_t3
  let v3845 : Index := Scalar.indexCast arg15
  let c4_1581 : Index := 4#32
  let c40_1582 : Index := 40#32
  let c768_1583 : Index := 768#32
  ![v3844.toNat, v3845.toNat, 4, 40, 768]
def k0_off311 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3856 : Index := Scalar.indexCast v1
  let c0_i32_14 : BitVec 32 := 0#32
  let c1_i32_15 : BitVec 32 := 1#32
  let arg15 : BitVec 32 := Scf.iv c0_i32_14 c1_i32_15 k0_t3
  let v3857 : Index := Scalar.indexCast arg15
  let c1_1585 : Index := 1#32
  let c40_1586 : Index := 40#32
  let c896_1587 : Index := 896#32
  ![v3856.toNat, v3857.toNat, 1, 40, 896]
def k0_off312 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3865 : Index := Scalar.indexCast v1
  let c0_i32_14 : BitVec 32 := 0#32
  let c1_i32_15 : BitVec 32 := 1#32
  let arg15 : BitVec 32 := Scf.iv c0_i32_14 c1_i32_15 k0_t3
  let v3866 : Index := Scalar.indexCast arg15
  let c2_1589 : Index := 2#32
  let c40_1590 : Index := 40#32
  let c896_1591 : Index := 896#32
  ![v3865.toNat, v3866.toNat, 2, 40, 896]
def k0_off313 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3874 : Index := Scalar.indexCast v1
  let c0_i32_14 : BitVec 32 := 0#32
  let c1_i32_15 : BitVec 32 := 1#32
  let arg15 : BitVec 32 := Scf.iv c0_i32_14 c1_i32_15 k0_t3
  let v3875 : Index := Scalar.indexCast arg15
  let c3_1593 : Index := 3#32
  let c40_1594 : Index := 40#32
  let c896_1595 : Index := 896#32
  ![v3874.toNat, v3875.toNat, 3, 40, 896]
def k0_off314 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3883 : Index := Scalar.indexCast v1
  let c0_i32_14 : BitVec 32 := 0#32
  let c1_i32_15 : BitVec 32 := 1#32
  let arg15 : BitVec 32 := Scf.iv c0_i32_14 c1_i32_15 k0_t3
  let v3884 : Index := Scalar.indexCast arg15
  let c4_1597 : Index := 4#32
  let c40_1598 : Index := 40#32
  let c896_1599 : Index := 896#32
  ![v3883.toNat, v3884.toNat, 4, 40, 896]
def k0_off315 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3977 : Index := Scalar.indexCast v1
  let c0_i32_14 : BitVec 32 := 0#32
  let c1_i32_15 : BitVec 32 := 1#32
  let arg15 : BitVec 32 := Scf.iv c0_i32_14 c1_i32_15 k0_t3
  let v3978 : Index := Scalar.indexCast arg15
  let c0_1630 : Index := 0#32
  let c40_1631 : Index := 40#32
  let c512_1632 : Index := 512#32
  ![v3977.toNat, v3978.toNat, 0, 40, 512]
def k0_off316 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3992 : Index := Scalar.indexCast v1
  let c0_i32_14 : BitVec 32 := 0#32
  let c1_i32_15 : BitVec 32 := 1#32
  let arg15 : BitVec 32 := Scf.iv c0_i32_14 c1_i32_15 k0_t3
  let v3993 : Index := Scalar.indexCast arg15
  let c0_1636 : Index := 0#32
  let c40_1637 : Index := 40#32
  let c640_1638 : Index := 640#32
  ![v3992.toNat, v3993.toNat, 0, 40, 640]
def k0_off317 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v4007 : Index := Scalar.indexCast v1
  let c0_i32_14 : BitVec 32 := 0#32
  let c1_i32_15 : BitVec 32 := 1#32
  let arg15 : BitVec 32 := Scf.iv c0_i32_14 c1_i32_15 k0_t3
  let v4008 : Index := Scalar.indexCast arg15
  let c0_1642 : Index := 0#32
  let c40_1643 : Index := 40#32
  let c768_1644 : Index := 768#32
  ![v4007.toNat, v4008.toNat, 0, 40, 768]
def k0_off318 (i : grid0.Coords) (k0_t3 : Fin k0_t3_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v4022 : Index := Scalar.indexCast v1
  let c0_i32_14 : BitVec 32 := 0#32
  let c1_i32_15 : BitVec 32 := 1#32
  let arg15 : BitVec 32 := Scf.iv c0_i32_14 c1_i32_15 k0_t3
  let v4023 : Index := Scalar.indexCast arg15
  let c0_1648 : Index := 0#32
  let c40_1649 : Index := 40#32
  let c896_1650 : Index := 896#32
  ![v4022.toNat, v4023.toNat, 0, 40, 896]
def k0_cond7 (i : grid0.Coords) : BitVec 1 :=
  let arg0 : BitVec 32 := BitVec.ofNat 32 (i 0).val
  let c64_i32_12 : BitVec 32 := 64#32
  let v24 : BitVec 1 := Scalar.cmpi .eq arg0 c64_i32_12
  let v25 : BitVec 32 := Scalar.extui v24
  let c0_i32_13 : BitVec 32 := 0#32
  let v26 : BitVec 1 := Scalar.cmpi .ne v25 c0_i32_13
  v26

@[reducible] def k0_t4_loop : Scf.Loop 32 :=
  let c0_i32_14 : BitVec 32 := 0#32
  let c20_i32 : BitVec 32 := 20#32
  let v27 : BitVec 32 := Scalar.addi c0_i32_14 c20_i32
  let c1_i32_15 : BitVec 32 := 1#32
  ⟨c0_i32_14, v27, c1_i32_15⟩
def k0_off319 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v64 : Index := Scalar.indexCast arg15
  let c0_43 : Index := 0#32
  let c0_44 : Index := 0#32
  ![v64.toNat, 0, 0]
def k0_off320 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v68 : Index := Scalar.indexCast arg15
  let c0_45 : Index := 0#32
  let c128_46 : Index := 128#32
  ![v68.toNat, 0, 128]
def k0_off321 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v72 : Index := Scalar.indexCast arg15
  let c0_47 : Index := 0#32
  let c256_48 : Index := 256#32
  ![v72.toNat, 0, 256]
def k0_off322 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v76 : Index := Scalar.indexCast arg15
  let c0_49 : Index := 0#32
  let c384_50 : Index := 384#32
  ![v76.toNat, 0, 384]
def k0_off323 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v80 : Index := Scalar.indexCast arg15
  let c0_51 : Index := 0#32
  let c512_52 : Index := 512#32
  ![v80.toNat, 0, 512]
def k0_off324 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v84 : Index := Scalar.indexCast arg15
  let c0_53 : Index := 0#32
  let c640_54 : Index := 640#32
  ![v84.toNat, 0, 640]
def k0_off325 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v88 : Index := Scalar.indexCast arg15
  let c0_55 : Index := 0#32
  let c768_56 : Index := 768#32
  ![v88.toNat, 0, 768]
def k0_off326 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v92 : Index := Scalar.indexCast arg15
  let c0_57 : Index := 0#32
  let c896_58 : Index := 896#32
  ![v92.toNat, 0, 896]
def k0_mult17 (i : grid0.Coords) (k0_t4 : Fin k0_t4_loop.trips) : BitVec 32 :=
  let arg0 : BitVec 32 := BitVec.ofNat 32 (i 0).val
  let c1_i32_32 : BitVec 32 := 1#32
  let v49 : BitVec 32 := Scalar.subi arg0 c1_i32_32
  let c20_i32_33 : BitVec 32 := 20#32
  let v50 : BitVec 32 := Scalar.muli v49 c20_i32_33
  let c0_i32_14 : BitVec 32 := 0#32
  let c1_i32_15 : BitVec 32 := 1#32
  let arg15 : BitVec 32 := Scf.iv c0_i32_14 c1_i32_15 k0_t4
  let v51 : BitVec 32 := Scalar.addi v50 arg15
  let c7_i32 : BitVec 32 := 7#32
  let v110 : BitVec 32 := Scalar.shrsi v51 c7_i32
  let c7_i32_63 : BitVec 32 := 7#32
  let v111 : BitVec 32 := Scalar.shli v110 c7_i32_63
  v111
def k0_off327 (i : grid0.Coords) (k0_t4 : Fin k0_t4_loop.trips) : Fin 2 → Nat :=
  let c0_64 : Index := 0#32
  let arg0 : BitVec 32 := BitVec.ofNat 32 (i 0).val
  let c1_i32_32 : BitVec 32 := 1#32
  let v49 : BitVec 32 := Scalar.subi arg0 c1_i32_32
  let c20_i32_33 : BitVec 32 := 20#32
  let v50 : BitVec 32 := Scalar.muli v49 c20_i32_33
  let c0_i32_14 : BitVec 32 := 0#32
  let c1_i32_15 : BitVec 32 := 1#32
  let arg15 : BitVec 32 := Scf.iv c0_i32_14 c1_i32_15 k0_t4
  let v51 : BitVec 32 := Scalar.addi v50 arg15
  let c7_i32 : BitVec 32 := 7#32
  let v110 : BitVec 32 := Scalar.shrsi v51 c7_i32
  let c7_i32_63 : BitVec 32 := 7#32
  let v111 : BitVec 32 := Scalar.shli v110 c7_i32_63
  let v112 : BitVec 32 := v111
  let v113 : Index := Scalar.indexCast v112
  ![0, v113.toNat]
def k0_off328 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v121 : Index := Scalar.indexCast v1
  let c0_i32_14 : BitVec 32 := 0#32
  let c1_i32_15 : BitVec 32 := 1#32
  let arg15 : BitVec 32 := Scf.iv c0_i32_14 c1_i32_15 k0_t4
  let v122 : Index := Scalar.indexCast arg15
  let c1 : Index := 1#32
  let c0_66 : Index := 0#32
  let c0_67 : Index := 0#32
  ![v121.toNat, v122.toNat, 1, 0, 0]
def k0_off329 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v130 : Index := Scalar.indexCast v1
  let c0_i32_14 : BitVec 32 := 0#32
  let c1_i32_15 : BitVec 32 := 1#32
  let arg15 : BitVec 32 := Scf.iv c0_i32_14 c1_i32_15 k0_t4
  let v131 : Index := Scalar.indexCast arg15
  let c2 : Index := 2#32
  let c0_69 : Index := 0#32
  let c0_70 : Index := 0#32
  ![v130.toNat, v131.toNat, 2, 0, 0]
def k0_off330 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v139 : Index := Scalar.indexCast v1
  let c0_i32_14 : BitVec 32 := 0#32
  let c1_i32_15 : BitVec 32 := 1#32
  let arg15 : BitVec 32 := Scf.iv c0_i32_14 c1_i32_15 k0_t4
  let v140 : Index := Scalar.indexCast arg15
  let c3 : Index := 3#32
  let c0_72 : Index := 0#32
  let c0_73 : Index := 0#32
  ![v139.toNat, v140.toNat, 3, 0, 0]
def k0_off331 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v148 : Index := Scalar.indexCast v1
  let c0_i32_14 : BitVec 32 := 0#32
  let c1_i32_15 : BitVec 32 := 1#32
  let arg15 : BitVec 32 := Scf.iv c0_i32_14 c1_i32_15 k0_t4
  let v149 : Index := Scalar.indexCast arg15
  let c4 : Index := 4#32
  let c0_75 : Index := 0#32
  let c0_76 : Index := 0#32
  ![v148.toNat, v149.toNat, 4, 0, 0]
def k0_off332 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v160 : Index := Scalar.indexCast v1
  let c0_i32_14 : BitVec 32 := 0#32
  let c1_i32_15 : BitVec 32 := 1#32
  let arg15 : BitVec 32 := Scf.iv c0_i32_14 c1_i32_15 k0_t4
  let v161 : Index := Scalar.indexCast arg15
  let c1_78 : Index := 1#32
  let c0_79 : Index := 0#32
  let c128_80 : Index := 128#32
  ![v160.toNat, v161.toNat, 1, 0, 128]
def k0_off333 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v169 : Index := Scalar.indexCast v1
  let c0_i32_14 : BitVec 32 := 0#32
  let c1_i32_15 : BitVec 32 := 1#32
  let arg15 : BitVec 32 := Scf.iv c0_i32_14 c1_i32_15 k0_t4
  let v170 : Index := Scalar.indexCast arg15
  let c2_82 : Index := 2#32
  let c0_83 : Index := 0#32
  let c128_84 : Index := 128#32
  ![v169.toNat, v170.toNat, 2, 0, 128]
def k0_off334 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v178 : Index := Scalar.indexCast v1
  let c0_i32_14 : BitVec 32 := 0#32
  let c1_i32_15 : BitVec 32 := 1#32
  let arg15 : BitVec 32 := Scf.iv c0_i32_14 c1_i32_15 k0_t4
  let v179 : Index := Scalar.indexCast arg15
  let c3_86 : Index := 3#32
  let c0_87 : Index := 0#32
  let c128_88 : Index := 128#32
  ![v178.toNat, v179.toNat, 3, 0, 128]
def k0_off335 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v187 : Index := Scalar.indexCast v1
  let c0_i32_14 : BitVec 32 := 0#32
  let c1_i32_15 : BitVec 32 := 1#32
  let arg15 : BitVec 32 := Scf.iv c0_i32_14 c1_i32_15 k0_t4
  let v188 : Index := Scalar.indexCast arg15
  let c4_90 : Index := 4#32
  let c0_91 : Index := 0#32
  let c128_92 : Index := 128#32
  ![v187.toNat, v188.toNat, 4, 0, 128]
def k0_off336 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v199 : Index := Scalar.indexCast v1
  let c0_i32_14 : BitVec 32 := 0#32
  let c1_i32_15 : BitVec 32 := 1#32
  let arg15 : BitVec 32 := Scf.iv c0_i32_14 c1_i32_15 k0_t4
  let v200 : Index := Scalar.indexCast arg15
  let c1_94 : Index := 1#32
  let c0_95 : Index := 0#32
  let c256_96 : Index := 256#32
  ![v199.toNat, v200.toNat, 1, 0, 256]
def k0_off337 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v208 : Index := Scalar.indexCast v1
  let c0_i32_14 : BitVec 32 := 0#32
  let c1_i32_15 : BitVec 32 := 1#32
  let arg15 : BitVec 32 := Scf.iv c0_i32_14 c1_i32_15 k0_t4
  let v209 : Index := Scalar.indexCast arg15
  let c2_98 : Index := 2#32
  let c0_99 : Index := 0#32
  let c256_100 : Index := 256#32
  ![v208.toNat, v209.toNat, 2, 0, 256]
def k0_off338 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v217 : Index := Scalar.indexCast v1
  let c0_i32_14 : BitVec 32 := 0#32
  let c1_i32_15 : BitVec 32 := 1#32
  let arg15 : BitVec 32 := Scf.iv c0_i32_14 c1_i32_15 k0_t4
  let v218 : Index := Scalar.indexCast arg15
  let c3_102 : Index := 3#32
  let c0_103 : Index := 0#32
  let c256_104 : Index := 256#32
  ![v217.toNat, v218.toNat, 3, 0, 256]
def k0_off339 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v226 : Index := Scalar.indexCast v1
  let c0_i32_14 : BitVec 32 := 0#32
  let c1_i32_15 : BitVec 32 := 1#32
  let arg15 : BitVec 32 := Scf.iv c0_i32_14 c1_i32_15 k0_t4
  let v227 : Index := Scalar.indexCast arg15
  let c4_106 : Index := 4#32
  let c0_107 : Index := 0#32
  let c256_108 : Index := 256#32
  ![v226.toNat, v227.toNat, 4, 0, 256]
def k0_off340 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v238 : Index := Scalar.indexCast v1
  let c0_i32_14 : BitVec 32 := 0#32
  let c1_i32_15 : BitVec 32 := 1#32
  let arg15 : BitVec 32 := Scf.iv c0_i32_14 c1_i32_15 k0_t4
  let v239 : Index := Scalar.indexCast arg15
  let c1_110 : Index := 1#32
  let c0_111 : Index := 0#32
  let c384_112 : Index := 384#32
  ![v238.toNat, v239.toNat, 1, 0, 384]
def k0_off341 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v247 : Index := Scalar.indexCast v1
  let c0_i32_14 : BitVec 32 := 0#32
  let c1_i32_15 : BitVec 32 := 1#32
  let arg15 : BitVec 32 := Scf.iv c0_i32_14 c1_i32_15 k0_t4
  let v248 : Index := Scalar.indexCast arg15
  let c2_114 : Index := 2#32
  let c0_115 : Index := 0#32
  let c384_116 : Index := 384#32
  ![v247.toNat, v248.toNat, 2, 0, 384]
def k0_off342 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v256 : Index := Scalar.indexCast v1
  let c0_i32_14 : BitVec 32 := 0#32
  let c1_i32_15 : BitVec 32 := 1#32
  let arg15 : BitVec 32 := Scf.iv c0_i32_14 c1_i32_15 k0_t4
  let v257 : Index := Scalar.indexCast arg15
  let c3_118 : Index := 3#32
  let c0_119 : Index := 0#32
  let c384_120 : Index := 384#32
  ![v256.toNat, v257.toNat, 3, 0, 384]
def k0_off343 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v265 : Index := Scalar.indexCast v1
  let c0_i32_14 : BitVec 32 := 0#32
  let c1_i32_15 : BitVec 32 := 1#32
  let arg15 : BitVec 32 := Scf.iv c0_i32_14 c1_i32_15 k0_t4
  let v266 : Index := Scalar.indexCast arg15
  let c4_122 : Index := 4#32
  let c0_123 : Index := 0#32
  let c384_124 : Index := 384#32
  ![v265.toNat, v266.toNat, 4, 0, 384]
def k0_off344 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v359 : Index := Scalar.indexCast v1
  let c0_i32_14 : BitVec 32 := 0#32
  let c1_i32_15 : BitVec 32 := 1#32
  let arg15 : BitVec 32 := Scf.iv c0_i32_14 c1_i32_15 k0_t4
  let v360 : Index := Scalar.indexCast arg15
  let c0_150 : Index := 0#32
  let c0_151 : Index := 0#32
  let c0_152 : Index := 0#32
  ![v359.toNat, v360.toNat, 0, 0, 0]
def k0_off345 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v374 : Index := Scalar.indexCast v1
  let c0_i32_14 : BitVec 32 := 0#32
  let c1_i32_15 : BitVec 32 := 1#32
  let arg15 : BitVec 32 := Scf.iv c0_i32_14 c1_i32_15 k0_t4
  let v375 : Index := Scalar.indexCast arg15
  let c0_156 : Index := 0#32
  let c0_157 : Index := 0#32
  let c128_158 : Index := 128#32
  ![v374.toNat, v375.toNat, 0, 0, 128]
def k0_off346 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v389 : Index := Scalar.indexCast v1
  let c0_i32_14 : BitVec 32 := 0#32
  let c1_i32_15 : BitVec 32 := 1#32
  let arg15 : BitVec 32 := Scf.iv c0_i32_14 c1_i32_15 k0_t4
  let v390 : Index := Scalar.indexCast arg15
  let c0_162 : Index := 0#32
  let c0_163 : Index := 0#32
  let c256_164 : Index := 256#32
  ![v389.toNat, v390.toNat, 0, 0, 256]
def k0_off347 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v404 : Index := Scalar.indexCast v1
  let c0_i32_14 : BitVec 32 := 0#32
  let c1_i32_15 : BitVec 32 := 1#32
  let arg15 : BitVec 32 := Scf.iv c0_i32_14 c1_i32_15 k0_t4
  let v405 : Index := Scalar.indexCast arg15
  let c0_168 : Index := 0#32
  let c0_169 : Index := 0#32
  let c384_170 : Index := 384#32
  ![v404.toNat, v405.toNat, 0, 0, 384]
def k0_off348 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v419 : Index := Scalar.indexCast v1
  let c0_i32_14 : BitVec 32 := 0#32
  let c1_i32_15 : BitVec 32 := 1#32
  let arg15 : BitVec 32 := Scf.iv c0_i32_14 c1_i32_15 k0_t4
  let v420 : Index := Scalar.indexCast arg15
  let c1_174 : Index := 1#32
  let c0_175 : Index := 0#32
  let c512_176 : Index := 512#32
  ![v419.toNat, v420.toNat, 1, 0, 512]
def k0_off349 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v428 : Index := Scalar.indexCast v1
  let c0_i32_14 : BitVec 32 := 0#32
  let c1_i32_15 : BitVec 32 := 1#32
  let arg15 : BitVec 32 := Scf.iv c0_i32_14 c1_i32_15 k0_t4
  let v429 : Index := Scalar.indexCast arg15
  let c2_178 : Index := 2#32
  let c0_179 : Index := 0#32
  let c512_180 : Index := 512#32
  ![v428.toNat, v429.toNat, 2, 0, 512]
def k0_off350 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v437 : Index := Scalar.indexCast v1
  let c0_i32_14 : BitVec 32 := 0#32
  let c1_i32_15 : BitVec 32 := 1#32
  let arg15 : BitVec 32 := Scf.iv c0_i32_14 c1_i32_15 k0_t4
  let v438 : Index := Scalar.indexCast arg15
  let c3_182 : Index := 3#32
  let c0_183 : Index := 0#32
  let c512_184 : Index := 512#32
  ![v437.toNat, v438.toNat, 3, 0, 512]
def k0_off351 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v446 : Index := Scalar.indexCast v1
  let c0_i32_14 : BitVec 32 := 0#32
  let c1_i32_15 : BitVec 32 := 1#32
  let arg15 : BitVec 32 := Scf.iv c0_i32_14 c1_i32_15 k0_t4
  let v447 : Index := Scalar.indexCast arg15
  let c4_186 : Index := 4#32
  let c0_187 : Index := 0#32
  let c512_188 : Index := 512#32
  ![v446.toNat, v447.toNat, 4, 0, 512]
def k0_off352 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v458 : Index := Scalar.indexCast v1
  let c0_i32_14 : BitVec 32 := 0#32
  let c1_i32_15 : BitVec 32 := 1#32
  let arg15 : BitVec 32 := Scf.iv c0_i32_14 c1_i32_15 k0_t4
  let v459 : Index := Scalar.indexCast arg15
  let c1_190 : Index := 1#32
  let c0_191 : Index := 0#32
  let c640_192 : Index := 640#32
  ![v458.toNat, v459.toNat, 1, 0, 640]
def k0_off353 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v467 : Index := Scalar.indexCast v1
  let c0_i32_14 : BitVec 32 := 0#32
  let c1_i32_15 : BitVec 32 := 1#32
  let arg15 : BitVec 32 := Scf.iv c0_i32_14 c1_i32_15 k0_t4
  let v468 : Index := Scalar.indexCast arg15
  let c2_194 : Index := 2#32
  let c0_195 : Index := 0#32
  let c640_196 : Index := 640#32
  ![v467.toNat, v468.toNat, 2, 0, 640]
def k0_off354 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v476 : Index := Scalar.indexCast v1
  let c0_i32_14 : BitVec 32 := 0#32
  let c1_i32_15 : BitVec 32 := 1#32
  let arg15 : BitVec 32 := Scf.iv c0_i32_14 c1_i32_15 k0_t4
  let v477 : Index := Scalar.indexCast arg15
  let c3_198 : Index := 3#32
  let c0_199 : Index := 0#32
  let c640_200 : Index := 640#32
  ![v476.toNat, v477.toNat, 3, 0, 640]
def k0_off355 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v485 : Index := Scalar.indexCast v1
  let c0_i32_14 : BitVec 32 := 0#32
  let c1_i32_15 : BitVec 32 := 1#32
  let arg15 : BitVec 32 := Scf.iv c0_i32_14 c1_i32_15 k0_t4
  let v486 : Index := Scalar.indexCast arg15
  let c4_202 : Index := 4#32
  let c0_203 : Index := 0#32
  let c640_204 : Index := 640#32
  ![v485.toNat, v486.toNat, 4, 0, 640]
def k0_off356 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v497 : Index := Scalar.indexCast v1
  let c0_i32_14 : BitVec 32 := 0#32
  let c1_i32_15 : BitVec 32 := 1#32
  let arg15 : BitVec 32 := Scf.iv c0_i32_14 c1_i32_15 k0_t4
  let v498 : Index := Scalar.indexCast arg15
  let c1_206 : Index := 1#32
  let c0_207 : Index := 0#32
  let c768_208 : Index := 768#32
  ![v497.toNat, v498.toNat, 1, 0, 768]
def k0_off357 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v506 : Index := Scalar.indexCast v1
  let c0_i32_14 : BitVec 32 := 0#32
  let c1_i32_15 : BitVec 32 := 1#32
  let arg15 : BitVec 32 := Scf.iv c0_i32_14 c1_i32_15 k0_t4
  let v507 : Index := Scalar.indexCast arg15
  let c2_210 : Index := 2#32
  let c0_211 : Index := 0#32
  let c768_212 : Index := 768#32
  ![v506.toNat, v507.toNat, 2, 0, 768]
def k0_off358 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v515 : Index := Scalar.indexCast v1
  let c0_i32_14 : BitVec 32 := 0#32
  let c1_i32_15 : BitVec 32 := 1#32
  let arg15 : BitVec 32 := Scf.iv c0_i32_14 c1_i32_15 k0_t4
  let v516 : Index := Scalar.indexCast arg15
  let c3_214 : Index := 3#32
  let c0_215 : Index := 0#32
  let c768_216 : Index := 768#32
  ![v515.toNat, v516.toNat, 3, 0, 768]
def k0_off359 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v524 : Index := Scalar.indexCast v1
  let c0_i32_14 : BitVec 32 := 0#32
  let c1_i32_15 : BitVec 32 := 1#32
  let arg15 : BitVec 32 := Scf.iv c0_i32_14 c1_i32_15 k0_t4
  let v525 : Index := Scalar.indexCast arg15
  let c4_218 : Index := 4#32
  let c0_219 : Index := 0#32
  let c768_220 : Index := 768#32
  ![v524.toNat, v525.toNat, 4, 0, 768]
def k0_off360 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v536 : Index := Scalar.indexCast v1
  let c0_i32_14 : BitVec 32 := 0#32
  let c1_i32_15 : BitVec 32 := 1#32
  let arg15 : BitVec 32 := Scf.iv c0_i32_14 c1_i32_15 k0_t4
  let v537 : Index := Scalar.indexCast arg15
  let c1_222 : Index := 1#32
  let c0_223 : Index := 0#32
  let c896_224 : Index := 896#32
  ![v536.toNat, v537.toNat, 1, 0, 896]
def k0_off361 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v545 : Index := Scalar.indexCast v1
  let c0_i32_14 : BitVec 32 := 0#32
  let c1_i32_15 : BitVec 32 := 1#32
  let arg15 : BitVec 32 := Scf.iv c0_i32_14 c1_i32_15 k0_t4
  let v546 : Index := Scalar.indexCast arg15
  let c2_226 : Index := 2#32
  let c0_227 : Index := 0#32
  let c896_228 : Index := 896#32
  ![v545.toNat, v546.toNat, 2, 0, 896]
def k0_off362 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v554 : Index := Scalar.indexCast v1
  let c0_i32_14 : BitVec 32 := 0#32
  let c1_i32_15 : BitVec 32 := 1#32
  let arg15 : BitVec 32 := Scf.iv c0_i32_14 c1_i32_15 k0_t4
  let v555 : Index := Scalar.indexCast arg15
  let c3_230 : Index := 3#32
  let c0_231 : Index := 0#32
  let c896_232 : Index := 896#32
  ![v554.toNat, v555.toNat, 3, 0, 896]
def k0_off363 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v563 : Index := Scalar.indexCast v1
  let c0_i32_14 : BitVec 32 := 0#32
  let c1_i32_15 : BitVec 32 := 1#32
  let arg15 : BitVec 32 := Scf.iv c0_i32_14 c1_i32_15 k0_t4
  let v564 : Index := Scalar.indexCast arg15
  let c4_234 : Index := 4#32
  let c0_235 : Index := 0#32
  let c896_236 : Index := 896#32
  ![v563.toNat, v564.toNat, 4, 0, 896]
def k0_off364 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v657 : Index := Scalar.indexCast v1
  let c0_i32_14 : BitVec 32 := 0#32
  let c1_i32_15 : BitVec 32 := 1#32
  let arg15 : BitVec 32 := Scf.iv c0_i32_14 c1_i32_15 k0_t4
  let v658 : Index := Scalar.indexCast arg15
  let c0_267 : Index := 0#32
  let c0_268 : Index := 0#32
  let c512_269 : Index := 512#32
  ![v657.toNat, v658.toNat, 0, 0, 512]
def k0_off365 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v672 : Index := Scalar.indexCast v1
  let c0_i32_14 : BitVec 32 := 0#32
  let c1_i32_15 : BitVec 32 := 1#32
  let arg15 : BitVec 32 := Scf.iv c0_i32_14 c1_i32_15 k0_t4
  let v673 : Index := Scalar.indexCast arg15
  let c0_273 : Index := 0#32
  let c0_274 : Index := 0#32
  let c640_275 : Index := 640#32
  ![v672.toNat, v673.toNat, 0, 0, 640]
def k0_off366 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v687 : Index := Scalar.indexCast v1
  let c0_i32_14 : BitVec 32 := 0#32
  let c1_i32_15 : BitVec 32 := 1#32
  let arg15 : BitVec 32 := Scf.iv c0_i32_14 c1_i32_15 k0_t4
  let v688 : Index := Scalar.indexCast arg15
  let c0_279 : Index := 0#32
  let c0_280 : Index := 0#32
  let c768_281 : Index := 768#32
  ![v687.toNat, v688.toNat, 0, 0, 768]
def k0_off367 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v702 : Index := Scalar.indexCast v1
  let c0_i32_14 : BitVec 32 := 0#32
  let c1_i32_15 : BitVec 32 := 1#32
  let arg15 : BitVec 32 := Scf.iv c0_i32_14 c1_i32_15 k0_t4
  let v703 : Index := Scalar.indexCast arg15
  let c0_285 : Index := 0#32
  let c0_286 : Index := 0#32
  let c896_287 : Index := 896#32
  ![v702.toNat, v703.toNat, 0, 0, 896]
def k0_off368 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v725 : Index := Scalar.indexCast arg15
  let c8_306 : Index := 8#32
  let c0_307 : Index := 0#32
  ![v725.toNat, 8, 0]
def k0_off369 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v729 : Index := Scalar.indexCast arg15
  let c8_308 : Index := 8#32
  let c128_309 : Index := 128#32
  ![v729.toNat, 8, 128]
def k0_off370 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v733 : Index := Scalar.indexCast arg15
  let c8_310 : Index := 8#32
  let c256_311 : Index := 256#32
  ![v733.toNat, 8, 256]
def k0_off371 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v737 : Index := Scalar.indexCast arg15
  let c8_312 : Index := 8#32
  let c384_313 : Index := 384#32
  ![v737.toNat, 8, 384]
def k0_off372 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v741 : Index := Scalar.indexCast arg15
  let c8_314 : Index := 8#32
  let c512_315 : Index := 512#32
  ![v741.toNat, 8, 512]
def k0_off373 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v745 : Index := Scalar.indexCast arg15
  let c8_316 : Index := 8#32
  let c640_317 : Index := 640#32
  ![v745.toNat, 8, 640]
def k0_off374 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v749 : Index := Scalar.indexCast arg15
  let c8_318 : Index := 8#32
  let c768_319 : Index := 768#32
  ![v749.toNat, 8, 768]
def k0_off375 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v753 : Index := Scalar.indexCast arg15
  let c8_320 : Index := 8#32
  let c896_321 : Index := 896#32
  ![v753.toNat, 8, 896]
def k0_mult18 (i : grid0.Coords) (k0_t4 : Fin k0_t4_loop.trips) : BitVec 32 :=
  let arg0 : BitVec 32 := BitVec.ofNat 32 (i 0).val
  let c1_i32_32 : BitVec 32 := 1#32
  let v49 : BitVec 32 := Scalar.subi arg0 c1_i32_32
  let c20_i32_33 : BitVec 32 := 20#32
  let v50 : BitVec 32 := Scalar.muli v49 c20_i32_33
  let c0_i32_14 : BitVec 32 := 0#32
  let c1_i32_15 : BitVec 32 := 1#32
  let arg15 : BitVec 32 := Scf.iv c0_i32_14 c1_i32_15 k0_t4
  let v51 : BitVec 32 := Scalar.addi v50 arg15
  let c7_i32_326 : BitVec 32 := 7#32
  let v771 : BitVec 32 := Scalar.shrsi v51 c7_i32_326
  let c7_i32_327 : BitVec 32 := 7#32
  let v772 : BitVec 32 := Scalar.shli v771 c7_i32_327
  v772
def k0_off376 (i : grid0.Coords) (k0_t4 : Fin k0_t4_loop.trips) : Fin 2 → Nat :=
  let c8_328 : Index := 8#32
  let arg0 : BitVec 32 := BitVec.ofNat 32 (i 0).val
  let c1_i32_32 : BitVec 32 := 1#32
  let v49 : BitVec 32 := Scalar.subi arg0 c1_i32_32
  let c20_i32_33 : BitVec 32 := 20#32
  let v50 : BitVec 32 := Scalar.muli v49 c20_i32_33
  let c0_i32_14 : BitVec 32 := 0#32
  let c1_i32_15 : BitVec 32 := 1#32
  let arg15 : BitVec 32 := Scf.iv c0_i32_14 c1_i32_15 k0_t4
  let v51 : BitVec 32 := Scalar.addi v50 arg15
  let c7_i32_326 : BitVec 32 := 7#32
  let v771 : BitVec 32 := Scalar.shrsi v51 c7_i32_326
  let c7_i32_327 : BitVec 32 := 7#32
  let v772 : BitVec 32 := Scalar.shli v771 c7_i32_327
  let v773 : BitVec 32 := v772
  let v774 : Index := Scalar.indexCast v773
  ![8, v774.toNat]
def k0_off377 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v782 : Index := Scalar.indexCast v1
  let c0_i32_14 : BitVec 32 := 0#32
  let c1_i32_15 : BitVec 32 := 1#32
  let arg15 : BitVec 32 := Scf.iv c0_i32_14 c1_i32_15 k0_t4
  let v783 : Index := Scalar.indexCast arg15
  let c1_330 : Index := 1#32
  let c8_331 : Index := 8#32
  let c0_332 : Index := 0#32
  ![v782.toNat, v783.toNat, 1, 8, 0]
def k0_off378 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v791 : Index := Scalar.indexCast v1
  let c0_i32_14 : BitVec 32 := 0#32
  let c1_i32_15 : BitVec 32 := 1#32
  let arg15 : BitVec 32 := Scf.iv c0_i32_14 c1_i32_15 k0_t4
  let v792 : Index := Scalar.indexCast arg15
  let c2_334 : Index := 2#32
  let c8_335 : Index := 8#32
  let c0_336 : Index := 0#32
  ![v791.toNat, v792.toNat, 2, 8, 0]
def k0_off379 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v800 : Index := Scalar.indexCast v1
  let c0_i32_14 : BitVec 32 := 0#32
  let c1_i32_15 : BitVec 32 := 1#32
  let arg15 : BitVec 32 := Scf.iv c0_i32_14 c1_i32_15 k0_t4
  let v801 : Index := Scalar.indexCast arg15
  let c3_338 : Index := 3#32
  let c8_339 : Index := 8#32
  let c0_340 : Index := 0#32
  ![v800.toNat, v801.toNat, 3, 8, 0]
def k0_off380 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v809 : Index := Scalar.indexCast v1
  let c0_i32_14 : BitVec 32 := 0#32
  let c1_i32_15 : BitVec 32 := 1#32
  let arg15 : BitVec 32 := Scf.iv c0_i32_14 c1_i32_15 k0_t4
  let v810 : Index := Scalar.indexCast arg15
  let c4_342 : Index := 4#32
  let c8_343 : Index := 8#32
  let c0_344 : Index := 0#32
  ![v809.toNat, v810.toNat, 4, 8, 0]
def k0_off381 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v821 : Index := Scalar.indexCast v1
  let c0_i32_14 : BitVec 32 := 0#32
  let c1_i32_15 : BitVec 32 := 1#32
  let arg15 : BitVec 32 := Scf.iv c0_i32_14 c1_i32_15 k0_t4
  let v822 : Index := Scalar.indexCast arg15
  let c1_346 : Index := 1#32
  let c8_347 : Index := 8#32
  let c128_348 : Index := 128#32
  ![v821.toNat, v822.toNat, 1, 8, 128]
def k0_off382 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v830 : Index := Scalar.indexCast v1
  let c0_i32_14 : BitVec 32 := 0#32
  let c1_i32_15 : BitVec 32 := 1#32
  let arg15 : BitVec 32 := Scf.iv c0_i32_14 c1_i32_15 k0_t4
  let v831 : Index := Scalar.indexCast arg15
  let c2_350 : Index := 2#32
  let c8_351 : Index := 8#32
  let c128_352 : Index := 128#32
  ![v830.toNat, v831.toNat, 2, 8, 128]
def k0_off383 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v839 : Index := Scalar.indexCast v1
  let c0_i32_14 : BitVec 32 := 0#32
  let c1_i32_15 : BitVec 32 := 1#32
  let arg15 : BitVec 32 := Scf.iv c0_i32_14 c1_i32_15 k0_t4
  let v840 : Index := Scalar.indexCast arg15
  let c3_354 : Index := 3#32
  let c8_355 : Index := 8#32
  let c128_356 : Index := 128#32
  ![v839.toNat, v840.toNat, 3, 8, 128]
def k0_off384 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v848 : Index := Scalar.indexCast v1
  let c0_i32_14 : BitVec 32 := 0#32
  let c1_i32_15 : BitVec 32 := 1#32
  let arg15 : BitVec 32 := Scf.iv c0_i32_14 c1_i32_15 k0_t4
  let v849 : Index := Scalar.indexCast arg15
  let c4_358 : Index := 4#32
  let c8_359 : Index := 8#32
  let c128_360 : Index := 128#32
  ![v848.toNat, v849.toNat, 4, 8, 128]
def k0_off385 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v860 : Index := Scalar.indexCast v1
  let c0_i32_14 : BitVec 32 := 0#32
  let c1_i32_15 : BitVec 32 := 1#32
  let arg15 : BitVec 32 := Scf.iv c0_i32_14 c1_i32_15 k0_t4
  let v861 : Index := Scalar.indexCast arg15
  let c1_362 : Index := 1#32
  let c8_363 : Index := 8#32
  let c256_364 : Index := 256#32
  ![v860.toNat, v861.toNat, 1, 8, 256]
def k0_off386 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v869 : Index := Scalar.indexCast v1
  let c0_i32_14 : BitVec 32 := 0#32
  let c1_i32_15 : BitVec 32 := 1#32
  let arg15 : BitVec 32 := Scf.iv c0_i32_14 c1_i32_15 k0_t4
  let v870 : Index := Scalar.indexCast arg15
  let c2_366 : Index := 2#32
  let c8_367 : Index := 8#32
  let c256_368 : Index := 256#32
  ![v869.toNat, v870.toNat, 2, 8, 256]
def k0_off387 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v878 : Index := Scalar.indexCast v1
  let c0_i32_14 : BitVec 32 := 0#32
  let c1_i32_15 : BitVec 32 := 1#32
  let arg15 : BitVec 32 := Scf.iv c0_i32_14 c1_i32_15 k0_t4
  let v879 : Index := Scalar.indexCast arg15
  let c3_370 : Index := 3#32
  let c8_371 : Index := 8#32
  let c256_372 : Index := 256#32
  ![v878.toNat, v879.toNat, 3, 8, 256]
def k0_off388 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v887 : Index := Scalar.indexCast v1
  let c0_i32_14 : BitVec 32 := 0#32
  let c1_i32_15 : BitVec 32 := 1#32
  let arg15 : BitVec 32 := Scf.iv c0_i32_14 c1_i32_15 k0_t4
  let v888 : Index := Scalar.indexCast arg15
  let c4_374 : Index := 4#32
  let c8_375 : Index := 8#32
  let c256_376 : Index := 256#32
  ![v887.toNat, v888.toNat, 4, 8, 256]
def k0_off389 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v899 : Index := Scalar.indexCast v1
  let c0_i32_14 : BitVec 32 := 0#32
  let c1_i32_15 : BitVec 32 := 1#32
  let arg15 : BitVec 32 := Scf.iv c0_i32_14 c1_i32_15 k0_t4
  let v900 : Index := Scalar.indexCast arg15
  let c1_378 : Index := 1#32
  let c8_379 : Index := 8#32
  let c384_380 : Index := 384#32
  ![v899.toNat, v900.toNat, 1, 8, 384]
def k0_off390 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v908 : Index := Scalar.indexCast v1
  let c0_i32_14 : BitVec 32 := 0#32
  let c1_i32_15 : BitVec 32 := 1#32
  let arg15 : BitVec 32 := Scf.iv c0_i32_14 c1_i32_15 k0_t4
  let v909 : Index := Scalar.indexCast arg15
  let c2_382 : Index := 2#32
  let c8_383 : Index := 8#32
  let c384_384 : Index := 384#32
  ![v908.toNat, v909.toNat, 2, 8, 384]
def k0_off391 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v917 : Index := Scalar.indexCast v1
  let c0_i32_14 : BitVec 32 := 0#32
  let c1_i32_15 : BitVec 32 := 1#32
  let arg15 : BitVec 32 := Scf.iv c0_i32_14 c1_i32_15 k0_t4
  let v918 : Index := Scalar.indexCast arg15
  let c3_386 : Index := 3#32
  let c8_387 : Index := 8#32
  let c384_388 : Index := 384#32
  ![v917.toNat, v918.toNat, 3, 8, 384]
def k0_off392 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v926 : Index := Scalar.indexCast v1
  let c0_i32_14 : BitVec 32 := 0#32
  let c1_i32_15 : BitVec 32 := 1#32
  let arg15 : BitVec 32 := Scf.iv c0_i32_14 c1_i32_15 k0_t4
  let v927 : Index := Scalar.indexCast arg15
  let c4_390 : Index := 4#32
  let c8_391 : Index := 8#32
  let c384_392 : Index := 384#32
  ![v926.toNat, v927.toNat, 4, 8, 384]
def k0_off393 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1020 : Index := Scalar.indexCast v1
  let c0_i32_14 : BitVec 32 := 0#32
  let c1_i32_15 : BitVec 32 := 1#32
  let arg15 : BitVec 32 := Scf.iv c0_i32_14 c1_i32_15 k0_t4
  let v1021 : Index := Scalar.indexCast arg15
  let c0_423 : Index := 0#32
  let c8_424 : Index := 8#32
  let c0_425 : Index := 0#32
  ![v1020.toNat, v1021.toNat, 0, 8, 0]
def k0_off394 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1035 : Index := Scalar.indexCast v1
  let c0_i32_14 : BitVec 32 := 0#32
  let c1_i32_15 : BitVec 32 := 1#32
  let arg15 : BitVec 32 := Scf.iv c0_i32_14 c1_i32_15 k0_t4
  let v1036 : Index := Scalar.indexCast arg15
  let c0_429 : Index := 0#32
  let c8_430 : Index := 8#32
  let c128_431 : Index := 128#32
  ![v1035.toNat, v1036.toNat, 0, 8, 128]
def k0_off395 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1050 : Index := Scalar.indexCast v1
  let c0_i32_14 : BitVec 32 := 0#32
  let c1_i32_15 : BitVec 32 := 1#32
  let arg15 : BitVec 32 := Scf.iv c0_i32_14 c1_i32_15 k0_t4
  let v1051 : Index := Scalar.indexCast arg15
  let c0_435 : Index := 0#32
  let c8_436 : Index := 8#32
  let c256_437 : Index := 256#32
  ![v1050.toNat, v1051.toNat, 0, 8, 256]
def k0_off396 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1065 : Index := Scalar.indexCast v1
  let c0_i32_14 : BitVec 32 := 0#32
  let c1_i32_15 : BitVec 32 := 1#32
  let arg15 : BitVec 32 := Scf.iv c0_i32_14 c1_i32_15 k0_t4
  let v1066 : Index := Scalar.indexCast arg15
  let c0_441 : Index := 0#32
  let c8_442 : Index := 8#32
  let c384_443 : Index := 384#32
  ![v1065.toNat, v1066.toNat, 0, 8, 384]
def k0_off397 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1080 : Index := Scalar.indexCast v1
  let c0_i32_14 : BitVec 32 := 0#32
  let c1_i32_15 : BitVec 32 := 1#32
  let arg15 : BitVec 32 := Scf.iv c0_i32_14 c1_i32_15 k0_t4
  let v1081 : Index := Scalar.indexCast arg15
  let c1_447 : Index := 1#32
  let c8_448 : Index := 8#32
  let c512_449 : Index := 512#32
  ![v1080.toNat, v1081.toNat, 1, 8, 512]
def k0_off398 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1089 : Index := Scalar.indexCast v1
  let c0_i32_14 : BitVec 32 := 0#32
  let c1_i32_15 : BitVec 32 := 1#32
  let arg15 : BitVec 32 := Scf.iv c0_i32_14 c1_i32_15 k0_t4
  let v1090 : Index := Scalar.indexCast arg15
  let c2_451 : Index := 2#32
  let c8_452 : Index := 8#32
  let c512_453 : Index := 512#32
  ![v1089.toNat, v1090.toNat, 2, 8, 512]
def k0_off399 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1098 : Index := Scalar.indexCast v1
  let c0_i32_14 : BitVec 32 := 0#32
  let c1_i32_15 : BitVec 32 := 1#32
  let arg15 : BitVec 32 := Scf.iv c0_i32_14 c1_i32_15 k0_t4
  let v1099 : Index := Scalar.indexCast arg15
  let c3_455 : Index := 3#32
  let c8_456 : Index := 8#32
  let c512_457 : Index := 512#32
  ![v1098.toNat, v1099.toNat, 3, 8, 512]
def k0_off400 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1107 : Index := Scalar.indexCast v1
  let c0_i32_14 : BitVec 32 := 0#32
  let c1_i32_15 : BitVec 32 := 1#32
  let arg15 : BitVec 32 := Scf.iv c0_i32_14 c1_i32_15 k0_t4
  let v1108 : Index := Scalar.indexCast arg15
  let c4_459 : Index := 4#32
  let c8_460 : Index := 8#32
  let c512_461 : Index := 512#32
  ![v1107.toNat, v1108.toNat, 4, 8, 512]
def k0_off401 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1119 : Index := Scalar.indexCast v1
  let c0_i32_14 : BitVec 32 := 0#32
  let c1_i32_15 : BitVec 32 := 1#32
  let arg15 : BitVec 32 := Scf.iv c0_i32_14 c1_i32_15 k0_t4
  let v1120 : Index := Scalar.indexCast arg15
  let c1_463 : Index := 1#32
  let c8_464 : Index := 8#32
  let c640_465 : Index := 640#32
  ![v1119.toNat, v1120.toNat, 1, 8, 640]
def k0_off402 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1128 : Index := Scalar.indexCast v1
  let c0_i32_14 : BitVec 32 := 0#32
  let c1_i32_15 : BitVec 32 := 1#32
  let arg15 : BitVec 32 := Scf.iv c0_i32_14 c1_i32_15 k0_t4
  let v1129 : Index := Scalar.indexCast arg15
  let c2_467 : Index := 2#32
  let c8_468 : Index := 8#32
  let c640_469 : Index := 640#32
  ![v1128.toNat, v1129.toNat, 2, 8, 640]
def k0_off403 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1137 : Index := Scalar.indexCast v1
  let c0_i32_14 : BitVec 32 := 0#32
  let c1_i32_15 : BitVec 32 := 1#32
  let arg15 : BitVec 32 := Scf.iv c0_i32_14 c1_i32_15 k0_t4
  let v1138 : Index := Scalar.indexCast arg15
  let c3_471 : Index := 3#32
  let c8_472 : Index := 8#32
  let c640_473 : Index := 640#32
  ![v1137.toNat, v1138.toNat, 3, 8, 640]
def k0_off404 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1146 : Index := Scalar.indexCast v1
  let c0_i32_14 : BitVec 32 := 0#32
  let c1_i32_15 : BitVec 32 := 1#32
  let arg15 : BitVec 32 := Scf.iv c0_i32_14 c1_i32_15 k0_t4
  let v1147 : Index := Scalar.indexCast arg15
  let c4_475 : Index := 4#32
  let c8_476 : Index := 8#32
  let c640_477 : Index := 640#32
  ![v1146.toNat, v1147.toNat, 4, 8, 640]
def k0_off405 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1158 : Index := Scalar.indexCast v1
  let c0_i32_14 : BitVec 32 := 0#32
  let c1_i32_15 : BitVec 32 := 1#32
  let arg15 : BitVec 32 := Scf.iv c0_i32_14 c1_i32_15 k0_t4
  let v1159 : Index := Scalar.indexCast arg15
  let c1_479 : Index := 1#32
  let c8_480 : Index := 8#32
  let c768_481 : Index := 768#32
  ![v1158.toNat, v1159.toNat, 1, 8, 768]
def k0_off406 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1167 : Index := Scalar.indexCast v1
  let c0_i32_14 : BitVec 32 := 0#32
  let c1_i32_15 : BitVec 32 := 1#32
  let arg15 : BitVec 32 := Scf.iv c0_i32_14 c1_i32_15 k0_t4
  let v1168 : Index := Scalar.indexCast arg15
  let c2_483 : Index := 2#32
  let c8_484 : Index := 8#32
  let c768_485 : Index := 768#32
  ![v1167.toNat, v1168.toNat, 2, 8, 768]
def k0_off407 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1176 : Index := Scalar.indexCast v1
  let c0_i32_14 : BitVec 32 := 0#32
  let c1_i32_15 : BitVec 32 := 1#32
  let arg15 : BitVec 32 := Scf.iv c0_i32_14 c1_i32_15 k0_t4
  let v1177 : Index := Scalar.indexCast arg15
  let c3_487 : Index := 3#32
  let c8_488 : Index := 8#32
  let c768_489 : Index := 768#32
  ![v1176.toNat, v1177.toNat, 3, 8, 768]
def k0_off408 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1185 : Index := Scalar.indexCast v1
  let c0_i32_14 : BitVec 32 := 0#32
  let c1_i32_15 : BitVec 32 := 1#32
  let arg15 : BitVec 32 := Scf.iv c0_i32_14 c1_i32_15 k0_t4
  let v1186 : Index := Scalar.indexCast arg15
  let c4_491 : Index := 4#32
  let c8_492 : Index := 8#32
  let c768_493 : Index := 768#32
  ![v1185.toNat, v1186.toNat, 4, 8, 768]
def k0_off409 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1197 : Index := Scalar.indexCast v1
  let c0_i32_14 : BitVec 32 := 0#32
  let c1_i32_15 : BitVec 32 := 1#32
  let arg15 : BitVec 32 := Scf.iv c0_i32_14 c1_i32_15 k0_t4
  let v1198 : Index := Scalar.indexCast arg15
  let c1_495 : Index := 1#32
  let c8_496 : Index := 8#32
  let c896_497 : Index := 896#32
  ![v1197.toNat, v1198.toNat, 1, 8, 896]
def k0_off410 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1206 : Index := Scalar.indexCast v1
  let c0_i32_14 : BitVec 32 := 0#32
  let c1_i32_15 : BitVec 32 := 1#32
  let arg15 : BitVec 32 := Scf.iv c0_i32_14 c1_i32_15 k0_t4
  let v1207 : Index := Scalar.indexCast arg15
  let c2_499 : Index := 2#32
  let c8_500 : Index := 8#32
  let c896_501 : Index := 896#32
  ![v1206.toNat, v1207.toNat, 2, 8, 896]
def k0_off411 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1215 : Index := Scalar.indexCast v1
  let c0_i32_14 : BitVec 32 := 0#32
  let c1_i32_15 : BitVec 32 := 1#32
  let arg15 : BitVec 32 := Scf.iv c0_i32_14 c1_i32_15 k0_t4
  let v1216 : Index := Scalar.indexCast arg15
  let c3_503 : Index := 3#32
  let c8_504 : Index := 8#32
  let c896_505 : Index := 896#32
  ![v1215.toNat, v1216.toNat, 3, 8, 896]
def k0_off412 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1224 : Index := Scalar.indexCast v1
  let c0_i32_14 : BitVec 32 := 0#32
  let c1_i32_15 : BitVec 32 := 1#32
  let arg15 : BitVec 32 := Scf.iv c0_i32_14 c1_i32_15 k0_t4
  let v1225 : Index := Scalar.indexCast arg15
  let c4_507 : Index := 4#32
  let c8_508 : Index := 8#32
  let c896_509 : Index := 896#32
  ![v1224.toNat, v1225.toNat, 4, 8, 896]
def k0_off413 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1318 : Index := Scalar.indexCast v1
  let c0_i32_14 : BitVec 32 := 0#32
  let c1_i32_15 : BitVec 32 := 1#32
  let arg15 : BitVec 32 := Scf.iv c0_i32_14 c1_i32_15 k0_t4
  let v1319 : Index := Scalar.indexCast arg15
  let c0_540 : Index := 0#32
  let c8_541 : Index := 8#32
  let c512_542 : Index := 512#32
  ![v1318.toNat, v1319.toNat, 0, 8, 512]
def k0_off414 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1333 : Index := Scalar.indexCast v1
  let c0_i32_14 : BitVec 32 := 0#32
  let c1_i32_15 : BitVec 32 := 1#32
  let arg15 : BitVec 32 := Scf.iv c0_i32_14 c1_i32_15 k0_t4
  let v1334 : Index := Scalar.indexCast arg15
  let c0_546 : Index := 0#32
  let c8_547 : Index := 8#32
  let c640_548 : Index := 640#32
  ![v1333.toNat, v1334.toNat, 0, 8, 640]
def k0_off415 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1348 : Index := Scalar.indexCast v1
  let c0_i32_14 : BitVec 32 := 0#32
  let c1_i32_15 : BitVec 32 := 1#32
  let arg15 : BitVec 32 := Scf.iv c0_i32_14 c1_i32_15 k0_t4
  let v1349 : Index := Scalar.indexCast arg15
  let c0_552 : Index := 0#32
  let c8_553 : Index := 8#32
  let c768_554 : Index := 768#32
  ![v1348.toNat, v1349.toNat, 0, 8, 768]
def k0_off416 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1363 : Index := Scalar.indexCast v1
  let c0_i32_14 : BitVec 32 := 0#32
  let c1_i32_15 : BitVec 32 := 1#32
  let arg15 : BitVec 32 := Scf.iv c0_i32_14 c1_i32_15 k0_t4
  let v1364 : Index := Scalar.indexCast arg15
  let c0_558 : Index := 0#32
  let c8_559 : Index := 8#32
  let c896_560 : Index := 896#32
  ![v1363.toNat, v1364.toNat, 0, 8, 896]
def k0_off417 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v1386 : Index := Scalar.indexCast arg15
  let c16_579 : Index := 16#32
  let c0_580 : Index := 0#32
  ![v1386.toNat, 16, 0]
def k0_off418 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v1390 : Index := Scalar.indexCast arg15
  let c16_581 : Index := 16#32
  let c128_582 : Index := 128#32
  ![v1390.toNat, 16, 128]
def k0_off419 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v1394 : Index := Scalar.indexCast arg15
  let c16_583 : Index := 16#32
  let c256_584 : Index := 256#32
  ![v1394.toNat, 16, 256]
def k0_off420 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v1398 : Index := Scalar.indexCast arg15
  let c16_585 : Index := 16#32
  let c384_586 : Index := 384#32
  ![v1398.toNat, 16, 384]
def k0_off421 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v1402 : Index := Scalar.indexCast arg15
  let c16_587 : Index := 16#32
  let c512_588 : Index := 512#32
  ![v1402.toNat, 16, 512]
def k0_off422 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v1406 : Index := Scalar.indexCast arg15
  let c16_589 : Index := 16#32
  let c640_590 : Index := 640#32
  ![v1406.toNat, 16, 640]
def k0_off423 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v1410 : Index := Scalar.indexCast arg15
  let c16_591 : Index := 16#32
  let c768_592 : Index := 768#32
  ![v1410.toNat, 16, 768]
def k0_off424 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v1414 : Index := Scalar.indexCast arg15
  let c16_593 : Index := 16#32
  let c896_594 : Index := 896#32
  ![v1414.toNat, 16, 896]
def k0_mult19 (i : grid0.Coords) (k0_t4 : Fin k0_t4_loop.trips) : BitVec 32 :=
  let arg0 : BitVec 32 := BitVec.ofNat 32 (i 0).val
  let c1_i32_32 : BitVec 32 := 1#32
  let v49 : BitVec 32 := Scalar.subi arg0 c1_i32_32
  let c20_i32_33 : BitVec 32 := 20#32
  let v50 : BitVec 32 := Scalar.muli v49 c20_i32_33
  let c0_i32_14 : BitVec 32 := 0#32
  let c1_i32_15 : BitVec 32 := 1#32
  let arg15 : BitVec 32 := Scf.iv c0_i32_14 c1_i32_15 k0_t4
  let v51 : BitVec 32 := Scalar.addi v50 arg15
  let c7_i32_599 : BitVec 32 := 7#32
  let v1432 : BitVec 32 := Scalar.shrsi v51 c7_i32_599
  let c7_i32_600 : BitVec 32 := 7#32
  let v1433 : BitVec 32 := Scalar.shli v1432 c7_i32_600
  v1433
def k0_off425 (i : grid0.Coords) (k0_t4 : Fin k0_t4_loop.trips) : Fin 2 → Nat :=
  let c16_601 : Index := 16#32
  let arg0 : BitVec 32 := BitVec.ofNat 32 (i 0).val
  let c1_i32_32 : BitVec 32 := 1#32
  let v49 : BitVec 32 := Scalar.subi arg0 c1_i32_32
  let c20_i32_33 : BitVec 32 := 20#32
  let v50 : BitVec 32 := Scalar.muli v49 c20_i32_33
  let c0_i32_14 : BitVec 32 := 0#32
  let c1_i32_15 : BitVec 32 := 1#32
  let arg15 : BitVec 32 := Scf.iv c0_i32_14 c1_i32_15 k0_t4
  let v51 : BitVec 32 := Scalar.addi v50 arg15
  let c7_i32_599 : BitVec 32 := 7#32
  let v1432 : BitVec 32 := Scalar.shrsi v51 c7_i32_599
  let c7_i32_600 : BitVec 32 := 7#32
  let v1433 : BitVec 32 := Scalar.shli v1432 c7_i32_600
  let v1434 : BitVec 32 := v1433
  let v1435 : Index := Scalar.indexCast v1434
  ![16, v1435.toNat]
def k0_off426 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1443 : Index := Scalar.indexCast v1
  let c0_i32_14 : BitVec 32 := 0#32
  let c1_i32_15 : BitVec 32 := 1#32
  let arg15 : BitVec 32 := Scf.iv c0_i32_14 c1_i32_15 k0_t4
  let v1444 : Index := Scalar.indexCast arg15
  let c1_603 : Index := 1#32
  let c16_604 : Index := 16#32
  let c0_605 : Index := 0#32
  ![v1443.toNat, v1444.toNat, 1, 16, 0]
def k0_off427 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1452 : Index := Scalar.indexCast v1
  let c0_i32_14 : BitVec 32 := 0#32
  let c1_i32_15 : BitVec 32 := 1#32
  let arg15 : BitVec 32 := Scf.iv c0_i32_14 c1_i32_15 k0_t4
  let v1453 : Index := Scalar.indexCast arg15
  let c2_607 : Index := 2#32
  let c16_608 : Index := 16#32
  let c0_609 : Index := 0#32
  ![v1452.toNat, v1453.toNat, 2, 16, 0]
def k0_off428 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1461 : Index := Scalar.indexCast v1
  let c0_i32_14 : BitVec 32 := 0#32
  let c1_i32_15 : BitVec 32 := 1#32
  let arg15 : BitVec 32 := Scf.iv c0_i32_14 c1_i32_15 k0_t4
  let v1462 : Index := Scalar.indexCast arg15
  let c3_611 : Index := 3#32
  let c16_612 : Index := 16#32
  let c0_613 : Index := 0#32
  ![v1461.toNat, v1462.toNat, 3, 16, 0]
def k0_off429 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1470 : Index := Scalar.indexCast v1
  let c0_i32_14 : BitVec 32 := 0#32
  let c1_i32_15 : BitVec 32 := 1#32
  let arg15 : BitVec 32 := Scf.iv c0_i32_14 c1_i32_15 k0_t4
  let v1471 : Index := Scalar.indexCast arg15
  let c4_615 : Index := 4#32
  let c16_616 : Index := 16#32
  let c0_617 : Index := 0#32
  ![v1470.toNat, v1471.toNat, 4, 16, 0]
def k0_off430 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1482 : Index := Scalar.indexCast v1
  let c0_i32_14 : BitVec 32 := 0#32
  let c1_i32_15 : BitVec 32 := 1#32
  let arg15 : BitVec 32 := Scf.iv c0_i32_14 c1_i32_15 k0_t4
  let v1483 : Index := Scalar.indexCast arg15
  let c1_619 : Index := 1#32
  let c16_620 : Index := 16#32
  let c128_621 : Index := 128#32
  ![v1482.toNat, v1483.toNat, 1, 16, 128]
def k0_off431 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1491 : Index := Scalar.indexCast v1
  let c0_i32_14 : BitVec 32 := 0#32
  let c1_i32_15 : BitVec 32 := 1#32
  let arg15 : BitVec 32 := Scf.iv c0_i32_14 c1_i32_15 k0_t4
  let v1492 : Index := Scalar.indexCast arg15
  let c2_623 : Index := 2#32
  let c16_624 : Index := 16#32
  let c128_625 : Index := 128#32
  ![v1491.toNat, v1492.toNat, 2, 16, 128]
def k0_off432 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1500 : Index := Scalar.indexCast v1
  let c0_i32_14 : BitVec 32 := 0#32
  let c1_i32_15 : BitVec 32 := 1#32
  let arg15 : BitVec 32 := Scf.iv c0_i32_14 c1_i32_15 k0_t4
  let v1501 : Index := Scalar.indexCast arg15
  let c3_627 : Index := 3#32
  let c16_628 : Index := 16#32
  let c128_629 : Index := 128#32
  ![v1500.toNat, v1501.toNat, 3, 16, 128]
def k0_off433 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1509 : Index := Scalar.indexCast v1
  let c0_i32_14 : BitVec 32 := 0#32
  let c1_i32_15 : BitVec 32 := 1#32
  let arg15 : BitVec 32 := Scf.iv c0_i32_14 c1_i32_15 k0_t4
  let v1510 : Index := Scalar.indexCast arg15
  let c4_631 : Index := 4#32
  let c16_632 : Index := 16#32
  let c128_633 : Index := 128#32
  ![v1509.toNat, v1510.toNat, 4, 16, 128]
def k0_off434 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1521 : Index := Scalar.indexCast v1
  let c0_i32_14 : BitVec 32 := 0#32
  let c1_i32_15 : BitVec 32 := 1#32
  let arg15 : BitVec 32 := Scf.iv c0_i32_14 c1_i32_15 k0_t4
  let v1522 : Index := Scalar.indexCast arg15
  let c1_635 : Index := 1#32
  let c16_636 : Index := 16#32
  let c256_637 : Index := 256#32
  ![v1521.toNat, v1522.toNat, 1, 16, 256]
def k0_off435 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1530 : Index := Scalar.indexCast v1
  let c0_i32_14 : BitVec 32 := 0#32
  let c1_i32_15 : BitVec 32 := 1#32
  let arg15 : BitVec 32 := Scf.iv c0_i32_14 c1_i32_15 k0_t4
  let v1531 : Index := Scalar.indexCast arg15
  let c2_639 : Index := 2#32
  let c16_640 : Index := 16#32
  let c256_641 : Index := 256#32
  ![v1530.toNat, v1531.toNat, 2, 16, 256]
def k0_off436 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1539 : Index := Scalar.indexCast v1
  let c0_i32_14 : BitVec 32 := 0#32
  let c1_i32_15 : BitVec 32 := 1#32
  let arg15 : BitVec 32 := Scf.iv c0_i32_14 c1_i32_15 k0_t4
  let v1540 : Index := Scalar.indexCast arg15
  let c3_643 : Index := 3#32
  let c16_644 : Index := 16#32
  let c256_645 : Index := 256#32
  ![v1539.toNat, v1540.toNat, 3, 16, 256]
def k0_off437 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1548 : Index := Scalar.indexCast v1
  let c0_i32_14 : BitVec 32 := 0#32
  let c1_i32_15 : BitVec 32 := 1#32
  let arg15 : BitVec 32 := Scf.iv c0_i32_14 c1_i32_15 k0_t4
  let v1549 : Index := Scalar.indexCast arg15
  let c4_647 : Index := 4#32
  let c16_648 : Index := 16#32
  let c256_649 : Index := 256#32
  ![v1548.toNat, v1549.toNat, 4, 16, 256]
def k0_off438 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1560 : Index := Scalar.indexCast v1
  let c0_i32_14 : BitVec 32 := 0#32
  let c1_i32_15 : BitVec 32 := 1#32
  let arg15 : BitVec 32 := Scf.iv c0_i32_14 c1_i32_15 k0_t4
  let v1561 : Index := Scalar.indexCast arg15
  let c1_651 : Index := 1#32
  let c16_652 : Index := 16#32
  let c384_653 : Index := 384#32
  ![v1560.toNat, v1561.toNat, 1, 16, 384]
def k0_off439 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1569 : Index := Scalar.indexCast v1
  let c0_i32_14 : BitVec 32 := 0#32
  let c1_i32_15 : BitVec 32 := 1#32
  let arg15 : BitVec 32 := Scf.iv c0_i32_14 c1_i32_15 k0_t4
  let v1570 : Index := Scalar.indexCast arg15
  let c2_655 : Index := 2#32
  let c16_656 : Index := 16#32
  let c384_657 : Index := 384#32
  ![v1569.toNat, v1570.toNat, 2, 16, 384]
def k0_off440 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1578 : Index := Scalar.indexCast v1
  let c0_i32_14 : BitVec 32 := 0#32
  let c1_i32_15 : BitVec 32 := 1#32
  let arg15 : BitVec 32 := Scf.iv c0_i32_14 c1_i32_15 k0_t4
  let v1579 : Index := Scalar.indexCast arg15
  let c3_659 : Index := 3#32
  let c16_660 : Index := 16#32
  let c384_661 : Index := 384#32
  ![v1578.toNat, v1579.toNat, 3, 16, 384]
def k0_off441 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1587 : Index := Scalar.indexCast v1
  let c0_i32_14 : BitVec 32 := 0#32
  let c1_i32_15 : BitVec 32 := 1#32
  let arg15 : BitVec 32 := Scf.iv c0_i32_14 c1_i32_15 k0_t4
  let v1588 : Index := Scalar.indexCast arg15
  let c4_663 : Index := 4#32
  let c16_664 : Index := 16#32
  let c384_665 : Index := 384#32
  ![v1587.toNat, v1588.toNat, 4, 16, 384]
def k0_off442 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1681 : Index := Scalar.indexCast v1
  let c0_i32_14 : BitVec 32 := 0#32
  let c1_i32_15 : BitVec 32 := 1#32
  let arg15 : BitVec 32 := Scf.iv c0_i32_14 c1_i32_15 k0_t4
  let v1682 : Index := Scalar.indexCast arg15
  let c0_696 : Index := 0#32
  let c16_697 : Index := 16#32
  let c0_698 : Index := 0#32
  ![v1681.toNat, v1682.toNat, 0, 16, 0]
def k0_off443 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1696 : Index := Scalar.indexCast v1
  let c0_i32_14 : BitVec 32 := 0#32
  let c1_i32_15 : BitVec 32 := 1#32
  let arg15 : BitVec 32 := Scf.iv c0_i32_14 c1_i32_15 k0_t4
  let v1697 : Index := Scalar.indexCast arg15
  let c0_702 : Index := 0#32
  let c16_703 : Index := 16#32
  let c128_704 : Index := 128#32
  ![v1696.toNat, v1697.toNat, 0, 16, 128]
def k0_off444 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1711 : Index := Scalar.indexCast v1
  let c0_i32_14 : BitVec 32 := 0#32
  let c1_i32_15 : BitVec 32 := 1#32
  let arg15 : BitVec 32 := Scf.iv c0_i32_14 c1_i32_15 k0_t4
  let v1712 : Index := Scalar.indexCast arg15
  let c0_708 : Index := 0#32
  let c16_709 : Index := 16#32
  let c256_710 : Index := 256#32
  ![v1711.toNat, v1712.toNat, 0, 16, 256]
def k0_off445 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1726 : Index := Scalar.indexCast v1
  let c0_i32_14 : BitVec 32 := 0#32
  let c1_i32_15 : BitVec 32 := 1#32
  let arg15 : BitVec 32 := Scf.iv c0_i32_14 c1_i32_15 k0_t4
  let v1727 : Index := Scalar.indexCast arg15
  let c0_714 : Index := 0#32
  let c16_715 : Index := 16#32
  let c384_716 : Index := 384#32
  ![v1726.toNat, v1727.toNat, 0, 16, 384]
def k0_off446 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1741 : Index := Scalar.indexCast v1
  let c0_i32_14 : BitVec 32 := 0#32
  let c1_i32_15 : BitVec 32 := 1#32
  let arg15 : BitVec 32 := Scf.iv c0_i32_14 c1_i32_15 k0_t4
  let v1742 : Index := Scalar.indexCast arg15
  let c1_720 : Index := 1#32
  let c16_721 : Index := 16#32
  let c512_722 : Index := 512#32
  ![v1741.toNat, v1742.toNat, 1, 16, 512]
def k0_off447 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1750 : Index := Scalar.indexCast v1
  let c0_i32_14 : BitVec 32 := 0#32
  let c1_i32_15 : BitVec 32 := 1#32
  let arg15 : BitVec 32 := Scf.iv c0_i32_14 c1_i32_15 k0_t4
  let v1751 : Index := Scalar.indexCast arg15
  let c2_724 : Index := 2#32
  let c16_725 : Index := 16#32
  let c512_726 : Index := 512#32
  ![v1750.toNat, v1751.toNat, 2, 16, 512]
def k0_off448 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1759 : Index := Scalar.indexCast v1
  let c0_i32_14 : BitVec 32 := 0#32
  let c1_i32_15 : BitVec 32 := 1#32
  let arg15 : BitVec 32 := Scf.iv c0_i32_14 c1_i32_15 k0_t4
  let v1760 : Index := Scalar.indexCast arg15
  let c3_728 : Index := 3#32
  let c16_729 : Index := 16#32
  let c512_730 : Index := 512#32
  ![v1759.toNat, v1760.toNat, 3, 16, 512]
def k0_off449 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1768 : Index := Scalar.indexCast v1
  let c0_i32_14 : BitVec 32 := 0#32
  let c1_i32_15 : BitVec 32 := 1#32
  let arg15 : BitVec 32 := Scf.iv c0_i32_14 c1_i32_15 k0_t4
  let v1769 : Index := Scalar.indexCast arg15
  let c4_732 : Index := 4#32
  let c16_733 : Index := 16#32
  let c512_734 : Index := 512#32
  ![v1768.toNat, v1769.toNat, 4, 16, 512]
def k0_off450 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1780 : Index := Scalar.indexCast v1
  let c0_i32_14 : BitVec 32 := 0#32
  let c1_i32_15 : BitVec 32 := 1#32
  let arg15 : BitVec 32 := Scf.iv c0_i32_14 c1_i32_15 k0_t4
  let v1781 : Index := Scalar.indexCast arg15
  let c1_736 : Index := 1#32
  let c16_737 : Index := 16#32
  let c640_738 : Index := 640#32
  ![v1780.toNat, v1781.toNat, 1, 16, 640]
def k0_off451 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1789 : Index := Scalar.indexCast v1
  let c0_i32_14 : BitVec 32 := 0#32
  let c1_i32_15 : BitVec 32 := 1#32
  let arg15 : BitVec 32 := Scf.iv c0_i32_14 c1_i32_15 k0_t4
  let v1790 : Index := Scalar.indexCast arg15
  let c2_740 : Index := 2#32
  let c16_741 : Index := 16#32
  let c640_742 : Index := 640#32
  ![v1789.toNat, v1790.toNat, 2, 16, 640]
def k0_off452 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1798 : Index := Scalar.indexCast v1
  let c0_i32_14 : BitVec 32 := 0#32
  let c1_i32_15 : BitVec 32 := 1#32
  let arg15 : BitVec 32 := Scf.iv c0_i32_14 c1_i32_15 k0_t4
  let v1799 : Index := Scalar.indexCast arg15
  let c3_744 : Index := 3#32
  let c16_745 : Index := 16#32
  let c640_746 : Index := 640#32
  ![v1798.toNat, v1799.toNat, 3, 16, 640]
def k0_off453 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1807 : Index := Scalar.indexCast v1
  let c0_i32_14 : BitVec 32 := 0#32
  let c1_i32_15 : BitVec 32 := 1#32
  let arg15 : BitVec 32 := Scf.iv c0_i32_14 c1_i32_15 k0_t4
  let v1808 : Index := Scalar.indexCast arg15
  let c4_748 : Index := 4#32
  let c16_749 : Index := 16#32
  let c640_750 : Index := 640#32
  ![v1807.toNat, v1808.toNat, 4, 16, 640]
def k0_off454 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1819 : Index := Scalar.indexCast v1
  let c0_i32_14 : BitVec 32 := 0#32
  let c1_i32_15 : BitVec 32 := 1#32
  let arg15 : BitVec 32 := Scf.iv c0_i32_14 c1_i32_15 k0_t4
  let v1820 : Index := Scalar.indexCast arg15
  let c1_752 : Index := 1#32
  let c16_753 : Index := 16#32
  let c768_754 : Index := 768#32
  ![v1819.toNat, v1820.toNat, 1, 16, 768]
def k0_off455 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1828 : Index := Scalar.indexCast v1
  let c0_i32_14 : BitVec 32 := 0#32
  let c1_i32_15 : BitVec 32 := 1#32
  let arg15 : BitVec 32 := Scf.iv c0_i32_14 c1_i32_15 k0_t4
  let v1829 : Index := Scalar.indexCast arg15
  let c2_756 : Index := 2#32
  let c16_757 : Index := 16#32
  let c768_758 : Index := 768#32
  ![v1828.toNat, v1829.toNat, 2, 16, 768]
def k0_off456 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1837 : Index := Scalar.indexCast v1
  let c0_i32_14 : BitVec 32 := 0#32
  let c1_i32_15 : BitVec 32 := 1#32
  let arg15 : BitVec 32 := Scf.iv c0_i32_14 c1_i32_15 k0_t4
  let v1838 : Index := Scalar.indexCast arg15
  let c3_760 : Index := 3#32
  let c16_761 : Index := 16#32
  let c768_762 : Index := 768#32
  ![v1837.toNat, v1838.toNat, 3, 16, 768]
def k0_off457 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1846 : Index := Scalar.indexCast v1
  let c0_i32_14 : BitVec 32 := 0#32
  let c1_i32_15 : BitVec 32 := 1#32
  let arg15 : BitVec 32 := Scf.iv c0_i32_14 c1_i32_15 k0_t4
  let v1847 : Index := Scalar.indexCast arg15
  let c4_764 : Index := 4#32
  let c16_765 : Index := 16#32
  let c768_766 : Index := 768#32
  ![v1846.toNat, v1847.toNat, 4, 16, 768]
def k0_off458 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1858 : Index := Scalar.indexCast v1
  let c0_i32_14 : BitVec 32 := 0#32
  let c1_i32_15 : BitVec 32 := 1#32
  let arg15 : BitVec 32 := Scf.iv c0_i32_14 c1_i32_15 k0_t4
  let v1859 : Index := Scalar.indexCast arg15
  let c1_768 : Index := 1#32
  let c16_769 : Index := 16#32
  let c896_770 : Index := 896#32
  ![v1858.toNat, v1859.toNat, 1, 16, 896]
def k0_off459 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1867 : Index := Scalar.indexCast v1
  let c0_i32_14 : BitVec 32 := 0#32
  let c1_i32_15 : BitVec 32 := 1#32
  let arg15 : BitVec 32 := Scf.iv c0_i32_14 c1_i32_15 k0_t4
  let v1868 : Index := Scalar.indexCast arg15
  let c2_772 : Index := 2#32
  let c16_773 : Index := 16#32
  let c896_774 : Index := 896#32
  ![v1867.toNat, v1868.toNat, 2, 16, 896]
def k0_off460 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1876 : Index := Scalar.indexCast v1
  let c0_i32_14 : BitVec 32 := 0#32
  let c1_i32_15 : BitVec 32 := 1#32
  let arg15 : BitVec 32 := Scf.iv c0_i32_14 c1_i32_15 k0_t4
  let v1877 : Index := Scalar.indexCast arg15
  let c3_776 : Index := 3#32
  let c16_777 : Index := 16#32
  let c896_778 : Index := 896#32
  ![v1876.toNat, v1877.toNat, 3, 16, 896]
def k0_off461 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1885 : Index := Scalar.indexCast v1
  let c0_i32_14 : BitVec 32 := 0#32
  let c1_i32_15 : BitVec 32 := 1#32
  let arg15 : BitVec 32 := Scf.iv c0_i32_14 c1_i32_15 k0_t4
  let v1886 : Index := Scalar.indexCast arg15
  let c4_780 : Index := 4#32
  let c16_781 : Index := 16#32
  let c896_782 : Index := 896#32
  ![v1885.toNat, v1886.toNat, 4, 16, 896]
def k0_off462 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1979 : Index := Scalar.indexCast v1
  let c0_i32_14 : BitVec 32 := 0#32
  let c1_i32_15 : BitVec 32 := 1#32
  let arg15 : BitVec 32 := Scf.iv c0_i32_14 c1_i32_15 k0_t4
  let v1980 : Index := Scalar.indexCast arg15
  let c0_813 : Index := 0#32
  let c16_814 : Index := 16#32
  let c512_815 : Index := 512#32
  ![v1979.toNat, v1980.toNat, 0, 16, 512]
def k0_off463 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1994 : Index := Scalar.indexCast v1
  let c0_i32_14 : BitVec 32 := 0#32
  let c1_i32_15 : BitVec 32 := 1#32
  let arg15 : BitVec 32 := Scf.iv c0_i32_14 c1_i32_15 k0_t4
  let v1995 : Index := Scalar.indexCast arg15
  let c0_819 : Index := 0#32
  let c16_820 : Index := 16#32
  let c640_821 : Index := 640#32
  ![v1994.toNat, v1995.toNat, 0, 16, 640]
def k0_off464 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2009 : Index := Scalar.indexCast v1
  let c0_i32_14 : BitVec 32 := 0#32
  let c1_i32_15 : BitVec 32 := 1#32
  let arg15 : BitVec 32 := Scf.iv c0_i32_14 c1_i32_15 k0_t4
  let v2010 : Index := Scalar.indexCast arg15
  let c0_825 : Index := 0#32
  let c16_826 : Index := 16#32
  let c768_827 : Index := 768#32
  ![v2009.toNat, v2010.toNat, 0, 16, 768]
def k0_off465 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2024 : Index := Scalar.indexCast v1
  let c0_i32_14 : BitVec 32 := 0#32
  let c1_i32_15 : BitVec 32 := 1#32
  let arg15 : BitVec 32 := Scf.iv c0_i32_14 c1_i32_15 k0_t4
  let v2025 : Index := Scalar.indexCast arg15
  let c0_831 : Index := 0#32
  let c16_832 : Index := 16#32
  let c896_833 : Index := 896#32
  ![v2024.toNat, v2025.toNat, 0, 16, 896]
def k0_off466 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2047 : Index := Scalar.indexCast arg15
  let c24_852 : Index := 24#32
  let c0_853 : Index := 0#32
  ![v2047.toNat, 24, 0]
def k0_off467 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2051 : Index := Scalar.indexCast arg15
  let c24_854 : Index := 24#32
  let c128_855 : Index := 128#32
  ![v2051.toNat, 24, 128]
def k0_off468 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2055 : Index := Scalar.indexCast arg15
  let c24_856 : Index := 24#32
  let c256_857 : Index := 256#32
  ![v2055.toNat, 24, 256]
def k0_off469 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2059 : Index := Scalar.indexCast arg15
  let c24_858 : Index := 24#32
  let c384_859 : Index := 384#32
  ![v2059.toNat, 24, 384]
def k0_off470 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2063 : Index := Scalar.indexCast arg15
  let c24_860 : Index := 24#32
  let c512_861 : Index := 512#32
  ![v2063.toNat, 24, 512]
def k0_off471 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2067 : Index := Scalar.indexCast arg15
  let c24_862 : Index := 24#32
  let c640_863 : Index := 640#32
  ![v2067.toNat, 24, 640]
def k0_off472 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2071 : Index := Scalar.indexCast arg15
  let c24_864 : Index := 24#32
  let c768_865 : Index := 768#32
  ![v2071.toNat, 24, 768]
def k0_off473 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2075 : Index := Scalar.indexCast arg15
  let c24_866 : Index := 24#32
  let c896_867 : Index := 896#32
  ![v2075.toNat, 24, 896]
def k0_mult20 (i : grid0.Coords) (k0_t4 : Fin k0_t4_loop.trips) : BitVec 32 :=
  let arg0 : BitVec 32 := BitVec.ofNat 32 (i 0).val
  let c1_i32_32 : BitVec 32 := 1#32
  let v49 : BitVec 32 := Scalar.subi arg0 c1_i32_32
  let c20_i32_33 : BitVec 32 := 20#32
  let v50 : BitVec 32 := Scalar.muli v49 c20_i32_33
  let c0_i32_14 : BitVec 32 := 0#32
  let c1_i32_15 : BitVec 32 := 1#32
  let arg15 : BitVec 32 := Scf.iv c0_i32_14 c1_i32_15 k0_t4
  let v51 : BitVec 32 := Scalar.addi v50 arg15
  let c7_i32_872 : BitVec 32 := 7#32
  let v2093 : BitVec 32 := Scalar.shrsi v51 c7_i32_872
  let c7_i32_873 : BitVec 32 := 7#32
  let v2094 : BitVec 32 := Scalar.shli v2093 c7_i32_873
  v2094
def k0_off474 (i : grid0.Coords) (k0_t4 : Fin k0_t4_loop.trips) : Fin 2 → Nat :=
  let c24_874 : Index := 24#32
  let arg0 : BitVec 32 := BitVec.ofNat 32 (i 0).val
  let c1_i32_32 : BitVec 32 := 1#32
  let v49 : BitVec 32 := Scalar.subi arg0 c1_i32_32
  let c20_i32_33 : BitVec 32 := 20#32
  let v50 : BitVec 32 := Scalar.muli v49 c20_i32_33
  let c0_i32_14 : BitVec 32 := 0#32
  let c1_i32_15 : BitVec 32 := 1#32
  let arg15 : BitVec 32 := Scf.iv c0_i32_14 c1_i32_15 k0_t4
  let v51 : BitVec 32 := Scalar.addi v50 arg15
  let c7_i32_872 : BitVec 32 := 7#32
  let v2093 : BitVec 32 := Scalar.shrsi v51 c7_i32_872
  let c7_i32_873 : BitVec 32 := 7#32
  let v2094 : BitVec 32 := Scalar.shli v2093 c7_i32_873
  let v2095 : BitVec 32 := v2094
  let v2096 : Index := Scalar.indexCast v2095
  ![24, v2096.toNat]
def k0_off475 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2104 : Index := Scalar.indexCast v1
  let c0_i32_14 : BitVec 32 := 0#32
  let c1_i32_15 : BitVec 32 := 1#32
  let arg15 : BitVec 32 := Scf.iv c0_i32_14 c1_i32_15 k0_t4
  let v2105 : Index := Scalar.indexCast arg15
  let c1_876 : Index := 1#32
  let c24_877 : Index := 24#32
  let c0_878 : Index := 0#32
  ![v2104.toNat, v2105.toNat, 1, 24, 0]
def k0_off476 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2113 : Index := Scalar.indexCast v1
  let c0_i32_14 : BitVec 32 := 0#32
  let c1_i32_15 : BitVec 32 := 1#32
  let arg15 : BitVec 32 := Scf.iv c0_i32_14 c1_i32_15 k0_t4
  let v2114 : Index := Scalar.indexCast arg15
  let c2_880 : Index := 2#32
  let c24_881 : Index := 24#32
  let c0_882 : Index := 0#32
  ![v2113.toNat, v2114.toNat, 2, 24, 0]
def k0_off477 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2122 : Index := Scalar.indexCast v1
  let c0_i32_14 : BitVec 32 := 0#32
  let c1_i32_15 : BitVec 32 := 1#32
  let arg15 : BitVec 32 := Scf.iv c0_i32_14 c1_i32_15 k0_t4
  let v2123 : Index := Scalar.indexCast arg15
  let c3_884 : Index := 3#32
  let c24_885 : Index := 24#32
  let c0_886 : Index := 0#32
  ![v2122.toNat, v2123.toNat, 3, 24, 0]
def k0_off478 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2131 : Index := Scalar.indexCast v1
  let c0_i32_14 : BitVec 32 := 0#32
  let c1_i32_15 : BitVec 32 := 1#32
  let arg15 : BitVec 32 := Scf.iv c0_i32_14 c1_i32_15 k0_t4
  let v2132 : Index := Scalar.indexCast arg15
  let c4_888 : Index := 4#32
  let c24_889 : Index := 24#32
  let c0_890 : Index := 0#32
  ![v2131.toNat, v2132.toNat, 4, 24, 0]
def k0_off479 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2143 : Index := Scalar.indexCast v1
  let c0_i32_14 : BitVec 32 := 0#32
  let c1_i32_15 : BitVec 32 := 1#32
  let arg15 : BitVec 32 := Scf.iv c0_i32_14 c1_i32_15 k0_t4
  let v2144 : Index := Scalar.indexCast arg15
  let c1_892 : Index := 1#32
  let c24_893 : Index := 24#32
  let c128_894 : Index := 128#32
  ![v2143.toNat, v2144.toNat, 1, 24, 128]
def k0_off480 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2152 : Index := Scalar.indexCast v1
  let c0_i32_14 : BitVec 32 := 0#32
  let c1_i32_15 : BitVec 32 := 1#32
  let arg15 : BitVec 32 := Scf.iv c0_i32_14 c1_i32_15 k0_t4
  let v2153 : Index := Scalar.indexCast arg15
  let c2_896 : Index := 2#32
  let c24_897 : Index := 24#32
  let c128_898 : Index := 128#32
  ![v2152.toNat, v2153.toNat, 2, 24, 128]
def k0_off481 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2161 : Index := Scalar.indexCast v1
  let c0_i32_14 : BitVec 32 := 0#32
  let c1_i32_15 : BitVec 32 := 1#32
  let arg15 : BitVec 32 := Scf.iv c0_i32_14 c1_i32_15 k0_t4
  let v2162 : Index := Scalar.indexCast arg15
  let c3_900 : Index := 3#32
  let c24_901 : Index := 24#32
  let c128_902 : Index := 128#32
  ![v2161.toNat, v2162.toNat, 3, 24, 128]
def k0_off482 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2170 : Index := Scalar.indexCast v1
  let c0_i32_14 : BitVec 32 := 0#32
  let c1_i32_15 : BitVec 32 := 1#32
  let arg15 : BitVec 32 := Scf.iv c0_i32_14 c1_i32_15 k0_t4
  let v2171 : Index := Scalar.indexCast arg15
  let c4_904 : Index := 4#32
  let c24_905 : Index := 24#32
  let c128_906 : Index := 128#32
  ![v2170.toNat, v2171.toNat, 4, 24, 128]
def k0_off483 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2182 : Index := Scalar.indexCast v1
  let c0_i32_14 : BitVec 32 := 0#32
  let c1_i32_15 : BitVec 32 := 1#32
  let arg15 : BitVec 32 := Scf.iv c0_i32_14 c1_i32_15 k0_t4
  let v2183 : Index := Scalar.indexCast arg15
  let c1_908 : Index := 1#32
  let c24_909 : Index := 24#32
  let c256_910 : Index := 256#32
  ![v2182.toNat, v2183.toNat, 1, 24, 256]
def k0_off484 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2191 : Index := Scalar.indexCast v1
  let c0_i32_14 : BitVec 32 := 0#32
  let c1_i32_15 : BitVec 32 := 1#32
  let arg15 : BitVec 32 := Scf.iv c0_i32_14 c1_i32_15 k0_t4
  let v2192 : Index := Scalar.indexCast arg15
  let c2_912 : Index := 2#32
  let c24_913 : Index := 24#32
  let c256_914 : Index := 256#32
  ![v2191.toNat, v2192.toNat, 2, 24, 256]
def k0_off485 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2200 : Index := Scalar.indexCast v1
  let c0_i32_14 : BitVec 32 := 0#32
  let c1_i32_15 : BitVec 32 := 1#32
  let arg15 : BitVec 32 := Scf.iv c0_i32_14 c1_i32_15 k0_t4
  let v2201 : Index := Scalar.indexCast arg15
  let c3_916 : Index := 3#32
  let c24_917 : Index := 24#32
  let c256_918 : Index := 256#32
  ![v2200.toNat, v2201.toNat, 3, 24, 256]
def k0_off486 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2209 : Index := Scalar.indexCast v1
  let c0_i32_14 : BitVec 32 := 0#32
  let c1_i32_15 : BitVec 32 := 1#32
  let arg15 : BitVec 32 := Scf.iv c0_i32_14 c1_i32_15 k0_t4
  let v2210 : Index := Scalar.indexCast arg15
  let c4_920 : Index := 4#32
  let c24_921 : Index := 24#32
  let c256_922 : Index := 256#32
  ![v2209.toNat, v2210.toNat, 4, 24, 256]
def k0_off487 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2221 : Index := Scalar.indexCast v1
  let c0_i32_14 : BitVec 32 := 0#32
  let c1_i32_15 : BitVec 32 := 1#32
  let arg15 : BitVec 32 := Scf.iv c0_i32_14 c1_i32_15 k0_t4
  let v2222 : Index := Scalar.indexCast arg15
  let c1_924 : Index := 1#32
  let c24_925 : Index := 24#32
  let c384_926 : Index := 384#32
  ![v2221.toNat, v2222.toNat, 1, 24, 384]
def k0_off488 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2230 : Index := Scalar.indexCast v1
  let c0_i32_14 : BitVec 32 := 0#32
  let c1_i32_15 : BitVec 32 := 1#32
  let arg15 : BitVec 32 := Scf.iv c0_i32_14 c1_i32_15 k0_t4
  let v2231 : Index := Scalar.indexCast arg15
  let c2_928 : Index := 2#32
  let c24_929 : Index := 24#32
  let c384_930 : Index := 384#32
  ![v2230.toNat, v2231.toNat, 2, 24, 384]
def k0_off489 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2239 : Index := Scalar.indexCast v1
  let c0_i32_14 : BitVec 32 := 0#32
  let c1_i32_15 : BitVec 32 := 1#32
  let arg15 : BitVec 32 := Scf.iv c0_i32_14 c1_i32_15 k0_t4
  let v2240 : Index := Scalar.indexCast arg15
  let c3_932 : Index := 3#32
  let c24_933 : Index := 24#32
  let c384_934 : Index := 384#32
  ![v2239.toNat, v2240.toNat, 3, 24, 384]
def k0_off490 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2248 : Index := Scalar.indexCast v1
  let c0_i32_14 : BitVec 32 := 0#32
  let c1_i32_15 : BitVec 32 := 1#32
  let arg15 : BitVec 32 := Scf.iv c0_i32_14 c1_i32_15 k0_t4
  let v2249 : Index := Scalar.indexCast arg15
  let c4_936 : Index := 4#32
  let c24_937 : Index := 24#32
  let c384_938 : Index := 384#32
  ![v2248.toNat, v2249.toNat, 4, 24, 384]
def k0_off491 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2342 : Index := Scalar.indexCast v1
  let c0_i32_14 : BitVec 32 := 0#32
  let c1_i32_15 : BitVec 32 := 1#32
  let arg15 : BitVec 32 := Scf.iv c0_i32_14 c1_i32_15 k0_t4
  let v2343 : Index := Scalar.indexCast arg15
  let c0_969 : Index := 0#32
  let c24_970 : Index := 24#32
  let c0_971 : Index := 0#32
  ![v2342.toNat, v2343.toNat, 0, 24, 0]
def k0_off492 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2357 : Index := Scalar.indexCast v1
  let c0_i32_14 : BitVec 32 := 0#32
  let c1_i32_15 : BitVec 32 := 1#32
  let arg15 : BitVec 32 := Scf.iv c0_i32_14 c1_i32_15 k0_t4
  let v2358 : Index := Scalar.indexCast arg15
  let c0_975 : Index := 0#32
  let c24_976 : Index := 24#32
  let c128_977 : Index := 128#32
  ![v2357.toNat, v2358.toNat, 0, 24, 128]
def k0_off493 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2372 : Index := Scalar.indexCast v1
  let c0_i32_14 : BitVec 32 := 0#32
  let c1_i32_15 : BitVec 32 := 1#32
  let arg15 : BitVec 32 := Scf.iv c0_i32_14 c1_i32_15 k0_t4
  let v2373 : Index := Scalar.indexCast arg15
  let c0_981 : Index := 0#32
  let c24_982 : Index := 24#32
  let c256_983 : Index := 256#32
  ![v2372.toNat, v2373.toNat, 0, 24, 256]
def k0_off494 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2387 : Index := Scalar.indexCast v1
  let c0_i32_14 : BitVec 32 := 0#32
  let c1_i32_15 : BitVec 32 := 1#32
  let arg15 : BitVec 32 := Scf.iv c0_i32_14 c1_i32_15 k0_t4
  let v2388 : Index := Scalar.indexCast arg15
  let c0_987 : Index := 0#32
  let c24_988 : Index := 24#32
  let c384_989 : Index := 384#32
  ![v2387.toNat, v2388.toNat, 0, 24, 384]
def k0_off495 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2402 : Index := Scalar.indexCast v1
  let c0_i32_14 : BitVec 32 := 0#32
  let c1_i32_15 : BitVec 32 := 1#32
  let arg15 : BitVec 32 := Scf.iv c0_i32_14 c1_i32_15 k0_t4
  let v2403 : Index := Scalar.indexCast arg15
  let c1_993 : Index := 1#32
  let c24_994 : Index := 24#32
  let c512_995 : Index := 512#32
  ![v2402.toNat, v2403.toNat, 1, 24, 512]
def k0_off496 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2411 : Index := Scalar.indexCast v1
  let c0_i32_14 : BitVec 32 := 0#32
  let c1_i32_15 : BitVec 32 := 1#32
  let arg15 : BitVec 32 := Scf.iv c0_i32_14 c1_i32_15 k0_t4
  let v2412 : Index := Scalar.indexCast arg15
  let c2_997 : Index := 2#32
  let c24_998 : Index := 24#32
  let c512_999 : Index := 512#32
  ![v2411.toNat, v2412.toNat, 2, 24, 512]
def k0_off497 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2420 : Index := Scalar.indexCast v1
  let c0_i32_14 : BitVec 32 := 0#32
  let c1_i32_15 : BitVec 32 := 1#32
  let arg15 : BitVec 32 := Scf.iv c0_i32_14 c1_i32_15 k0_t4
  let v2421 : Index := Scalar.indexCast arg15
  let c3_1001 : Index := 3#32
  let c24_1002 : Index := 24#32
  let c512_1003 : Index := 512#32
  ![v2420.toNat, v2421.toNat, 3, 24, 512]
def k0_off498 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2429 : Index := Scalar.indexCast v1
  let c0_i32_14 : BitVec 32 := 0#32
  let c1_i32_15 : BitVec 32 := 1#32
  let arg15 : BitVec 32 := Scf.iv c0_i32_14 c1_i32_15 k0_t4
  let v2430 : Index := Scalar.indexCast arg15
  let c4_1005 : Index := 4#32
  let c24_1006 : Index := 24#32
  let c512_1007 : Index := 512#32
  ![v2429.toNat, v2430.toNat, 4, 24, 512]
def k0_off499 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2441 : Index := Scalar.indexCast v1
  let c0_i32_14 : BitVec 32 := 0#32
  let c1_i32_15 : BitVec 32 := 1#32
  let arg15 : BitVec 32 := Scf.iv c0_i32_14 c1_i32_15 k0_t4
  let v2442 : Index := Scalar.indexCast arg15
  let c1_1009 : Index := 1#32
  let c24_1010 : Index := 24#32
  let c640_1011 : Index := 640#32
  ![v2441.toNat, v2442.toNat, 1, 24, 640]
def k0_off500 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2450 : Index := Scalar.indexCast v1
  let c0_i32_14 : BitVec 32 := 0#32
  let c1_i32_15 : BitVec 32 := 1#32
  let arg15 : BitVec 32 := Scf.iv c0_i32_14 c1_i32_15 k0_t4
  let v2451 : Index := Scalar.indexCast arg15
  let c2_1013 : Index := 2#32
  let c24_1014 : Index := 24#32
  let c640_1015 : Index := 640#32
  ![v2450.toNat, v2451.toNat, 2, 24, 640]
def k0_off501 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2459 : Index := Scalar.indexCast v1
  let c0_i32_14 : BitVec 32 := 0#32
  let c1_i32_15 : BitVec 32 := 1#32
  let arg15 : BitVec 32 := Scf.iv c0_i32_14 c1_i32_15 k0_t4
  let v2460 : Index := Scalar.indexCast arg15
  let c3_1017 : Index := 3#32
  let c24_1018 : Index := 24#32
  let c640_1019 : Index := 640#32
  ![v2459.toNat, v2460.toNat, 3, 24, 640]
def k0_off502 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2468 : Index := Scalar.indexCast v1
  let c0_i32_14 : BitVec 32 := 0#32
  let c1_i32_15 : BitVec 32 := 1#32
  let arg15 : BitVec 32 := Scf.iv c0_i32_14 c1_i32_15 k0_t4
  let v2469 : Index := Scalar.indexCast arg15
  let c4_1021 : Index := 4#32
  let c24_1022 : Index := 24#32
  let c640_1023 : Index := 640#32
  ![v2468.toNat, v2469.toNat, 4, 24, 640]
def k0_off503 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2480 : Index := Scalar.indexCast v1
  let c0_i32_14 : BitVec 32 := 0#32
  let c1_i32_15 : BitVec 32 := 1#32
  let arg15 : BitVec 32 := Scf.iv c0_i32_14 c1_i32_15 k0_t4
  let v2481 : Index := Scalar.indexCast arg15
  let c1_1025 : Index := 1#32
  let c24_1026 : Index := 24#32
  let c768_1027 : Index := 768#32
  ![v2480.toNat, v2481.toNat, 1, 24, 768]
def k0_off504 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2489 : Index := Scalar.indexCast v1
  let c0_i32_14 : BitVec 32 := 0#32
  let c1_i32_15 : BitVec 32 := 1#32
  let arg15 : BitVec 32 := Scf.iv c0_i32_14 c1_i32_15 k0_t4
  let v2490 : Index := Scalar.indexCast arg15
  let c2_1029 : Index := 2#32
  let c24_1030 : Index := 24#32
  let c768_1031 : Index := 768#32
  ![v2489.toNat, v2490.toNat, 2, 24, 768]
def k0_off505 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2498 : Index := Scalar.indexCast v1
  let c0_i32_14 : BitVec 32 := 0#32
  let c1_i32_15 : BitVec 32 := 1#32
  let arg15 : BitVec 32 := Scf.iv c0_i32_14 c1_i32_15 k0_t4
  let v2499 : Index := Scalar.indexCast arg15
  let c3_1033 : Index := 3#32
  let c24_1034 : Index := 24#32
  let c768_1035 : Index := 768#32
  ![v2498.toNat, v2499.toNat, 3, 24, 768]
def k0_off506 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2507 : Index := Scalar.indexCast v1
  let c0_i32_14 : BitVec 32 := 0#32
  let c1_i32_15 : BitVec 32 := 1#32
  let arg15 : BitVec 32 := Scf.iv c0_i32_14 c1_i32_15 k0_t4
  let v2508 : Index := Scalar.indexCast arg15
  let c4_1037 : Index := 4#32
  let c24_1038 : Index := 24#32
  let c768_1039 : Index := 768#32
  ![v2507.toNat, v2508.toNat, 4, 24, 768]
def k0_off507 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2519 : Index := Scalar.indexCast v1
  let c0_i32_14 : BitVec 32 := 0#32
  let c1_i32_15 : BitVec 32 := 1#32
  let arg15 : BitVec 32 := Scf.iv c0_i32_14 c1_i32_15 k0_t4
  let v2520 : Index := Scalar.indexCast arg15
  let c1_1041 : Index := 1#32
  let c24_1042 : Index := 24#32
  let c896_1043 : Index := 896#32
  ![v2519.toNat, v2520.toNat, 1, 24, 896]
def k0_off508 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2528 : Index := Scalar.indexCast v1
  let c0_i32_14 : BitVec 32 := 0#32
  let c1_i32_15 : BitVec 32 := 1#32
  let arg15 : BitVec 32 := Scf.iv c0_i32_14 c1_i32_15 k0_t4
  let v2529 : Index := Scalar.indexCast arg15
  let c2_1045 : Index := 2#32
  let c24_1046 : Index := 24#32
  let c896_1047 : Index := 896#32
  ![v2528.toNat, v2529.toNat, 2, 24, 896]
def k0_off509 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2537 : Index := Scalar.indexCast v1
  let c0_i32_14 : BitVec 32 := 0#32
  let c1_i32_15 : BitVec 32 := 1#32
  let arg15 : BitVec 32 := Scf.iv c0_i32_14 c1_i32_15 k0_t4
  let v2538 : Index := Scalar.indexCast arg15
  let c3_1049 : Index := 3#32
  let c24_1050 : Index := 24#32
  let c896_1051 : Index := 896#32
  ![v2537.toNat, v2538.toNat, 3, 24, 896]
def k0_off510 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2546 : Index := Scalar.indexCast v1
  let c0_i32_14 : BitVec 32 := 0#32
  let c1_i32_15 : BitVec 32 := 1#32
  let arg15 : BitVec 32 := Scf.iv c0_i32_14 c1_i32_15 k0_t4
  let v2547 : Index := Scalar.indexCast arg15
  let c4_1053 : Index := 4#32
  let c24_1054 : Index := 24#32
  let c896_1055 : Index := 896#32
  ![v2546.toNat, v2547.toNat, 4, 24, 896]
def k0_off511 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2640 : Index := Scalar.indexCast v1
  let c0_i32_14 : BitVec 32 := 0#32
  let c1_i32_15 : BitVec 32 := 1#32
  let arg15 : BitVec 32 := Scf.iv c0_i32_14 c1_i32_15 k0_t4
  let v2641 : Index := Scalar.indexCast arg15
  let c0_1086 : Index := 0#32
  let c24_1087 : Index := 24#32
  let c512_1088 : Index := 512#32
  ![v2640.toNat, v2641.toNat, 0, 24, 512]
def k0_off512 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2655 : Index := Scalar.indexCast v1
  let c0_i32_14 : BitVec 32 := 0#32
  let c1_i32_15 : BitVec 32 := 1#32
  let arg15 : BitVec 32 := Scf.iv c0_i32_14 c1_i32_15 k0_t4
  let v2656 : Index := Scalar.indexCast arg15
  let c0_1092 : Index := 0#32
  let c24_1093 : Index := 24#32
  let c640_1094 : Index := 640#32
  ![v2655.toNat, v2656.toNat, 0, 24, 640]
def k0_off513 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2670 : Index := Scalar.indexCast v1
  let c0_i32_14 : BitVec 32 := 0#32
  let c1_i32_15 : BitVec 32 := 1#32
  let arg15 : BitVec 32 := Scf.iv c0_i32_14 c1_i32_15 k0_t4
  let v2671 : Index := Scalar.indexCast arg15
  let c0_1098 : Index := 0#32
  let c24_1099 : Index := 24#32
  let c768_1100 : Index := 768#32
  ![v2670.toNat, v2671.toNat, 0, 24, 768]
def k0_off514 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2685 : Index := Scalar.indexCast v1
  let c0_i32_14 : BitVec 32 := 0#32
  let c1_i32_15 : BitVec 32 := 1#32
  let arg15 : BitVec 32 := Scf.iv c0_i32_14 c1_i32_15 k0_t4
  let v2686 : Index := Scalar.indexCast arg15
  let c0_1104 : Index := 0#32
  let c24_1105 : Index := 24#32
  let c896_1106 : Index := 896#32
  ![v2685.toNat, v2686.toNat, 0, 24, 896]
def k0_off515 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2708 : Index := Scalar.indexCast arg15
  let c32_1125 : Index := 32#32
  let c0_1126 : Index := 0#32
  ![v2708.toNat, 32, 0]
def k0_off516 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2712 : Index := Scalar.indexCast arg15
  let c32_1127 : Index := 32#32
  let c128_1128 : Index := 128#32
  ![v2712.toNat, 32, 128]
def k0_off517 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2716 : Index := Scalar.indexCast arg15
  let c32_1129 : Index := 32#32
  let c256_1130 : Index := 256#32
  ![v2716.toNat, 32, 256]
def k0_off518 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2720 : Index := Scalar.indexCast arg15
  let c32_1131 : Index := 32#32
  let c384_1132 : Index := 384#32
  ![v2720.toNat, 32, 384]
def k0_off519 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2724 : Index := Scalar.indexCast arg15
  let c32_1133 : Index := 32#32
  let c512_1134 : Index := 512#32
  ![v2724.toNat, 32, 512]
def k0_off520 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2728 : Index := Scalar.indexCast arg15
  let c32_1135 : Index := 32#32
  let c640_1136 : Index := 640#32
  ![v2728.toNat, 32, 640]
def k0_off521 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2732 : Index := Scalar.indexCast arg15
  let c32_1137 : Index := 32#32
  let c768_1138 : Index := 768#32
  ![v2732.toNat, 32, 768]
def k0_off522 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v2736 : Index := Scalar.indexCast arg15
  let c32_1139 : Index := 32#32
  let c896_1140 : Index := 896#32
  ![v2736.toNat, 32, 896]
def k0_mult21 (i : grid0.Coords) (k0_t4 : Fin k0_t4_loop.trips) : BitVec 32 :=
  let arg0 : BitVec 32 := BitVec.ofNat 32 (i 0).val
  let c1_i32_32 : BitVec 32 := 1#32
  let v49 : BitVec 32 := Scalar.subi arg0 c1_i32_32
  let c20_i32_33 : BitVec 32 := 20#32
  let v50 : BitVec 32 := Scalar.muli v49 c20_i32_33
  let c0_i32_14 : BitVec 32 := 0#32
  let c1_i32_15 : BitVec 32 := 1#32
  let arg15 : BitVec 32 := Scf.iv c0_i32_14 c1_i32_15 k0_t4
  let v51 : BitVec 32 := Scalar.addi v50 arg15
  let c7_i32_1145 : BitVec 32 := 7#32
  let v2754 : BitVec 32 := Scalar.shrsi v51 c7_i32_1145
  let c7_i32_1146 : BitVec 32 := 7#32
  let v2755 : BitVec 32 := Scalar.shli v2754 c7_i32_1146
  v2755
def k0_off523 (i : grid0.Coords) (k0_t4 : Fin k0_t4_loop.trips) : Fin 2 → Nat :=
  let c32_1147 : Index := 32#32
  let arg0 : BitVec 32 := BitVec.ofNat 32 (i 0).val
  let c1_i32_32 : BitVec 32 := 1#32
  let v49 : BitVec 32 := Scalar.subi arg0 c1_i32_32
  let c20_i32_33 : BitVec 32 := 20#32
  let v50 : BitVec 32 := Scalar.muli v49 c20_i32_33
  let c0_i32_14 : BitVec 32 := 0#32
  let c1_i32_15 : BitVec 32 := 1#32
  let arg15 : BitVec 32 := Scf.iv c0_i32_14 c1_i32_15 k0_t4
  let v51 : BitVec 32 := Scalar.addi v50 arg15
  let c7_i32_1145 : BitVec 32 := 7#32
  let v2754 : BitVec 32 := Scalar.shrsi v51 c7_i32_1145
  let c7_i32_1146 : BitVec 32 := 7#32
  let v2755 : BitVec 32 := Scalar.shli v2754 c7_i32_1146
  let v2756 : BitVec 32 := v2755
  let v2757 : Index := Scalar.indexCast v2756
  ![32, v2757.toNat]
def k0_off524 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2765 : Index := Scalar.indexCast v1
  let c0_i32_14 : BitVec 32 := 0#32
  let c1_i32_15 : BitVec 32 := 1#32
  let arg15 : BitVec 32 := Scf.iv c0_i32_14 c1_i32_15 k0_t4
  let v2766 : Index := Scalar.indexCast arg15
  let c1_1149 : Index := 1#32
  let c32_1150 : Index := 32#32
  let c0_1151 : Index := 0#32
  ![v2765.toNat, v2766.toNat, 1, 32, 0]
def k0_off525 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2774 : Index := Scalar.indexCast v1
  let c0_i32_14 : BitVec 32 := 0#32
  let c1_i32_15 : BitVec 32 := 1#32
  let arg15 : BitVec 32 := Scf.iv c0_i32_14 c1_i32_15 k0_t4
  let v2775 : Index := Scalar.indexCast arg15
  let c2_1153 : Index := 2#32
  let c32_1154 : Index := 32#32
  let c0_1155 : Index := 0#32
  ![v2774.toNat, v2775.toNat, 2, 32, 0]
def k0_off526 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2783 : Index := Scalar.indexCast v1
  let c0_i32_14 : BitVec 32 := 0#32
  let c1_i32_15 : BitVec 32 := 1#32
  let arg15 : BitVec 32 := Scf.iv c0_i32_14 c1_i32_15 k0_t4
  let v2784 : Index := Scalar.indexCast arg15
  let c3_1157 : Index := 3#32
  let c32_1158 : Index := 32#32
  let c0_1159 : Index := 0#32
  ![v2783.toNat, v2784.toNat, 3, 32, 0]
def k0_off527 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2792 : Index := Scalar.indexCast v1
  let c0_i32_14 : BitVec 32 := 0#32
  let c1_i32_15 : BitVec 32 := 1#32
  let arg15 : BitVec 32 := Scf.iv c0_i32_14 c1_i32_15 k0_t4
  let v2793 : Index := Scalar.indexCast arg15
  let c4_1161 : Index := 4#32
  let c32_1162 : Index := 32#32
  let c0_1163 : Index := 0#32
  ![v2792.toNat, v2793.toNat, 4, 32, 0]
def k0_off528 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2804 : Index := Scalar.indexCast v1
  let c0_i32_14 : BitVec 32 := 0#32
  let c1_i32_15 : BitVec 32 := 1#32
  let arg15 : BitVec 32 := Scf.iv c0_i32_14 c1_i32_15 k0_t4
  let v2805 : Index := Scalar.indexCast arg15
  let c1_1165 : Index := 1#32
  let c32_1166 : Index := 32#32
  let c128_1167 : Index := 128#32
  ![v2804.toNat, v2805.toNat, 1, 32, 128]
def k0_off529 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2813 : Index := Scalar.indexCast v1
  let c0_i32_14 : BitVec 32 := 0#32
  let c1_i32_15 : BitVec 32 := 1#32
  let arg15 : BitVec 32 := Scf.iv c0_i32_14 c1_i32_15 k0_t4
  let v2814 : Index := Scalar.indexCast arg15
  let c2_1169 : Index := 2#32
  let c32_1170 : Index := 32#32
  let c128_1171 : Index := 128#32
  ![v2813.toNat, v2814.toNat, 2, 32, 128]
def k0_off530 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2822 : Index := Scalar.indexCast v1
  let c0_i32_14 : BitVec 32 := 0#32
  let c1_i32_15 : BitVec 32 := 1#32
  let arg15 : BitVec 32 := Scf.iv c0_i32_14 c1_i32_15 k0_t4
  let v2823 : Index := Scalar.indexCast arg15
  let c3_1173 : Index := 3#32
  let c32_1174 : Index := 32#32
  let c128_1175 : Index := 128#32
  ![v2822.toNat, v2823.toNat, 3, 32, 128]
def k0_off531 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2831 : Index := Scalar.indexCast v1
  let c0_i32_14 : BitVec 32 := 0#32
  let c1_i32_15 : BitVec 32 := 1#32
  let arg15 : BitVec 32 := Scf.iv c0_i32_14 c1_i32_15 k0_t4
  let v2832 : Index := Scalar.indexCast arg15
  let c4_1177 : Index := 4#32
  let c32_1178 : Index := 32#32
  let c128_1179 : Index := 128#32
  ![v2831.toNat, v2832.toNat, 4, 32, 128]
def k0_off532 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2843 : Index := Scalar.indexCast v1
  let c0_i32_14 : BitVec 32 := 0#32
  let c1_i32_15 : BitVec 32 := 1#32
  let arg15 : BitVec 32 := Scf.iv c0_i32_14 c1_i32_15 k0_t4
  let v2844 : Index := Scalar.indexCast arg15
  let c1_1181 : Index := 1#32
  let c32_1182 : Index := 32#32
  let c256_1183 : Index := 256#32
  ![v2843.toNat, v2844.toNat, 1, 32, 256]
def k0_off533 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2852 : Index := Scalar.indexCast v1
  let c0_i32_14 : BitVec 32 := 0#32
  let c1_i32_15 : BitVec 32 := 1#32
  let arg15 : BitVec 32 := Scf.iv c0_i32_14 c1_i32_15 k0_t4
  let v2853 : Index := Scalar.indexCast arg15
  let c2_1185 : Index := 2#32
  let c32_1186 : Index := 32#32
  let c256_1187 : Index := 256#32
  ![v2852.toNat, v2853.toNat, 2, 32, 256]
def k0_off534 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2861 : Index := Scalar.indexCast v1
  let c0_i32_14 : BitVec 32 := 0#32
  let c1_i32_15 : BitVec 32 := 1#32
  let arg15 : BitVec 32 := Scf.iv c0_i32_14 c1_i32_15 k0_t4
  let v2862 : Index := Scalar.indexCast arg15
  let c3_1189 : Index := 3#32
  let c32_1190 : Index := 32#32
  let c256_1191 : Index := 256#32
  ![v2861.toNat, v2862.toNat, 3, 32, 256]
def k0_off535 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2870 : Index := Scalar.indexCast v1
  let c0_i32_14 : BitVec 32 := 0#32
  let c1_i32_15 : BitVec 32 := 1#32
  let arg15 : BitVec 32 := Scf.iv c0_i32_14 c1_i32_15 k0_t4
  let v2871 : Index := Scalar.indexCast arg15
  let c4_1193 : Index := 4#32
  let c32_1194 : Index := 32#32
  let c256_1195 : Index := 256#32
  ![v2870.toNat, v2871.toNat, 4, 32, 256]
def k0_off536 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2882 : Index := Scalar.indexCast v1
  let c0_i32_14 : BitVec 32 := 0#32
  let c1_i32_15 : BitVec 32 := 1#32
  let arg15 : BitVec 32 := Scf.iv c0_i32_14 c1_i32_15 k0_t4
  let v2883 : Index := Scalar.indexCast arg15
  let c1_1197 : Index := 1#32
  let c32_1198 : Index := 32#32
  let c384_1199 : Index := 384#32
  ![v2882.toNat, v2883.toNat, 1, 32, 384]
def k0_off537 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2891 : Index := Scalar.indexCast v1
  let c0_i32_14 : BitVec 32 := 0#32
  let c1_i32_15 : BitVec 32 := 1#32
  let arg15 : BitVec 32 := Scf.iv c0_i32_14 c1_i32_15 k0_t4
  let v2892 : Index := Scalar.indexCast arg15
  let c2_1201 : Index := 2#32
  let c32_1202 : Index := 32#32
  let c384_1203 : Index := 384#32
  ![v2891.toNat, v2892.toNat, 2, 32, 384]
def k0_off538 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2900 : Index := Scalar.indexCast v1
  let c0_i32_14 : BitVec 32 := 0#32
  let c1_i32_15 : BitVec 32 := 1#32
  let arg15 : BitVec 32 := Scf.iv c0_i32_14 c1_i32_15 k0_t4
  let v2901 : Index := Scalar.indexCast arg15
  let c3_1205 : Index := 3#32
  let c32_1206 : Index := 32#32
  let c384_1207 : Index := 384#32
  ![v2900.toNat, v2901.toNat, 3, 32, 384]
def k0_off539 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2909 : Index := Scalar.indexCast v1
  let c0_i32_14 : BitVec 32 := 0#32
  let c1_i32_15 : BitVec 32 := 1#32
  let arg15 : BitVec 32 := Scf.iv c0_i32_14 c1_i32_15 k0_t4
  let v2910 : Index := Scalar.indexCast arg15
  let c4_1209 : Index := 4#32
  let c32_1210 : Index := 32#32
  let c384_1211 : Index := 384#32
  ![v2909.toNat, v2910.toNat, 4, 32, 384]
def k0_off540 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3003 : Index := Scalar.indexCast v1
  let c0_i32_14 : BitVec 32 := 0#32
  let c1_i32_15 : BitVec 32 := 1#32
  let arg15 : BitVec 32 := Scf.iv c0_i32_14 c1_i32_15 k0_t4
  let v3004 : Index := Scalar.indexCast arg15
  let c0_1242 : Index := 0#32
  let c32_1243 : Index := 32#32
  let c0_1244 : Index := 0#32
  ![v3003.toNat, v3004.toNat, 0, 32, 0]
def k0_off541 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3018 : Index := Scalar.indexCast v1
  let c0_i32_14 : BitVec 32 := 0#32
  let c1_i32_15 : BitVec 32 := 1#32
  let arg15 : BitVec 32 := Scf.iv c0_i32_14 c1_i32_15 k0_t4
  let v3019 : Index := Scalar.indexCast arg15
  let c0_1248 : Index := 0#32
  let c32_1249 : Index := 32#32
  let c128_1250 : Index := 128#32
  ![v3018.toNat, v3019.toNat, 0, 32, 128]
def k0_off542 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3033 : Index := Scalar.indexCast v1
  let c0_i32_14 : BitVec 32 := 0#32
  let c1_i32_15 : BitVec 32 := 1#32
  let arg15 : BitVec 32 := Scf.iv c0_i32_14 c1_i32_15 k0_t4
  let v3034 : Index := Scalar.indexCast arg15
  let c0_1254 : Index := 0#32
  let c32_1255 : Index := 32#32
  let c256_1256 : Index := 256#32
  ![v3033.toNat, v3034.toNat, 0, 32, 256]
def k0_off543 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3048 : Index := Scalar.indexCast v1
  let c0_i32_14 : BitVec 32 := 0#32
  let c1_i32_15 : BitVec 32 := 1#32
  let arg15 : BitVec 32 := Scf.iv c0_i32_14 c1_i32_15 k0_t4
  let v3049 : Index := Scalar.indexCast arg15
  let c0_1260 : Index := 0#32
  let c32_1261 : Index := 32#32
  let c384_1262 : Index := 384#32
  ![v3048.toNat, v3049.toNat, 0, 32, 384]
def k0_off544 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3063 : Index := Scalar.indexCast v1
  let c0_i32_14 : BitVec 32 := 0#32
  let c1_i32_15 : BitVec 32 := 1#32
  let arg15 : BitVec 32 := Scf.iv c0_i32_14 c1_i32_15 k0_t4
  let v3064 : Index := Scalar.indexCast arg15
  let c1_1266 : Index := 1#32
  let c32_1267 : Index := 32#32
  let c512_1268 : Index := 512#32
  ![v3063.toNat, v3064.toNat, 1, 32, 512]
def k0_off545 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3072 : Index := Scalar.indexCast v1
  let c0_i32_14 : BitVec 32 := 0#32
  let c1_i32_15 : BitVec 32 := 1#32
  let arg15 : BitVec 32 := Scf.iv c0_i32_14 c1_i32_15 k0_t4
  let v3073 : Index := Scalar.indexCast arg15
  let c2_1270 : Index := 2#32
  let c32_1271 : Index := 32#32
  let c512_1272 : Index := 512#32
  ![v3072.toNat, v3073.toNat, 2, 32, 512]
def k0_off546 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3081 : Index := Scalar.indexCast v1
  let c0_i32_14 : BitVec 32 := 0#32
  let c1_i32_15 : BitVec 32 := 1#32
  let arg15 : BitVec 32 := Scf.iv c0_i32_14 c1_i32_15 k0_t4
  let v3082 : Index := Scalar.indexCast arg15
  let c3_1274 : Index := 3#32
  let c32_1275 : Index := 32#32
  let c512_1276 : Index := 512#32
  ![v3081.toNat, v3082.toNat, 3, 32, 512]
def k0_off547 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3090 : Index := Scalar.indexCast v1
  let c0_i32_14 : BitVec 32 := 0#32
  let c1_i32_15 : BitVec 32 := 1#32
  let arg15 : BitVec 32 := Scf.iv c0_i32_14 c1_i32_15 k0_t4
  let v3091 : Index := Scalar.indexCast arg15
  let c4_1278 : Index := 4#32
  let c32_1279 : Index := 32#32
  let c512_1280 : Index := 512#32
  ![v3090.toNat, v3091.toNat, 4, 32, 512]
def k0_off548 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3102 : Index := Scalar.indexCast v1
  let c0_i32_14 : BitVec 32 := 0#32
  let c1_i32_15 : BitVec 32 := 1#32
  let arg15 : BitVec 32 := Scf.iv c0_i32_14 c1_i32_15 k0_t4
  let v3103 : Index := Scalar.indexCast arg15
  let c1_1282 : Index := 1#32
  let c32_1283 : Index := 32#32
  let c640_1284 : Index := 640#32
  ![v3102.toNat, v3103.toNat, 1, 32, 640]
def k0_off549 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3111 : Index := Scalar.indexCast v1
  let c0_i32_14 : BitVec 32 := 0#32
  let c1_i32_15 : BitVec 32 := 1#32
  let arg15 : BitVec 32 := Scf.iv c0_i32_14 c1_i32_15 k0_t4
  let v3112 : Index := Scalar.indexCast arg15
  let c2_1286 : Index := 2#32
  let c32_1287 : Index := 32#32
  let c640_1288 : Index := 640#32
  ![v3111.toNat, v3112.toNat, 2, 32, 640]
def k0_off550 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3120 : Index := Scalar.indexCast v1
  let c0_i32_14 : BitVec 32 := 0#32
  let c1_i32_15 : BitVec 32 := 1#32
  let arg15 : BitVec 32 := Scf.iv c0_i32_14 c1_i32_15 k0_t4
  let v3121 : Index := Scalar.indexCast arg15
  let c3_1290 : Index := 3#32
  let c32_1291 : Index := 32#32
  let c640_1292 : Index := 640#32
  ![v3120.toNat, v3121.toNat, 3, 32, 640]
def k0_off551 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3129 : Index := Scalar.indexCast v1
  let c0_i32_14 : BitVec 32 := 0#32
  let c1_i32_15 : BitVec 32 := 1#32
  let arg15 : BitVec 32 := Scf.iv c0_i32_14 c1_i32_15 k0_t4
  let v3130 : Index := Scalar.indexCast arg15
  let c4_1294 : Index := 4#32
  let c32_1295 : Index := 32#32
  let c640_1296 : Index := 640#32
  ![v3129.toNat, v3130.toNat, 4, 32, 640]
def k0_off552 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3141 : Index := Scalar.indexCast v1
  let c0_i32_14 : BitVec 32 := 0#32
  let c1_i32_15 : BitVec 32 := 1#32
  let arg15 : BitVec 32 := Scf.iv c0_i32_14 c1_i32_15 k0_t4
  let v3142 : Index := Scalar.indexCast arg15
  let c1_1298 : Index := 1#32
  let c32_1299 : Index := 32#32
  let c768_1300 : Index := 768#32
  ![v3141.toNat, v3142.toNat, 1, 32, 768]
def k0_off553 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3150 : Index := Scalar.indexCast v1
  let c0_i32_14 : BitVec 32 := 0#32
  let c1_i32_15 : BitVec 32 := 1#32
  let arg15 : BitVec 32 := Scf.iv c0_i32_14 c1_i32_15 k0_t4
  let v3151 : Index := Scalar.indexCast arg15
  let c2_1302 : Index := 2#32
  let c32_1303 : Index := 32#32
  let c768_1304 : Index := 768#32
  ![v3150.toNat, v3151.toNat, 2, 32, 768]
def k0_off554 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3159 : Index := Scalar.indexCast v1
  let c0_i32_14 : BitVec 32 := 0#32
  let c1_i32_15 : BitVec 32 := 1#32
  let arg15 : BitVec 32 := Scf.iv c0_i32_14 c1_i32_15 k0_t4
  let v3160 : Index := Scalar.indexCast arg15
  let c3_1306 : Index := 3#32
  let c32_1307 : Index := 32#32
  let c768_1308 : Index := 768#32
  ![v3159.toNat, v3160.toNat, 3, 32, 768]
def k0_off555 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3168 : Index := Scalar.indexCast v1
  let c0_i32_14 : BitVec 32 := 0#32
  let c1_i32_15 : BitVec 32 := 1#32
  let arg15 : BitVec 32 := Scf.iv c0_i32_14 c1_i32_15 k0_t4
  let v3169 : Index := Scalar.indexCast arg15
  let c4_1310 : Index := 4#32
  let c32_1311 : Index := 32#32
  let c768_1312 : Index := 768#32
  ![v3168.toNat, v3169.toNat, 4, 32, 768]
def k0_off556 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3180 : Index := Scalar.indexCast v1
  let c0_i32_14 : BitVec 32 := 0#32
  let c1_i32_15 : BitVec 32 := 1#32
  let arg15 : BitVec 32 := Scf.iv c0_i32_14 c1_i32_15 k0_t4
  let v3181 : Index := Scalar.indexCast arg15
  let c1_1314 : Index := 1#32
  let c32_1315 : Index := 32#32
  let c896_1316 : Index := 896#32
  ![v3180.toNat, v3181.toNat, 1, 32, 896]
def k0_off557 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3189 : Index := Scalar.indexCast v1
  let c0_i32_14 : BitVec 32 := 0#32
  let c1_i32_15 : BitVec 32 := 1#32
  let arg15 : BitVec 32 := Scf.iv c0_i32_14 c1_i32_15 k0_t4
  let v3190 : Index := Scalar.indexCast arg15
  let c2_1318 : Index := 2#32
  let c32_1319 : Index := 32#32
  let c896_1320 : Index := 896#32
  ![v3189.toNat, v3190.toNat, 2, 32, 896]
def k0_off558 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3198 : Index := Scalar.indexCast v1
  let c0_i32_14 : BitVec 32 := 0#32
  let c1_i32_15 : BitVec 32 := 1#32
  let arg15 : BitVec 32 := Scf.iv c0_i32_14 c1_i32_15 k0_t4
  let v3199 : Index := Scalar.indexCast arg15
  let c3_1322 : Index := 3#32
  let c32_1323 : Index := 32#32
  let c896_1324 : Index := 896#32
  ![v3198.toNat, v3199.toNat, 3, 32, 896]
def k0_off559 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3207 : Index := Scalar.indexCast v1
  let c0_i32_14 : BitVec 32 := 0#32
  let c1_i32_15 : BitVec 32 := 1#32
  let arg15 : BitVec 32 := Scf.iv c0_i32_14 c1_i32_15 k0_t4
  let v3208 : Index := Scalar.indexCast arg15
  let c4_1326 : Index := 4#32
  let c32_1327 : Index := 32#32
  let c896_1328 : Index := 896#32
  ![v3207.toNat, v3208.toNat, 4, 32, 896]
def k0_off560 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3301 : Index := Scalar.indexCast v1
  let c0_i32_14 : BitVec 32 := 0#32
  let c1_i32_15 : BitVec 32 := 1#32
  let arg15 : BitVec 32 := Scf.iv c0_i32_14 c1_i32_15 k0_t4
  let v3302 : Index := Scalar.indexCast arg15
  let c0_1359 : Index := 0#32
  let c32_1360 : Index := 32#32
  let c512_1361 : Index := 512#32
  ![v3301.toNat, v3302.toNat, 0, 32, 512]
def k0_off561 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3316 : Index := Scalar.indexCast v1
  let c0_i32_14 : BitVec 32 := 0#32
  let c1_i32_15 : BitVec 32 := 1#32
  let arg15 : BitVec 32 := Scf.iv c0_i32_14 c1_i32_15 k0_t4
  let v3317 : Index := Scalar.indexCast arg15
  let c0_1365 : Index := 0#32
  let c32_1366 : Index := 32#32
  let c640_1367 : Index := 640#32
  ![v3316.toNat, v3317.toNat, 0, 32, 640]
def k0_off562 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3331 : Index := Scalar.indexCast v1
  let c0_i32_14 : BitVec 32 := 0#32
  let c1_i32_15 : BitVec 32 := 1#32
  let arg15 : BitVec 32 := Scf.iv c0_i32_14 c1_i32_15 k0_t4
  let v3332 : Index := Scalar.indexCast arg15
  let c0_1371 : Index := 0#32
  let c32_1372 : Index := 32#32
  let c768_1373 : Index := 768#32
  ![v3331.toNat, v3332.toNat, 0, 32, 768]
def k0_off563 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3346 : Index := Scalar.indexCast v1
  let c0_i32_14 : BitVec 32 := 0#32
  let c1_i32_15 : BitVec 32 := 1#32
  let arg15 : BitVec 32 := Scf.iv c0_i32_14 c1_i32_15 k0_t4
  let v3347 : Index := Scalar.indexCast arg15
  let c0_1377 : Index := 0#32
  let c32_1378 : Index := 32#32
  let c896_1379 : Index := 896#32
  ![v3346.toNat, v3347.toNat, 0, 32, 896]
def k0_off564 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v3369 : Index := Scalar.indexCast arg15
  let c40_1398 : Index := 40#32
  let c0_1399 : Index := 0#32
  ![v3369.toNat, 40, 0]
def k0_off565 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v3373 : Index := Scalar.indexCast arg15
  let c40_1400 : Index := 40#32
  let c128_1401 : Index := 128#32
  ![v3373.toNat, 40, 128]
def k0_off566 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v3377 : Index := Scalar.indexCast arg15
  let c40_1402 : Index := 40#32
  let c256_1403 : Index := 256#32
  ![v3377.toNat, 40, 256]
def k0_off567 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v3381 : Index := Scalar.indexCast arg15
  let c40_1404 : Index := 40#32
  let c384_1405 : Index := 384#32
  ![v3381.toNat, 40, 384]
def k0_off568 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v3385 : Index := Scalar.indexCast arg15
  let c40_1406 : Index := 40#32
  let c512_1407 : Index := 512#32
  ![v3385.toNat, 40, 512]
def k0_off569 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v3389 : Index := Scalar.indexCast arg15
  let c40_1408 : Index := 40#32
  let c640_1409 : Index := 640#32
  ![v3389.toNat, 40, 640]
def k0_off570 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v3393 : Index := Scalar.indexCast arg15
  let c40_1410 : Index := 40#32
  let c768_1411 : Index := 768#32
  ![v3393.toNat, 40, 768]
def k0_off571 (k0_t4 : Fin k0_t4_loop.trips) : Fin 3 → Nat :=
  let c0_i32_14 : BitVec 32 := 0#32
  let c1_i32_15 : BitVec 32 := 1#32
  let arg15 : BitVec 32 := Scf.iv c0_i32_14 c1_i32_15 k0_t4
  let v3397 : Index := Scalar.indexCast arg15
  let c40_1412 : Index := 40#32
  let c896_1413 : Index := 896#32
  ![v3397.toNat, 40, 896]
def k0_mult22 (i : grid0.Coords) (k0_t4 : Fin k0_t4_loop.trips) : BitVec 32 :=
  let arg0 : BitVec 32 := BitVec.ofNat 32 (i 0).val
  let c1_i32_32 : BitVec 32 := 1#32
  let v49 : BitVec 32 := Scalar.subi arg0 c1_i32_32
  let c20_i32_33 : BitVec 32 := 20#32
  let v50 : BitVec 32 := Scalar.muli v49 c20_i32_33
  let c0_i32_14 : BitVec 32 := 0#32
  let c1_i32_15 : BitVec 32 := 1#32
  let arg15 : BitVec 32 := Scf.iv c0_i32_14 c1_i32_15 k0_t4
  let v51 : BitVec 32 := Scalar.addi v50 arg15
  let c7_i32_1418 : BitVec 32 := 7#32
  let v3415 : BitVec 32 := Scalar.shrsi v51 c7_i32_1418
  let c7_i32_1419 : BitVec 32 := 7#32
  let v3416 : BitVec 32 := Scalar.shli v3415 c7_i32_1419
  v3416
def k0_off572 (i : grid0.Coords) (k0_t4 : Fin k0_t4_loop.trips) : Fin 2 → Nat :=
  let c40_1420 : Index := 40#32
  let arg0 : BitVec 32 := BitVec.ofNat 32 (i 0).val
  let c1_i32_32 : BitVec 32 := 1#32
  let v49 : BitVec 32 := Scalar.subi arg0 c1_i32_32
  let c20_i32_33 : BitVec 32 := 20#32
  let v50 : BitVec 32 := Scalar.muli v49 c20_i32_33
  let c0_i32_14 : BitVec 32 := 0#32
  let c1_i32_15 : BitVec 32 := 1#32
  let arg15 : BitVec 32 := Scf.iv c0_i32_14 c1_i32_15 k0_t4
  let v51 : BitVec 32 := Scalar.addi v50 arg15
  let c7_i32_1418 : BitVec 32 := 7#32
  let v3415 : BitVec 32 := Scalar.shrsi v51 c7_i32_1418
  let c7_i32_1419 : BitVec 32 := 7#32
  let v3416 : BitVec 32 := Scalar.shli v3415 c7_i32_1419
  let v3417 : BitVec 32 := v3416
  let v3418 : Index := Scalar.indexCast v3417
  ![40, v3418.toNat]
def k0_off573 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3426 : Index := Scalar.indexCast v1
  let c0_i32_14 : BitVec 32 := 0#32
  let c1_i32_15 : BitVec 32 := 1#32
  let arg15 : BitVec 32 := Scf.iv c0_i32_14 c1_i32_15 k0_t4
  let v3427 : Index := Scalar.indexCast arg15
  let c1_1422 : Index := 1#32
  let c40_1423 : Index := 40#32
  let c0_1424 : Index := 0#32
  ![v3426.toNat, v3427.toNat, 1, 40, 0]
def k0_off574 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3435 : Index := Scalar.indexCast v1
  let c0_i32_14 : BitVec 32 := 0#32
  let c1_i32_15 : BitVec 32 := 1#32
  let arg15 : BitVec 32 := Scf.iv c0_i32_14 c1_i32_15 k0_t4
  let v3436 : Index := Scalar.indexCast arg15
  let c2_1426 : Index := 2#32
  let c40_1427 : Index := 40#32
  let c0_1428 : Index := 0#32
  ![v3435.toNat, v3436.toNat, 2, 40, 0]
def k0_off575 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3444 : Index := Scalar.indexCast v1
  let c0_i32_14 : BitVec 32 := 0#32
  let c1_i32_15 : BitVec 32 := 1#32
  let arg15 : BitVec 32 := Scf.iv c0_i32_14 c1_i32_15 k0_t4
  let v3445 : Index := Scalar.indexCast arg15
  let c3_1430 : Index := 3#32
  let c40_1431 : Index := 40#32
  let c0_1432 : Index := 0#32
  ![v3444.toNat, v3445.toNat, 3, 40, 0]
def k0_off576 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3453 : Index := Scalar.indexCast v1
  let c0_i32_14 : BitVec 32 := 0#32
  let c1_i32_15 : BitVec 32 := 1#32
  let arg15 : BitVec 32 := Scf.iv c0_i32_14 c1_i32_15 k0_t4
  let v3454 : Index := Scalar.indexCast arg15
  let c4_1434 : Index := 4#32
  let c40_1435 : Index := 40#32
  let c0_1436 : Index := 0#32
  ![v3453.toNat, v3454.toNat, 4, 40, 0]
def k0_off577 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3465 : Index := Scalar.indexCast v1
  let c0_i32_14 : BitVec 32 := 0#32
  let c1_i32_15 : BitVec 32 := 1#32
  let arg15 : BitVec 32 := Scf.iv c0_i32_14 c1_i32_15 k0_t4
  let v3466 : Index := Scalar.indexCast arg15
  let c1_1438 : Index := 1#32
  let c40_1439 : Index := 40#32
  let c128_1440 : Index := 128#32
  ![v3465.toNat, v3466.toNat, 1, 40, 128]
def k0_off578 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3474 : Index := Scalar.indexCast v1
  let c0_i32_14 : BitVec 32 := 0#32
  let c1_i32_15 : BitVec 32 := 1#32
  let arg15 : BitVec 32 := Scf.iv c0_i32_14 c1_i32_15 k0_t4
  let v3475 : Index := Scalar.indexCast arg15
  let c2_1442 : Index := 2#32
  let c40_1443 : Index := 40#32
  let c128_1444 : Index := 128#32
  ![v3474.toNat, v3475.toNat, 2, 40, 128]
def k0_off579 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3483 : Index := Scalar.indexCast v1
  let c0_i32_14 : BitVec 32 := 0#32
  let c1_i32_15 : BitVec 32 := 1#32
  let arg15 : BitVec 32 := Scf.iv c0_i32_14 c1_i32_15 k0_t4
  let v3484 : Index := Scalar.indexCast arg15
  let c3_1446 : Index := 3#32
  let c40_1447 : Index := 40#32
  let c128_1448 : Index := 128#32
  ![v3483.toNat, v3484.toNat, 3, 40, 128]
def k0_off580 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3492 : Index := Scalar.indexCast v1
  let c0_i32_14 : BitVec 32 := 0#32
  let c1_i32_15 : BitVec 32 := 1#32
  let arg15 : BitVec 32 := Scf.iv c0_i32_14 c1_i32_15 k0_t4
  let v3493 : Index := Scalar.indexCast arg15
  let c4_1450 : Index := 4#32
  let c40_1451 : Index := 40#32
  let c128_1452 : Index := 128#32
  ![v3492.toNat, v3493.toNat, 4, 40, 128]
def k0_off581 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3504 : Index := Scalar.indexCast v1
  let c0_i32_14 : BitVec 32 := 0#32
  let c1_i32_15 : BitVec 32 := 1#32
  let arg15 : BitVec 32 := Scf.iv c0_i32_14 c1_i32_15 k0_t4
  let v3505 : Index := Scalar.indexCast arg15
  let c1_1454 : Index := 1#32
  let c40_1455 : Index := 40#32
  let c256_1456 : Index := 256#32
  ![v3504.toNat, v3505.toNat, 1, 40, 256]
def k0_off582 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3513 : Index := Scalar.indexCast v1
  let c0_i32_14 : BitVec 32 := 0#32
  let c1_i32_15 : BitVec 32 := 1#32
  let arg15 : BitVec 32 := Scf.iv c0_i32_14 c1_i32_15 k0_t4
  let v3514 : Index := Scalar.indexCast arg15
  let c2_1458 : Index := 2#32
  let c40_1459 : Index := 40#32
  let c256_1460 : Index := 256#32
  ![v3513.toNat, v3514.toNat, 2, 40, 256]
def k0_off583 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3522 : Index := Scalar.indexCast v1
  let c0_i32_14 : BitVec 32 := 0#32
  let c1_i32_15 : BitVec 32 := 1#32
  let arg15 : BitVec 32 := Scf.iv c0_i32_14 c1_i32_15 k0_t4
  let v3523 : Index := Scalar.indexCast arg15
  let c3_1462 : Index := 3#32
  let c40_1463 : Index := 40#32
  let c256_1464 : Index := 256#32
  ![v3522.toNat, v3523.toNat, 3, 40, 256]
def k0_off584 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3531 : Index := Scalar.indexCast v1
  let c0_i32_14 : BitVec 32 := 0#32
  let c1_i32_15 : BitVec 32 := 1#32
  let arg15 : BitVec 32 := Scf.iv c0_i32_14 c1_i32_15 k0_t4
  let v3532 : Index := Scalar.indexCast arg15
  let c4_1466 : Index := 4#32
  let c40_1467 : Index := 40#32
  let c256_1468 : Index := 256#32
  ![v3531.toNat, v3532.toNat, 4, 40, 256]
def k0_off585 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3543 : Index := Scalar.indexCast v1
  let c0_i32_14 : BitVec 32 := 0#32
  let c1_i32_15 : BitVec 32 := 1#32
  let arg15 : BitVec 32 := Scf.iv c0_i32_14 c1_i32_15 k0_t4
  let v3544 : Index := Scalar.indexCast arg15
  let c1_1470 : Index := 1#32
  let c40_1471 : Index := 40#32
  let c384_1472 : Index := 384#32
  ![v3543.toNat, v3544.toNat, 1, 40, 384]
def k0_off586 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3552 : Index := Scalar.indexCast v1
  let c0_i32_14 : BitVec 32 := 0#32
  let c1_i32_15 : BitVec 32 := 1#32
  let arg15 : BitVec 32 := Scf.iv c0_i32_14 c1_i32_15 k0_t4
  let v3553 : Index := Scalar.indexCast arg15
  let c2_1474 : Index := 2#32
  let c40_1475 : Index := 40#32
  let c384_1476 : Index := 384#32
  ![v3552.toNat, v3553.toNat, 2, 40, 384]
def k0_off587 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3561 : Index := Scalar.indexCast v1
  let c0_i32_14 : BitVec 32 := 0#32
  let c1_i32_15 : BitVec 32 := 1#32
  let arg15 : BitVec 32 := Scf.iv c0_i32_14 c1_i32_15 k0_t4
  let v3562 : Index := Scalar.indexCast arg15
  let c3_1478 : Index := 3#32
  let c40_1479 : Index := 40#32
  let c384_1480 : Index := 384#32
  ![v3561.toNat, v3562.toNat, 3, 40, 384]
def k0_off588 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3570 : Index := Scalar.indexCast v1
  let c0_i32_14 : BitVec 32 := 0#32
  let c1_i32_15 : BitVec 32 := 1#32
  let arg15 : BitVec 32 := Scf.iv c0_i32_14 c1_i32_15 k0_t4
  let v3571 : Index := Scalar.indexCast arg15
  let c4_1482 : Index := 4#32
  let c40_1483 : Index := 40#32
  let c384_1484 : Index := 384#32
  ![v3570.toNat, v3571.toNat, 4, 40, 384]
def k0_off589 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3664 : Index := Scalar.indexCast v1
  let c0_i32_14 : BitVec 32 := 0#32
  let c1_i32_15 : BitVec 32 := 1#32
  let arg15 : BitVec 32 := Scf.iv c0_i32_14 c1_i32_15 k0_t4
  let v3665 : Index := Scalar.indexCast arg15
  let c0_1515 : Index := 0#32
  let c40_1516 : Index := 40#32
  let c0_1517 : Index := 0#32
  ![v3664.toNat, v3665.toNat, 0, 40, 0]
def k0_off590 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3679 : Index := Scalar.indexCast v1
  let c0_i32_14 : BitVec 32 := 0#32
  let c1_i32_15 : BitVec 32 := 1#32
  let arg15 : BitVec 32 := Scf.iv c0_i32_14 c1_i32_15 k0_t4
  let v3680 : Index := Scalar.indexCast arg15
  let c0_1521 : Index := 0#32
  let c40_1522 : Index := 40#32
  let c128_1523 : Index := 128#32
  ![v3679.toNat, v3680.toNat, 0, 40, 128]
def k0_off591 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3694 : Index := Scalar.indexCast v1
  let c0_i32_14 : BitVec 32 := 0#32
  let c1_i32_15 : BitVec 32 := 1#32
  let arg15 : BitVec 32 := Scf.iv c0_i32_14 c1_i32_15 k0_t4
  let v3695 : Index := Scalar.indexCast arg15
  let c0_1527 : Index := 0#32
  let c40_1528 : Index := 40#32
  let c256_1529 : Index := 256#32
  ![v3694.toNat, v3695.toNat, 0, 40, 256]
def k0_off592 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3709 : Index := Scalar.indexCast v1
  let c0_i32_14 : BitVec 32 := 0#32
  let c1_i32_15 : BitVec 32 := 1#32
  let arg15 : BitVec 32 := Scf.iv c0_i32_14 c1_i32_15 k0_t4
  let v3710 : Index := Scalar.indexCast arg15
  let c0_1533 : Index := 0#32
  let c40_1534 : Index := 40#32
  let c384_1535 : Index := 384#32
  ![v3709.toNat, v3710.toNat, 0, 40, 384]
def k0_off593 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3724 : Index := Scalar.indexCast v1
  let c0_i32_14 : BitVec 32 := 0#32
  let c1_i32_15 : BitVec 32 := 1#32
  let arg15 : BitVec 32 := Scf.iv c0_i32_14 c1_i32_15 k0_t4
  let v3725 : Index := Scalar.indexCast arg15
  let c1_1539 : Index := 1#32
  let c40_1540 : Index := 40#32
  let c512_1541 : Index := 512#32
  ![v3724.toNat, v3725.toNat, 1, 40, 512]
def k0_off594 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3733 : Index := Scalar.indexCast v1
  let c0_i32_14 : BitVec 32 := 0#32
  let c1_i32_15 : BitVec 32 := 1#32
  let arg15 : BitVec 32 := Scf.iv c0_i32_14 c1_i32_15 k0_t4
  let v3734 : Index := Scalar.indexCast arg15
  let c2_1543 : Index := 2#32
  let c40_1544 : Index := 40#32
  let c512_1545 : Index := 512#32
  ![v3733.toNat, v3734.toNat, 2, 40, 512]
def k0_off595 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3742 : Index := Scalar.indexCast v1
  let c0_i32_14 : BitVec 32 := 0#32
  let c1_i32_15 : BitVec 32 := 1#32
  let arg15 : BitVec 32 := Scf.iv c0_i32_14 c1_i32_15 k0_t4
  let v3743 : Index := Scalar.indexCast arg15
  let c3_1547 : Index := 3#32
  let c40_1548 : Index := 40#32
  let c512_1549 : Index := 512#32
  ![v3742.toNat, v3743.toNat, 3, 40, 512]
def k0_off596 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3751 : Index := Scalar.indexCast v1
  let c0_i32_14 : BitVec 32 := 0#32
  let c1_i32_15 : BitVec 32 := 1#32
  let arg15 : BitVec 32 := Scf.iv c0_i32_14 c1_i32_15 k0_t4
  let v3752 : Index := Scalar.indexCast arg15
  let c4_1551 : Index := 4#32
  let c40_1552 : Index := 40#32
  let c512_1553 : Index := 512#32
  ![v3751.toNat, v3752.toNat, 4, 40, 512]
def k0_off597 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3763 : Index := Scalar.indexCast v1
  let c0_i32_14 : BitVec 32 := 0#32
  let c1_i32_15 : BitVec 32 := 1#32
  let arg15 : BitVec 32 := Scf.iv c0_i32_14 c1_i32_15 k0_t4
  let v3764 : Index := Scalar.indexCast arg15
  let c1_1555 : Index := 1#32
  let c40_1556 : Index := 40#32
  let c640_1557 : Index := 640#32
  ![v3763.toNat, v3764.toNat, 1, 40, 640]
def k0_off598 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3772 : Index := Scalar.indexCast v1
  let c0_i32_14 : BitVec 32 := 0#32
  let c1_i32_15 : BitVec 32 := 1#32
  let arg15 : BitVec 32 := Scf.iv c0_i32_14 c1_i32_15 k0_t4
  let v3773 : Index := Scalar.indexCast arg15
  let c2_1559 : Index := 2#32
  let c40_1560 : Index := 40#32
  let c640_1561 : Index := 640#32
  ![v3772.toNat, v3773.toNat, 2, 40, 640]
def k0_off599 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3781 : Index := Scalar.indexCast v1
  let c0_i32_14 : BitVec 32 := 0#32
  let c1_i32_15 : BitVec 32 := 1#32
  let arg15 : BitVec 32 := Scf.iv c0_i32_14 c1_i32_15 k0_t4
  let v3782 : Index := Scalar.indexCast arg15
  let c3_1563 : Index := 3#32
  let c40_1564 : Index := 40#32
  let c640_1565 : Index := 640#32
  ![v3781.toNat, v3782.toNat, 3, 40, 640]
def k0_off600 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3790 : Index := Scalar.indexCast v1
  let c0_i32_14 : BitVec 32 := 0#32
  let c1_i32_15 : BitVec 32 := 1#32
  let arg15 : BitVec 32 := Scf.iv c0_i32_14 c1_i32_15 k0_t4
  let v3791 : Index := Scalar.indexCast arg15
  let c4_1567 : Index := 4#32
  let c40_1568 : Index := 40#32
  let c640_1569 : Index := 640#32
  ![v3790.toNat, v3791.toNat, 4, 40, 640]
def k0_off601 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3802 : Index := Scalar.indexCast v1
  let c0_i32_14 : BitVec 32 := 0#32
  let c1_i32_15 : BitVec 32 := 1#32
  let arg15 : BitVec 32 := Scf.iv c0_i32_14 c1_i32_15 k0_t4
  let v3803 : Index := Scalar.indexCast arg15
  let c1_1571 : Index := 1#32
  let c40_1572 : Index := 40#32
  let c768_1573 : Index := 768#32
  ![v3802.toNat, v3803.toNat, 1, 40, 768]
def k0_off602 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3811 : Index := Scalar.indexCast v1
  let c0_i32_14 : BitVec 32 := 0#32
  let c1_i32_15 : BitVec 32 := 1#32
  let arg15 : BitVec 32 := Scf.iv c0_i32_14 c1_i32_15 k0_t4
  let v3812 : Index := Scalar.indexCast arg15
  let c2_1575 : Index := 2#32
  let c40_1576 : Index := 40#32
  let c768_1577 : Index := 768#32
  ![v3811.toNat, v3812.toNat, 2, 40, 768]
def k0_off603 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3820 : Index := Scalar.indexCast v1
  let c0_i32_14 : BitVec 32 := 0#32
  let c1_i32_15 : BitVec 32 := 1#32
  let arg15 : BitVec 32 := Scf.iv c0_i32_14 c1_i32_15 k0_t4
  let v3821 : Index := Scalar.indexCast arg15
  let c3_1579 : Index := 3#32
  let c40_1580 : Index := 40#32
  let c768_1581 : Index := 768#32
  ![v3820.toNat, v3821.toNat, 3, 40, 768]
def k0_off604 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3829 : Index := Scalar.indexCast v1
  let c0_i32_14 : BitVec 32 := 0#32
  let c1_i32_15 : BitVec 32 := 1#32
  let arg15 : BitVec 32 := Scf.iv c0_i32_14 c1_i32_15 k0_t4
  let v3830 : Index := Scalar.indexCast arg15
  let c4_1583 : Index := 4#32
  let c40_1584 : Index := 40#32
  let c768_1585 : Index := 768#32
  ![v3829.toNat, v3830.toNat, 4, 40, 768]
def k0_off605 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3841 : Index := Scalar.indexCast v1
  let c0_i32_14 : BitVec 32 := 0#32
  let c1_i32_15 : BitVec 32 := 1#32
  let arg15 : BitVec 32 := Scf.iv c0_i32_14 c1_i32_15 k0_t4
  let v3842 : Index := Scalar.indexCast arg15
  let c1_1587 : Index := 1#32
  let c40_1588 : Index := 40#32
  let c896_1589 : Index := 896#32
  ![v3841.toNat, v3842.toNat, 1, 40, 896]
def k0_off606 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3850 : Index := Scalar.indexCast v1
  let c0_i32_14 : BitVec 32 := 0#32
  let c1_i32_15 : BitVec 32 := 1#32
  let arg15 : BitVec 32 := Scf.iv c0_i32_14 c1_i32_15 k0_t4
  let v3851 : Index := Scalar.indexCast arg15
  let c2_1591 : Index := 2#32
  let c40_1592 : Index := 40#32
  let c896_1593 : Index := 896#32
  ![v3850.toNat, v3851.toNat, 2, 40, 896]
def k0_off607 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3859 : Index := Scalar.indexCast v1
  let c0_i32_14 : BitVec 32 := 0#32
  let c1_i32_15 : BitVec 32 := 1#32
  let arg15 : BitVec 32 := Scf.iv c0_i32_14 c1_i32_15 k0_t4
  let v3860 : Index := Scalar.indexCast arg15
  let c3_1595 : Index := 3#32
  let c40_1596 : Index := 40#32
  let c896_1597 : Index := 896#32
  ![v3859.toNat, v3860.toNat, 3, 40, 896]
def k0_off608 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3868 : Index := Scalar.indexCast v1
  let c0_i32_14 : BitVec 32 := 0#32
  let c1_i32_15 : BitVec 32 := 1#32
  let arg15 : BitVec 32 := Scf.iv c0_i32_14 c1_i32_15 k0_t4
  let v3869 : Index := Scalar.indexCast arg15
  let c4_1599 : Index := 4#32
  let c40_1600 : Index := 40#32
  let c896_1601 : Index := 896#32
  ![v3868.toNat, v3869.toNat, 4, 40, 896]
def k0_off609 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3962 : Index := Scalar.indexCast v1
  let c0_i32_14 : BitVec 32 := 0#32
  let c1_i32_15 : BitVec 32 := 1#32
  let arg15 : BitVec 32 := Scf.iv c0_i32_14 c1_i32_15 k0_t4
  let v3963 : Index := Scalar.indexCast arg15
  let c0_1632 : Index := 0#32
  let c40_1633 : Index := 40#32
  let c512_1634 : Index := 512#32
  ![v3962.toNat, v3963.toNat, 0, 40, 512]
def k0_off610 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3977 : Index := Scalar.indexCast v1
  let c0_i32_14 : BitVec 32 := 0#32
  let c1_i32_15 : BitVec 32 := 1#32
  let arg15 : BitVec 32 := Scf.iv c0_i32_14 c1_i32_15 k0_t4
  let v3978 : Index := Scalar.indexCast arg15
  let c0_1638 : Index := 0#32
  let c40_1639 : Index := 40#32
  let c640_1640 : Index := 640#32
  ![v3977.toNat, v3978.toNat, 0, 40, 640]
def k0_off611 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v3992 : Index := Scalar.indexCast v1
  let c0_i32_14 : BitVec 32 := 0#32
  let c1_i32_15 : BitVec 32 := 1#32
  let arg15 : BitVec 32 := Scf.iv c0_i32_14 c1_i32_15 k0_t4
  let v3993 : Index := Scalar.indexCast arg15
  let c0_1644 : Index := 0#32
  let c40_1645 : Index := 40#32
  let c768_1646 : Index := 768#32
  ![v3992.toNat, v3993.toNat, 0, 40, 768]
def k0_off612 (i : grid0.Coords) (k0_t4 : Fin k0_t4_loop.trips) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v4007 : Index := Scalar.indexCast v1
  let c0_i32_14 : BitVec 32 := 0#32
  let c1_i32_15 : BitVec 32 := 1#32
  let arg15 : BitVec 32 := Scf.iv c0_i32_14 c1_i32_15 k0_t4
  let v4008 : Index := Scalar.indexCast arg15
  let c0_1650 : Index := 0#32
  let c40_1651 : Index := 40#32
  let c896_1652 : Index := 896#32
  ![v4007.toNat, v4008.toNat, 0, 40, 896]
def k0_off613 (i : grid0.Coords) : Fin 1 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  ![v1.toNat]
def k0_off614 (i : grid0.Coords) : Fin 4 → Nat :=
  let arg0 : BitVec 32 := BitVec.ofNat 32 (i 0).val
  let c1_i32_17 : BitVec 32 := 1#32
  let v28 : BitVec 32 := Scalar.subi arg0 c1_i32_17
  let c20_i32_18 : BitVec 32 := 20#32
  let v29 : BitVec 32 := Scalar.muli v28 c20_i32_18
  let c0_i32_19 : BitVec 32 := 0#32
  let c0_i32_20 : BitVec 32 := 0#32
  let c0_i32_21 : BitVec 32 := 0#32
  ![v29.toNat, 0, 0, 0]
def k0_off615 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_22 : BitVec 32 := 0#32
  let c0_i32_23 : BitVec 32 := 0#32
  let c0_i32_24 : BitVec 32 := 0#32
  let c0_i32_25 : BitVec 32 := 0#32
  ![v1.toNat, 0, 0, 0, 0]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20x48x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20x48x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S48x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S1280x48x2560 : Shape := ⟨3, ![1280, 48, 2560]⟩
abbrev S1280x48 : Shape := ⟨2, ![1280, 48]⟩
abbrev S2560x5120 : Shape := ⟨2, ![2560, 5120]⟩
abbrev S5120 : Shape := ⟨1, ![5120]⟩
abbrev S61440x2560 : Shape := ⟨2, ![61440, 2560]⟩
abbrev S61440x5120 : Shape := ⟨2, ![61440, 5120]⟩
abbrev S1280x48x5120 : Shape := ⟨3, ![1280, 48, 5120]⟩
abbrev S1280x48x1 : Shape := ⟨3, ![1280, 48, 1]⟩
abbrev S1x1x5120 : Shape := ⟨3, ![1, 1, 5120]⟩
abbrev S_ : Shape := ⟨0, ![]⟩
abbrev S1280x48x1024x5 : Shape := ⟨4, ![1280, 48, 1024, 5]⟩
abbrev S1280x48x1024x1 : Shape := ⟨4, ![1280, 48, 1024, 1]⟩
abbrev S1280x48x1024 : Shape := ⟨3, ![1280, 48, 1024]⟩
abbrev S1280x48x1x1024 : Shape := ⟨4, ![1280, 48, 1, 1024]⟩
abbrev S1280x48x1024x4 : Shape := ⟨4, ![1280, 48, 1024, 4]⟩
abbrev S1280x48x2x128x4x4 : Shape := ⟨6, ![1280, 48, 2, 128, 4, 4]⟩
abbrev S1280x48x4x2x4x128 : Shape := ⟨6, ![1280, 48, 4, 2, 4, 128]⟩
abbrev S1280x48x4x1024 : Shape := ⟨4, ![1280, 48, 4, 1024]⟩
abbrev S1280x48x5x1024 : Shape := ⟨4, ![1280, 48, 5, 1024]⟩
abbrev S1280x5x48x1024 : Shape := ⟨4, ![1280, 5, 48, 1024]⟩

abbrev nBuf : Space → Nat
  | .hbm => 32
  | .vmem => 3
  | .smem => 0
  | _ => 0

abbrev bufTy : (tb : Table) → Fin (tcTables nBuf tb) → BufTy
  | .hbm, ⟨0, _⟩ => ⟨S1280x48x2560, .fp8e4m3⟩
  | .hbm, ⟨1, _⟩ => ⟨S1280x48, .f32⟩
  | .hbm, ⟨2, _⟩ => ⟨S2560x5120, .fp8e4m3⟩
  | .hbm, ⟨3, _⟩ => ⟨S5120, .f32⟩
  | .hbm, ⟨4, _⟩ => ⟨S5120, .f32⟩
  | .hbm, ⟨5, _⟩ => ⟨S61440x2560, .fp8e4m3⟩
  | .hbm, ⟨6, _⟩ => ⟨S61440x5120, .f32⟩
  | .hbm, ⟨7, _⟩ => ⟨S1280x48x5120, .f32⟩
  | .hbm, ⟨8, _⟩ => ⟨S1280x48x1, .f32⟩
  | .hbm, ⟨9, _⟩ => ⟨S1280x48x5120, .f32⟩
  | .hbm, ⟨10, _⟩ => ⟨S1280x48x5120, .f32⟩
  | .hbm, ⟨11, _⟩ => ⟨S1x1x5120, .f32⟩
  | .hbm, ⟨12, _⟩ => ⟨S1280x48x5120, .f32⟩
  | .hbm, ⟨13, _⟩ => ⟨S1280x48x5120, .f32⟩
  | .hbm, ⟨14, _⟩ => ⟨S1x1x5120, .f32⟩
  | .hbm, ⟨15, _⟩ => ⟨S1280x48x5120, .f32⟩
  | .hbm, ⟨16, _⟩ => ⟨S1280x48x5120, .f32⟩
  | .hbm, ⟨17, _⟩ => ⟨S1280x48x5120, .f32⟩
  | .hbm, ⟨18, _⟩ => ⟨S_, .f32⟩
  | .hbm, ⟨19, _⟩ => ⟨S1280x48x5120, .f32⟩
  | .hbm, ⟨20, _⟩ => ⟨S1280x48x5120, .f32⟩
  | .hbm, ⟨21, _⟩ => ⟨S1280x48x5120, .bf16⟩
  | .hbm, ⟨22, _⟩ => ⟨S1280x48x1024x5, .bf16⟩
  | .hbm, ⟨23, _⟩ => ⟨S1280x48x1024x1, .bf16⟩
  | .hbm, ⟨24, _⟩ => ⟨S1280x48x1024, .bf16⟩
  | .hbm, ⟨25, _⟩ => ⟨S1280x48x1x1024, .bf16⟩
  | .hbm, ⟨26, _⟩ => ⟨S1280x48x1024x4, .bf16⟩
  | .hbm, ⟨27, _⟩ => ⟨S1280x48x2x128x4x4, .bf16⟩
  | .hbm, ⟨28, _⟩ => ⟨S1280x48x4x2x4x128, .bf16⟩
  | .hbm, ⟨29, _⟩ => ⟨S1280x48x4x1024, .bf16⟩
  | .hbm, ⟨30, _⟩ => ⟨S1280x48x5x1024, .bf16⟩
  | .hbm, ⟨31, _⟩ => ⟨S1280x5x48x1024, .bf16⟩
  | .local _ .vmem, ⟨0, _⟩ => ⟨S61440x2560, .fp8e4m3⟩
  | .local _ .vmem, ⟨1, _⟩ => ⟨S2560x5120, .fp8e4m3⟩
  | .local _ .vmem, ⟨2, _⟩ => ⟨S61440x5120, .f32⟩
  | _, _ => ⟨S1280x48x2560, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S61440x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S61440x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Geo.lean ====
/- Closed forms of the run-time offsets of the forward kernel: the lane block of the running sums, the tile a
   matrix product is stored at, and the chunk of the scores a copy goes to. -/
module

public import proofs.«01_k».proof.Proof.Gen.Kernel

@[expose] public section

set_option maxRecDepth 16384
set_option maxHeartbeats 2000000

noncomputable section

namespace Cert.Kernel.Gen

open Cert.Kernel
open Idealize.ShloMosaic Idealize.ShloMosaic.TcCoe Idealize.ShloMosaic.Tactic

theorem k0_off2_eq : ∀ (i : grid0.Coords), k0_off2 i = ![(20 * (i 0).val + 4294967256) % 4294967296, 0, 0, 0] := by decide +kernel
instance closedOff_k0_off2 (i : grid0.Coords) : ClosedOff (k0_off2 i) := ⟨_, k0_off2_eq i⟩

theorem k0_off5_eq : ∀ (i : grid0.Coords), k0_off5 i = ![(20 * (i 0).val + 4294967276) % 4294967296, 0, 0, 0] := by decide +kernel
instance closedOff_k0_off5 (i : grid0.Coords) : ClosedOff (k0_off5 i) := ⟨_, k0_off5_eq i⟩

theorem k0_off7_eq : ∀ (i : grid0.Coords) (k0_t1 : Fin k0_t1_loop.trips), k0_off7 i k0_t1 = ![0, (20 * (i 0).val + k0_t1.val) / 128 * 128] := by decide +kernel
instance closedOff_k0_off7 (i : grid0.Coords) (k0_t1 : Fin k0_t1_loop.trips) : ClosedOff (k0_off7 i k0_t1) := ⟨_, k0_off7_eq i k0_t1⟩

theorem k0_off9_eq : ∀ (i : grid0.Coords) (k0_t1 : Fin k0_t1_loop.trips), k0_off9 i k0_t1 = ![8, (20 * (i 0).val + k0_t1.val) / 128 * 128] := by decide +kernel
instance closedOff_k0_off9 (i : grid0.Coords) (k0_t1 : Fin k0_t1_loop.trips) : ClosedOff (k0_off9 i k0_t1) := ⟨_, k0_off9_eq i k0_t1⟩

theorem k0_off11_eq : ∀ (i : grid0.Coords) (k0_t1 : Fin k0_t1_loop.trips), k0_off11 i k0_t1 = ![16, (20 * (i 0).val + k0_t1.val) / 128 * 128] := by decide +kernel
instance closedOff_k0_off11 (i : grid0.Coords) (k0_t1 : Fin k0_t1_loop.trips) : ClosedOff (k0_off11 i k0_t1) := ⟨_, k0_off11_eq i k0_t1⟩

theorem k0_off13_eq : ∀ (i : grid0.Coords) (k0_t1 : Fin k0_t1_loop.trips), k0_off13 i k0_t1 = ![24, (20 * (i 0).val + k0_t1.val) / 128 * 128] := by decide +kernel
instance closedOff_k0_off13 (i : grid0.Coords) (k0_t1 : Fin k0_t1_loop.trips) : ClosedOff (k0_off13 i k0_t1) := ⟨_, k0_off13_eq i k0_t1⟩

theorem k0_off15_eq : ∀ (i : grid0.Coords) (k0_t1 : Fin k0_t1_loop.trips), k0_off15 i k0_t1 = ![32, (20 * (i 0).val + k0_t1.val) / 128 * 128] := by decide +kernel
instance closedOff_k0_off15 (i : grid0.Coords) (k0_t1 : Fin k0_t1_loop.trips) : ClosedOff (k0_off15 i k0_t1) := ⟨_, k0_off15_eq i k0_t1⟩

theorem k0_off17_eq : ∀ (i : grid0.Coords) (k0_t1 : Fin k0_t1_loop.trips), k0_off17 i k0_t1 = ![40, (20 * (i 0).val + k0_t1.val) / 128 * 128] := by decide +kernel
instance closedOff_k0_off17 (i : grid0.Coords) (k0_t1 : Fin k0_t1_loop.trips) : ClosedOff (k0_off17 i k0_t1) := ⟨_, k0_off17_eq i k0_t1⟩

theorem k0_off21_eq : ∀ (i : grid0.Coords) (k0_t2 : Fin k0_t2_loop.trips), k0_off21 i k0_t2 = ![(i 0).val % 2, 0, k0_t2.val / 4, 0, k0_t2.val % 4 * 256] := by decide +kernel
instance closedOff_k0_off21 (i : grid0.Coords) (k0_t2 : Fin k0_t2_loop.trips) : ClosedOff (k0_off21 i k0_t2) := ⟨_, k0_off21_eq i k0_t2⟩

theorem k0_off24_eq : ∀ (i : grid0.Coords) (k0_t3 : Fin k0_t3_loop.trips), k0_off24 i k0_t3 = ![(i 0).val % 2, 0, k0_t3.val / 4, 0, k0_t3.val % 4 * 256] := by decide +kernel
instance closedOff_k0_off24 (i : grid0.Coords) (k0_t3 : Fin k0_t3_loop.trips) : ClosedOff (k0_off24 i k0_t3) := ⟨_, k0_off24_eq i k0_t3⟩

theorem k0_off33_eq : ∀ (i : grid0.Coords) (k0_t3 : Fin k0_t3_loop.trips), k0_off33 i k0_t3 = ![0, (20 * (i 0).val + k0_t3.val + 549755813868) / 128 * 128 % 4294967296] := by decide +kernel
instance closedOff_k0_off33 (i : grid0.Coords) (k0_t3 : Fin k0_t3_loop.trips) : ClosedOff (k0_off33 i k0_t3) := ⟨_, k0_off33_eq i k0_t3⟩

theorem k0_off82_eq : ∀ (i : grid0.Coords) (k0_t3 : Fin k0_t3_loop.trips), k0_off82 i k0_t3 = ![8, (20 * (i 0).val + k0_t3.val + 549755813868) / 128 * 128 % 4294967296] := by decide +kernel
instance closedOff_k0_off82 (i : grid0.Coords) (k0_t3 : Fin k0_t3_loop.trips) : ClosedOff (k0_off82 i k0_t3) := ⟨_, k0_off82_eq i k0_t3⟩

theorem k0_off131_eq : ∀ (i : grid0.Coords) (k0_t3 : Fin k0_t3_loop.trips), k0_off131 i k0_t3 = ![16, (20 * (i 0).val + k0_t3.val + 549755813868) / 128 * 128 % 4294967296] := by decide +kernel
instance closedOff_k0_off131 (i : grid0.Coords) (k0_t3 : Fin k0_t3_loop.trips) : ClosedOff (k0_off131 i k0_t3) := ⟨_, k0_off131_eq i k0_t3⟩

theorem k0_off180_eq : ∀ (i : grid0.Coords) (k0_t3 : Fin k0_t3_loop.trips), k0_off180 i k0_t3 = ![24, (20 * (i 0).val + k0_t3.val + 549755813868) / 128 * 128 % 4294967296] := by decide +kernel
instance closedOff_k0_off180 (i : grid0.Coords) (k0_t3 : Fin k0_t3_loop.trips) : ClosedOff (k0_off180 i k0_t3) := ⟨_, k0_off180_eq i k0_t3⟩

theorem k0_off229_eq : ∀ (i : grid0.Coords) (k0_t3 : Fin k0_t3_loop.trips), k0_off229 i k0_t3 = ![32, (20 * (i 0).val + k0_t3.val + 549755813868) / 128 * 128 % 4294967296] := by decide +kernel
instance closedOff_k0_off229 (i : grid0.Coords) (k0_t3 : Fin k0_t3_loop.trips) : ClosedOff (k0_off229 i k0_t3) := ⟨_, k0_off229_eq i k0_t3⟩

theorem k0_off278_eq : ∀ (i : grid0.Coords) (k0_t3 : Fin k0_t3_loop.trips), k0_off278 i k0_t3 = ![40, (20 * (i 0).val + k0_t3.val + 549755813868) / 128 * 128 % 4294967296] := by decide +kernel
instance closedOff_k0_off278 (i : grid0.Coords) (k0_t3 : Fin k0_t3_loop.trips) : ClosedOff (k0_off278 i k0_t3) := ⟨_, k0_off278_eq i k0_t3⟩

theorem k0_off327_eq : ∀ (i : grid0.Coords) (k0_t4 : Fin k0_t4_loop.trips), k0_off327 i k0_t4 = ![0, (20 * (i 0).val + k0_t4.val + 549755813868) / 128 * 128 % 4294967296] := by decide +kernel
instance closedOff_k0_off327 (i : grid0.Coords) (k0_t4 : Fin k0_t4_loop.trips) : ClosedOff (k0_off327 i k0_t4) := ⟨_, k0_off327_eq i k0_t4⟩

theorem k0_off376_eq : ∀ (i : grid0.Coords) (k0_t4 : Fin k0_t4_loop.trips), k0_off376 i k0_t4 = ![8, (20 * (i 0).val + k0_t4.val + 549755813868) / 128 * 128 % 4294967296] := by decide +kernel
instance closedOff_k0_off376 (i : grid0.Coords) (k0_t4 : Fin k0_t4_loop.trips) : ClosedOff (k0_off376 i k0_t4) := ⟨_, k0_off376_eq i k0_t4⟩

theorem k0_off425_eq : ∀ (i : grid0.Coords) (k0_t4 : Fin k0_t4_loop.trips), k0_off425 i k0_t4 = ![16, (20 * (i 0).val + k0_t4.val + 549755813868) / 128 * 128 % 4294967296] := by decide +kernel
instance closedOff_k0_off425 (i : grid0.Coords) (k0_t4 : Fin k0_t4_loop.trips) : ClosedOff (k0_off425 i k0_t4) := ⟨_, k0_off425_eq i k0_t4⟩

theorem k0_off474_eq : ∀ (i : grid0.Coords) (k0_t4 : Fin k0_t4_loop.trips), k0_off474 i k0_t4 = ![24, (20 * (i 0).val + k0_t4.val + 549755813868) / 128 * 128 % 4294967296] := by decide +kernel
instance closedOff_k0_off474 (i : grid0.Coords) (k0_t4 : Fin k0_t4_loop.trips) : ClosedOff (k0_off474 i k0_t4) := ⟨_, k0_off474_eq i k0_t4⟩

theorem k0_off523_eq : ∀ (i : grid0.Coords) (k0_t4 : Fin k0_t4_loop.trips), k0_off523 i k0_t4 = ![32, (20 * (i 0).val + k0_t4.val + 549755813868) / 128 * 128 % 4294967296] := by decide +kernel
instance closedOff_k0_off523 (i : grid0.Coords) (k0_t4 : Fin k0_t4_loop.trips) : ClosedOff (k0_off523 i k0_t4) := ⟨_, k0_off523_eq i k0_t4⟩

theorem k0_off572_eq : ∀ (i : grid0.Coords) (k0_t4 : Fin k0_t4_loop.trips), k0_off572 i k0_t4 = ![40, (20 * (i 0).val + k0_t4.val + 549755813868) / 128 * 128 % 4294967296] := by decide +kernel
instance closedOff_k0_off572 (i : grid0.Coords) (k0_t4 : Fin k0_t4_loop.trips) : ClosedOff (k0_off572 i k0_t4) := ⟨_, k0_off572_eq i k0_t4⟩

theorem k0_off614_eq : ∀ (i : grid0.Coords), k0_off614 i = ![(20 * (i 0).val + 4294967276) % 4294967296, 0, 0, 0] := by decide +kernel
instance closedOff_k0_off614 (i : grid0.Coords) : ClosedOff (k0_off614 i) := ⟨_, k0_off614_eq i⟩

end Cert.Kernel.Gen

end
-- ==== Proof.T1.lean ====
/- One trip of the loop that spreads the row scales over the lanes, at an algebra with transfers. -/
module

public import proofs.«01_k».proof.Proof.Geo
public import proofs.«01_k».proof.Proof.Gen.Kernel.Loops
public import proofs.«01_k».proof.Proof.Gen.Kernel.Skeleton
public import Idealize.ShloMosaic.Lib.Pipeline.FrameValue

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

@[irreducible] def trip1 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (k0_h4 : k0_cond4 i = 1#1) (X_arg2 : BufTy.Contents (Elt F) arg2.view.ty)  (k : Fin k0_t1_loop.trips) :
    { L : List (View.Piece (Elt F) S20x48x128 .f32) // ∀ (E : Set ℕ) (f_arg11 : BufTy.Contents (Elt F) arg11.view.ty),
      (iprop((arg2.view.loc (c : Thread nD τ) ↦[arg2.view.set]{fullShare} X_arg2) ∗ (arg11.view.loc (c : Thread nD τ) ↦[arg11.view.set]{fullShare} f_arg11)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 arg0 k0_h4 k PUnit.unit)
          (fun _ => (iprop((arg2.view.loc (c : Thread nD τ) ↦[arg2.view.set]{fullShare} X_arg2) ∗ (arg11.view.loc (c : Thread nD τ) ↦[arg11.view.set]{fullShare} (arg11.view.writes (Elt F) f_arg11 L))) : sProp 𝕄G)) } := by
  have hk : k.val < 20 := Nat.lt_of_lt_of_le k.isLt k0_t1_abs.2.1
  refine ⟨?_, fun E f_arg11 => ?run⟩
  case run =>
    skip
    unfold k0_t1_body
    iintro ⟨HR_arg2, HW_arg11⟩
    sl_exec_parts
    sl_step
    sl_close

end Cert.Kernel.Hand

end
-- ==== Proof.T2.lean ====
/- One trip of the loop that computes a tile of scores, at an algebra with transfers. -/
module

public import proofs.«01_k».proof.Proof.Geo
public import proofs.«01_k».proof.Proof.Gen.Kernel.Loops
public import proofs.«01_k».proof.Proof.Gen.Kernel.Skeleton
public import Idealize.ShloMosaic.Lib.Pipeline.FrameValue

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

def trip2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (k0_h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  (k : Fin k0_t2_loop.trips) :
    { L : List (View.Piece (Elt F) S2x20x5x48x1024 .bf16) // ∀ (E : Set ℕ) (f_arg12 : BufTy.Contents (Elt F) arg12.view.ty),
      (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} f_arg12)) : sProp 𝕄G)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 k0_h5 k PUnit.unit)
          (fun _ => (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} (arg12.view.writes (Elt F) f_arg12 L))) : sProp 𝕄G)) } := by
  have hk : k.val < 20 := Nat.lt_of_lt_of_le k.isLt k0_t2_abs.2.1
  refine ⟨?_, fun E f_arg12 => ?run⟩
  case run =>
    skip
    unfold k0_t2_body
    iintro ⟨HR_arg3, HR_arg4, HR_arg5, HR_arg10, HR_arg11, HW_arg12⟩
    sl_exec
    sl_step
    sl_close

end Cert.Kernel.Hand

end
-- ==== Proof.T3.lean ====
/- One trip of the loop that computes a tile of scores and takes a step of the recursion, at an algebra with transfers. -/
module

public import proofs.«01_k».proof.Proof.Geo
public import proofs.«01_k».proof.Proof.Gen.Kernel.Loops
public import proofs.«01_k».proof.Proof.Gen.Kernel.Skeleton
public import Idealize.ShloMosaic.Lib.Pipeline.FrameValue

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- A resource set aside: held, and not read by the run. -/
@[irreducible] def Aside (P : sProp 𝕄G) : sProp 𝕄G := P
theorem aside_in (P : sProp 𝕄G) : P ⊢ Aside (F := F) P := by unfold Aside; exact .rfl
theorem aside_out (P : sProp 𝕄G) : Aside (F := F) P ⊢ P := by unfold Aside; exact .rfl

theorem slotC_in : ∀ i : grid0.Coords, ∀ a, (k0_off3 i) a + S1x20x5x48x1024.size a ≤ S2x20x5x48x1024.size a := by decide +kernel
theorem slotP_in : ∀ i : grid0.Coords, ∀ a, (k0_off6 i) a + S1x20x5x48x1024.size a ≤ S2x20x5x48x1024.size a := by decide +kernel

/-- The slot of scores point `i` writes. -/
abbrev slotC (i : grid0.Coords) : Rect S2x20x5x48x1024 := Rect.unit (s := S2x20x5x48x1024) (k0_off3 i) S1x20x5x48x1024.size (slotC_in i)
/-- The slot of scores the recursion reads at point `i`. -/
abbrev slotP (i : grid0.Coords) : Rect S2x20x5x48x1024 := Rect.unit (s := S2x20x5x48x1024) (k0_off6 i) S1x20x5x48x1024.size (slotP_in i)

@[irreducible] def trip3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v0 : BitVec 32) (v1 : BitVec 32) (k0_h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty) (k : Fin k0_t3_loop.trips) :
    { L : List (View.Piece (Elt F) S2x20x5x48x1024 .bf16) × List (View.Piece (Elt F) S20x48x1024 .f32) × List (View.Piece (Elt F) S48x1280 .f32) × List (View.Piece (Elt F) S48x1024 .f32) // ∀ (E : Set ℕ) (f_arg12 : BufTy.Contents (Elt F) arg12.view.ty) (f_arg7 : BufTy.Contents (Elt F) arg7.view.ty),
      (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.setOn (slotC i).set]{fullShare} f_arg12) ∗ (arg7.view.loc (c : Thread nD τ) ↦[arg7.view.set]{fullShare} f_arg7) ∗ (arg9.view.loc (c : Thread nD τ) ↦[arg9.view.set]{fullShare} G_arg9) ∗ (arg13.view.loc (c : Thread nD τ) ↦[arg13.view.set]{fullShare} G_arg13) ∗ (arg12.view.loc (c : Thread nD τ) ↦[arg12.view.setOn (slotP i).set]{q} X_arg12)) : sProp 𝕄G)
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 k PUnit.unit)
          (fun _ => (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.setOn (slotC i).set]{fullShare} (arg12.view.writes (Elt F) f_arg12 L.1)) ∗ (arg7.view.loc (c : Thread nD τ) ↦[arg7.view.set]{fullShare} (arg7.view.writes (Elt F) f_arg7 L.2.1)) ∗ (arg9.view.loc (c : Thread nD τ) ↦[arg9.view.set]{fullShare} (arg9.view.writes (Elt F) G_arg9 L.2.2.1)) ∗ (arg13.view.loc (c : Thread nD τ) ↦[arg13.view.set]{fullShare} (arg13.view.writes (Elt F) G_arg13 L.2.2.2)) ∗ (arg12.view.loc (c : Thread nD τ) ↦[arg12.view.setOn (slotP i).set]{q} X_arg12)) : sProp 𝕄G)) } := by
  have hk : k.val < 20 := Nat.lt_of_lt_of_le k.isLt k0_t3_abs.2.1
  refine ⟨(?_, ?_, ?_, ?_), fun E f_arg12 f_arg7 => ?run⟩
  case run =>
    skip
    unfold k0_t3_body
    iintro ⟨HR_arg3, HR_arg4, HR_arg5, HR_arg10, HR_arg11, HW_arg12, HW_arg7, HW_arg9, HW_arg13, HX⟩
    sl_exec_parts
    ihave HW_arg12 := aside_in _ $$ HW_arg12
    sl_exec_parts
    ihave HW_arg12 := aside_out _ $$ HW_arg12
    sl_step
    sl_close

end Cert.Kernel.Hand

end
-- ==== Proof.T4.lean ====
/- One trip of the loop that takes a step of the recursion on the last grid point, at an algebra with transfers. -/
module

public import proofs.«01_k».proof.Proof.Geo
public import proofs.«01_k».proof.Proof.Gen.Kernel.Loops
public import proofs.«01_k».proof.Proof.Gen.Kernel.Skeleton
public import Idealize.ShloMosaic.Lib.Pipeline.FrameValue

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

@[irreducible] def trip4 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v1 : BitVec 32) (k0_h7 : k0_cond7 i = 1#1)  (G_arg9 : BufTy.Contents (Elt F) arg9.view.ty) (G_arg13 : BufTy.Contents (Elt F) arg13.view.ty) (q : PosShare TreeShare) (X_arg12 : BufTy.Contents (Elt F) arg12.view.ty) (k : Fin k0_t4_loop.trips) :
    { L : List (View.Piece (Elt F) S20x48x1024 .f32) × List (View.Piece (Elt F) S48x1280 .f32) × List (View.Piece (Elt F) S48x1024 .f32) // ∀ (E : Set ℕ) (f_arg7 : BufTy.Contents (Elt F) arg7.view.ty),
      (iprop((arg7.view.loc (c : Thread nD τ) ↦[arg7.view.set]{fullShare} f_arg7) ∗ (arg9.view.loc (c : Thread nD τ) ↦[arg9.view.set]{fullShare} G_arg9) ∗ (arg13.view.loc (c : Thread nD τ) ↦[arg13.view.set]{fullShare} G_arg13) ∗ (arg12.view.loc (c : Thread nD τ) ↦[arg12.view.set]{q} X_arg12)) : sProp 𝕄G)
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 arg0 v1 k0_h7 k PUnit.unit)
          (fun _ => (iprop((arg7.view.loc (c : Thread nD τ) ↦[arg7.view.set]{fullShare} (arg7.view.writes (Elt F) f_arg7 L.1)) ∗ (arg9.view.loc (c : Thread nD τ) ↦[arg9.view.set]{fullShare} (arg9.view.writes (Elt F) G_arg9 L.2.1)) ∗ (arg13.view.loc (c : Thread nD τ) ↦[arg13.view.set]{fullShare} (arg13.view.writes (Elt F) G_arg13 L.2.2)) ∗ (arg12.view.loc (c : Thread nD τ) ↦[arg12.view.set]{q} X_arg12)) : sProp 𝕄G)) } := by
  have hk : k.val < 20 := Nat.lt_of_lt_of_le k.isLt k0_t4_abs.2.1
  refine ⟨(?_, ?_, ?_), fun E f_arg7 => ?run⟩
  case run =>
    skip
    unfold k0_t4_body
    iintro ⟨HW_arg7, HW_arg9, HW_arg13, HX⟩
    sl_exec_parts
    sl_step
    sl_close

end Cert.Kernel.Hand

end
-- ==== Proof.LI.lean ====
/- The four counted loops by their invariants, at an algebra with transfers. -/
module

public import proofs.«01_k».proof.Proof.T1
public import proofs.«01_k».proof.Proof.T2
public import proofs.«01_k».proof.Proof.T3
public import proofs.«01_k».proof.Proof.T4

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- What trip `k` of the loop that spreads the row scales over the lanes adds to the state `s` of the trips before it. -/
def step1 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (k0_h4 : k0_cond4 i = 1#1) (X_arg2 : BufTy.Contents (Elt F) arg2.view.ty) (k : ℕ) (s : List (View.Piece (Elt F) S20x48x128 .f32)) : List (View.Piece (Elt F) S20x48x128 .f32) :=
  if h : k < k0_t1_loop.trips then
    let L := (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  ⟨k, h⟩).1
    (L ++ s)
  else s

/-- The state before trip `k` of the loop that spreads the row scales over the lanes: the pieces written so far (last first). -/
def st1 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (k0_h4 : k0_cond4 i = 1#1) (X_arg2 : BufTy.Contents (Elt F) arg2.view.ty)  : ℕ → List (View.Piece (Elt F) S20x48x128 .f32)
  | 0 => []
  | k + 1 => step1 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2 k (st1 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k)

theorem st1_succ (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (k0_h4 : k0_cond4 i = 1#1) (X_arg2 : BufTy.Contents (Elt F) arg2.view.ty)  (k : Fin k0_t1_loop.trips) (s : List (View.Piece (Elt F) S20x48x128 .f32)) (hs : s = st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k.val) (L) (hL : L = (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k).1) :
    st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  (k.val + 1) = (L ++ s) := by
  subst hL; subst hs
  show step1 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2 k.val (st1 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k.val) = _
  unfold step1; rw [dif_pos k.isLt]

set_option warn.classDefReducibility false in
/-- The loop by its invariant: the loop that spreads the row scales over the lanes. -/
@[sl_loop] def loopInv_t1 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (k0_h4 : k0_cond4 i = 1#1) (X_arg2 : BufTy.Contents (Elt F) arg2.view.ty)  (E : Set ℕ) (G_arg11 : BufTy.Contents (Elt F) arg11.view.ty) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 arg0 k0_h4 where
  inv := fun k _ => iprop((arg2.view.loc (c : Thread nD τ) ↦[arg2.view.set]{fullShare} X_arg2) ∗ (∃ f, (arg11.view.loc (c : Thread nD τ) ↦[arg11.view.set]{fullShare} f) ∗ ⌜f = arg11.view.writes (Elt F) G_arg11 (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k)⌝))
  step k acc := by
    iintro ⟨HR_arg2, ⟨%f_arg11, HW_arg11, %h_arg11⟩⟩
    iapply (wp_wand_r Idealize.ShloMosaic.frame (wpE (defs₀ (F := F)) 𝒱 (c : Thread nD τ) bd) E)
    isplitl [HR_arg2 HW_arg11]
    · iapply ((trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k).2 E f_arg11)
      isplitl [HR_arg2]; · iexact HR_arg2
      iexact HW_arg11
    · iintro %_ ⟨HR_arg2, HW_arg11⟩
      have hst := st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k
      isplitl [HR_arg2]; · iexact HR_arg2
      iexists _; isplitl [HW_arg11]; · iexact HW_arg11
      ipureintro; rw [hst _ rfl _ rfl]; rw [h_arg11, ← View.writes_append]

/-- What trip `k` of the loop that computes the first tiles of scores adds to the state `s` of the trips before it. -/
def step2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (k0_h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (k : ℕ) (s : List (View.Piece (Elt F) S2x20x5x48x1024 .bf16)) : List (View.Piece (Elt F) S2x20x5x48x1024 .bf16) :=
  if h : k < k0_t2_loop.trips then
    let L := (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  ⟨k, h⟩).1
    (L ++ s)
  else s

/-- The state before trip `k` of the loop that computes the first tiles of scores: the pieces written so far (last first). -/
def st2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (k0_h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  : ℕ → List (View.Piece (Elt F) S2x20x5x48x1024 .bf16)
  | 0 => []
  | k + 1 => step2 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11 k (st2 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k)

theorem st2_succ (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (k0_h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  (k : Fin k0_t2_loop.trips) (s : List (View.Piece (Elt F) S2x20x5x48x1024 .bf16)) (hs : s = st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k.val) (L) (hL : L = (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k).1) :
    st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  (k.val + 1) = (L ++ s) := by
  subst hL; subst hs
  show step2 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11 k.val (st2 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k.val) = _
  unfold step2; rw [dif_pos k.isLt]

set_option warn.classDefReducibility false in
/-- The loop by its invariant: the loop that computes the first tiles of scores. -/
@[sl_loop] def loopInv_t2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (k0_h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  (E : Set ℕ) (G_arg12 : BufTy.Contents (Elt F) arg12.view.ty) :
    LoopInvTy_k0_t2 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 k0_h5 where
  inv := fun k _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg10.view.loc (c : Thread nD τ) ↦[arg10.view.set]{fullShare} X_arg10) ∗ (arg11.view.loc (c : Thread nD τ) ↦[arg11.view.set]{fullShare} X_arg11) ∗ (∃ f, (arg12.view.loc (c : Thread nD τ) ↦[arg12.view.set]{fullShare} f) ∗ ⌜f = arg12.view.writes (Elt F) G_arg12 (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k)⌝))
  step k acc := by
    iintro ⟨HR_arg3, HR_arg4, HR_arg5, HR_arg10, HR_arg11, ⟨%f_arg12, HW_arg12, %h_arg12⟩⟩
    iapply (wp_wand_r Idealize.ShloMosaic.frame (wpE (defs₀ (F := F)) 𝒱 (c : Thread nD τ) bd) E)
    isplitl [HR_arg3 HR_arg4 HR_arg5 HR_arg10 HR_arg11 HW_arg12]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k).2 E f_arg12)
      isplitl [HR_arg3]; · iexact HR_arg3
      isplitl [HR_arg4]; · iexact HR_arg4
      isplitl [HR_arg5]; · iexact HR_arg5
      isplitl [HR_arg10]; · iexact HR_arg10
      isplitl [HR_arg11]; · iexact HR_arg11
      iexact HW_arg12
    · iintro %_ ⟨HR_arg3, HR_arg4, HR_arg5, HR_arg10, HR_arg11, HW_arg12⟩
      have hst := st2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k
      isplitl [HR_arg3]; · iexact HR_arg3
      isplitl [HR_arg4]; · iexact HR_arg4
      isplitl [HR_arg5]; · iexact HR_arg5
      isplitl [HR_arg10]; · iexact HR_arg10
      isplitl [HR_arg11]; · iexact HR_arg11
      iexists _; isplitl [HW_arg12]; · iexact HW_arg12
      ipureintro; rw [hst _ rfl _ rfl]; rw [h_arg12, ← View.writes_append]

/-- What trip `k` of the loop that computes tiles of scores and steps the recursion adds to the state `s` of the trips before it. -/
def step3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v0 : BitVec 32) (v1 : BitVec 32) (k0_h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (q : PosShare TreeShare) (X_arg12 : BufTy.Contents (Elt F) arg12.view.ty) (k : ℕ) (s : List (View.Piece (Elt F) S2x20x5x48x1024 .bf16) × List (View.Piece (Elt F) S20x48x1024 .f32) × BufTy.Contents (Elt F) arg9.view.ty × BufTy.Contents (Elt F) arg13.view.ty) : List (View.Piece (Elt F) S2x20x5x48x1024 .bf16) × List (View.Piece (Elt F) S20x48x1024 .f32) × BufTy.Contents (Elt F) arg9.view.ty × BufTy.Contents (Elt F) arg13.view.ty :=
  if h : k < k0_t3_loop.trips then
    let L := (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 s.2.2.1 s.2.2.2 q X_arg12 ⟨k, h⟩).1
    ((L.1 ++ s.1), (L.2.1 ++ s.2.1), (arg9.view.writes (Elt F) s.2.2.1 L.2.2.1), (arg13.view.writes (Elt F) s.2.2.2 L.2.2.2))
  else s

/-- The state before trip `k` of the loop that computes tiles of scores and steps the recursion: the pieces written so far (last first), and the contents of the buffers it reads back. -/
def st3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v0 : BitVec 32) (v1 : BitVec 32) (k0_h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty) : ℕ → List (View.Piece (Elt F) S2x20x5x48x1024 .bf16) × List (View.Piece (Elt F) S20x48x1024 .f32) × BufTy.Contents (Elt F) arg9.view.ty × BufTy.Contents (Elt F) arg13.view.ty
  | 0 => ([], [], G_arg9, G_arg13)
  | k + 1 => step3 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 q X_arg12 k (st3 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k)

theorem st3_succ (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v0 : BitVec 32) (v1 : BitVec 32) (k0_h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty) (k : Fin k0_t3_loop.trips) (s : List (View.Piece (Elt F) S2x20x5x48x1024 .bf16) × List (View.Piece (Elt F) S20x48x1024 .f32) × BufTy.Contents (Elt F) arg9.view.ty × BufTy.Contents (Elt F) arg13.view.ty) (hs : s = st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k.val) (L) (hL : L = (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 s.2.2.1 s.2.2.2 q X_arg12 k).1) :
    st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 (k.val + 1) = ((L.1 ++ s.1), (L.2.1 ++ s.2.1), (arg9.view.writes (Elt F) s.2.2.1 L.2.2.1), (arg13.view.writes (Elt F) s.2.2.2 L.2.2.2)) := by
  subst hL; subst hs
  show step3 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 q X_arg12 k.val (st3 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k.val) = _
  unfold step3; rw [dif_pos k.isLt]

set_option warn.classDefReducibility false in
/-- The loop by its invariant: the loop that computes tiles of scores and steps the recursion. -/
@[sl_loop] def loopInv_t3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v0 : BitVec 32) (v1 : BitVec 32) (k0_h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (E : Set ℕ) (G_arg12 : BufTy.Contents (Elt F) arg12.view.ty) (G_arg7 : BufTy.Contents (Elt F) arg7.view.ty) (q : PosShare TreeShare) (X_arg12 : BufTy.Contents (Elt F) arg12.view.ty) :
    LoopInvTy_k0_t3 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 where
  inv := fun k _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg10.view.loc (c : Thread nD τ) ↦[arg10.view.set]{fullShare} X_arg10) ∗ (arg11.view.loc (c : Thread nD τ) ↦[arg11.view.set]{fullShare} X_arg11) ∗ (∃ f, (arg12.view.loc (c : Thread nD τ) ↦[arg12.view.setOn (slotC i).set]{fullShare} f) ∗ ⌜f = arg12.view.writes (Elt F) G_arg12 (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k).1⌝) ∗ (∃ f, (arg7.view.loc (c : Thread nD τ) ↦[arg7.view.set]{fullShare} f) ∗ ⌜f = arg7.view.writes (Elt F) G_arg7 (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k).2.1⌝) ∗ (∃ f, (arg9.view.loc (c : Thread nD τ) ↦[arg9.view.set]{fullShare} f) ∗ ⌜f = (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k).2.2.1⌝) ∗ (∃ f, (arg13.view.loc (c : Thread nD τ) ↦[arg13.view.set]{fullShare} f) ∗ ⌜f = (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k).2.2.2⌝) ∗ (arg12.view.loc (c : Thread nD τ) ↦[arg12.view.setOn (slotP i).set]{q} X_arg12))
  step k acc := by
    iintro ⟨HR_arg3, HR_arg4, HR_arg5, HR_arg10, HR_arg11, ⟨%f_arg12, HW_arg12, %h_arg12⟩, ⟨%f_arg7, HW_arg7, %h_arg7⟩, ⟨%f_arg9, HW_arg9, %h_arg9⟩, ⟨%f_arg13, HW_arg13, %h_arg13⟩, HX⟩
    iapply (wp_wand_r Idealize.ShloMosaic.frame (wpE (defs₀ (F := F)) 𝒱 (c : Thread nD τ) bd) E)
    isplitl [HR_arg3 HR_arg4 HR_arg5 HR_arg10 HR_arg11 HW_arg12 HW_arg7 HW_arg9 HW_arg13 HX]
    · iapply ((trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 f_arg9 f_arg13 q X_arg12 k).2 E f_arg12 f_arg7)
      isplitl [HR_arg3]; · iexact HR_arg3
      isplitl [HR_arg4]; · iexact HR_arg4
      isplitl [HR_arg5]; · iexact HR_arg5
      isplitl [HR_arg10]; · iexact HR_arg10
      isplitl [HR_arg11]; · iexact HR_arg11
      isplitl [HW_arg12]; · iexact HW_arg12
      isplitl [HW_arg7]; · iexact HW_arg7
      isplitl [HW_arg9]; · iexact HW_arg9
      isplitl [HW_arg13]; · iexact HW_arg13
      iexact HX
    · iintro %_ ⟨HR_arg3, HR_arg4, HR_arg5, HR_arg10, HR_arg11, HW_arg12, HW_arg7, HW_arg9, HW_arg13, HX⟩
      have hst := st3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k
      isplitl [HR_arg3]; · iexact HR_arg3
      isplitl [HR_arg4]; · iexact HR_arg4
      isplitl [HR_arg5]; · iexact HR_arg5
      isplitl [HR_arg10]; · iexact HR_arg10
      isplitl [HR_arg11]; · iexact HR_arg11
      subst h_arg9 h_arg13
      isplitl [HW_arg12]
      · iexists _; isplitl [HW_arg12]; · iexact HW_arg12
        ipureintro; rw [hst _ rfl _ rfl]; rw [h_arg12, ← View.writes_append]
      isplitl [HW_arg7]
      · iexists _; isplitl [HW_arg7]; · iexact HW_arg7
        ipureintro; rw [hst _ rfl _ rfl]; rw [h_arg7, ← View.writes_append]
      isplitl [HW_arg9]
      · iexists _; isplitl [HW_arg9]; · iexact HW_arg9
        ipureintro; rw [hst _ rfl _ rfl]
      isplitl [HW_arg13]
      · iexists _; isplitl [HW_arg13]; · iexact HW_arg13
        ipureintro; rw [hst _ rfl _ rfl]
      iexact HX

/-- What trip `k` of the loop that steps the recursion on the last grid point adds to the state `s` of the trips before it. -/
def step4 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v1 : BitVec 32) (k0_h7 : k0_cond7 i = 1#1)  (q : PosShare TreeShare) (X_arg12 : BufTy.Contents (Elt F) arg12.view.ty) (k : ℕ) (s : List (View.Piece (Elt F) S20x48x1024 .f32) × BufTy.Contents (Elt F) arg9.view.ty × BufTy.Contents (Elt F) arg13.view.ty) : List (View.Piece (Elt F) S20x48x1024 .f32) × BufTy.Contents (Elt F) arg9.view.ty × BufTy.Contents (Elt F) arg13.view.ty :=
  if h : k < k0_t4_loop.trips then
    let L := (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  s.2.1 s.2.2 q X_arg12 ⟨k, h⟩).1
    ((L.1 ++ s.1), (arg9.view.writes (Elt F) s.2.1 L.2.1), (arg13.view.writes (Elt F) s.2.2 L.2.2))
  else s

/-- The state before trip `k` of the loop that steps the recursion on the last grid point: the pieces written so far (last first), and the contents of the buffers it reads back. -/
def st4 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v1 : BitVec 32) (k0_h7 : k0_cond7 i = 1#1)  (G_arg9 : BufTy.Contents (Elt F) arg9.view.ty) (G_arg13 : BufTy.Contents (Elt F) arg13.view.ty) (q : PosShare TreeShare) (X_arg12 : BufTy.Contents (Elt F) arg12.view.ty) : ℕ → List (View.Piece (Elt F) S20x48x1024 .f32) × BufTy.Contents (Elt F) arg9.view.ty × BufTy.Contents (Elt F) arg13.view.ty
  | 0 => ([], G_arg9, G_arg13)
  | k + 1 => step4 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  q X_arg12 k (st4 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k)

theorem st4_succ (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v1 : BitVec 32) (k0_h7 : k0_cond7 i = 1#1)  (G_arg9 : BufTy.Contents (Elt F) arg9.view.ty) (G_arg13 : BufTy.Contents (Elt F) arg13.view.ty) (q : PosShare TreeShare) (X_arg12 : BufTy.Contents (Elt F) arg12.view.ty) (k : Fin k0_t4_loop.trips) (s : List (View.Piece (Elt F) S20x48x1024 .f32) × BufTy.Contents (Elt F) arg9.view.ty × BufTy.Contents (Elt F) arg13.view.ty) (hs : s = st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k.val) (L) (hL : L = (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  s.2.1 s.2.2 q X_arg12 k).1) :
    st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 (k.val + 1) = ((L.1 ++ s.1), (arg9.view.writes (Elt F) s.2.1 L.2.1), (arg13.view.writes (Elt F) s.2.2 L.2.2)) := by
  subst hL; subst hs
  show step4 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  q X_arg12 k.val (st4 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k.val) = _
  unfold step4; rw [dif_pos k.isLt]

set_option warn.classDefReducibility false in
/-- The loop by its invariant: the loop that steps the recursion on the last grid point. -/
@[sl_loop] def loopInv_t4 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v1 : BitVec 32) (k0_h7 : k0_cond7 i = 1#1)  (G_arg9 : BufTy.Contents (Elt F) arg9.view.ty) (G_arg13 : BufTy.Contents (Elt F) arg13.view.ty) (E : Set ℕ) (G_arg7 : BufTy.Contents (Elt F) arg7.view.ty) (q : PosShare TreeShare) (X_arg12 : BufTy.Contents (Elt F) arg12.view.ty) :
    LoopInvTy_k0_t4 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 arg0 v1 k0_h7 where
  inv := fun k _ => iprop((∃ f, (arg7.view.loc (c : Thread nD τ) ↦[arg7.view.set]{fullShare} f) ∗ ⌜f = arg7.view.writes (Elt F) G_arg7 (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k).1⌝) ∗ (∃ f, (arg9.view.loc (c : Thread nD τ) ↦[arg9.view.set]{fullShare} f) ∗ ⌜f = (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k).2.1⌝) ∗ (∃ f, (arg13.view.loc (c : Thread nD τ) ↦[arg13.view.set]{fullShare} f) ∗ ⌜f = (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k).2.2⌝) ∗ (arg12.view.loc (c : Thread nD τ) ↦[arg12.view.set]{q} X_arg12))
  step k acc := by
    iintro ⟨⟨%f_arg7, HW_arg7, %h_arg7⟩, ⟨%f_arg9, HW_arg9, %h_arg9⟩, ⟨%f_arg13, HW_arg13, %h_arg13⟩, HX⟩
    iapply (wp_wand_r Idealize.ShloMosaic.frame (wpE (defs₀ (F := F)) 𝒱 (c : Thread nD τ) bd) E)
    isplitl [HW_arg7 HW_arg9 HW_arg13 HX]
    · iapply ((trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  f_arg9 f_arg13 q X_arg12 k).2 E f_arg7)
      isplitl [HW_arg7]; · iexact HW_arg7
      isplitl [HW_arg9]; · iexact HW_arg9
      isplitl [HW_arg13]; · iexact HW_arg13
      iexact HX
    · iintro %_ ⟨HW_arg7, HW_arg9, HW_arg13, HX⟩
      have hst := st4_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k
      subst h_arg9 h_arg13
      isplitl [HW_arg7]
      · iexists _; isplitl [HW_arg7]; · iexact HW_arg7
        ipureintro; rw [hst _ rfl _ rfl]; rw [h_arg7, ← View.writes_append]
      isplitl [HW_arg9]
      · iexists _; isplitl [HW_arg9]; · iexact HW_arg9
        ipureintro; rw [hst _ rfl _ rfl]
      isplitl [HW_arg13]
      · iexists _; isplitl [HW_arg13]; · iexact HW_arg13
        ipureintro; rw [hst _ rfl _ rfl]
      iexact HX

end Cert.Kernel.Hand

end
-- ==== Proof.Val.lean ====
/- What the scratch buffers of a grid point hold: the rows of the block, the scales of the rows, and the tiles of scores. -/
module

public import proofs.«01_k».proof.Proof.LI
public import Idealize.ShloMosaic.Lib.ValueIdx
public import Idealize.ShloMosaic.Lib.ValueLayout

@[expose] public section

set_option maxRecDepth 16384
set_option maxHeartbeats 200000

noncomputable section

namespace Cert.Kernel.Hand

open Idealize.ShloMosaic.ValueIdx
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-! ## The values -/

/-- The rows of a block of `x`, one under the other: row `48 t + n` is `x[t, n]`. -/
def xt (x1 : Vec F S20x48x2560 .fp8e4m3) : Vec F S960x2560 .fp8e4m3 := fun y =>
  x1 (ix3 (⟨(y 0).val / 48, by have := idx2_lt0 y; omega⟩ : Fin 20) (⟨(y 0).val % 48, by omega⟩ : Fin 48) (⟨(y 1).val, idx2_lt1 y⟩ : Fin 2560))

/-- The scales of the rows of chunk `p`, the same in every lane: entry `[t, n, l]` is `x_scale[20 p + t, n]` (the array is held transposed). -/
def xs (p : ℕ) (x2 : Vec F S48x1280 .f32) : Vec F S20x48x128 .f32 := fun y =>
  x2 (ix2 (⟨(y 1).val, (y 1).isLt⟩ : Fin 48) (⟨(20 * p + (y 0).val) % 1280, by omega⟩ : Fin 1280))

/-- Tile `j` of the scores of chunk `p`: 256 columns. -/
def tileOf (p : ℕ) (x1 : Vec F S20x48x2560 .fp8e4m3) (x2 : Vec F S48x1280 .f32) (x3 : Vec F S2560x5120 .fp8e4m3) (x4 x5 : Vec F S1x5120 .f32) (j : ℕ) : Vec F S1x20x1x48x256 .bf16 :=
  k0_pay8 (xt x1) (fun y => x3 (ix2 (⟨(y 0).val, idx2_lt0 y⟩ : Fin 2560) (⟨(j * 256 + (y 1).val) % 5120, by omega⟩ : Fin 5120)))
    (fun y => x4 (ix2 (0 : Fin 1) (⟨(j * 256 + (y 1).val) % 5120, by omega⟩ : Fin 5120)))
    (fun y => x5 (ix2 (0 : Fin 1) (⟨(j * 256 + (y 1).val) % 5120, by omega⟩ : Fin 5120))) (xs p x2)

/-- The scores of chunk `p`, by step, plane, sequence and lane (the slot that holds them put aside). -/
def zt (p : ℕ) (x1 : Vec F S20x48x2560 .fp8e4m3) (x2 : Vec F S48x1280 .f32) (x3 : Vec F S2560x5120 .fp8e4m3) (x4 x5 : Vec F S1x5120 .f32) : S2x20x5x48x1024.Idx → Elt F .bf16 := fun y =>
  tileOf p x1 x2 x3 x4 x5 ((y 2).val * 4 + (y 4).val / 256)
    (ix5 (0 : Fin 1) (⟨(y 1).val, (y 1).isLt⟩ : Fin 20) (0 : Fin 1) (⟨(y 3).val, (y 3).isLt⟩ : Fin 48) (⟨(y 4).val % 256, by omega⟩ : Fin 256))

/-! ## The scales -/

theorem pay7_apply (v : FVec F S8x128 .f32) (w : IVec S8x128 32) (l : ℕ) (hl : l < 128) (hw : ∀ j, w j = BitVec.ofNat 32 l) (x : S1x8x128.Idx) :
    k0_pay7 v w 0#32 x = v (ix2 (⟨(x 1).val, (x 1).isLt⟩ : Fin 8) (⟨l, hl⟩ : Fin 128)) := by
  have hs : Scalar.select (IntOp.cmpi .slt (BitVec.ofNat 32 l) 0#32) (BitVec.ofNat 32 l + 128#32) (BitVec.ofNat 32 l) = BitVec.ofNat 32 l := by
    have : ∀ l : Fin 128, Scalar.select (IntOp.cmpi .slt (BitVec.ofNat 32 l.val) 0#32) (BitVec.ofNat 32 l.val + 128#32) (BitVec.ofNat 32 l.val) = BitVec.ofNat 32 l.val := by decide +kernel
    exact this ⟨l, hl⟩
  have hx : x = ix3 (0 : Fin 1) (⟨(x 1).val, (x 1).isLt⟩ : Fin 8) (⟨(x 2).val, (x 2).isLt⟩ : Fin 128) := by
    funext a; fin_cases a
    · exact Fin.ext (by have : (x 0).val < 1 := (x 0).isLt; show (x 0).val = 0; omega)
    · rfl
    · rfl
  rw [hx]
  unfold k0_pay7
  rw [shapeCast_ab_1ab_apply, shapeCast_shapeCast]
  show v _ = v _
  congr 1
  funext b
  show (if b = 1 then _ else _) = _
  fin_cases b
  · rfl
  · refine Fin.ext ?_
    show (Scalar.select (IntOp.cmpi .slt (w _) 0#32) (w _ + 128#32) (w _)).toNat % 128 = l
    rw [hw, hs, BitVec.toNat_ofNat]; omega

theorem lane_word : ∀ (i : grid0.Coords) (k : Fin k0_t1_loop.trips),
    (0#32 + trip1.sl.v137 (BitVec.ofNat 32 (i 0).val) k : BitVec 32) = BitVec.ofNat 32 ((20 * (i 0).val + k.val) % 128) := by decide +kernel

theorem pay42_eq (a : Vec F S960x2560 .fp8e4m3) (b : Vec F S2560x256 .fp8e4m3) (d e : Vec F S1x256 .f32) (g : Vec F S20x48x128 .f32) : k0_pay42 a b d e g = k0_pay8 a b d e g := rfl
theorem off18_eq : ∀ k : Fin k0_t1_loop.trips, k0_off18 k = ![k.val, 40, 0] := by decide +kernel
theorem off16_eq : ∀ k : Fin k0_t1_loop.trips, k0_off16 k = ![k.val, 32, 0] := by decide +kernel
theorem off14_eq : ∀ k : Fin k0_t1_loop.trips, k0_off14 k = ![k.val, 24, 0] := by decide +kernel
theorem off12_eq : ∀ k : Fin k0_t1_loop.trips, k0_off12 k = ![k.val, 16, 0] := by decide +kernel
theorem off10_eq : ∀ k : Fin k0_t1_loop.trips, k0_off10 k = ![k.val, 8, 0] := by decide +kernel
theorem off8_eq : ∀ k : Fin k0_t1_loop.trips, k0_off8 k = ![k.val, 0, 0] := by decide +kernel
theorem off22_eq : ∀ k : Fin k0_t3_loop.trips, k0_off22 k = ![0, k.val * 256] := by decide +kernel
theorem off23_eq : ∀ k : Fin k0_t3_loop.trips, k0_off23 k = ![0, k.val * 256] := by decide +kernel

theorem off19_eq : ∀ k : Fin k0_t2_loop.trips, k0_off19 k = ![0, k.val * 256] := by decide +kernel
theorem off20_eq : ∀ k : Fin k0_t2_loop.trips, k0_off20 k = ![0, k.val * 256] := by decide +kernel
theorem t1_trips : k0_t1_loop.trips = 20 := by decide +kernel
theorem t2_trips : k0_t2_loop.trips = 20 := by decide +kernel
theorem t3_trips : k0_t3_loop.trips = 20 := by decide +kernel
theorem tile_mem (p k : ℕ) (y : S2x20x5x48x1024.Idx) (h0 : (y 0).val = p % 2) (hy : (y 2).val * 4 + (y 4).val / 256 = k) :
    ∀ a, (![p % 2, 0, k / 4, 0, k % 4 * 256] : Fin 5 → ℕ) a ≤ (y a).val ∧ (y a).val < (![p % 2, 0, k / 4, 0, k % 4 * 256] : Fin 5 → ℕ) a + S1x20x1x48x256.size a := by
  have y1 : (y 1).val < 20 := (y 1).isLt
  have y2 : (y 2).val < 5 := (y 2).isLt
  have y3 : (y 3).val < 48 := (y 3).isLt
  have y4 : (y 4).val < 1024 := (y 4).isLt
  intro a; fin_cases a
  · show p % 2 ≤ (y 0).val ∧ (y 0).val < p % 2 + 1; omega
  · show 0 ≤ (y 1).val ∧ (y 1).val < 0 + 20; omega
  · show k / 4 ≤ (y 2).val ∧ (y 2).val < k / 4 + 1; omega
  · show 0 ≤ (y 3).val ∧ (y 3).val < 0 + 48; omega
  · show k % 4 * 256 ≤ (y 4).val ∧ (y 4).val < k % 4 * 256 + 256; omega

/-- A payload of the loop that spreads the scales: rows `r0 … r0 + 7` of column `20 p + k`, in every lane. -/
theorem scale_core (p k r0 : ℕ) (hp : p < 64) (hk : k < 20) (hr : r0 + 8 ≤ 48) {arg2 : Memref sig .tc .vmem S48x1280 .f32} (X_arg2 : BufTy.Contents (Elt F) arg2.view.ty) (x2 : Vec F S48x1280 .f32)
    (harg2_read : ∀ y, arg2.view.read (Elt F) X_arg2 y = x2 y) {o o' : Fin _ → ℕ} (e : o = ![r0, (20 * p + k) / 128 * 128]) (e' : o' = ![k, r0, 0])
    (b : ∀ a, o a + S8x128.size a ≤ S48x1280.size a) (b' : ∀ a, o' a + S1x8x128.size a ≤ S20x48x128.size a)
    (w : IVec S8x128 32) (hw : ∀ j, w j = BitVec.ofNat 32 ((20 * p + k) % 128)) (x : S1x8x128.Idx) :
    k0_pay7 (shapeCast S8x128 (View.readAt (Elt F) arg2.view (Rect.unit (s := S48x1280) o S8x128.size b).toLoadRect X_arg2) shapeCasts_S8x128_S8x128) w 0#32 x
      = xs p x2 ((Rect.unit (s := S20x48x128) o' S1x8x128.size b').emb x) := by
  subst e; subst e'
  have x0 : (x 0).val < 1 := (x 0).isLt
  have x1 : (x 1).val < 8 := (x 1).isLt
  rw [pay7_apply _ _ _ (by omega) hw]
  refine (congrFun (shapeCast_self (s := S8x128) _ _) _).trans ?_
  rw [View.readAt_apply, harg2_read]
  unfold xs
  congr 1
  funext a
  fin_cases a <;> refine Fin.ext ?_
  · show r0 + 1 * (x 1).val = r0 + 1 * (x 1).val; rfl
  · show (20 * p + k) / 128 * 128 + 1 * ((20 * p + k) % 128) = (20 * p + (k + 1 * (x 0).val)) % 1280
    omega

theorem scale_mem (k r0 : ℕ) (y : S20x48x128.Idx) (h0 : (y 0).val = k) (hy : r0 ≤ (y 1).val ∧ (y 1).val < r0 + 8) :
    ∀ a, (![k, r0, 0] : Fin 3 → ℕ) a ≤ (y a).val ∧ (y a).val < (![k, r0, 0] : Fin 3 → ℕ) a + S1x8x128.size a := by
  have y2 : (y 2).val < 128 := (y 2).isLt
  intro a; fin_cases a
  · show k ≤ (y 0).val ∧ (y 0).val < k + 1; omega
  · show r0 ≤ (y 1).val ∧ (y 1).val < r0 + 8; omega
  · show 0 ≤ (y 2).val ∧ (y 2).val < 0 + 128; omega

theorem lt64 : ∀ i : grid0.Coords, k0_cond4 i = 1#1 → (i 0).val < 64 := by decide +kernel

theorem scale_piece (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h4 : k0_cond4 i = 1#1) (X_arg2 : BufTy.Contents (Elt F) arg2.view.ty) (k : Fin k0_t1_loop.trips) (x2 : Vec F S48x1280 .f32)
    (harg2_read : ∀ y, arg2.view.read (Elt F) X_arg2 y = x2 y) :
    ∀ p ∈ (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 (BitVec.ofNat 32 (i 0).val) h4 X_arg2 k).1, (∀ x, p.2 x = xs (i 0).val x2 (p.1.emb x)) := by
  unfold trip1 trip1.sl.HW_arg11_3
  dsimp only
  have hk : k.val < 20 := Nat.lt_of_lt_of_le k.isLt k0_t1_abs.2.1
  have hw : ∀ j : S8x128.Idx, (addi trip1.sl.v136 (trip1.sl.v138 (BitVec.ofNat 32 (i 0).val) k)) j = BitVec.ofNat 32 ((20 * (i 0).val + k.val) % 128) := fun _ => lane_word i k
  rintro p hp
  simp only [List.mem_cons, trip1.sl.HW_arg11_1, List.not_mem_nil, or_false] at hp
  rcases hp with rfl | rfl | rfl | rfl | rfl | rfl
  · exact fun x => scale_core (i 0).val k.val 40 (lt64 i h4) hk (by omega) X_arg2 x2 harg2_read (k0_off17_eq i k) (off18_eq k) (k0_off17_inb i k h4) (k0_off18_inb i k h4) _ hw x
  · exact fun x => scale_core (i 0).val k.val 32 (lt64 i h4) hk (by omega) X_arg2 x2 harg2_read (k0_off15_eq i k) (off16_eq k) (k0_off15_inb i k h4) (k0_off16_inb i k h4) _ hw x
  · exact fun x => scale_core (i 0).val k.val 24 (lt64 i h4) hk (by omega) X_arg2 x2 harg2_read (k0_off13_eq i k) (off14_eq k) (k0_off13_inb i k h4) (k0_off14_inb i k h4) _ hw x
  · exact fun x => scale_core (i 0).val k.val 16 (lt64 i h4) hk (by omega) X_arg2 x2 harg2_read (k0_off11_eq i k) (off12_eq k) (k0_off11_inb i k h4) (k0_off12_inb i k h4) _ hw x
  · exact fun x => scale_core (i 0).val k.val 8 (lt64 i h4) hk (by omega) X_arg2 x2 harg2_read (k0_off9_eq i k) (off10_eq k) (k0_off9_inb i k h4) (k0_off10_inb i k h4) _ hw x
  · exact fun x => scale_core (i 0).val k.val 0 (lt64 i h4) hk (by omega) X_arg2 x2 harg2_read (k0_off7_eq i k) (off8_eq k) (k0_off7_inb i k h4) (k0_off8_inb i k h4) _ hw x

theorem scale_cover (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h4 : k0_cond4 i = 1#1) (X_arg2 : BufTy.Contents (Elt F) arg2.view.ty) (k : Fin k0_t1_loop.trips) (y : S20x48x128.Idx) (h0 : (y 0).val = k.val) :
    ∃ p ∈ (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 (BitVec.ofNat 32 (i 0).val) h4 X_arg2 k).1, y ∈ p.1.set := by
  unfold trip1 trip1.sl.HW_arg11_3 trip1.sl.HW_arg11_1
  dsimp only
  have y1 : (y 1).val < 48 := (y 1).isLt
  have hd : (y 1).val / 8 < 6 := by omega
  interval_cases hq : (y 1).val / 8
  · exact ⟨_, List.mem_cons_of_mem _ (List.mem_cons_of_mem _ (List.mem_cons_of_mem _ (List.mem_cons_of_mem _ (List.mem_cons_of_mem _ (List.mem_cons_self))))), by dsimp only; rw [Rect.mem_set_unit, off8_eq]; exact scale_mem k.val 0 y h0 (by omega)⟩
  · exact ⟨_, List.mem_cons_of_mem _ (List.mem_cons_of_mem _ (List.mem_cons_of_mem _ (List.mem_cons_of_mem _ (List.mem_cons_self)))), by dsimp only; rw [Rect.mem_set_unit, off10_eq]; exact scale_mem k.val 8 y h0 (by omega)⟩
  · exact ⟨_, List.mem_cons_of_mem _ (List.mem_cons_of_mem _ (List.mem_cons_of_mem _ (List.mem_cons_self))), by dsimp only; rw [Rect.mem_set_unit, off12_eq]; exact scale_mem k.val 16 y h0 (by omega)⟩
  · exact ⟨_, List.mem_cons_of_mem _ (List.mem_cons_of_mem _ (List.mem_cons_self)), by dsimp only; rw [Rect.mem_set_unit, off14_eq]; exact scale_mem k.val 24 y h0 (by omega)⟩
  · exact ⟨_, List.mem_cons_of_mem _ (List.mem_cons_self), by dsimp only; rw [Rect.mem_set_unit, off16_eq]; exact scale_mem k.val 32 y h0 (by omega)⟩
  · exact ⟨_, List.mem_cons_self, by dsimp only; rw [Rect.mem_set_unit, off18_eq]; exact scale_mem k.val 40 y h0 (by omega)⟩

theorem st1_piece (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h4 : k0_cond4 i = 1#1) (X_arg2 : BufTy.Contents (Elt F) arg2.view.ty) (x2 : Vec F S48x1280 .f32)
    (harg2_read : ∀ y, arg2.view.read (Elt F) X_arg2 y = x2 y) : ∀ n,
    ∀ p ∈ st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 (BitVec.ofNat 32 (i 0).val) h4 X_arg2 n, (∀ x, p.2 x = xs (i 0).val x2 (p.1.emb x))
  | 0 => fun p hp => absurd hp List.not_mem_nil
  | n + 1 => by
    intro p hp
    unfold st1 step1 at hp
    split at hp
    · rcases List.mem_append.1 hp with hp | hp
      · exact scale_piece 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 _ x2 harg2_read p hp
      · exact st1_piece 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 x2 harg2_read n p hp
    · exact st1_piece 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 x2 harg2_read n p hp

theorem st1_cover (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h4 : k0_cond4 i = 1#1) (X_arg2 : BufTy.Contents (Elt F) arg2.view.ty) : ∀ n ≤ k0_t1_loop.trips, ∀ y : S20x48x128.Idx, (y 0).val < n →
    ∃ p ∈ st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 (BitVec.ofNat 32 (i 0).val) h4 X_arg2 n, y ∈ p.1.set
  | 0 => fun _ y hy => absurd hy (Nat.not_lt_zero _)
  | n + 1 => by
    intro hn y hy
    unfold st1 step1
    rw [dif_pos (show n < k0_t1_loop.trips from hn)]
    by_cases e : (y 0).val = n
    · obtain ⟨p, hp, hm⟩ := scale_cover 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 ⟨n, hn⟩ y e
      exact ⟨p, List.mem_append_left _ hp, hm⟩
    · obtain ⟨p, hp, hm⟩ := st1_cover 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 n (Nat.le_of_succ_le hn) y (by omega)
      exact ⟨p, List.mem_append_right _ hp, hm⟩

/-- What the scratch of the scales reads when the loop is done. -/
theorem scales1 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h4 : k0_cond4 i = 1#1) (X_arg2 : BufTy.Contents (Elt F) arg2.view.ty) (x2 : Vec F S48x1280 .f32)
    (harg2_read : ∀ y, arg2.view.read (Elt F) X_arg2 y = x2 y) (f : BufTy.Contents (Elt F) arg11.view.ty) (y : S20x48x128.Idx) :
    arg11.view.read (Elt F) (arg11.view.writes (Elt F) f (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 (BitVec.ofNat 32 (i 0).val) h4 X_arg2 k0_t1_loop.trips)) y
      = xs (i 0).val x2 y :=
  View.read_writes_apply_of_pieces _ _ (xs (i 0).val x2) _ (st1_piece 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 x2 harg2_read _) y
    (st1_cover 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 _ le_rfl y (by have y0 : (y 0).val < 20 := (y 0).isLt; rw [t1_trips]; omega))

/-! ## The tiles -/

theorem tile_core (p k : ℕ) (hk : k < 20) {arg10 : Memref sig .tc .vmem S960x2560 .fp8e4m3} {arg3 : Memref sig .tc .vmem S2560x5120 .fp8e4m3} {arg4 arg5 : Memref sig .tc .vmem S1x5120 .f32} {arg11 : Memref sig .tc .vmem S20x48x128 .f32} (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs p x2 y)
    {o12 : Fin 5 → ℕ} {o3 o4 : Fin 2 → ℕ} (e12 : o12 = ![p % 2, 0, k / 4, 0, k % 4 * 256]) (e3 : o3 = ![0, k * 256]) (e4 : o4 = ![0, k * 256])
    (b12 : ∀ a, o12 a + S1x20x1x48x256.size a ≤ S2x20x5x48x1024.size a) (b3 : ∀ a, o3 a + S2560x256.size a ≤ S2560x5120.size a) (b4 : ∀ a, o4 a + S1x256.size a ≤ S1x5120.size a)
    (x : S1x20x1x48x256.Idx) :
    k0_pay8 (View.readAt (Elt F) arg10.view (Rect.unit (s := S960x2560) ![0, 0] S960x2560.size inb_S960x2560_S960x2560_0_0).toLoadRect X_arg10)
      (View.readAt (Elt F) arg3.view (Rect.unit (s := S2560x5120) o3 S2560x256.size b3).toLoadRect X_arg3)
      (View.readAt (Elt F) arg4.view (Rect.unit (s := S1x5120) o4 S1x256.size b4).toLoadRect X_arg4)
      (View.readAt (Elt F) arg5.view (Rect.unit (s := S1x5120) o4 S1x256.size b4).toLoadRect X_arg5)
      (View.readAt (Elt F) arg11.view (Rect.unit (s := S20x48x128) ![0, 0, 0] S20x48x128.size inb_S20x48x128_S20x48x128_0_0_0).toLoadRect X_arg11) x
    = zt p x1 x2 x3 x4 x5 ((Rect.unit (s := S2x20x5x48x1024) o12 S1x20x1x48x256.size b12).emb x) := by
  subst e12; subst e3; subst e4
  have x0 : (x 0).val < 1 := (x 0).isLt
  have x2' : (x 2).val < 1 := (x 2).isLt
  have x4' : (x 4).val < 256 := (x 4).isLt
  have hj : (((Rect.unit (s := S2x20x5x48x1024) ![p % 2, 0, k / 4, 0, k % 4 * 256] S1x20x1x48x256.size b12).emb x) 2).val * 4
      + (((Rect.unit (s := S2x20x5x48x1024) ![p % 2, 0, k / 4, 0, k % 4 * 256] S1x20x1x48x256.size b12).emb x) 4).val / 256 = k := by
    show (k / 4 + 1 * (x 2).val) * 4 + (k % 4 * 256 + 1 * (x 4).val) / 256 = k; omega
  unfold zt
  rw [hj]
  unfold tileOf
  congr 1
  · funext y; rw [View.readAt_apply, harg10_read]; congr 1; funext a; fin_cases a <;> refine Fin.ext ?_
    · show 0 + 1 * (y 0).val = (y 0).val; omega
    · show 0 + 1 * (y 1).val = (y 1).val; omega
  · funext y; rw [View.readAt_apply, harg3_read]; congr 1; funext a
    have y1 := idx2_lt1 y
    fin_cases a <;> refine Fin.ext ?_
    · show 0 + 1 * (y 0).val = (y 0).val; omega
    · show k * 256 + 1 * (y 1).val = (k * 256 + (y 1).val) % 5120
      rw [Nat.mod_eq_of_lt (by omega)]; omega
  · funext y; rw [View.readAt_apply, harg4_read]; congr 1; funext a
    have y1 := idx2_lt1 y
    have y0 := idx2_lt0 y
    fin_cases a <;> refine Fin.ext ?_
    · show 0 + 1 * (y 0).val = 0; omega
    · show k * 256 + 1 * (y 1).val = (k * 256 + (y 1).val) % 5120
      rw [Nat.mod_eq_of_lt (by omega)]; omega
  · funext y; rw [View.readAt_apply, harg5_read]; congr 1; funext a
    have y1 := idx2_lt1 y
    have y0 := idx2_lt0 y
    fin_cases a <;> refine Fin.ext ?_
    · show 0 + 1 * (y 0).val = 0; omega
    · show k * 256 + 1 * (y 1).val = (k * 256 + (y 1).val) % 5120
      rw [Nat.mod_eq_of_lt (by omega)]; omega
  · funext y; rw [View.readAt_apply, harg11_read]; congr 1; funext a; fin_cases a <;> refine Fin.ext ?_
    · show 0 + 1 * (y 0).val = (y 0).val; omega
    · show 0 + 1 * (y 1).val = (y 1).val; omega
    · show 0 + 1 * (y 2).val = (y 2).val; omega
  · funext a; fin_cases a <;> refine Fin.ext ?_
    · show (x 0).val = 0; omega
    · show (x 1).val = 0 + 1 * (x 1).val; omega
    · show (x 2).val = 0; omega
    · show (x 3).val = 0 + 1 * (x 3).val; omega
    · show (x 4).val = (k % 4 * 256 + 1 * (x 4).val) % 256; omega

theorem tile_piece3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 v0 v1 : BitVec 32) (h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty) (k : Fin k0_t3_loop.trips)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs (i 0).val x2 y) :
    ∀ p ∈ (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 k).1.1,
      (∀ x, p.2 x = zt (i 0).val x1 x2 x3 x4 x5 (p.1.emb x)) := by
  unfold trip3 trip3.sl.HW_arg12_1
  dsimp only
  rintro p hp
  rw [List.mem_singleton] at hp; subst hp
  intro x
  have hk : k.val < 20 := Nat.lt_of_lt_of_le k.isLt k0_t3_abs.2.1
  exact (congrFun (pay42_eq _ _ _ _ _) x).trans (tile_core (i 0).val k.val hk X_arg3 X_arg4 X_arg5 X_arg10 X_arg11 x1 x2 x3 x4 x5 harg3_read harg4_read harg5_read harg10_read harg11_read (k0_off24_eq i k) (off22_eq k) (off23_eq k) (k0_off24_inb i k h6) (k0_off22_inb i k h6) (k0_off23_inb i k h6) x)

theorem tile_cover3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 v0 v1 : BitVec 32) (h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty) (k : Fin k0_t3_loop.trips)
    (y : S2x20x5x48x1024.Idx) (h0 : (y 0).val = (i 0).val % 2) (hy : (y 2).val * 4 + (y 4).val / 256 = k.val) :
    ∃ p ∈ (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 k).1.1, y ∈ p.1.set := by
  unfold trip3 trip3.sl.HW_arg12_1
  dsimp only
  refine ⟨_, List.mem_singleton.2 rfl, ?_⟩
  dsimp only
  rw [Rect.mem_set_unit, k0_off24_eq]
  exact tile_mem (i 0).val k.val y h0 hy

/-- After `n` trips every piece of the slot is a part of the tiles. -/
theorem st3_piece (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 v0 v1 : BitVec 32) (h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs (i 0).val x2 y) : ∀ n,
    ∀ p ∈ (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 n).1,
      (∀ x, p.2 x = zt (i 0).val x1 x2 x3 x4 x5 (p.1.emb x))
  | 0 => fun p hp => absurd hp List.not_mem_nil
  | n + 1 => by
    intro p hp
    unfold st3 step3 at hp
    split at hp
    · rcases List.mem_append.1 hp with hp | hp
      · exact tile_piece3 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 _ _ q X_arg12 _ x1 x2 x3 x4 x5 harg3_read harg4_read harg5_read harg10_read harg11_read p hp
      · exact st3_piece 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 x1 x2 x3 x4 x5 harg3_read harg4_read harg5_read harg10_read harg11_read n p hp
    · exact st3_piece 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 x1 x2 x3 x4 x5 harg3_read harg4_read harg5_read harg10_read harg11_read n p hp

theorem st3_cover (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 v0 v1 : BitVec 32) (h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty) : ∀ n ≤ k0_t3_loop.trips,
    ∀ y : S2x20x5x48x1024.Idx, (y 0).val = (i 0).val % 2 → (y 2).val * 4 + (y 4).val / 256 < n →
    ∃ p ∈ (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 n).1, y ∈ p.1.set
  | 0 => fun _ y _ hy => absurd hy (Nat.not_lt_zero _)
  | n + 1 => by
    intro hn y h0 hy
    unfold st3 step3
    rw [dif_pos (show n < k0_t3_loop.trips from hn)]
    by_cases e : (y 2).val * 4 + (y 4).val / 256 = n
    · obtain ⟨p, hp, hm⟩ := tile_cover3 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 _ _ q X_arg12 ⟨n, hn⟩ y h0 e
      exact ⟨p, List.mem_append_left _ hp, hm⟩
    · obtain ⟨p, hp, hm⟩ := st3_cover 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 n (Nat.le_of_succ_le hn) y h0 (by omega)
      exact ⟨p, List.mem_append_right _ hp, hm⟩

/-- What the slot reads when the loop is done: the scores of the chunk. -/
theorem slot3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 v0 v1 : BitVec 32) (h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs (i 0).val x2 y) (f : BufTy.Contents (Elt F) arg12.view.ty) (y : S2x20x5x48x1024.Idx) (h0 : (y 0).val = (i 0).val % 2) :
    arg12.view.read (Elt F) (arg12.view.writes (Elt F) f (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 k0_t3_loop.trips).1) y
      = zt (i 0).val x1 x2 x3 x4 x5 y :=
  View.read_writes_apply_of_pieces _ _ (zt (i 0).val x1 x2 x3 x4 x5) _
    (st3_piece 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 x1 x2 x3 x4 x5 harg3_read harg4_read harg5_read harg10_read harg11_read _) y
    (st3_cover 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 _ le_rfl y h0 (by
      have y2 : (y 2).val < 5 := (y 2).isLt
      have y4 : (y 4).val < 1024 := (y 4).isLt
      rw [t3_trips]; omega))
theorem tile_piece2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  (k : Fin k0_t2_loop.trips)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs (i 0).val x2 y) :
    ∀ p ∈ (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  k).1,
      (∀ x, p.2 x = zt (i 0).val x1 x2 x3 x4 x5 (p.1.emb x)) := by
  unfold trip2
  dsimp only
  rintro p hp
  rw [List.mem_singleton] at hp; subst hp
  intro x
  have hk : k.val < 20 := Nat.lt_of_lt_of_le k.isLt k0_t2_abs.2.1
  exact (tile_core (i 0).val k.val hk X_arg3 X_arg4 X_arg5 X_arg10 X_arg11 x1 x2 x3 x4 x5 harg3_read harg4_read harg5_read harg10_read harg11_read (k0_off21_eq i k) (off19_eq k) (off20_eq k) (k0_off21_inb i k h5) (k0_off19_inb i k h5) (k0_off20_inb i k h5) x)

theorem tile_cover2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  (k : Fin k0_t2_loop.trips)
    (y : S2x20x5x48x1024.Idx) (h0 : (y 0).val = (i 0).val % 2) (hy : (y 2).val * 4 + (y 4).val / 256 = k.val) :
    ∃ p ∈ (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  k).1, y ∈ p.1.set := by
  unfold trip2
  dsimp only
  refine ⟨_, List.mem_singleton.2 rfl, ?_⟩
  dsimp only
  rw [Rect.mem_set_unit, k0_off21_eq]
  exact tile_mem (i 0).val k.val y h0 hy

/-- After `n` trips every piece of the slot is a part of the tiles. -/
theorem st2_piece (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs (i 0).val x2 y) : ∀ n,
    ∀ p ∈ (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  n),
      (∀ x, p.2 x = zt (i 0).val x1 x2 x3 x4 x5 (p.1.emb x))
  | 0 => fun p hp => absurd hp List.not_mem_nil
  | n + 1 => by
    intro p hp
    unfold st2 step2 at hp
    split at hp
    · rcases List.mem_append.1 hp with hp | hp
      · exact tile_piece2 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11 _ x1 x2 x3 x4 x5 harg3_read harg4_read harg5_read harg10_read harg11_read p hp
      · exact st2_piece 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  x1 x2 x3 x4 x5 harg3_read harg4_read harg5_read harg10_read harg11_read n p hp
    · exact st2_piece 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  x1 x2 x3 x4 x5 harg3_read harg4_read harg5_read harg10_read harg11_read n p hp

theorem st2_cover (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  : ∀ n ≤ k0_t2_loop.trips,
    ∀ y : S2x20x5x48x1024.Idx, (y 0).val = (i 0).val % 2 → (y 2).val * 4 + (y 4).val / 256 < n →
    ∃ p ∈ (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  n), y ∈ p.1.set
  | 0 => fun _ y _ hy => absurd hy (Nat.not_lt_zero _)
  | n + 1 => by
    intro hn y h0 hy
    unfold st2 step2
    rw [dif_pos (show n < k0_t2_loop.trips from hn)]
    by_cases e : (y 2).val * 4 + (y 4).val / 256 = n
    · obtain ⟨p, hp, hm⟩ := tile_cover2 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11 ⟨n, hn⟩ y h0 e
      exact ⟨p, List.mem_append_left _ hp, hm⟩
    · obtain ⟨p, hp, hm⟩ := st2_cover 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  n (Nat.le_of_succ_le hn) y h0 (by omega)
      exact ⟨p, List.mem_append_right _ hp, hm⟩

/-- What the slot reads when the loop is done: the scores of the chunk. -/
theorem slot2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs (i 0).val x2 y) (f : BufTy.Contents (Elt F) arg12.view.ty) (y : S2x20x5x48x1024.Idx) (h0 : (y 0).val = (i 0).val % 2) :
    arg12.view.read (Elt F) (arg12.view.writes (Elt F) f (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  k0_t2_loop.trips)) y
      = zt (i 0).val x1 x2 x3 x4 x5 y :=
  View.read_writes_apply_of_pieces _ _ (zt (i 0).val x1 x2 x3 x4 x5) _
    (st2_piece 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  x1 x2 x3 x4 x5 harg3_read harg4_read harg5_read harg10_read harg11_read _) y
    (st2_cover 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  _ le_rfl y h0 (by
      have y2 : (y 2).val < 5 := (y 2).isLt
      have y4 : (y 4).val < 1024 := (y 4).isLt
      rw [t2_trips]; omega))

end Cert.Kernel.Hand

end
-- ==== Proof.Copies.lean ====
/- The copies that lay the rows of a block one under the other. -/
module

public import proofs.«01_k».proof.Proof.LI
public import Idealize.ShloMosaic.Lib.ValueIdx
public import Idealize.ShloMosaic.Lib.ValueLayout
public import proofs.«01_k».proof.Proof.Val

@[expose] public section

set_option maxRecDepth 16384
set_option maxHeartbeats 400000

noncomputable section

namespace Cert.Kernel.Hand

open Idealize.ShloMosaic.ValueIdx
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- The rows of one step, read out of the block and written as a row block. -/
def copyOf (v : Vec F S1x48x2560 .fp8e4m3) : Vec F S48x2560 .fp8e4m3 :=
  shapeCast S48x2560 (shapeCast S48x2560 v shapeCasts_S1x48x2560_S48x2560) shapeCasts_S48x2560_S48x2560

theorem copyOf_apply (v : Vec F S1x48x2560 .fp8e4m3) (x : S48x2560.Idx) :
    copyOf v x = v (ix3 (0 : Fin 1) (⟨(x 0).val, (x 0).isLt⟩ : Fin 48) (⟨(x 1).val, (x 1).isLt⟩ : Fin 2560)) := by
  unfold copyOf
  refine (congrFun (shapeCast_self (s := S48x2560) _ _) _).trans ?_
  conv_lhs => rw [eq_ix2 x]
  exact shapeCast_1ab_ab_apply _ _ _ _

theorem copy_core (t : ℕ) (ht : t < 20) {arg1 : Memref sig .tc .vmem S20x48x2560 .fp8e4m3} (X1 : BufTy.Contents (Elt F) arg1.view.ty) (x1 : Vec F S20x48x2560 .fp8e4m3)
    (hx1 : ∀ y, arg1.view.read (Elt F) X1 y = x1 y) {o : Fin _ → ℕ} {o' : Fin _ → ℕ} (e : o = ![t, 0, 0]) (e' : o' = ![48 * t, 0])
    (b : ∀ a, o a + S1x48x2560.size a ≤ S20x48x2560.size a) (b' : ∀ a, o' a + S48x2560.size a ≤ S960x2560.size a) (x : S48x2560.Idx) :
    copyOf (F := F) (View.readAt (Elt F) arg1.view (Rect.unit (s := S20x48x2560) o S1x48x2560.size b).toLoadRect X1) x
      = xt x1 ((Rect.unit (s := S960x2560) o' S48x2560.size b').emb x) := by
  subst e; subst e'
  have x0 : (x 0).val < 48 := (x 0).isLt
  rw [copyOf_apply, View.readAt_apply, hx1]
  unfold xt
  congr 1
  funext a
  fin_cases a <;> refine Fin.ext ?_
  · show t + 1 * 0 = (48 * t + 1 * (x 0).val) / 48; omega
  · show 0 + 1 * (x 0).val = (48 * t + 1 * (x 0).val) % 48; omega
  · show 0 + 1 * (x 1).val = 0 + 1 * (x 1).val; rfl

theorem copy_mem (t : ℕ) (y : S960x2560.Idx) (h : (y 0).val / 48 = t) :
    ∀ a, (![48 * t, 0] : Fin 2 → ℕ) a ≤ (y a).val ∧ (y a).val < (![48 * t, 0] : Fin 2 → ℕ) a + S48x2560.size a := by
  have y1 : (y 1).val < 2560 := (y 1).isLt
  intro a; fin_cases a
  · show 48 * t ≤ (y 0).val ∧ (y 0).val < 48 * t + 48; omega
  · show 0 ≤ (y 1).val ∧ (y 1).val < 0 + 2560; omega

/-- The twenty copies, last first. -/
def copies (arg1 : Memref sig .tc .vmem S20x48x2560 .fp8e4m3) (X1 : BufTy.Contents (Elt F) arg1.view.ty) : List (View.Piece (Elt F) S960x2560 .fp8e4m3) :=
  [⟨Rect.unit (s := S960x2560) ![912, 0] S48x2560.size inb_S960x2560_S48x2560_912_0, copyOf (F := F) (View.readAt (Elt F) arg1.view (Rect.unit (s := S20x48x2560) ![19, 0, 0] S1x48x2560.size inb_S20x48x2560_S1x48x2560_19_0_0).toLoadRect X1)⟩,
   ⟨Rect.unit (s := S960x2560) ![864, 0] S48x2560.size inb_S960x2560_S48x2560_864_0, copyOf (F := F) (View.readAt (Elt F) arg1.view (Rect.unit (s := S20x48x2560) ![18, 0, 0] S1x48x2560.size inb_S20x48x2560_S1x48x2560_18_0_0).toLoadRect X1)⟩,
   ⟨Rect.unit (s := S960x2560) ![816, 0] S48x2560.size inb_S960x2560_S48x2560_816_0, copyOf (F := F) (View.readAt (Elt F) arg1.view (Rect.unit (s := S20x48x2560) ![17, 0, 0] S1x48x2560.size inb_S20x48x2560_S1x48x2560_17_0_0).toLoadRect X1)⟩,
   ⟨Rect.unit (s := S960x2560) ![768, 0] S48x2560.size inb_S960x2560_S48x2560_768_0, copyOf (F := F) (View.readAt (Elt F) arg1.view (Rect.unit (s := S20x48x2560) ![16, 0, 0] S1x48x2560.size inb_S20x48x2560_S1x48x2560_16_0_0).toLoadRect X1)⟩,
   ⟨Rect.unit (s := S960x2560) ![720, 0] S48x2560.size inb_S960x2560_S48x2560_720_0, copyOf (F := F) (View.readAt (Elt F) arg1.view (Rect.unit (s := S20x48x2560) ![15, 0, 0] S1x48x2560.size inb_S20x48x2560_S1x48x2560_15_0_0).toLoadRect X1)⟩,
   ⟨Rect.unit (s := S960x2560) ![672, 0] S48x2560.size inb_S960x2560_S48x2560_672_0, copyOf (F := F) (View.readAt (Elt F) arg1.view (Rect.unit (s := S20x48x2560) ![14, 0, 0] S1x48x2560.size inb_S20x48x2560_S1x48x2560_14_0_0).toLoadRect X1)⟩,
   ⟨Rect.unit (s := S960x2560) ![624, 0] S48x2560.size inb_S960x2560_S48x2560_624_0, copyOf (F := F) (View.readAt (Elt F) arg1.view (Rect.unit (s := S20x48x2560) ![13, 0, 0] S1x48x2560.size inb_S20x48x2560_S1x48x2560_13_0_0).toLoadRect X1)⟩,
   ⟨Rect.unit (s := S960x2560) ![576, 0] S48x2560.size inb_S960x2560_S48x2560_576_0, copyOf (F := F) (View.readAt (Elt F) arg1.view (Rect.unit (s := S20x48x2560) ![12, 0, 0] S1x48x2560.size inb_S20x48x2560_S1x48x2560_12_0_0).toLoadRect X1)⟩,
   ⟨Rect.unit (s := S960x2560) ![528, 0] S48x2560.size inb_S960x2560_S48x2560_528_0, copyOf (F := F) (View.readAt (Elt F) arg1.view (Rect.unit (s := S20x48x2560) ![11, 0, 0] S1x48x2560.size inb_S20x48x2560_S1x48x2560_11_0_0).toLoadRect X1)⟩,
   ⟨Rect.unit (s := S960x2560) ![480, 0] S48x2560.size inb_S960x2560_S48x2560_480_0, copyOf (F := F) (View.readAt (Elt F) arg1.view (Rect.unit (s := S20x48x2560) ![10, 0, 0] S1x48x2560.size inb_S20x48x2560_S1x48x2560_10_0_0).toLoadRect X1)⟩,
   ⟨Rect.unit (s := S960x2560) ![432, 0] S48x2560.size inb_S960x2560_S48x2560_432_0, copyOf (F := F) (View.readAt (Elt F) arg1.view (Rect.unit (s := S20x48x2560) ![9, 0, 0] S1x48x2560.size inb_S20x48x2560_S1x48x2560_9_0_0).toLoadRect X1)⟩,
   ⟨Rect.unit (s := S960x2560) ![384, 0] S48x2560.size inb_S960x2560_S48x2560_384_0, copyOf (F := F) (View.readAt (Elt F) arg1.view (Rect.unit (s := S20x48x2560) ![8, 0, 0] S1x48x2560.size inb_S20x48x2560_S1x48x2560_8_0_0).toLoadRect X1)⟩,
   ⟨Rect.unit (s := S960x2560) ![336, 0] S48x2560.size inb_S960x2560_S48x2560_336_0, copyOf (F := F) (View.readAt (Elt F) arg1.view (Rect.unit (s := S20x48x2560) ![7, 0, 0] S1x48x2560.size inb_S20x48x2560_S1x48x2560_7_0_0).toLoadRect X1)⟩,
   ⟨Rect.unit (s := S960x2560) ![288, 0] S48x2560.size inb_S960x2560_S48x2560_288_0, copyOf (F := F) (View.readAt (Elt F) arg1.view (Rect.unit (s := S20x48x2560) ![6, 0, 0] S1x48x2560.size inb_S20x48x2560_S1x48x2560_6_0_0).toLoadRect X1)⟩,
   ⟨Rect.unit (s := S960x2560) ![240, 0] S48x2560.size inb_S960x2560_S48x2560_240_0, copyOf (F := F) (View.readAt (Elt F) arg1.view (Rect.unit (s := S20x48x2560) ![5, 0, 0] S1x48x2560.size inb_S20x48x2560_S1x48x2560_5_0_0).toLoadRect X1)⟩,
   ⟨Rect.unit (s := S960x2560) ![192, 0] S48x2560.size inb_S960x2560_S48x2560_192_0, copyOf (F := F) (View.readAt (Elt F) arg1.view (Rect.unit (s := S20x48x2560) ![4, 0, 0] S1x48x2560.size inb_S20x48x2560_S1x48x2560_4_0_0).toLoadRect X1)⟩,
   ⟨Rect.unit (s := S960x2560) ![144, 0] S48x2560.size inb_S960x2560_S48x2560_144_0, copyOf (F := F) (View.readAt (Elt F) arg1.view (Rect.unit (s := S20x48x2560) ![3, 0, 0] S1x48x2560.size inb_S20x48x2560_S1x48x2560_3_0_0).toLoadRect X1)⟩,
   ⟨Rect.unit (s := S960x2560) ![96, 0] S48x2560.size inb_S960x2560_S48x2560_96_0, copyOf (F := F) (View.readAt (Elt F) arg1.view (Rect.unit (s := S20x48x2560) ![2, 0, 0] S1x48x2560.size inb_S20x48x2560_S1x48x2560_2_0_0).toLoadRect X1)⟩,
   ⟨Rect.unit (s := S960x2560) ![48, 0] S48x2560.size inb_S960x2560_S48x2560_48_0, copyOf (F := F) (View.readAt (Elt F) arg1.view (Rect.unit (s := S20x48x2560) ![1, 0, 0] S1x48x2560.size inb_S20x48x2560_S1x48x2560_1_0_0).toLoadRect X1)⟩,
   ⟨Rect.unit (s := S960x2560) ![0, 0] S48x2560.size inb_S960x2560_S48x2560_0_0, copyOf (F := F) (View.readAt (Elt F) arg1.view (Rect.unit (s := S20x48x2560) ![0, 0, 0] S1x48x2560.size inb_S20x48x2560_S1x48x2560_0_0_0).toLoadRect X1)⟩]

theorem copies_piece (arg1 : Memref sig .tc .vmem S20x48x2560 .fp8e4m3) (X1 : BufTy.Contents (Elt F) arg1.view.ty) (x1 : Vec F S20x48x2560 .fp8e4m3) (hx1 : ∀ y, arg1.view.read (Elt F) X1 y = x1 y) :
    ∀ p ∈ copies arg1 X1, ∀ x, p.2 x = xt x1 (p.1.emb x) := by
  unfold copies
  refine List.forall_mem_cons.2 ⟨fun x => copy_core 19 (by omega) X1 x1 hx1 (by decide) (by decide) inb_S20x48x2560_S1x48x2560_19_0_0 inb_S960x2560_S48x2560_912_0 x, ?_⟩
  refine List.forall_mem_cons.2 ⟨fun x => copy_core 18 (by omega) X1 x1 hx1 (by decide) (by decide) inb_S20x48x2560_S1x48x2560_18_0_0 inb_S960x2560_S48x2560_864_0 x, ?_⟩
  refine List.forall_mem_cons.2 ⟨fun x => copy_core 17 (by omega) X1 x1 hx1 (by decide) (by decide) inb_S20x48x2560_S1x48x2560_17_0_0 inb_S960x2560_S48x2560_816_0 x, ?_⟩
  refine List.forall_mem_cons.2 ⟨fun x => copy_core 16 (by omega) X1 x1 hx1 (by decide) (by decide) inb_S20x48x2560_S1x48x2560_16_0_0 inb_S960x2560_S48x2560_768_0 x, ?_⟩
  refine List.forall_mem_cons.2 ⟨fun x => copy_core 15 (by omega) X1 x1 hx1 (by decide) (by decide) inb_S20x48x2560_S1x48x2560_15_0_0 inb_S960x2560_S48x2560_720_0 x, ?_⟩
  refine List.forall_mem_cons.2 ⟨fun x => copy_core 14 (by omega) X1 x1 hx1 (by decide) (by decide) inb_S20x48x2560_S1x48x2560_14_0_0 inb_S960x2560_S48x2560_672_0 x, ?_⟩
  refine List.forall_mem_cons.2 ⟨fun x => copy_core 13 (by omega) X1 x1 hx1 (by decide) (by decide) inb_S20x48x2560_S1x48x2560_13_0_0 inb_S960x2560_S48x2560_624_0 x, ?_⟩
  refine List.forall_mem_cons.2 ⟨fun x => copy_core 12 (by omega) X1 x1 hx1 (by decide) (by decide) inb_S20x48x2560_S1x48x2560_12_0_0 inb_S960x2560_S48x2560_576_0 x, ?_⟩
  refine List.forall_mem_cons.2 ⟨fun x => copy_core 11 (by omega) X1 x1 hx1 (by decide) (by decide) inb_S20x48x2560_S1x48x2560_11_0_0 inb_S960x2560_S48x2560_528_0 x, ?_⟩
  refine List.forall_mem_cons.2 ⟨fun x => copy_core 10 (by omega) X1 x1 hx1 (by decide) (by decide) inb_S20x48x2560_S1x48x2560_10_0_0 inb_S960x2560_S48x2560_480_0 x, ?_⟩
  refine List.forall_mem_cons.2 ⟨fun x => copy_core 9 (by omega) X1 x1 hx1 (by decide) (by decide) inb_S20x48x2560_S1x48x2560_9_0_0 inb_S960x2560_S48x2560_432_0 x, ?_⟩
  refine List.forall_mem_cons.2 ⟨fun x => copy_core 8 (by omega) X1 x1 hx1 (by decide) (by decide) inb_S20x48x2560_S1x48x2560_8_0_0 inb_S960x2560_S48x2560_384_0 x, ?_⟩
  refine List.forall_mem_cons.2 ⟨fun x => copy_core 7 (by omega) X1 x1 hx1 (by decide) (by decide) inb_S20x48x2560_S1x48x2560_7_0_0 inb_S960x2560_S48x2560_336_0 x, ?_⟩
  refine List.forall_mem_cons.2 ⟨fun x => copy_core 6 (by omega) X1 x1 hx1 (by decide) (by decide) inb_S20x48x2560_S1x48x2560_6_0_0 inb_S960x2560_S48x2560_288_0 x, ?_⟩
  refine List.forall_mem_cons.2 ⟨fun x => copy_core 5 (by omega) X1 x1 hx1 (by decide) (by decide) inb_S20x48x2560_S1x48x2560_5_0_0 inb_S960x2560_S48x2560_240_0 x, ?_⟩
  refine List.forall_mem_cons.2 ⟨fun x => copy_core 4 (by omega) X1 x1 hx1 (by decide) (by decide) inb_S20x48x2560_S1x48x2560_4_0_0 inb_S960x2560_S48x2560_192_0 x, ?_⟩
  refine List.forall_mem_cons.2 ⟨fun x => copy_core 3 (by omega) X1 x1 hx1 (by decide) (by decide) inb_S20x48x2560_S1x48x2560_3_0_0 inb_S960x2560_S48x2560_144_0 x, ?_⟩
  refine List.forall_mem_cons.2 ⟨fun x => copy_core 2 (by omega) X1 x1 hx1 (by decide) (by decide) inb_S20x48x2560_S1x48x2560_2_0_0 inb_S960x2560_S48x2560_96_0 x, ?_⟩
  refine List.forall_mem_cons.2 ⟨fun x => copy_core 1 (by omega) X1 x1 hx1 (by decide) (by decide) inb_S20x48x2560_S1x48x2560_1_0_0 inb_S960x2560_S48x2560_48_0 x, ?_⟩
  refine List.forall_mem_cons.2 ⟨fun x => copy_core 0 (by omega) X1 x1 hx1 (by decide) (by decide) inb_S20x48x2560_S1x48x2560_0_0_0 inb_S960x2560_S48x2560_0_0 x, ?_⟩
  exact fun p hp => absurd hp List.not_mem_nil

theorem copies_cover (arg1 : Memref sig .tc .vmem S20x48x2560 .fp8e4m3) (X1 : BufTy.Contents (Elt F) arg1.view.ty) (y : S960x2560.Idx) : ∃ p ∈ copies arg1 X1, y ∈ p.1.set := by
  unfold copies
  have y0 : (y 0).val < 960 := (y 0).isLt
  have hd : (y 0).val / 48 < 20 := by omega
  interval_cases hq : (y 0).val / 48
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), by dsimp only; rw [Rect.mem_set_unit]; exact copy_mem 0 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), by dsimp only; rw [Rect.mem_set_unit]; exact copy_mem 1 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), by dsimp only; rw [Rect.mem_set_unit]; exact copy_mem 2 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), by dsimp only; rw [Rect.mem_set_unit]; exact copy_mem 3 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), by dsimp only; rw [Rect.mem_set_unit]; exact copy_mem 4 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), by dsimp only; rw [Rect.mem_set_unit]; exact copy_mem 5 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), by dsimp only; rw [Rect.mem_set_unit]; exact copy_mem 6 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), by dsimp only; rw [Rect.mem_set_unit]; exact copy_mem 7 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), by dsimp only; rw [Rect.mem_set_unit]; exact copy_mem 8 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), by dsimp only; rw [Rect.mem_set_unit]; exact copy_mem 9 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), by dsimp only; rw [Rect.mem_set_unit]; exact copy_mem 10 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), by dsimp only; rw [Rect.mem_set_unit]; exact copy_mem 11 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), by dsimp only; rw [Rect.mem_set_unit]; exact copy_mem 12 y hq⟩
  · exact ⟨_, List.mem_cons_of_mem _ (List.mem_cons_of_mem _ (List.mem_cons_of_mem _ (List.mem_cons_of_mem _ (List.mem_cons_of_mem _ (List.mem_cons_of_mem _ (List.mem_cons_self)))))), by dsimp only; rw [Rect.mem_set_unit]; exact copy_mem 13 y hq⟩
  · exact ⟨_, List.mem_cons_of_mem _ (List.mem_cons_of_mem _ (List.mem_cons_of_mem _ (List.mem_cons_of_mem _ (List.mem_cons_of_mem _ (List.mem_cons_self))))), by dsimp only; rw [Rect.mem_set_unit]; exact copy_mem 14 y hq⟩
  · exact ⟨_, List.mem_cons_of_mem _ (List.mem_cons_of_mem _ (List.mem_cons_of_mem _ (List.mem_cons_of_mem _ (List.mem_cons_self)))), by dsimp only; rw [Rect.mem_set_unit]; exact copy_mem 15 y hq⟩
  · exact ⟨_, List.mem_cons_of_mem _ (List.mem_cons_of_mem _ (List.mem_cons_of_mem _ (List.mem_cons_self))), by dsimp only; rw [Rect.mem_set_unit]; exact copy_mem 16 y hq⟩
  · exact ⟨_, List.mem_cons_of_mem _ (List.mem_cons_of_mem _ (List.mem_cons_self)), by dsimp only; rw [Rect.mem_set_unit]; exact copy_mem 17 y hq⟩
  · exact ⟨_, List.mem_cons_of_mem _ (List.mem_cons_self), by dsimp only; rw [Rect.mem_set_unit]; exact copy_mem 18 y hq⟩
  · exact ⟨_, List.mem_cons_self, by dsimp only; rw [Rect.mem_set_unit]; exact copy_mem 19 y hq⟩

/-- What the scratch of the rows reads after the copies. -/
theorem copies_read (arg1 : Memref sig .tc .vmem S20x48x2560 .fp8e4m3) (X1 : BufTy.Contents (Elt F) arg1.view.ty) (x1 : Vec F S20x48x2560 .fp8e4m3) (hx1 : ∀ y, arg1.view.read (Elt F) X1 y = x1 y)
    {arg10 : Memref sig .tc .vmem S960x2560 .fp8e4m3} (f : BufTy.Contents (Elt F) arg10.view.ty) (y : S960x2560.Idx) :
    arg10.view.read (Elt F) (arg10.view.writes (Elt F) f (copies arg1 X1)) y = xt x1 y :=
  View.read_writes_apply_of_pieces _ _ (xt x1) _ (copies_piece arg1 X1 x1 hx1) y (copies_cover arg1 X1 y)

end Cert.Kernel.Hand

end
-- ==== Proof.Parts.lean ====
/- The parts of the buffers and the semaphores that the transfers of a grid point name. -/
module

public import proofs.«01_k».proof.Proof.Copies
public import proofs.«01_k».proof.Proof.Gen.Kernel.Frame
public import Idealize.ShloMosaic.Lib.Transfers

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-! ## The operands that are constants -/

abbrev hM : Memref sig .tc .hbm S1280x5x48x1024 .bf16 := Memref.whole main_v27_0
abbrev aX : Memref sig .tc .vmem S960x2560 .fp8e4m3 := Memref.whole cc0_scratch0
abbrev aR : Memref sig .tc .vmem S20x48x128 .f32 := Memref.whole cc0_scratch1
abbrev aS : Memref sig .tc .vmem S2x20x5x48x1024 .bf16 := Memref.whole cc0_scratch2
abbrev aA : Memref sig .tc .vmem S48x1024 .f32 := Memref.whole cc0_scratch3

/-! ## What the two transfers of a point name -/

/-- The semaphore a point waits on, and the part of the array and the slot its wait names. -/
abbrev semW (i : grid0.Coords) (h : k0_cond2 i = 1#1) : DmaSem sig :=
  (((cc0_scratch4 : DmaSems sig S2).slice (Rect.unit (s := S2) (k0_off1 i) S1.size (k0_off1_inb i h))).squeeze S_ squeezes_S1_S_).sem
abbrev dstW (i : grid0.Coords) (h : k0_cond2 i = 1#1) : Memref sig .tc .hbm S20x5x48x1024 .bf16 :=
  hM.slice (Rect.unit (s := S1280x5x48x1024) (k0_off2 i) S20x5x48x1024.size (k0_off2_inb i h)) (fun _ => rfl)
/-- The semaphore, the part of the array and the slot the transfer a point starts names. -/
abbrev semP (i : grid0.Coords) (h : k0_cond3 i = 1#1) : DmaSem sig :=
  (((cc0_scratch4 : DmaSems sig S2).slice (Rect.unit (s := S2) (k0_off4 i) S1.size (k0_off4_inb i h))).squeeze S_ squeezes_S1_S_).sem
abbrev dstP (i : grid0.Coords) (h : k0_cond3 i = 1#1) : Memref sig .tc .hbm S20x5x48x1024 .bf16 :=
  hM.slice (Rect.unit (s := S1280x5x48x1024) (k0_off5 i) S20x5x48x1024.size (k0_off5_inb i h)) (fun _ => rfl)
abbrev srcP (i : grid0.Coords) (h : k0_cond3 i = 1#1) : Memref sig .tc .vmem S20x5x48x1024 .bf16 :=
  (aS.slice (Rect.unit (s := S2x20x5x48x1024) (k0_off6 i) S1x20x5x48x1024.size (k0_off6_inb i h)) (fun _ => rfl)).squeeze S20x5x48x1024 squeezes_S1x20x5x48x1024_S20x5x48x1024

theorem contents_of_read {sp : Space} {S : Shape} {e : EltTy} (m : Memref sig .tc sp S e) (f g : BufTy.Contents (Elt F) m.view.ty)
    (h : ∀ x, m.view.read (Elt F) f x = m.view.read (Elt F) g x) : ∀ j ∈ m.view.set, f j = g j := by
  intro j hj
  obtain ⟨x, -, rfl⟩ := Finset.mem_map.1 hj
  have := h x
  rw [View.read_apply, View.read_apply] at this
  exact (_root_.cast_inj _).1 this

/-- What a transfer leaves in its part of the array is what its slot held. -/
theorem landed {sp : Space} {S : Shape} {e : EltTy} (m : Memref sig .tc sp S e) (fh zh : BufTy.Contents (Elt F) m.view.ty) (w : (Rect.whole S).shape.Idx → Elt F e)
    (hz : ∀ y : S.Idx, m.view.read (Elt F) zh y = w y) (c : Dev nD) :
    ((m.view.loc (c : Thread nD τ) ↦[m.view.set]{fullShare} (m.view.writes (Elt F) fh [⟨Rect.whole S, w⟩])) : sProp 𝕄G)
      = (m.view.loc (c : Thread nD τ) ↦[m.view.set]{fullShare} zh) := by
  refine pointsTo_congr (contents_of_read m _ _ fun x => ?_)
  rw [hz]
  exact View.read_writes_cons_hit m.view fh (Rect.whole S) w [] x x (Rect.emb_eq_of_coords _ _ _ fun a => by show (x a).val = 0 + 1 * (x a).val; omega)

end Cert.Kernel.Hand

end
-- ==== Proof.RunMid.lean ====
/- A grid point between the second and the last: it waits for the transfer of two points before, starts the transfer of the scores of the point before, prepares its rows and scales, and computes its tiles of scores while it steps the recursion. -/
module

public import proofs.«01_k».proof.Proof.Parts

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- A grid point between the second and the last: it waits for the transfer of two points before, starts the transfer of the scores of the point before, prepares its rows and scales, and computes its tiles of scores while it steps the recursion. -/
theorem runMid (c : Dev nD) (i : grid0.Coords) (h1 : ¬ (k0_cond1 i = 1#1)) (h2 : k0_cond2 i = 1#1) (h3 : k0_cond3 i = 1#1) (h4 : k0_cond4 i = 1#1) (h5 : ¬ (k0_cond5 i = 1#1)) (h6 : k0_cond6 i = 1#1) (h7 : ¬ (k0_cond7 i = 1#1)) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f7 : BufTy.Contents (Elt F) arg7.view.ty) (f9 : BufTy.Contents (Elt F) arg9.view.ty) (fX : BufTy.Contents (Elt F) aX.view.ty) (fR : BufTy.Contents (Elt F) aR.view.ty) (fA : BufTy.Contents (Elt F) aA.view.ty) (zC : BufTy.Contents (Elt F) aS.view.ty) (zP : BufTy.Contents (Elt F) aS.view.ty) (fh : BufTy.Contents (Elt F) hM.view.ty) (zh : BufTy.Contents (Elt F) hM.view.ty) (Dd : sProp 𝕄G) (W : Waits sig Unit) (K : PUnit → sProp 𝕄G) (x1 : Vec F S20x48x2560 .fp8e4m3) (x2 : Vec F S48x1280 .f32) (x3 : Vec F S2560x5120 .fp8e4m3) (x4 x5 : Vec F S1x5120 .f32) (hx1 : ∀ y, arg1.view.read (Elt F) X1 y = x1 y) (hx2 : ∀ y, arg2.view.read (Elt F) X2 y = x2 y) (hx3 : ∀ y, arg3.view.read (Elt F) X3 y = x3 y) (hx4 : ∀ y, arg4.view.read (Elt F) X4 y = x4 y) (hx5 : ∀ y, arg5.view.read (Elt F) X5 y = x5 y) (hz : ∀ y, (dstP i h3).view.read (Elt F) zh y = (srcP i h3).view.read (Elt F) zP y) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} f7) ∗ (arg9.view.loc (c : Thread nD τ) ↦[arg9.view.set]{fullShare} f9) ∗ (aX.view.loc (c : Thread nD τ) ↦[aX.view.set]{fullShare} fX) ∗ (aR.view.loc (c : Thread nD τ) ↦[aR.view.set]{fullShare} fR) ∗ (aA.view.loc (c : Thread nD τ) ↦[aA.view.set]{fullShare} fA) ∗ Transfers.Flight countersEmb (c : Thread nD τ) (SemLoc.dma (semW i h2)) () (dstW i h2).view.dmaCredit iprop(Dd ∗ (aS.view.loc (c : Thread nD τ) ↦[aS.view.setOn (slotC i).set]{fullShare.left} zC)) ∗ Aside (aS.view.loc (c : Thread nD τ) ↦[aS.view.setOn (slotC i).set]{fullShare.right} zC) ∗ ((srcP i h3).view.loc (c : Thread nD τ) ↦[(srcP i h3).view.set]{fullShare.left} zP) ∗ (aS.view.loc (c : Thread nD τ) ↦[aS.view.setOn (slotP i).set]{fullShare.right} zP) ∗ ((dstP i h3).view.loc (c : Thread nD τ) ↦[(dstP i h3).view.set]{fullShare} fh) ∗ semVal ((c : Thread nD τ), SemLoc.dma (semP i h3)) 0 ∗ owes (c : Thread nD τ) 0 W ∗ (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg7.view.loc (c : Thread nD τ) ↦[arg7.view.set]{fullShare} g)) ∗ (∃ g, (arg9.view.loc (c : Thread nD τ) ↦[arg9.view.set]{fullShare} g)) ∗ (∃ g, (aX.view.loc (c : Thread nD τ) ↦[aX.view.set]{fullShare} g)) ∗ (∃ g, (aR.view.loc (c : Thread nD τ) ↦[aR.view.set]{fullShare} g)) ∗ (∃ g, (aA.view.loc (c : Thread nD τ) ↦[aA.view.set]{fullShare} g)) ∗ (∃ g, (aS.view.loc (c : Thread nD τ) ↦[aS.view.setOn (slotC i).set]{fullShare} g) ∗ ⌜∀ y : S2x20x5x48x1024.Idx, (y 0).val = (i 0).val % 2 → aS.view.read (Elt F) g y = zt (i 0).val x1 x2 x3 x4 x5 y⌝) ∗ Dd ∗ semVal ((c : Thread nD τ), SemLoc.dma (semW i h2)) 0 ∗ Transfers.Flight countersEmb (c : Thread nD τ) (SemLoc.dma (semP i h3)) default 307200 iprop(((dstP i h3).view.loc (c : Thread nD τ) ↦[(dstP i h3).view.set]{fullShare} zh) ∗ ((srcP i h3).view.loc (c : Thread nD τ) ↦[(srcP i h3).view.set]{fullShare.left} zP)) ∗ (aS.view.loc (c : Thread nD τ) ↦[aS.view.setOn (slotP i).set]{fullShare.right} zP) ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  rw [cc0_crf_forward_eq_skeleton]; unfold cc0_crf_forward_skel
  iintro ⟨H1, H2, H3, H4, H5, H7, H9, HX, HR, HA, HF, HC2, HP1, HP2, Hh, Hs, HO, Hk⟩
  sl_exec_parts
  ihave HC2 := aside_out _ $$ HC2
  ihave HC := (pointsTo_share (PosShare.mem_left_op_right fullShare)).2 $$ [HF_src HC2]
  · isplitl [HF_src] <;> iassumption
  sl_exec_parts
  sl_step
  ihave Hs := (Transfers.Flight_mono (EC := countersEmb) (c := (c : Thread nD τ)) (sm := SemLoc.dma (semP i h3)) (ι := default) (N := 307200)
    (sep_mono (Entails.of_eq (landed (dstP i h3) fh zh (runMid.sl.dma0 i h3 zP) hz c)) .rfl : iprop(_ ∗ ((srcP i h3).view.loc (c : Thread nD τ) ↦[(srcP i h3).view.set]{fullShare.left} zP)) ⊢ (iprop(_ ∗ _) : sProp 𝕄G))) $$ Hs
  iapply Hk
  isplitl [H1]
  · iassumption
  isplitl [H2]
  · iassumption
  isplitl [H3]
  · iassumption
  isplitl [H4]
  · iassumption
  isplitl [H5]
  · iassumption
  isplitl [H7]
  · iexists _; iassumption
  isplitl [H9]
  · iexists _; iassumption
  isplitl [HX]
  · iexists _; iassumption
  isplitl [HR]
  · iexists _; iassumption
  isplitl [HA]
  · iexists _; iassumption
  isplitl [HC]
  · iexists _
    isplitl [HC]
    · iassumption
    · ipureintro
      intro y hy
      exact slot3 (F := F) Variants.none c none i _ _ _ _ _ _ _ _ _ _ _ _ _ _ _ _ _ _ _ _ _ _ _ _ _ _ _ _ _ _ h6 _ _ _ _ _ _ _ _ _ x1 x2 x3 x4 x5 hx3 hx4 hx5
        (copies_read arg1 X1 x1 hx1 _) (scales1 Variants.none c none i _ _ _ _ _ _ _ _ _ _ _ _ _ _ _ _ _ _ _ _ _ _ _ _ _ _ _ h4 X2 x2 hx2 _) _ y hy
  isplitl [HF_dst]
  · iassumption
  isplitl [HF]
  · iassumption
  isplitl [Hs]
  · iassumption
  isplitl [HP2]
  · iassumption
  iexists _; iassumption

end Cert.Kernel.Hand

end
-- ==== Proof.RunOne.lean ====
/- The second grid point: nothing to wait for; it starts the transfer of the scores of the first. -/
module

public import proofs.«01_k».proof.Proof.Parts

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- The second grid point: nothing to wait for; it starts the transfer of the scores of the first. -/
theorem runOne (c : Dev nD) (i : grid0.Coords) (h1 : ¬ (k0_cond1 i = 1#1)) (h2 : ¬ (k0_cond2 i = 1#1)) (h3 : k0_cond3 i = 1#1) (h4 : k0_cond4 i = 1#1) (h5 : ¬ (k0_cond5 i = 1#1)) (h6 : k0_cond6 i = 1#1) (h7 : ¬ (k0_cond7 i = 1#1)) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f7 : BufTy.Contents (Elt F) arg7.view.ty) (f9 : BufTy.Contents (Elt F) arg9.view.ty) (fX : BufTy.Contents (Elt F) aX.view.ty) (fR : BufTy.Contents (Elt F) aR.view.ty) (fA : BufTy.Contents (Elt F) aA.view.ty) (zC : BufTy.Contents (Elt F) aS.view.ty) (zP : BufTy.Contents (Elt F) aS.view.ty) (fh : BufTy.Contents (Elt F) hM.view.ty) (zh : BufTy.Contents (Elt F) hM.view.ty) (W : Waits sig Unit) (K : PUnit → sProp 𝕄G) (x1 : Vec F S20x48x2560 .fp8e4m3) (x2 : Vec F S48x1280 .f32) (x3 : Vec F S2560x5120 .fp8e4m3) (x4 x5 : Vec F S1x5120 .f32) (hx1 : ∀ y, arg1.view.read (Elt F) X1 y = x1 y) (hx2 : ∀ y, arg2.view.read (Elt F) X2 y = x2 y) (hx3 : ∀ y, arg3.view.read (Elt F) X3 y = x3 y) (hx4 : ∀ y, arg4.view.read (Elt F) X4 y = x4 y) (hx5 : ∀ y, arg5.view.read (Elt F) X5 y = x5 y) (hz : ∀ y, (dstP i h3).view.read (Elt F) zh y = (srcP i h3).view.read (Elt F) zP y) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} f7) ∗ (arg9.view.loc (c : Thread nD τ) ↦[arg9.view.set]{fullShare} f9) ∗ (aX.view.loc (c : Thread nD τ) ↦[aX.view.set]{fullShare} fX) ∗ (aR.view.loc (c : Thread nD τ) ↦[aR.view.set]{fullShare} fR) ∗ (aA.view.loc (c : Thread nD τ) ↦[aA.view.set]{fullShare} fA) ∗ Aside (aS.view.loc (c : Thread nD τ) ↦[aS.view.setOn (slotC i).set]{fullShare} zC) ∗ ((srcP i h3).view.loc (c : Thread nD τ) ↦[(srcP i h3).view.set]{fullShare.left} zP) ∗ (aS.view.loc (c : Thread nD τ) ↦[aS.view.setOn (slotP i).set]{fullShare.right} zP) ∗ ((dstP i h3).view.loc (c : Thread nD τ) ↦[(dstP i h3).view.set]{fullShare} fh) ∗ semVal ((c : Thread nD τ), SemLoc.dma (semP i h3)) 0 ∗ owes (c : Thread nD τ) 0 W ∗ (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg7.view.loc (c : Thread nD τ) ↦[arg7.view.set]{fullShare} g)) ∗ (∃ g, (arg9.view.loc (c : Thread nD τ) ↦[arg9.view.set]{fullShare} g)) ∗ (∃ g, (aX.view.loc (c : Thread nD τ) ↦[aX.view.set]{fullShare} g)) ∗ (∃ g, (aR.view.loc (c : Thread nD τ) ↦[aR.view.set]{fullShare} g)) ∗ (∃ g, (aA.view.loc (c : Thread nD τ) ↦[aA.view.set]{fullShare} g)) ∗ (∃ g, (aS.view.loc (c : Thread nD τ) ↦[aS.view.setOn (slotC i).set]{fullShare} g) ∗ ⌜∀ y : S2x20x5x48x1024.Idx, (y 0).val = (i 0).val % 2 → aS.view.read (Elt F) g y = zt (i 0).val x1 x2 x3 x4 x5 y⌝) ∗ Transfers.Flight countersEmb (c : Thread nD τ) (SemLoc.dma (semP i h3)) default 307200 iprop(((dstP i h3).view.loc (c : Thread nD τ) ↦[(dstP i h3).view.set]{fullShare} zh) ∗ ((srcP i h3).view.loc (c : Thread nD τ) ↦[(srcP i h3).view.set]{fullShare.left} zP)) ∗ (aS.view.loc (c : Thread nD τ) ↦[aS.view.setOn (slotP i).set]{fullShare.right} zP) ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  rw [cc0_crf_forward_eq_skeleton]; unfold cc0_crf_forward_skel
  iintro ⟨H1, H2, H3, H4, H5, H7, H9, HX, HR, HA, HC, HP1, HP2, Hh, Hs, HO, Hk⟩
  sl_exec_parts
  ihave HC := aside_out _ $$ HC
  sl_exec_parts
  sl_step
  ihave Hs := (Transfers.Flight_mono (EC := countersEmb) (c := (c : Thread nD τ)) (sm := SemLoc.dma (semP i h3)) (ι := default) (N := 307200)
    (sep_mono (Entails.of_eq (landed (dstP i h3) fh zh (runOne.sl.dma0 i h3 zP) hz c)) .rfl : iprop(_ ∗ ((srcP i h3).view.loc (c : Thread nD τ) ↦[(srcP i h3).view.set]{fullShare.left} zP)) ⊢ (iprop(_ ∗ _) : sProp 𝕄G))) $$ Hs
  iapply Hk
  isplitl [H1]
  · iassumption
  isplitl [H2]
  · iassumption
  isplitl [H3]
  · iassumption
  isplitl [H4]
  · iassumption
  isplitl [H5]
  · iassumption
  isplitl [H7]
  · iexists _; iassumption
  isplitl [H9]
  · iexists _; iassumption
  isplitl [HX]
  · iexists _; iassumption
  isplitl [HR]
  · iexists _; iassumption
  isplitl [HA]
  · iexists _; iassumption
  isplitl [HC]
  · iexists _
    isplitl [HC]
    · iassumption
    · ipureintro
      intro y hy
      exact slot3 (F := F) Variants.none c none i _ _ _ _ _ _ _ _ _ _ _ _ _ _ _ _ _ _ _ _ _ _ _ _ _ _ _ _ _ _ h6 _ _ _ _ _ _ _ _ _ x1 x2 x3 x4 x5 hx3 hx4 hx5
        (copies_read arg1 X1 x1 hx1 _) (scales1 Variants.none c none i _ _ _ _ _ _ _ _ _ _ _ _ _ _ _ _ _ _ _ _ _ _ _ _ _ _ _ h4 X2 x2 hx2 _) _ y hy
  isplitl [Hs]
  · iassumption
  isplitl [HP2]
  · iassumption
  iexists _; iassumption

end Cert.Kernel.Hand

end
-- ==== Proof.RunZero.lean ====
/- The first grid point: it sets the recursion to its start, prepares its rows and scales and computes its tiles of scores. -/
module

public import proofs.«01_k».proof.Proof.Parts

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- The first grid point: it sets the recursion to its start, prepares its rows and scales and computes its tiles of scores. -/
theorem runZero (c : Dev nD) (i : grid0.Coords) (h1 : k0_cond1 i = 1#1) (h2 : ¬ (k0_cond2 i = 1#1)) (h3 : ¬ (k0_cond3 i = 1#1)) (h4 : k0_cond4 i = 1#1) (h5 : k0_cond5 i = 1#1) (h6 : ¬ (k0_cond6 i = 1#1)) (h7 : ¬ (k0_cond7 i = 1#1)) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f9 : BufTy.Contents (Elt F) arg9.view.ty) (fX : BufTy.Contents (Elt F) aX.view.ty) (fR : BufTy.Contents (Elt F) aR.view.ty) (fA : BufTy.Contents (Elt F) aA.view.ty) (zC : BufTy.Contents (Elt F) aS.view.ty) (W : Waits sig Unit) (K : PUnit → sProp 𝕄G) (x1 : Vec F S20x48x2560 .fp8e4m3) (x2 : Vec F S48x1280 .f32) (x3 : Vec F S2560x5120 .fp8e4m3) (x4 x5 : Vec F S1x5120 .f32) (hx1 : ∀ y, arg1.view.read (Elt F) X1 y = x1 y) (hx2 : ∀ y, arg2.view.read (Elt F) X2 y = x2 y) (hx3 : ∀ y, arg3.view.read (Elt F) X3 y = x3 y) (hx4 : ∀ y, arg4.view.read (Elt F) X4 y = x4 y) (hx5 : ∀ y, arg5.view.read (Elt F) X5 y = x5 y)  :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} f9) ∗ (aX.view.loc (c : Thread nD τ) ↦[aX.view.set]{fullShare} fX) ∗ (aR.view.loc (c : Thread nD τ) ↦[aR.view.set]{fullShare} fR) ∗ (aA.view.loc (c : Thread nD τ) ↦[aA.view.set]{fullShare} fA) ∗ (aS.view.loc (c : Thread nD τ) ↦[aS.view.set]{fullShare} zC) ∗ owes (c : Thread nD τ) 0 W ∗ (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg9.view.loc (c : Thread nD τ) ↦[arg9.view.set]{fullShare} g)) ∗ (∃ g, (aX.view.loc (c : Thread nD τ) ↦[aX.view.set]{fullShare} g)) ∗ (∃ g, (aR.view.loc (c : Thread nD τ) ↦[aR.view.set]{fullShare} g)) ∗ (∃ g, (aA.view.loc (c : Thread nD τ) ↦[aA.view.set]{fullShare} g)) ∗ (∃ g, (aS.view.loc (c : Thread nD τ) ↦[aS.view.set]{fullShare} g) ∗ ⌜∀ y : S2x20x5x48x1024.Idx, (y 0).val = (i 0).val % 2 → aS.view.read (Elt F) g y = zt (i 0).val x1 x2 x3 x4 x5 y⌝) ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  rw [cc0_crf_forward_eq_skeleton]; unfold cc0_crf_forward_skel
  iintro ⟨H1, H2, H3, H4, H5, H9, HX, HR, HA, HC, HO, Hk⟩
  sl_exec_parts
  sl_step
  iapply Hk
  isplitl [H1]
  · iassumption
  isplitl [H2]
  · iassumption
  isplitl [H3]
  · iassumption
  isplitl [H4]
  · iassumption
  isplitl [H5]
  · iassumption
  isplitl [H9]
  · iexists _; iassumption
  isplitl [HX]
  · iexists _; iassumption
  isplitl [HR]
  · iexists _; iassumption
  isplitl [HA]
  · iexists _; iassumption
  isplitl [HC]
  · iexists _
    isplitl [HC]
    · iassumption
    · ipureintro
      intro y hy
      exact slot2 (F := F) Variants.none c none i _ _ _ _ _ _ _ _ _ _ _ _ _ _ _ _ _ _ _ _ _ _ _ _ _ _ _ h5 _ _ _ _ _ x1 x2 x3 x4 x5 hx3 hx4 hx5
        (copies_read arg1 X1 x1 hx1 _) (scales1 Variants.none c none i _ _ _ _ _ _ _ _ _ _ _ _ _ _ _ _ _ _ _ _ _ _ _ _ _ _ _ h4 X2 x2 hx2 _) _ y hy
  iexists _; iassumption

end Cert.Kernel.Hand

end
-- ==== Proof.RunLast.lean ====
/- The last grid point: it waits for the transfer of two points before, transfers the last scores and waits for them, steps the recursion to its end and stores the sums. -/
module

public import proofs.«01_k».proof.Proof.Parts

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- The last grid point: it waits for the transfer of two points before, transfers the last scores and waits for them, steps the recursion to its end and stores the sums. -/
theorem runLast (c : Dev nD) (i : grid0.Coords) (h1 : ¬ (k0_cond1 i = 1#1)) (h2 : k0_cond2 i = 1#1) (h3 : k0_cond3 i = 1#1) (h4 : ¬ (k0_cond4 i = 1#1)) (h5 : ¬ (k0_cond5 i = 1#1)) (h6 : ¬ (k0_cond6 i = 1#1)) (h7 : k0_cond7 i = 1#1) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole)  (f7 : BufTy.Contents (Elt F) arg7.view.ty) (f8 : BufTy.Contents (Elt F) arg8.view.ty) (f9 : BufTy.Contents (Elt F) arg9.view.ty) (fA : BufTy.Contents (Elt F) aA.view.ty) (zC : BufTy.Contents (Elt F) aS.view.ty) (zP : BufTy.Contents (Elt F) aS.view.ty) (zW : BufTy.Contents (Elt F) aS.view.ty) (fh : BufTy.Contents (Elt F) hM.view.ty) (zh : BufTy.Contents (Elt F) hM.view.ty) (Dd : sProp 𝕄G) (W : Waits sig Unit) (K : PUnit → sProp 𝕄G) (hz : ∀ y, (dstP i h3).view.read (Elt F) zh y = (srcP i h3).view.read (Elt F) zP y) :
    iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (aA.view.loc (c : Thread nD τ) ↦[aA.view.set]{fullShare} fA) ∗ Transfers.Flight countersEmb (c : Thread nD τ) (SemLoc.dma (semW i h2)) () (dstW i h2).view.dmaCredit iprop(Dd ∗ (aS.view.loc (c : Thread nD τ) ↦[aS.view.setOn (slotC i).set]{fullShare.left} zC)) ∗ (aS.view.loc (c : Thread nD τ) ↦[aS.view.set]{fullShare.right} zW) ∗ ((srcP i h3).view.loc (c : Thread nD τ) ↦[(srcP i h3).view.set]{fullShare.left} zP) ∗ ((dstP i h3).view.loc (c : Thread nD τ) ↦[(dstP i h3).view.set]{fullShare} fh) ∗ semVal ((c : Thread nD τ), SemLoc.dma (semP i h3)) 0 ∗ owes (c : Thread nD τ) 0 W ∗ (((∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (aA.view.loc (c : Thread nD τ) ↦[aA.view.set]{fullShare} g)) ∗ Dd ∗ (aS.view.loc (c : Thread nD τ) ↦[aS.view.setOn (slotC i).set]{fullShare.left} zC) ∗ semVal ((c : Thread nD τ), SemLoc.dma (semW i h2)) 0 ∗ ((dstP i h3).view.loc (c : Thread nD τ) ↦[(dstP i h3).view.set]{fullShare} zh) ∗ ((srcP i h3).view.loc (c : Thread nD τ) ↦[(srcP i h3).view.set]{fullShare.left} zP) ∗ (aS.view.loc (c : Thread nD τ) ↦[aS.view.set]{fullShare.right} zW) ∗ semVal ((c : Thread nD τ), SemLoc.dma (semP i h3)) 0 ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  rw [cc0_crf_forward_eq_skeleton]; unfold cc0_crf_forward_skel
  iintro ⟨H7, H8, H9, HA, HF, HW, HP1, Hh, Hs, HO, Hk⟩
  sl_exec_parts
  sl_step
  ihave Hh := (Entails.of_eq (landed (dstP i h3) fh zh (runLast.sl.dma0 i h3 zP) hz c)) $$ Hh
  iapply Hk
  isplitl [H7]
  · iexists _; iassumption
  isplitl [H8]
  · iexists _; iassumption
  isplitl [H9]
  · iexists _; iassumption
  isplitl [HA]
  · iexists _; iassumption
  isplitl [HF_dst]
  · iassumption
  isplitl [HF_src]
  · iassumption
  isplitl [HF]
  · iassumption
  isplitl [Hh]
  · iassumption
  isplitl [HP1]
  · iassumption
  isplitl [HW]
  · iassumption
  isplitl [Hs]
  · iassumption
  iexists _; iassumption

end Cert.Kernel.Hand

end
-- ==== Proof.Inv.lean ====
/- What is held between two grid points: the slots of the ring, the parts of the array of scores and the transfer in flight, with the contents of each named. -/
module

public import proofs.«01_k».proof.Proof.RunMid
public import proofs.«01_k».proof.Proof.RunOne
public import proofs.«01_k».proof.Proof.RunZero
public import proofs.«01_k».proof.Proof.RunLast
public import Idealize.ShloMosaic.Lib.Pipeline.FrameValue
public import Idealize.ShloMosaic.Lib.ValueIdx

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ
open Idealize.ShloMosaic.ValueIdx

variable (m : (ℓ : Loc nD τ sig) → Buf (Elt F) ℓ) (ρ : Dev nD → PrngReg)

/-! ## The parts, by number -/

/-- The cell of slot `b`. -/
abbrev sq (b : ℕ) : DmaSem sig := if b % 2 = 0 then 10 else 11

theorem slotR_in (b : ℕ) : ∀ a, (![b % 2, 0, 0, 0, 0] : Fin 5 → ℕ) a + S1x20x5x48x1024.size a ≤ S2x20x5x48x1024.size a := by
  intro a; fin_cases a
  · show b % 2 + 1 ≤ 2; omega
  all_goals exact Nat.le_refl _
/-- Slot `b` of the ring. -/
abbrev slotR (b : ℕ) : Rect S2x20x5x48x1024 := Rect.unit (s := S2x20x5x48x1024) ![b % 2, 0, 0, 0, 0] S1x20x5x48x1024.size (slotR_in b)
abbrev slotM (b : ℕ) : Memref sig .tc .vmem S20x5x48x1024 .bf16 :=
  (aS.slice (slotR b) (fun _ => rfl)).squeeze S20x5x48x1024 squeezes_S1x20x5x48x1024_S20x5x48x1024

theorem chunkR_in (k : ℕ) : ∀ a, (![20 * (k % 64), 0, 0, 0] : Fin 4 → ℕ) a + S20x5x48x1024.size a ≤ S1280x5x48x1024.size a := by
  intro a; fin_cases a
  · show 20 * (k % 64) + 20 ≤ 1280; omega
  all_goals exact Nat.le_refl _
/-- Chunk `k` of the array of scores. -/
abbrev chunkR (k : ℕ) : Rect S1280x5x48x1024 := Rect.unit (s := S1280x5x48x1024) ![20 * (k % 64), 0, 0, 0] S20x5x48x1024.size (chunkR_in k)
abbrev chunkM (k : ℕ) : Memref sig .tc .hbm S20x5x48x1024 .bf16 := hM.slice (chunkR k) (fun _ => rfl)

theorem semW_eq : ∀ (i : grid0.Coords) (h : k0_cond2 i = 1#1), semW i h = sq (i 0).val := by decide +kernel
theorem semP_eq : ∀ (i : grid0.Coords) (h : k0_cond3 i = 1#1), semP i h = sq ((i 0).val + 1) := by decide +kernel
theorem offW_eq : ∀ (i : grid0.Coords) (h : k0_cond2 i = 1#1), k0_off2 i = ![20 * (((i 0).val - 2) % 64), 0, 0, 0] := by decide +kernel
theorem offP_eq : ∀ (i : grid0.Coords) (h : k0_cond3 i = 1#1), k0_off5 i = ![20 * (((i 0).val - 1) % 64), 0, 0, 0] := by decide +kernel
theorem offC_eq : ∀ (i : grid0.Coords), k0_off3 i = ![(i 0).val % 2, 0, 0, 0, 0] := by decide +kernel
theorem offQ_eq : ∀ (i : grid0.Coords), k0_off6 i = ![((i 0).val + 1) % 2, 0, 0, 0, 0] := by decide +kernel

theorem slice_congr {sp : Space} {S : Shape} {e : EltTy} (M : Memref sig .tc sp S e) {o o' sz : Fin S.rank → ℕ} (h : ∀ a, o a + sz a ≤ S.size a) (h' : ∀ a, o' a + sz a ≤ S.size a)
    (eq : o = o') : M.slice (Rect.unit (s := S) o sz h) (fun _ => rfl) = M.slice (Rect.unit (s := S) o' sz h') (fun _ => rfl) := by subst eq; rfl

theorem dstW_eq (i : grid0.Coords) (h : k0_cond2 i = 1#1) : dstW i h = chunkM ((i 0).val - 2) := slice_congr hM _ _ (offW_eq i h)
theorem dstP_eq (i : grid0.Coords) (h : k0_cond3 i = 1#1) : dstP i h = chunkM ((i 0).val - 1) := slice_congr hM _ _ (offP_eq i h)
theorem slotC_eq (i : grid0.Coords) : slotC i = slotR (i 0).val := by unfold slotC slotR; congr 1; exact offC_eq i
theorem slotP_eq (i : grid0.Coords) : slotP i = slotR ((i 0).val + 1) := by unfold slotP slotR; congr 1; exact offQ_eq i
theorem srcP_eq (i : grid0.Coords) (h : k0_cond3 i = 1#1) : srcP i h = slotM ((i 0).val + 1) := by
  unfold srcP slotM; rw [slice_congr aS (k0_off6_inb i h) (slotR_in _) (offQ_eq i)]

/-! ## Their elements -/

theorem mem_slot (b : ℕ) (y : S2x20x5x48x1024.Idx) : (y ∈ aS.view.setOn (slotR b).set) ↔ (y 0).val = b % 2 := by
  have h1 : (y ∈ aS.view.setOn (slotR b).set) ↔ y ∈ (slotR b).set := View.mem_setOn (v := aS.view) (x := y) (M := (slotR b).set)
  rw [h1, Rect.mem_set_unit]
  have y0 : (y 0).val < 2 := (y 0).isLt
  have y1 : (y 1).val < 20 := (y 1).isLt
  have y2 : (y 2).val < 5 := (y 2).isLt
  have y3 : (y 3).val < 48 := (y 3).isLt
  have y4 : (y 4).val < 1024 := (y 4).isLt
  constructor
  · intro h
    have h0 : b % 2 ≤ (y 0).val ∧ (y 0).val < b % 2 + 1 := h 0
    omega
  · intro h a; fin_cases a
    · show b % 2 ≤ (y 0).val ∧ (y 0).val < b % 2 + 1; omega
    · show 0 ≤ (y 1).val ∧ (y 1).val < 0 + 20; omega
    · show 0 ≤ (y 2).val ∧ (y 2).val < 0 + 5; omega
    · show 0 ≤ (y 3).val ∧ (y 3).val < 0 + 48; omega
    · show 0 ≤ (y 4).val ∧ (y 4).val < 0 + 1024; omega

/-- The elements of chunk `k`. -/
def chunkS (k : ℕ) : Finset S1280x5x48x1024.Idx := (chunkR k).set

theorem mem_chunk (k : ℕ) (j : S1280x5x48x1024.Idx) : (j ∈ chunkS k) ↔ 20 * (k % 64) ≤ (j 0).val ∧ (j 0).val < 20 * (k % 64) + 20 := by
  unfold chunkS
  rw [Rect.mem_set_unit]
  have y1 : (j 1).val < 5 := (j 1).isLt
  have y2 : (j 2).val < 48 := (j 2).isLt
  have y3 : (j 3).val < 1024 := (j 3).isLt
  constructor
  · intro h; exact h 0
  · intro h a; fin_cases a
    · exact h
    · show 0 ≤ (j 1).val ∧ (j 1).val < 0 + 5; omega
    · show 0 ≤ (j 2).val ∧ (j 2).val < 0 + 48; omega
    · show 0 ≤ (j 3).val ∧ (j 3).val < 0 + 1024; omega

theorem aS_univ : aS.view.set = Finset.univ := View.set_whole _
theorem hM_univ : hM.view.set = Finset.univ := View.set_whole _

theorem slot_other (b : ℕ) : aS.view.setOn (slotR (b + 1)).set = aS.view.set \ aS.view.setOn (slotR b).set := by
  ext y
  rw [aS_univ, Finset.mem_sdiff]
  have a := mem_slot (b + 1) y
  have a' := mem_slot b y
  have y0 : (y 0).val < 2 := (y 0).isLt
  rw [a, a']
  constructor
  · intro h; exact ⟨Finset.mem_univ _, by omega⟩
  · intro h; have := h.2; omega

theorem slotM_set (b : ℕ) : (slotM b).view.set = aS.view.setOn (slotR b).set :=
  (View.set_reshape _ _).trans (View.set_slice aS.view (slotR b))

theorem slotR_add (b : ℕ) : slotR (b + 1 + 1) = slotR b := by
  unfold slotR; congr 1; rw [show (b + 1 + 1) % 2 = b % 2 by omega]
theorem sq_add (b : ℕ) : sq (b + 1 + 1) = sq b := by unfold sq; rw [show (b + 1 + 1) % 2 = b % 2 by omega]

/-! ## The contents, by name -/

/-- The grid point of number `p`. -/
def pt (p : ℕ) : Fin cfg0.N := ⟨p % 65, by rw [show cfg0.N = 65 from N_0]; omega⟩

/-- What point `p` computes, in either slot of the ring. -/
def Zb (c : Dev nD) (p : ℕ) : BufTy.Contents (Elt F) aS.view.ty :=
  zt p (iblk m c 0 (pt p)) (iblk m c 1 (pt p)) (iblk m c 2 (pt p)) (iblk m c 3 (pt p)) (iblk m c 4 (pt p))

/-- The array of scores when all is done. -/
def Zfull (c : Dev nD) : BufTy.Contents (Elt F) hM.view.ty := fun (j : S1280x5x48x1024.Idx) =>
  (Zb m c ((j 0).val / 20) (ix5 (0 : Fin 2) (⟨(j 0).val % 20, by omega⟩ : Fin 20) (⟨(j 1).val, (j 1).isLt⟩ : Fin 5) (⟨(j 2).val, (j 2).isLt⟩ : Fin 48) (⟨(j 3).val, (j 3).isLt⟩ : Fin 1024)) : Elt F .bf16)

/-- The array of scores with the chunks before `k` done. -/
def mix (c : Dev nD) (k : ℕ) : BufTy.Contents (Elt F) hM.view.ty := fun (j : S1280x5x48x1024.Idx) =>
  (if (j 0).val < 20 * k then Zfull m c j else V m c main_v27_0 j : Elt F .bf16)

theorem slotM_emb (b : ℕ) (y : S20x5x48x1024.Idx) : ((slotM b).view.emb y : S2x20x5x48x1024.Idx)
    = ix5 (⟨b % 2, by omega⟩ : Fin 2) (⟨(y 0).val, (y 0).isLt⟩ : Fin 20) (⟨(y 1).val, (y 1).isLt⟩ : Fin 5) (⟨(y 2).val, (y 2).isLt⟩ : Fin 48) (⟨(y 3).val, (y 3).isLt⟩ : Fin 1024) := by
  have e : ((slotM b).view.emb y : S2x20x5x48x1024.Idx) = (slotR b).emb (Shape.reshapeEquiv (s := S1x20x5x48x1024) (s' := S20x5x48x1024) squeezes_S1x20x5x48x1024_S20x5x48x1024.numel_eq y) := rfl
  rw [e, show Shape.reshapeEquiv (s := S1x20x5x48x1024) (s' := S20x5x48x1024) squeezes_S1x20x5x48x1024_S20x5x48x1024.numel_eq y = Fin.cons (⟨0, Nat.one_pos⟩ : Fin 1) y from Shape.reshapeEquiv_cons_one (n := 4) (d := ![20, 5, 48, 1024]) _ y]
  funext a
  fin_cases a <;> refine Fin.ext ?_
  · show b % 2 + 1 * 0 = b % 2; omega
  · show 0 + 1 * (y 0).val = (y 0).val; omega
  · show 0 + 1 * (y 1).val = (y 1).val; omega
  · show 0 + 1 * (y 2).val = (y 2).val; omega
  · show 0 + 1 * (y 3).val = (y 3).val; omega

/-- A chunk of the finished array is what its point computed. -/
theorem chunk_slot (c : Dev nD) (k : ℕ) (hk : k < 64) (b : ℕ) (y : S20x5x48x1024.Idx) :
    (chunkM k).view.read (Elt F) (Zfull m c) y = (slotM b).view.read (Elt F) (Zb m c k) y := by
  rw [View.read_apply, View.read_apply]
  have y0 : (y 0).val < 20 := (y 0).isLt
  have e1 : ((chunkM k).view.emb y : S1280x5x48x1024.Idx) = ix4 (⟨20 * k + (y 0).val, by omega⟩ : Fin 1280) (⟨(y 1).val, (y 1).isLt⟩ : Fin 5) (⟨(y 2).val, (y 2).isLt⟩ : Fin 48) (⟨(y 3).val, (y 3).isLt⟩ : Fin 1024) := by
    funext a
    fin_cases a <;> refine Fin.ext ?_
    · show 20 * (k % 64) + 1 * (y 0).val = 20 * k + (y 0).val; omega
    · show 0 + 1 * (y 1).val = (y 1).val; omega
    · show 0 + 1 * (y 2).val = (y 2).val; omega
    · show 0 + 1 * (y 3).val = (y 3).val; omega
  show (Zfull m c ((chunkM k).view.emb y) : Elt F .bf16) = Zb m c k ((slotM b).view.emb y)
  rw [e1, slotM_emb]
  show (Zb m c ((20 * k + (y 0).val) / 20) _ : Elt F .bf16) = _
  rw [show (20 * k + (y 0).val) / 20 = k by omega]
  unfold Zb zt
  have q : (20 * k + (y 0).val) % 20 = (y 0).val := by omega
  simp only [ix4, ix5]
  show tileOf (F := F) _ _ _ _ _ _ _ (ix5 _ (⟨(20 * k + (y 0).val) % 20, _⟩ : Fin 20) _ _ _) = _
  simp only [q]

theorem mix_zero (c : Dev nD) : mix m c 0 = V m c main_v27_0 := by
  funext j; unfold mix; rw [if_neg (by omega)]

theorem mix_next (c : Dev nD) (k : ℕ) (hk : k < 64) : ∀ j ∈ (Finset.univ \ chunkS k), mix m c k j = mix m c (k + 1) j := by
  intro j hj
  have := (Finset.mem_sdiff.1 hj).2
  rw [mem_chunk] at this
  unfold mix
  by_cases h : (j 0).val < 20 * k
  · rw [if_pos h, if_pos (by omega)]
  · rw [if_neg h, if_neg (by omega)]

theorem mix_done (c : Dev nD) (k : ℕ) (hk : k < 64) : ∀ j ∈ chunkS k, Zfull m c j = mix m c (k + 1) j := by
  intro j hj
  rw [mem_chunk] at hj
  unfold mix
  rw [if_pos (by omega)]

theorem mix_all (c : Dev nD) : mix m c 64 = Zfull m c := by
  funext j; unfold mix; rw [if_pos (by have : (j 0).val < 1280 := (j 0).isLt; omega)]

end Cert.Kernel.Hand

end
-- ==== Proof.Named.lean ====
/- The parts and conditions of a grid point by its number. -/
module

public import proofs.«01_k».proof.Proof.Inv

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

variable (m : (ℓ : Loc nD τ sig) → Buf (Elt F) ℓ) (ρ : Dev nD → PrngReg)

/-- A slot of the ring at a share. -/
abbrev slotPt (c : Dev nD) (q : PosShare TreeShare) (b : ℕ) (z : BufTy.Contents (Elt F) aS.view.ty) : sProp 𝕄G :=
  aS.view.loc (c : Thread nD τ) ↦[aS.view.setOn (slotR b).set]{q} z
/-- Some elements of the array of scores. -/
abbrev hPt (c : Dev nD) (S : Finset S1280x5x48x1024.Idx) (f : BufTy.Contents (Elt F) hM.view.ty) : sProp 𝕄G :=
  hM.view.loc (c : Thread nD τ) ↦[S]{fullShare} f
/-- The cell of a slot at zero. -/
abbrev sv (c : Dev nD) (b : ℕ) : sProp 𝕄G := semVal ((c : Thread nD τ), SemLoc.dma (sq b)) 0

/-! ## The numbers of the points -/

theorem coord_val : ∀ t : Fin grid0.N, (grid0.coords t 0).val = t.val := by decide +kernel
theorem c1 : ∀ i : grid0.Coords, (k0_cond1 i = 1#1) ↔ (i 0).val = 0 := by decide +kernel
theorem c2 : ∀ i : grid0.Coords, (k0_cond2 i = 1#1) ↔ 2 ≤ (i 0).val := by decide +kernel
theorem c3 : ∀ i : grid0.Coords, (k0_cond3 i = 1#1) ↔ 1 ≤ (i 0).val := by decide +kernel
theorem c4 : ∀ i : grid0.Coords, (k0_cond4 i = 1#1) ↔ (i 0).val < 64 := by decide +kernel
theorem c5 : ∀ i : grid0.Coords, (k0_cond5 i = 1#1) ↔ (i 0).val = 0 := by decide +kernel
theorem c6 : ∀ i : grid0.Coords, (k0_cond6 i = 1#1) ↔ 1 ≤ (i 0).val ∧ (i 0).val < 64 := by decide +kernel
theorem c7 : ∀ i : grid0.Coords, (k0_cond7 i = 1#1) ↔ (i 0).val = 64 := by decide +kernel

theorem pt_val (t : Fin cfg0.N) : pt t.val = t := Fin.ext (Nat.mod_eq_of_lt (t.isLt.trans_eq N_0))

/-! ## The parts a point names, by number -/

theorem credit (k : ℕ) : (chunkM k).view.dmaCredit = 307200 := rfl
theorem creditW (i : grid0.Coords) (h : k0_cond2 i = 1#1) : (dstW i h).view.dmaCredit = 307200 := rfl

theorem rect_congr {S : Shape} {o o' sz : Fin S.rank → ℕ} (h : ∀ a, o a + sz a ≤ S.size a) (h' : ∀ a, o' a + sz a ≤ S.size a)
    (eq : o = o') : (Rect.unit (s := S) o sz h).set = (Rect.unit (s := S) o' sz h').set := by subst eq; rfl
theorem srcP_pt (c : Dev nD) (i : grid0.Coords) (h : k0_cond3 i = 1#1) (q : PosShare TreeShare) (z : BufTy.Contents (Elt F) aS.view.ty) :
    (((srcP i h).view.loc (c : Thread nD τ) ↦[(srcP i h).view.set]{q} z) : sProp 𝕄G) = slotPt c q ((i 0).val + 1) z :=
  congrArg (fun S : Finset (Idx (aS.view.loc (c : Thread nD τ))) => (aS.view.loc (c : Thread nD τ) ↦[S]{q} z : sProp 𝕄G))
    (((View.set_reshape _ _).trans (View.set_slice aS.view (slotP i))).trans (congrArg (fun R : Rect S2x20x5x48x1024 => aS.view.setOn R.set) (slotP_eq i)))
theorem dstP_pt (c : Dev nD) (i : grid0.Coords) (h : k0_cond3 i = 1#1) (z : BufTy.Contents (Elt F) hM.view.ty) :
    (((dstP i h).view.loc (c : Thread nD τ) ↦[(dstP i h).view.set]{fullShare} z) : sProp 𝕄G) = hPt c (chunkS ((i 0).val - 1)) z :=
  congrArg (fun S : Finset (Idx (hM.view.loc (c : Thread nD τ))) => (hM.view.loc (c : Thread nD τ) ↦[S]{fullShare} z : sProp 𝕄G))
    ((View.set_slice_whole main_v27_0 _).trans (rect_congr (S := S1280x5x48x1024) (k0_off5_inb i h) (chunkR_in _) (offP_eq i h)))

theorem read_slice_congr {o o' : Fin 4 → ℕ} (h : ∀ a, o a + S20x5x48x1024.size a ≤ S1280x5x48x1024.size a) (h' : ∀ a, o' a + S20x5x48x1024.size a ≤ S1280x5x48x1024.size a) (e : o = o')
    (f : BufTy.Contents (Elt F) hM.view.ty) (y : S20x5x48x1024.Idx) :
    (hM.slice (Rect.unit (s := S1280x5x48x1024) o S20x5x48x1024.size h) (fun _ => rfl)).view.read (Elt F) f y = (hM.slice (Rect.unit (s := S1280x5x48x1024) o' S20x5x48x1024.size h') (fun _ => rfl)).view.read (Elt F) f y := by subst e; rfl
theorem read_slot_congr {o o' : Fin 5 → ℕ} (h : ∀ a, o a + S1x20x5x48x1024.size a ≤ S2x20x5x48x1024.size a) (h' : ∀ a, o' a + S1x20x5x48x1024.size a ≤ S2x20x5x48x1024.size a) (e : o = o')
    (f : BufTy.Contents (Elt F) aS.view.ty) (y : S20x5x48x1024.Idx) :
    ((aS.slice (Rect.unit (s := S2x20x5x48x1024) o S1x20x5x48x1024.size h) (fun _ => rfl)).squeeze S20x5x48x1024 squeezes_S1x20x5x48x1024_S20x5x48x1024).view.read (Elt F) f y
      = ((aS.slice (Rect.unit (s := S2x20x5x48x1024) o' S1x20x5x48x1024.size h') (fun _ => rfl)).squeeze S20x5x48x1024 squeezes_S1x20x5x48x1024_S20x5x48x1024).view.read (Elt F) f y := by subst e; rfl

theorem hz_of (c : Dev nD) (i : grid0.Coords) (h : k0_cond3 i = 1#1) (k : ℕ) (hk : k < 64) (hi : (i 0).val = k + 1) :
    ∀ y, (dstP i h).view.read (Elt F) (Zfull m c) y = (srcP i h).view.read (Elt F) (Zb m c k) y := fun y =>
  (read_slice_congr (k0_off5_inb i h) (chunkR_in k) ((offP_eq i h).trans (by rw [hi]; rfl)) (Zfull m c) y).trans
    ((chunk_slot m c k hk k y).trans (read_slot_congr (slotR_in k) (k0_off6_inb i h) (((offQ_eq i).trans (by rw [hi, show (k + 1 + 1) % 2 = k % 2 by omega])).symm) (Zb m c k) y))

/-- A slot holding what a point computed is at that point's name. -/
theorem slot_named (c : Dev nD) (b p : ℕ) (hb : b % 2 = p % 2) (g : BufTy.Contents (Elt F) aS.view.ty)
    (h : ∀ y : S2x20x5x48x1024.Idx, (y 0).val = p % 2 → aS.view.read (Elt F) g y = Zb m c p y) :
    slotPt c fullShare b g = slotPt c fullShare b (Zb m c p) :=
  pointsTo_congr fun j hj => h j (((mem_slot b j).1 hj).trans hb)

theorem slotPt_add (c : Dev nD) (q : PosShare TreeShare) (b : ℕ) (z : BufTy.Contents (Elt F) aS.view.ty) : slotPt c q (b + 1 + 1) z = slotPt c q b z := by
  unfold slotPt; rw [slotR_add]
theorem sv_add (c : Dev nD) (b : ℕ) : (sv c (b + 1 + 1) : sProp 𝕄G) = sv c b := by unfold sv; rw [sq_add]

/-- The next chunk taken out of the array while one is in flight. -/
theorem chunk_next (k : ℕ) (hk : k + 1 < 64) : chunkS (k + 1) ⊆ Finset.univ \ chunkS k := fun j hj => by
  rw [Finset.mem_sdiff]
  refine ⟨Finset.mem_univ _, ?_⟩
  rw [mem_chunk] at hj ⊢
  omega

/-- The chunk that landed joins the rest of the array, but for the next. -/
theorem land_join (c : Dev nD) (k : ℕ) (hk : k + 1 < 64) :
    iprop(hPt c (chunkS k) (Zfull m c) ∗ hPt c ((Finset.univ \ chunkS k) \ chunkS (k + 1)) (mix m c k))
      ⊢ (hPt c (Finset.univ \ chunkS (k + 1)) (mix m c (k + 1)) : sProp 𝕄G) := by
  have e1 : hPt c (chunkS k) (Zfull m c) = hPt c (chunkS k) (mix m c (k + 1)) := pointsTo_congr (mix_done m c k (by omega))
  have e2 : hPt c ((Finset.univ \ chunkS k) \ chunkS (k + 1)) (mix m c k) = hPt c ((Finset.univ \ chunkS k) \ chunkS (k + 1)) (mix m c (k + 1)) :=
    pointsTo_congr fun j hj => mix_next m c k (by omega) j (Finset.mem_sdiff.1 hj).1
  have sub : chunkS k ⊆ Finset.univ \ chunkS (k + 1) := fun j hj => by
    rw [Finset.mem_sdiff]
    refine ⟨Finset.mem_univ _, ?_⟩
    rw [mem_chunk] at hj ⊢
    omega
  rw [e1, e2, show ((Finset.univ \ chunkS k) \ chunkS (k + 1) : Finset S1280x5x48x1024.Idx) = (Finset.univ \ chunkS (k + 1)) \ chunkS k from sdiff_right_comm _ _ _]
  exact (pointsTo_split_subset sub).2

end Cert.Kernel.Hand

end
-- ==== Proof.Canon.lean ====
/- The runs of a grid point with the parts of the buffers it names given by number. -/
module

public import proofs.«01_k».proof.Proof.Named

@[expose] public section

set_option maxRecDepth 16384
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

theorem midC (c : Dev nD) (i : grid0.Coords) (k : ℕ) (hi : (i 0).val = k + 2) (h1 : ¬ (k0_cond1 i = 1#1)) (h2 : k0_cond2 i = 1#1) (h3 : k0_cond3 i = 1#1) (h4 : k0_cond4 i = 1#1) (h5 : ¬ (k0_cond5 i = 1#1)) (h6 : k0_cond6 i = 1#1) (h7 : ¬ (k0_cond7 i = 1#1)) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f7 : BufTy.Contents (Elt F) arg7.view.ty) (f9 : BufTy.Contents (Elt F) arg9.view.ty) (fX : BufTy.Contents (Elt F) aX.view.ty) (fR : BufTy.Contents (Elt F) aR.view.ty) (fA : BufTy.Contents (Elt F) aA.view.ty) (zC : BufTy.Contents (Elt F) aS.view.ty) (zP : BufTy.Contents (Elt F) aS.view.ty) (fh : BufTy.Contents (Elt F) hM.view.ty) (zh : BufTy.Contents (Elt F) hM.view.ty) (Dd : sProp 𝕄G) (W : Waits sig Unit) (K : PUnit → sProp 𝕄G) (x1 : Vec F S20x48x2560 .fp8e4m3) (x2 : Vec F S48x1280 .f32) (x3 : Vec F S2560x5120 .fp8e4m3) (x4 x5 : Vec F S1x5120 .f32) (hx1 : ∀ y, arg1.view.read (Elt F) X1 y = x1 y) (hx2 : ∀ y, arg2.view.read (Elt F) X2 y = x2 y) (hx3 : ∀ y, arg3.view.read (Elt F) X3 y = x3 y) (hx4 : ∀ y, arg4.view.read (Elt F) X4 y = x4 y) (hx5 : ∀ y, arg5.view.read (Elt F) X5 y = x5 y) (hz : ∀ y, (dstP i h3).view.read (Elt F) zh y = (srcP i h3).view.read (Elt F) zP y) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} f7) ∗ (arg9.view.loc (c : Thread nD τ) ↦[arg9.view.set]{fullShare} f9) ∗ (aX.view.loc (c : Thread nD τ) ↦[aX.view.set]{fullShare} fX) ∗ (aR.view.loc (c : Thread nD τ) ↦[aR.view.set]{fullShare} fR) ∗ (aA.view.loc (c : Thread nD τ) ↦[aA.view.set]{fullShare} fA) ∗ Transfers.Flight countersEmb (c : Thread nD τ) (SemLoc.dma (sq k)) () 307200 iprop(Dd ∗ (slotPt c fullShare.left k zC)) ∗ Aside (slotPt c fullShare.right k zC) ∗ (slotPt c fullShare.left (k + 1) zP) ∗ (slotPt c fullShare.right (k + 1) zP) ∗ (hPt c (chunkS (k + 1)) fh) ∗ sv c (k + 1) ∗ owes (c : Thread nD τ) 0 W ∗ (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg7.view.loc (c : Thread nD τ) ↦[arg7.view.set]{fullShare} g)) ∗ (∃ g, (arg9.view.loc (c : Thread nD τ) ↦[arg9.view.set]{fullShare} g)) ∗ (∃ g, (aX.view.loc (c : Thread nD τ) ↦[aX.view.set]{fullShare} g)) ∗ (∃ g, (aR.view.loc (c : Thread nD τ) ↦[aR.view.set]{fullShare} g)) ∗ (∃ g, (aA.view.loc (c : Thread nD τ) ↦[aA.view.set]{fullShare} g)) ∗ (∃ g, (slotPt c fullShare k g) ∗ ⌜∀ y : S2x20x5x48x1024.Idx, (y 0).val = (k + 2) % 2 → aS.view.read (Elt F) g y = zt (k + 2) x1 x2 x3 x4 x5 y⌝) ∗ Dd ∗ sv c k ∗ Transfers.Flight countersEmb (c : Thread nD τ) (SemLoc.dma (sq (k + 1))) () 307200 iprop((hPt c (chunkS (k + 1)) zh) ∗ (slotPt c fullShare.left (k + 1) zP)) ∗ (slotPt c fullShare.right (k + 1) zP) ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  have R := runMid (F := F) c i h1 h2 h3 h4 h5 h6 h7 arg1 harg1 arg2 harg2 arg3 harg3 arg4 harg4 arg5 harg5 arg7 harg7 arg8 harg8 arg9 harg9 X1 X2 X3 X4 X5 f7 f9 fX fR fA zC zP fh zh Dd W K x1 x2 x3 x4 x5 hx1 hx2 hx3 hx4 hx5 hz
  rw [srcP_pt, dstP_pt, dstP_pt, slotC_eq, slotP_eq, semW_eq, semP_eq, creditW, hi, show slotR (k + 2) = slotR k from slotR_add k, show slotR (k + 2 + 1) = slotR (k + 1) from slotR_add (k + 1), show slotPt c fullShare.left (k + 2 + 1) zP = slotPt c fullShare.left (k + 1) zP from slotPt_add c _ (k + 1) zP, show (sq (k + 2) : DmaSem sig) = sq k from sq_add k, show (sq (k + 2 + 1) : DmaSem sig) = sq (k + 1) from sq_add (k + 1), show k + 2 - 1 = k + 1 by omega] at R
  exact R

theorem oneC (c : Dev nD) (i : grid0.Coords) (hi : (i 0).val = 1) (h1 : ¬ (k0_cond1 i = 1#1)) (h2 : ¬ (k0_cond2 i = 1#1)) (h3 : k0_cond3 i = 1#1) (h4 : k0_cond4 i = 1#1) (h5 : ¬ (k0_cond5 i = 1#1)) (h6 : k0_cond6 i = 1#1) (h7 : ¬ (k0_cond7 i = 1#1)) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f7 : BufTy.Contents (Elt F) arg7.view.ty) (f9 : BufTy.Contents (Elt F) arg9.view.ty) (fX : BufTy.Contents (Elt F) aX.view.ty) (fR : BufTy.Contents (Elt F) aR.view.ty) (fA : BufTy.Contents (Elt F) aA.view.ty) (zC : BufTy.Contents (Elt F) aS.view.ty) (zP : BufTy.Contents (Elt F) aS.view.ty) (fh : BufTy.Contents (Elt F) hM.view.ty) (zh : BufTy.Contents (Elt F) hM.view.ty) (W : Waits sig Unit) (K : PUnit → sProp 𝕄G) (x1 : Vec F S20x48x2560 .fp8e4m3) (x2 : Vec F S48x1280 .f32) (x3 : Vec F S2560x5120 .fp8e4m3) (x4 x5 : Vec F S1x5120 .f32) (hx1 : ∀ y, arg1.view.read (Elt F) X1 y = x1 y) (hx2 : ∀ y, arg2.view.read (Elt F) X2 y = x2 y) (hx3 : ∀ y, arg3.view.read (Elt F) X3 y = x3 y) (hx4 : ∀ y, arg4.view.read (Elt F) X4 y = x4 y) (hx5 : ∀ y, arg5.view.read (Elt F) X5 y = x5 y) (hz : ∀ y, (dstP i h3).view.read (Elt F) zh y = (srcP i h3).view.read (Elt F) zP y) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} f7) ∗ (arg9.view.loc (c : Thread nD τ) ↦[arg9.view.set]{fullShare} f9) ∗ (aX.view.loc (c : Thread nD τ) ↦[aX.view.set]{fullShare} fX) ∗ (aR.view.loc (c : Thread nD τ) ↦[aR.view.set]{fullShare} fR) ∗ (aA.view.loc (c : Thread nD τ) ↦[aA.view.set]{fullShare} fA) ∗ Aside (slotPt c fullShare 1 zC) ∗ (slotPt c fullShare.left 0 zP) ∗ (slotPt c fullShare.right 0 zP) ∗ (hPt c (chunkS 0) fh) ∗ sv c 0 ∗ owes (c : Thread nD τ) 0 W ∗ (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg7.view.loc (c : Thread nD τ) ↦[arg7.view.set]{fullShare} g)) ∗ (∃ g, (arg9.view.loc (c : Thread nD τ) ↦[arg9.view.set]{fullShare} g)) ∗ (∃ g, (aX.view.loc (c : Thread nD τ) ↦[aX.view.set]{fullShare} g)) ∗ (∃ g, (aR.view.loc (c : Thread nD τ) ↦[aR.view.set]{fullShare} g)) ∗ (∃ g, (aA.view.loc (c : Thread nD τ) ↦[aA.view.set]{fullShare} g)) ∗ (∃ g, (slotPt c fullShare 1 g) ∗ ⌜∀ y : S2x20x5x48x1024.Idx, (y 0).val = (1) % 2 → aS.view.read (Elt F) g y = zt (1) x1 x2 x3 x4 x5 y⌝) ∗ Transfers.Flight countersEmb (c : Thread nD τ) (SemLoc.dma (sq 0)) () 307200 iprop((hPt c (chunkS 0) zh) ∗ (slotPt c fullShare.left 0 zP)) ∗ (slotPt c fullShare.right 0 zP) ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  have R := runOne (F := F) c i h1 h2 h3 h4 h5 h6 h7 arg1 harg1 arg2 harg2 arg3 harg3 arg4 harg4 arg5 harg5 arg7 harg7 arg8 harg8 arg9 harg9 X1 X2 X3 X4 X5 f7 f9 fX fR fA zC zP fh zh W K x1 x2 x3 x4 x5 hx1 hx2 hx3 hx4 hx5 hz
  rw [srcP_pt, dstP_pt, dstP_pt, slotC_eq, slotP_eq, semP_eq, hi, show 1 - 1 = 0 from rfl, show slotR (1 + 1) = slotR 0 from slotR_add 0, show slotPt c fullShare.left (1 + 1) zP = slotPt c fullShare.left 0 zP from slotPt_add c _ 0 zP, show (sq (1 + 1) : DmaSem sig) = sq 0 from sq_add 0] at R
  exact R

theorem lastC (c : Dev nD) (i : grid0.Coords) (k : ℕ) (hi : (i 0).val = k + 2) (h1 : ¬ (k0_cond1 i = 1#1)) (h2 : k0_cond2 i = 1#1) (h3 : k0_cond3 i = 1#1) (h4 : ¬ (k0_cond4 i = 1#1)) (h5 : ¬ (k0_cond5 i = 1#1)) (h6 : ¬ (k0_cond6 i = 1#1)) (h7 : k0_cond7 i = 1#1) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole)  (f7 : BufTy.Contents (Elt F) arg7.view.ty) (f8 : BufTy.Contents (Elt F) arg8.view.ty) (f9 : BufTy.Contents (Elt F) arg9.view.ty) (fA : BufTy.Contents (Elt F) aA.view.ty) (zC : BufTy.Contents (Elt F) aS.view.ty) (zP : BufTy.Contents (Elt F) aS.view.ty) (zW : BufTy.Contents (Elt F) aS.view.ty) (fh : BufTy.Contents (Elt F) hM.view.ty) (zh : BufTy.Contents (Elt F) hM.view.ty) (Dd : sProp 𝕄G) (W : Waits sig Unit) (K : PUnit → sProp 𝕄G) (hz : ∀ y, (dstP i h3).view.read (Elt F) zh y = (srcP i h3).view.read (Elt F) zP y) :
    iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (aA.view.loc (c : Thread nD τ) ↦[aA.view.set]{fullShare} fA) ∗ Transfers.Flight countersEmb (c : Thread nD τ) (SemLoc.dma (sq k)) () 307200 iprop(Dd ∗ (slotPt c fullShare.left k zC)) ∗ (aS.view.loc (c : Thread nD τ) ↦[aS.view.set]{fullShare.right} zW) ∗ (slotPt c fullShare.left (k + 1) zP) ∗ (hPt c (chunkS (k + 1)) fh) ∗ sv c (k + 1) ∗ owes (c : Thread nD τ) 0 W ∗ (((∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (aA.view.loc (c : Thread nD τ) ↦[aA.view.set]{fullShare} g)) ∗ Dd ∗ (slotPt c fullShare.left k zC) ∗ sv c k ∗ (hPt c (chunkS (k + 1)) zh) ∗ (slotPt c fullShare.left (k + 1) zP) ∗ (aS.view.loc (c : Thread nD τ) ↦[aS.view.set]{fullShare.right} zW) ∗ sv c (k + 1) ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  have R := runLast (F := F) c i h1 h2 h3 h4 h5 h6 h7 arg1 harg1 arg2 harg2 arg3 harg3 arg4 harg4 arg5 harg5 arg7 harg7 arg8 harg8 arg9 harg9 f7 f8 f9 fA zC zP zW fh zh Dd W K hz
  rw [srcP_pt, dstP_pt, dstP_pt, slotC_eq, semW_eq, semP_eq, creditW, hi, show slotR (k + 2) = slotR k from slotR_add k, show slotPt c fullShare.left (k + 2 + 1) zP = slotPt c fullShare.left (k + 1) zP from slotPt_add c _ (k + 1) zP, show (sq (k + 2) : DmaSem sig) = sq k from sq_add k, show (sq (k + 2 + 1) : DmaSem sig) = sq (k + 1) from sq_add (k + 1), show k + 2 - 1 = k + 1 by omega] at R
  exact R

end Cert.Kernel.Hand

end
-- ==== Proof.Body.lean ====
/- The invariant between two grid points, the body at each of the four kinds of grid point, and the launch of the kernel. -/
module

public import proofs.«01_k».proof.Proof.Named

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ
open Idealize.ShloMosaic.Pipeline (Dat BodyObligation)

variable [∀ e, Nonempty (Elt F e)]
variable (m : (ℓ : Loc nD τ sig) → Buf (Elt F) ℓ) (ρ : Dev nD → PrngReg)

/-! ## The invariant -/

/-- The buffers whose contents are not named. -/
abbrev Scr (c : Dev nD) : sProp 𝕄G :=
  iprop((∃ g, aX.view.loc (c : Thread nD τ) ↦[aX.view.set]{fullShare} g) ∗ (∃ g, aR.view.loc (c : Thread nD τ) ↦[aR.view.set]{fullShare} g)
    ∗ (∃ g, aA.view.loc (c : Thread nD τ) ↦[aA.view.set]{fullShare} g) ∗ (∃ r, prngReg c r))

/-- Before the first point. -/
def PhiA (c : Dev nD) : sProp 𝕄G :=
  iprop(Scr c ∗ (∃ g, aS.view.loc (c : Thread nD τ) ↦[aS.view.set]{fullShare} g) ∗ hPt c Finset.univ (mix m c 0) ∗ sv c 0 ∗ sv c 1)
/-- Between the first point and the second. -/
def PhiB (c : Dev nD) : sProp 𝕄G :=
  iprop(Scr c ∗ slotPt c fullShare 0 (Zb m c 0) ∗ (∃ g, slotPt c fullShare 1 g) ∗ hPt c Finset.univ (mix m c 0) ∗ sv c 0 ∗ sv c 1)
/-- With the transfer of chunk `k` in flight and the scores of chunk `k + 1` computed. -/
def PhiC (c : Dev nD) (k : ℕ) : sProp 𝕄G :=
  iprop(Scr c ∗ Transfers.Flight countersEmb (c : Thread nD τ) (SemLoc.dma (sq k)) () 307200 iprop(hPt c (chunkS k) (Zfull m c) ∗ slotPt c fullShare.left k (Zb m c k))
    ∗ slotPt c fullShare.right k (Zb m c k) ∗ slotPt c fullShare (k + 1) (Zb m c (k + 1)) ∗ hPt c (Finset.univ \ chunkS k) (mix m c k) ∗ sv c (k + 1))
/-- After the last point. -/
def PhiD (c : Dev nD) : sProp 𝕄G :=
  iprop(Scr c ∗ (∃ g, aS.view.loc (c : Thread nD τ) ↦[aS.view.set]{fullShare} g) ∗ hPt c Finset.univ (Zfull m c) ∗ sv c 0 ∗ sv c 1)

/-- What is held before point `p`. -/
def Phi (c : Dev nD) (p : ℕ) : sProp 𝕄G :=
  if p = 0 then PhiA m c else if p = 1 then PhiB m c else if p < 65 then PhiC m c (p - 2) else PhiD m c

/-! ## The proof data -/

/-- The recursion's arrays and the logarithms are not named. -/
def forgets0 : Fin 8 → Bool := fun w => decide (4 < w.val)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨n + 5, h⟩ => Pipeline.Dat.unnamed (cfg := cfg0) ⟨n + 5, h⟩ t
  Φ p := Phi m c p.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- What the body is called with at a point, and what it returns. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d))

end Cert.Kernel.Hand

end
-- ==== Proof.StepMid.lean ====
/- The body at a point between the second and the last. -/
module

public import proofs.«01_k».proof.Proof.Canon
public import proofs.«01_k».proof.Proof.Body

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ
open Idealize.ShloMosaic.Pipeline (Dat BodyObligation)

variable [∀ e, Nonempty (Elt F e)]
variable (m : (ℓ : Loc nD τ sig) → Buf (Elt F) ℓ) (ρ : Dev nD → PrngReg)

/-- A point between the second and the last. -/
theorem stepMid (c : Dev nD) (t : Fin cfg0.N) (k : ℕ) (ht : t.val = k + 2) (hk : k + 2 < 64) :
    bodyPre m c t ⊢ wp frame (wpE (defs₀ (F := F)) Variants.none c none) Set.univ (bodyAt0 t) (fun _ => bodyPost m c t) := by
  have hi : (grid0.coords t 0).val = k + 2 := (coord_val t).trans ht
  unfold bodyPre bodyPost bodyAt0
  simp only [before0_0, before0_1, before0_2, before0_3, before0_4, after0_0, after0_1, after0_2, after0_3, after0_4]
  rw [show (dats m 0 c).Φ t.castSucc = PhiC m c k from by show Phi m c t.val = _; rw [ht]; unfold Phi; rw [if_neg (by omega), if_neg (by omega), if_pos (by omega)]; rfl,
    show (dats m 0 c).Φ t.succ = PhiC m c (k + 1) from by show Phi m c (t.val + 1) = _; rw [ht]; unfold Phi; rw [if_neg (by omega), if_neg (by omega), if_pos (by omega)]; rfl]
  unfold Dat.owesAt Pipeline.owesWithin
  rw [show (dats m 0 c).owed t.castSucc = 0 from rfl, show (dats m 0 c).owed t.succ = 0 from rfl]
  unfold owns
  unfold PhiC
  iintro ⟨⟨⟨⟨%fX, HX⟩, ⟨%fR, HR⟩, ⟨%fA, HA⟩, Hg⟩, HF, HC, HP, Hh, Hs⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩, ⟨%d6, %f6, -, H6⟩, ⟨%d7, %f7, -, H7⟩⟩
  ihave ⟨HP1, HP2⟩ := (pointsTo_share (PosShare.mem_left_op_right fullShare)).1 $$ HP
  ihave ⟨Hh1, Hh2⟩ := (pointsTo_split_subset (chunk_next k (by omega))).1 $$ Hh
  ihave HC := aside_in _ $$ HC
  iapply (midC c (grid0.coords t) k hi (fun h => absurd ((c1 (grid0.coords t)).1 h) (by omega)) ((c2 (grid0.coords t)).2 (by omega)) ((c3 (grid0.coords t)).2 (by omega)) ((c4 (grid0.coords t)).2 (by omega)) (fun h => absurd ((c5 (grid0.coords t)).1 h) (by omega)) ((c6 (grid0.coords t)).2 (by omega)) (fun h => absurd ((c7 (grid0.coords t)).1 h) (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) f0 f1 f2 f3 f4 f5 f7 fX fR fA (Zb m c k) (Zb m c (k + 1)) (mix m c k) (Zfull m c) (hPt c (chunkS k) (Zfull m c)) W _ (iblk m c 0 t) (iblk m c 1 t) (iblk m c 2 t) (iblk m c 3 t) (iblk m c 4 t) (fun y => congrFun e0 y) (fun y => congrFun e1 y) (fun y => congrFun e2 y) (fun y => congrFun e3 y) (fun y => congrFun e4 y) (hz_of m c (grid0.coords t) _ (k + 1) (by omega) hi))
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [HX]; · iexact HX
  isplitl [HR]; · iexact HR
  isplitl [HA]; · iexact HA
  isplitl [HF]; · iexact HF
  isplitl [HC]; · iexact HC
  isplitl [HP1]; · iexact HP1
  isplitl [HP2]; · iexact HP2
  isplitl [Hh1]; · iexact Hh1
  isplitl [Hs]; · iexact Hs
  isplitl [HO]; · iexact HO
  iintro ⟨H0, H1, H2, H3, H4, ⟨%g5, H5⟩, ⟨%g7, H7⟩, HX, HR, HA, ⟨%g, HS, %hg⟩, HD, Hsw, HF, HP2, ⟨%W', HO⟩⟩
  ihave Hh := (land_join m c k (by omega)) $$ [HD Hh2]
  · isplitl [HD] <;> iassumption
  isplitl [HX HR HA Hg HF HP2 HS Hh Hsw]
  · isplitl [HX HR HA Hg]
    · isplitl [HX]; · iexact HX
      isplitl [HR]; · iexact HR
      isplitl [HA]; · iexact HA
      iexact Hg
    isplitl [HF]; · iexact HF
    isplitl [HP2]; · iexact HP2
    isplitl [HS]
    · iapply (Entails.of_eq ((slot_named m c k (k + 2) (by omega) g (fun y hy => (hg y hy).trans (by unfold Zb; rw [← ht, pt_val]))).trans (slotPt_add c fullShare k (Zb m c (k + 2))).symm)); iexact HS
    isplitl [Hh]; · iexact Hh
    iapply (Entails.of_eq (sv_add c k).symm); iexact Hsw
  isplitl [HO]
  · iexists W'; isplitr; · ipureintro; exact fun _ _ => Or.inl trivial
    iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

end Cert.Kernel.Hand

end
-- ==== Proof.StepOne.lean ====
/- The body at the second point. -/
module

public import proofs.«01_k».proof.Proof.Canon
public import proofs.«01_k».proof.Proof.Body

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ
open Idealize.ShloMosaic.Pipeline (Dat BodyObligation)

variable [∀ e, Nonempty (Elt F e)]
variable (m : (ℓ : Loc nD τ sig) → Buf (Elt F) ℓ) (ρ : Dev nD → PrngReg)

/-- The second point. -/
theorem stepOne (c : Dev nD) (t : Fin cfg0.N) (ht : t.val = 1) :
    bodyPre m c t ⊢ wp frame (wpE (defs₀ (F := F)) Variants.none c none) Set.univ (bodyAt0 t) (fun _ => bodyPost m c t) := by
  have hi : (grid0.coords t 0).val = 1 := (coord_val t).trans ht
  unfold bodyPre bodyPost bodyAt0
  simp only [before0_0, before0_1, before0_2, before0_3, before0_4, after0_0, after0_1, after0_2, after0_3, after0_4]
  rw [show (dats m 0 c).Φ t.castSucc = PhiB m c from by show Phi m c t.val = _; rw [ht]; unfold Phi; rw [if_neg (by omega), if_pos rfl],
    show (dats m 0 c).Φ t.succ = PhiC m c 0 from by show Phi m c (t.val + 1) = _; rw [ht]; unfold Phi; rw [if_neg (by omega), if_neg (by omega), if_pos (by omega)]]
  unfold Dat.owesAt Pipeline.owesWithin
  rw [show (dats m 0 c).owed t.castSucc = 0 from rfl, show (dats m 0 c).owed t.succ = 0 from rfl]
  unfold owns
  unfold PhiB PhiC
  iintro ⟨⟨⟨⟨%fX, HX⟩, ⟨%fR, HR⟩, ⟨%fA, HA⟩, Hg⟩, HP, ⟨%zC, HC⟩, Hh, Hs, Hs1⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩, ⟨%d6, %f6, -, H6⟩, ⟨%d7, %f7, -, H7⟩⟩
  ihave ⟨HP1, HP2⟩ := (pointsTo_share (PosShare.mem_left_op_right fullShare)).1 $$ HP
  ihave ⟨Hh1, Hh2⟩ := (pointsTo_split_subset (Finset.subset_univ (chunkS 0))).1 $$ Hh
  ihave HC := aside_in _ $$ HC
  iapply (oneC c (grid0.coords t) hi (fun h => absurd ((c1 (grid0.coords t)).1 h) (by omega)) (fun h => absurd ((c2 (grid0.coords t)).1 h) (by omega)) ((c3 (grid0.coords t)).2 (by omega)) ((c4 (grid0.coords t)).2 (by omega)) (fun h => absurd ((c5 (grid0.coords t)).1 h) (by omega)) ((c6 (grid0.coords t)).2 (by omega)) (fun h => absurd ((c7 (grid0.coords t)).1 h) (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) f0 f1 f2 f3 f4 f5 f7 fX fR fA zC (Zb m c 0) (mix m c 0) (Zfull m c) W _ (iblk m c 0 t) (iblk m c 1 t) (iblk m c 2 t) (iblk m c 3 t) (iblk m c 4 t) (fun y => congrFun e0 y) (fun y => congrFun e1 y) (fun y => congrFun e2 y) (fun y => congrFun e3 y) (fun y => congrFun e4 y) (hz_of m c (grid0.coords t) _ 0 (by omega) hi))
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [HX]; · iexact HX
  isplitl [HR]; · iexact HR
  isplitl [HA]; · iexact HA
  isplitl [HC]; · iexact HC
  isplitl [HP1]; · iexact HP1
  isplitl [HP2]; · iexact HP2
  isplitl [Hh1]; · iexact Hh1
  isplitl [Hs]; · iexact Hs
  isplitl [HO]; · iexact HO
  iintro ⟨H0, H1, H2, H3, H4, ⟨%g5, H5⟩, ⟨%g7, H7⟩, HX, HR, HA, ⟨%g, HS, %hg⟩, HF, HP2, ⟨%W', HO⟩⟩
  isplitl [HX HR HA Hg HF HP2 HS Hh2 Hs1]
  · isplitl [HX HR HA Hg]
    · isplitl [HX]; · iexact HX
      isplitl [HR]; · iexact HR
      isplitl [HA]; · iexact HA
      iexact Hg
    isplitl [HF]; · iexact HF
    isplitl [HP2]; · iexact HP2
    isplitl [HS]
    · iapply (Entails.of_eq (slot_named m c 1 1 rfl g (fun y hy => (hg y hy).trans (by unfold Zb; rw [← ht, pt_val])))); iexact HS
    isplitl [Hh2]; · iexact Hh2
    iexact Hs1
  isplitl [HO]
  · iexists W'; isplitr; · ipureintro; exact fun _ _ => Or.inl trivial
    iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

end Cert.Kernel.Hand

end
-- ==== Proof.StepZero.lean ====
/- The body at the first point. -/
module

public import proofs.«01_k».proof.Proof.Canon
public import proofs.«01_k».proof.Proof.Body

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ
open Idealize.ShloMosaic.Pipeline (Dat BodyObligation)

variable [∀ e, Nonempty (Elt F e)]
variable (m : (ℓ : Loc nD τ sig) → Buf (Elt F) ℓ) (ρ : Dev nD → PrngReg)

/-- The first point. -/
theorem stepZero (c : Dev nD) (t : Fin cfg0.N) (ht : t.val = 0) :
    bodyPre m c t ⊢ wp frame (wpE (defs₀ (F := F)) Variants.none c none) Set.univ (bodyAt0 t) (fun _ => bodyPost m c t) := by
  have hi : (grid0.coords t 0).val = 0 := (coord_val t).trans ht
  unfold bodyPre bodyPost bodyAt0
  simp only [before0_0, before0_1, before0_2, before0_3, before0_4, after0_0, after0_1, after0_2, after0_3, after0_4]
  rw [show (dats m 0 c).Φ t.castSucc = PhiA m c from by show Phi m c t.val = _; rw [ht]; unfold Phi; rw [if_pos rfl],
    show (dats m 0 c).Φ t.succ = PhiB m c from by show Phi m c (t.val + 1) = _; rw [ht]; unfold Phi; rw [if_neg (by omega), if_pos rfl]]
  unfold Dat.owesAt Pipeline.owesWithin
  rw [show (dats m 0 c).owed t.castSucc = 0 from rfl, show (dats m 0 c).owed t.succ = 0 from rfl]
  unfold owns
  unfold PhiA PhiB
  iintro ⟨⟨⟨⟨%fX, HX⟩, ⟨%fR, HR⟩, ⟨%fA, HA⟩, Hg⟩, ⟨%zC, HC⟩, Hh, Hs, Hs1⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩, ⟨%d6, %f6, -, H6⟩, ⟨%d7, %f7, -, H7⟩⟩
  iapply (runZero c (grid0.coords t) ((c1 (grid0.coords t)).2 (by omega)) (fun h => absurd ((c2 (grid0.coords t)).1 h) (by omega)) (fun h => absurd ((c3 (grid0.coords t)).1 h) (by omega)) ((c4 (grid0.coords t)).2 (by omega)) ((c5 (grid0.coords t)).2 (by omega)) (fun h => absurd ((c6 (grid0.coords t)).1 h) (by omega)) (fun h => absurd ((c7 (grid0.coords t)).1 h) (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) f0 f1 f2 f3 f4 f7 fX fR fA zC W _ (iblk m c 0 t) (iblk m c 1 t) (iblk m c 2 t) (iblk m c 3 t) (iblk m c 4 t) (fun y => congrFun e0 y) (fun y => congrFun e1 y) (fun y => congrFun e2 y) (fun y => congrFun e3 y) (fun y => congrFun e4 y))
  isplitl [H0]; · iexact H0
  isplitl [H1]; · iexact H1
  isplitl [H2]; · iexact H2
  isplitl [H3]; · iexact H3
  isplitl [H4]; · iexact H4
  isplitl [H7]; · iexact H7
  isplitl [HX]; · iexact HX
  isplitl [HR]; · iexact HR
  isplitl [HA]; · iexact HA
  isplitl [HC]; · iexact HC
  isplitl [HO]; · iexact HO
  iintro ⟨H0, H1, H2, H3, H4, ⟨%g7, H7⟩, HX, HR, HA, ⟨%g, HS, %hg⟩, ⟨%W', HO⟩⟩
  ihave ⟨HS0, HS1⟩ := (pointsTo_split_subset (show aS.view.setOn (slotR 0).set ⊆ aS.view.set from fun j _ => by rw [aS_univ]; exact Finset.mem_univ _)).1 $$ HS
  isplitl [HX HR HA Hg HS0 HS1 Hh Hs Hs1]
  · isplitl [HX HR HA Hg]
    · isplitl [HX]; · iexact HX
      isplitl [HR]; · iexact HR
      isplitl [HA]; · iexact HA
      iexact Hg
    isplitl [HS0]
    · iapply (Entails.of_eq (slot_named m c 0 0 rfl g (fun y hy => (hg y (by omega)).trans (by rw [hi]; unfold Zb; rw [← ht, pt_val])))); iexact HS0
    isplitl [HS1]
    · iexists g; iapply (Entails.of_eq (congrArg (fun S => (aS.view.loc (c : Thread nD τ) ↦[S]{fullShare} g : sProp 𝕄G)) (slot_other 0).symm)); iexact HS1
    isplitl [Hh]; · iexact Hh
    isplitl [Hs]; · iexact Hs
    iexact Hs1
  isplitl [HO]
  · iexists W'; isplitr; · ipureintro; exact fun _ _ => Or.inl trivial
    iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

end Cert.Kernel.Hand

end
-- ==== Proof.StepLast.lean ====
/- The body at the last point. -/
module

public import proofs.«01_k».proof.Proof.Canon
public import proofs.«01_k».proof.Proof.Body

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ
open Idealize.ShloMosaic.Pipeline (Dat BodyObligation)

variable [∀ e, Nonempty (Elt F e)]
variable (m : (ℓ : Loc nD τ sig) → Buf (Elt F) ℓ) (ρ : Dev nD → PrngReg)

/-- But for the last chunk, the array is done when that one starts. -/
theorem rest_done (c : Dev nD) (k : ℕ) (hk : k = 62) :
    (hPt c (Finset.univ \ chunkS (k + 1)) (mix m c (k + 1)) : sProp 𝕄G) = hPt c (Finset.univ \ chunkS (k + 1)) (Zfull m c) :=
  pointsTo_congr fun j hj => by
    have h := (Finset.mem_sdiff.1 hj).2
    rw [mem_chunk] at h
    have hj0 : (j 0).val < 1280 := (j 0).isLt
    unfold mix
    rw [if_pos (by omega)]

/-- The rights of the two slots make the right of the ring. -/
theorem ring_join (c : Dev nD) (q : PosShare TreeShare) (b : ℕ) (z z' : BufTy.Contents (Elt F) aS.view.ty) :
    iprop(slotPt c q b z ∗ slotPt c q (b + 1) z') ⊢ (aS.view.loc (c : Thread nD τ) ↦[aS.view.set]{q} ((aS.view.setOn (slotR b).set).piecewise z z') : sProp 𝕄G) := by
  unfold slotPt
  rw [slot_other]
  exact pointsTo_join_subset (fun j _ => by rw [aS_univ]; exact Finset.mem_univ _)

/-- The last point. -/
theorem stepLast (c : Dev nD) (t : Fin cfg0.N) (k : ℕ) (ht : t.val = k + 2) (hk : k = 62) :
    bodyPre m c t ⊢ wp frame (wpE (defs₀ (F := F)) Variants.none c none) Set.univ (bodyAt0 t) (fun _ => bodyPost m c t) := by
  have hi : (grid0.coords t 0).val = k + 2 := (coord_val t).trans ht
  unfold bodyPre bodyPost bodyAt0
  simp only [before0_0, before0_1, before0_2, before0_3, before0_4, after0_0, after0_1, after0_2, after0_3, after0_4]
  rw [show (dats m 0 c).Φ t.castSucc = PhiC m c k from by show Phi m c t.val = _; rw [ht]; unfold Phi; rw [if_neg (by omega), if_neg (by omega), if_pos (by omega)]; rfl,
    show (dats m 0 c).Φ t.succ = PhiD m c from by show Phi m c (t.val + 1) = _; rw [ht]; unfold Phi; rw [if_neg (by omega), if_neg (by omega), if_neg (by omega)]]
  unfold Dat.owesAt Pipeline.owesWithin
  rw [show (dats m 0 c).owed t.castSucc = 0 from rfl, show (dats m 0 c).owed t.succ = 0 from rfl]
  unfold owns
  unfold PhiC PhiD
  iintro ⟨⟨⟨⟨%fX, HX⟩, ⟨%fR, HR⟩, ⟨%fA, HA⟩, Hg⟩, HF, HC, HP, Hh, Hs⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩, ⟨%d6, %f6, -, H6⟩, ⟨%d7, %f7, -, H7⟩⟩
  ihave ⟨HP1, HP2⟩ := (pointsTo_share (PosShare.mem_left_op_right fullShare)).1 $$ HP
  ihave ⟨Hh1, Hh2⟩ := (pointsTo_split_subset (chunk_next k (by omega))).1 $$ Hh
  ihave HW := (ring_join c fullShare.right k (Zb m c k) (Zb m c (k + 1))) $$ [HC HP2]
  · isplitl [HC] <;> iassumption
  iapply (lastC c (grid0.coords t) k hi (fun h => absurd ((c1 (grid0.coords t)).1 h) (by omega)) ((c2 (grid0.coords t)).2 (by omega)) ((c3 (grid0.coords t)).2 (by omega)) (fun h => absurd ((c4 (grid0.coords t)).1 h) (by omega)) (fun h => absurd ((c5 (grid0.coords t)).1 h) (by omega)) (fun h => absurd ((c6 (grid0.coords t)).1 h) (by omega)) ((c7 (grid0.coords t)).2 (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) f5 f6 f7 fA (Zb m c k) (Zb m c (k + 1)) _ (mix m c k) (Zfull m c) (hPt c (chunkS k) (Zfull m c)) W _ (hz_of m c (grid0.coords t) _ (k + 1) (by omega) hi))
  isplitl [H5]; · iexact H5
  isplitl [H6]; · iexact H6
  isplitl [H7]; · iexact H7
  isplitl [HA]; · iexact HA
  isplitl [HF]; · iexact HF
  isplitl [HW]; · iexact HW
  isplitl [HP1]; · iexact HP1
  isplitl [Hh1]; · iexact Hh1
  isplitl [Hs]; · iexact Hs
  isplitl [HO]; · iexact HO
  iintro ⟨⟨%g5, H5⟩, ⟨%g6, H6⟩, ⟨%g7, H7⟩, HA, HD, HC, Hsw, Hh1, HP1, HW, Hs, ⟨%W', HO⟩⟩
  ihave Hh := (land_join m c k (by omega)) $$ [HD Hh2]
  · isplitl [HD] <;> iassumption
  ihave Hh := (Entails.of_eq (rest_done m c k hk)) $$ Hh
  ihave HW2 := (ring_join c fullShare.left k (Zb m c k) (Zb m c (k + 1))) $$ [HC HP1]
  · isplitl [HC] <;> iassumption
  isplitl [HX HR HA Hg HW HW2 Hh Hh1 Hs Hsw]
  · isplitl [HX HR HA Hg]
    · isplitl [HX]; · iexists fX; iexact HX
      isplitl [HR]; · iexists fR; iexact HR
      isplitl [HA]; · iexact HA
      iexact Hg
    isplitl [HW HW2]
    · iexists _; iapply (pointsTo_share (PosShare.mem_left_op_right fullShare)).2; isplitl [HW2] <;> iassumption
    isplitl [Hh Hh1]
    · iapply (pointsTo_split_subset (Finset.subset_univ (chunkS (k + 1)))).2; isplitl [Hh1] <;> iassumption
    subst hk
    isplitl [Hsw]; · iexact Hsw
    iexact Hs
  isplitl [HO]
  · iexists W'; isplitr; · ipureintro; exact fun _ _ => Or.inl trivial
    iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

end Cert.Kernel.Hand

end
-- ==== Proof.Run.lean ====
/- The launch: every run of the program ends, with the array of scores at its named contents. -/
module

public import proofs.«01_k».proof.Proof.StepMid
public import proofs.«01_k».proof.Proof.StepOne
public import proofs.«01_k».proof.Proof.StepZero
public import proofs.«01_k».proof.Proof.StepLast

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ
open Idealize.ShloMosaic.Pipeline (Dat BodyObligation)

variable [∀ e, Nonempty (Elt F e)]
variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  have hlt : t.val < 65 := t.isLt.trans_eq N_0
  rcases Nat.lt_or_ge t.val 2 with h | h
  · rcases Nat.lt_or_ge t.val 1 with h' | h'
    · exact stepZero m c t (by omega)
    · exact stepOne m c t (by omega)
  · rcases Nat.lt_or_ge t.val 64 with h' | h'
    · exact stepMid m c t (t.val - 2) (by omega) (by omega)
    · exact stepLast m c t (t.val - 2) (by omega) (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The ends of the invariant -/

/-- The two cells of the kernel. -/
abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄G)
      = iprop(sv c 0 ∗ sv c 1) := by
  rw [Pipeline.ownSems0_eq_of_list c osem0 [0, 1] (by decide) (by decide)]; rfl
/-- The array of scores, written by the kernel's own transfers. -/
def R0 : Finset (Ref sig .tc) := {main_v27_0}
theorem H0_sub : (∅ : Finset (Ref sig .tc)) ⊆ Pipeline.restRefs sig spec0 := Finset.empty_subset _
theorem R0_sub : R0 ⊆ Pipeline.restRefs sig spec0 \ ∅ := by decide
theorem routed0_eq (c : Dev nD) (W : (b : Ref sig .tc) → Buf (Elt F) ((c : Thread nD τ).loc b)) :
    (Pipeline.routed R0 c W : sProp 𝕄G) = hPt c Finset.univ (W main_v27_0) := by
  unfold Pipeline.routed
  rw [BI.bigSep_eq_bigSepL_of_eq [main_v27_0] (by decide) (by decide)]; rfl

theorem ends_eq (G : (c : Dev nD) → (b : Ref sig .tc) → Buf (Elt F) ((c : Thread nD τ).loc b)) (c : Dev nD) :
    (Pipeline.ΦDRG osem0 spec0 ∅ R0 (V m) G c : sProp 𝕄G)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)) ∗ (∃ r, prngReg c r) ∗ (sv c 0 ∗ sv c 1) ∗ hPt c Finset.univ (G c main_v27_0)) := by
  rw [Pipeline.ΦDRG_eq, scopedRest0_eq, ownSems00_eq, routed0_eq, bigSep_empty, show iprop(BI.emp ∗ hPt c Finset.univ (G c main_v27_0)) = hPt c Finset.univ (G c main_v27_0) from equiv_iff.mp BI.emp_sep]

/-- The final contents of the written buffers. -/
def Gfin (c : Dev nD) (b : Ref sig .tc) : Buf (Elt F) ((c : Thread nD τ).loc b) :=
  if h : b = main_v27_0 then h ▸ Zfull m c else V m c b
theorem Gfin_eq (c : Dev nD) : Gfin m c main_v27_0 = Zfull m c := by unfold Gfin; rw [dif_pos rfl]

theorem hin (c : Dev nD) : Pipeline.ΦDRG osem0 spec0 ∅ R0 (V m) (V m) c ⊢ (dats m 0 c).Φ 0 := by
  rw [ends_eq, show (dats m 0 c).Φ 0 = PhiA m c from by show Phi m c 0 = _; unfold Phi; rw [if_pos rfl]]
  unfold PhiA Scr
  rw [mix_zero, aS_univ, show aX.view.set = Finset.univ from View.set_whole _, show aR.view.set = Finset.univ from View.set_whole _, show aA.view.set = Finset.univ from View.set_whole _]
  iintro ⟨⟨HX, HR, HS, HA⟩, Hg, ⟨Hs, Hs1⟩, Hh⟩
  isplitl [HX HR HA Hg]
  · isplitl [HX]; · iexact HX
    isplitl [HR]; · iexact HR
    isplitl [HA]; · iexact HA
    iexact Hg
  isplitl [HS]; · iexact HS
  isplitl [Hh]; · iexact Hh
  isplitl [Hs]; · iexact Hs
  iexact Hs1

theorem hout (c : Dev nD) : (dats m 0 c).Φ (Fin.last cfg0.N) ⊢ Pipeline.ΦDRG osem0 spec0 ∅ R0 (V m) (Gfin m) c := by
  rw [ends_eq, Gfin_eq, show (dats m 0 c).Φ (Fin.last cfg0.N) = PhiD m c from by
    show Phi m c cfg0.N = _; rw [show cfg0.N = 65 from N_0]; unfold Phi; rw [if_neg (by omega), if_neg (by omega), if_neg (by omega)]]
  unfold PhiD Scr
  rw [aS_univ, show aX.view.set = Finset.univ from View.set_whole _, show aR.view.set = Finset.univ from View.set_whole _, show aA.view.set = Finset.univ from View.set_whole _]
  iintro ⟨⟨HX, HR, HA, Hg⟩, HS, Hh, Hs, Hs1⟩
  isplitl [HX HR HA HS]
  · isplitl [HX]; · iexact HX
    isplitl [HR]; · iexact HR
    isplitl [HS]; · iexact HS
    iexact HA
  isplitl [Hg]; · iexact Hg
  isplitl [Hs Hs1]
  · isplitl [Hs]; · iexact Hs
    iexact Hs1
  iexact Hh

/-! ## The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main :
    θ_run defs (onTc (τ := τ) (main (F := F))) (s₀ m ρ)
      (fun r => Pipeline.RDat.FramePostRG (cfgs 0) (fun c => (dats m 0 c).toRForget forgets0) R0 (V m) (Gfin m) r ∧ r.2.sem = fun _ => 0) :=
  Pipeline.θ_run_frame_dmaRG_forget (Q' := _) cfgs (dats m) (0 : Fin 1) launch0 osem0 defs₀ Variants.none forgets0 ownSemFacts0 ∅ R0 H0_sub R0_sub m ρ main
    (hbody := fun c => (body_obligation m c).loose) (hshare := fun c => (dats m 0 c).share_full fun _ => rfl)
    (howed := fun _ _ => rfl) (V := V m) (hmain := hmainD m Variants.none) (hA := A_eq m) (G := Gfin m)
    (hin := hin m) (hout := hout m)

/-- From any memory with zero counters, every weakly fair run of the program ends with its arguments unchanged, the array of scores at
    its named contents and every counter at zero. -/
theorem run_facts :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v27_0) = Zfull m c)
      ∧ r.2.sem = fun _ => 0) :=
  (θ_run defs _ _).mono (fun r h => ⟨fun c => ⟨
      (Pipeline.RDat.FramePostR.arr_in h.1.1 c 0 rfl).trans ((A_eq m c 0).trans (V_main_arg0 m c)),
      ((h.1.1 c).2 main_arg1 (by decide)).trans (V_main_arg1 m c),
      ((h.1.1 c).2 main_arg2 (by decide)).trans (V_main_arg2 m c),
      ((h.1.1 c).2 main_arg3 (by decide)).trans (V_main_arg3 m c),
      ((h.1.1 c).2 main_arg4 (by decide)).trans (V_main_arg4 m c),
      (h.1.2 c main_v27_0 (by decide)).trans (Gfin_eq m c)⟩, h.2⟩) (run_main m ρ)

end Cert.Kernel.Hand

end
-- ==== Proof.Ideal.Geo.lean ====
/- Closed forms of the run-time offsets of the forward kernel: the lane block of the running sums, the tile a
   matrix product is stored at, and the chunk of the scores a copy goes to. -/
module

public import proofs.«01_k».proof.Proof.Gen.KernelIdeal

@[expose] public section

set_option maxRecDepth 16384
set_option maxHeartbeats 2000000

noncomputable section

namespace Cert.KernelIdeal.Gen

open Cert.KernelIdeal
open Idealize.ShloMosaic Idealize.ShloMosaic.TcCoe Idealize.ShloMosaic.Tactic

theorem k0_off2_eq : ∀ (i : grid0.Coords), k0_off2 i = ![(20 * (i 0).val + 4294967256) % 4294967296, 0, 0, 0] := by decide +kernel
instance closedOff_k0_off2 (i : grid0.Coords) : ClosedOff (k0_off2 i) := ⟨_, k0_off2_eq i⟩

theorem k0_off5_eq : ∀ (i : grid0.Coords), k0_off5 i = ![(20 * (i 0).val + 4294967276) % 4294967296, 0, 0, 0] := by decide +kernel
instance closedOff_k0_off5 (i : grid0.Coords) : ClosedOff (k0_off5 i) := ⟨_, k0_off5_eq i⟩

theorem k0_off7_eq : ∀ (i : grid0.Coords) (k0_t1 : Fin k0_t1_loop.trips), k0_off7 i k0_t1 = ![0, (20 * (i 0).val + k0_t1.val) / 128 * 128] := by decide +kernel
instance closedOff_k0_off7 (i : grid0.Coords) (k0_t1 : Fin k0_t1_loop.trips) : ClosedOff (k0_off7 i k0_t1) := ⟨_, k0_off7_eq i k0_t1⟩

theorem k0_off9_eq : ∀ (i : grid0.Coords) (k0_t1 : Fin k0_t1_loop.trips), k0_off9 i k0_t1 = ![8, (20 * (i 0).val + k0_t1.val) / 128 * 128] := by decide +kernel
instance closedOff_k0_off9 (i : grid0.Coords) (k0_t1 : Fin k0_t1_loop.trips) : ClosedOff (k0_off9 i k0_t1) := ⟨_, k0_off9_eq i k0_t1⟩

theorem k0_off11_eq : ∀ (i : grid0.Coords) (k0_t1 : Fin k0_t1_loop.trips), k0_off11 i k0_t1 = ![16, (20 * (i 0).val + k0_t1.val) / 128 * 128] := by decide +kernel
instance closedOff_k0_off11 (i : grid0.Coords) (k0_t1 : Fin k0_t1_loop.trips) : ClosedOff (k0_off11 i k0_t1) := ⟨_, k0_off11_eq i k0_t1⟩

theorem k0_off13_eq : ∀ (i : grid0.Coords) (k0_t1 : Fin k0_t1_loop.trips), k0_off13 i k0_t1 = ![24, (20 * (i 0).val + k0_t1.val) / 128 * 128] := by decide +kernel
instance closedOff_k0_off13 (i : grid0.Coords) (k0_t1 : Fin k0_t1_loop.trips) : ClosedOff (k0_off13 i k0_t1) := ⟨_, k0_off13_eq i k0_t1⟩

theorem k0_off15_eq : ∀ (i : grid0.Coords) (k0_t1 : Fin k0_t1_loop.trips), k0_off15 i k0_t1 = ![32, (20 * (i 0).val + k0_t1.val) / 128 * 128] := by decide +kernel
instance closedOff_k0_off15 (i : grid0.Coords) (k0_t1 : Fin k0_t1_loop.trips) : ClosedOff (k0_off15 i k0_t1) := ⟨_, k0_off15_eq i k0_t1⟩

theorem k0_off17_eq : ∀ (i : grid0.Coords) (k0_t1 : Fin k0_t1_loop.trips), k0_off17 i k0_t1 = ![40, (20 * (i 0).val + k0_t1.val) / 128 * 128] := by decide +kernel
instance closedOff_k0_off17 (i : grid0.Coords) (k0_t1 : Fin k0_t1_loop.trips) : ClosedOff (k0_off17 i k0_t1) := ⟨_, k0_off17_eq i k0_t1⟩

theorem k0_off21_eq : ∀ (i : grid0.Coords) (k0_t2 : Fin k0_t2_loop.trips), k0_off21 i k0_t2 = ![(i 0).val % 2, 0, k0_t2.val / 4, 0, k0_t2.val % 4 * 256] := by decide +kernel
instance closedOff_k0_off21 (i : grid0.Coords) (k0_t2 : Fin k0_t2_loop.trips) : ClosedOff (k0_off21 i k0_t2) := ⟨_, k0_off21_eq i k0_t2⟩

theorem k0_off24_eq : ∀ (i : grid0.Coords) (k0_t3 : Fin k0_t3_loop.trips), k0_off24 i k0_t3 = ![(i 0).val % 2, 0, k0_t3.val / 4, 0, k0_t3.val % 4 * 256] := by decide +kernel
instance closedOff_k0_off24 (i : grid0.Coords) (k0_t3 : Fin k0_t3_loop.trips) : ClosedOff (k0_off24 i k0_t3) := ⟨_, k0_off24_eq i k0_t3⟩

theorem k0_off33_eq : ∀ (i : grid0.Coords) (k0_t3 : Fin k0_t3_loop.trips), k0_off33 i k0_t3 = ![0, (20 * (i 0).val + k0_t3.val + 549755813868) / 128 * 128 % 4294967296] := by decide +kernel
instance closedOff_k0_off33 (i : grid0.Coords) (k0_t3 : Fin k0_t3_loop.trips) : ClosedOff (k0_off33 i k0_t3) := ⟨_, k0_off33_eq i k0_t3⟩

theorem k0_off82_eq : ∀ (i : grid0.Coords) (k0_t3 : Fin k0_t3_loop.trips), k0_off82 i k0_t3 = ![8, (20 * (i 0).val + k0_t3.val + 549755813868) / 128 * 128 % 4294967296] := by decide +kernel
instance closedOff_k0_off82 (i : grid0.Coords) (k0_t3 : Fin k0_t3_loop.trips) : ClosedOff (k0_off82 i k0_t3) := ⟨_, k0_off82_eq i k0_t3⟩

theorem k0_off131_eq : ∀ (i : grid0.Coords) (k0_t3 : Fin k0_t3_loop.trips), k0_off131 i k0_t3 = ![16, (20 * (i 0).val + k0_t3.val + 549755813868) / 128 * 128 % 4294967296] := by decide +kernel
instance closedOff_k0_off131 (i : grid0.Coords) (k0_t3 : Fin k0_t3_loop.trips) : ClosedOff (k0_off131 i k0_t3) := ⟨_, k0_off131_eq i k0_t3⟩

theorem k0_off180_eq : ∀ (i : grid0.Coords) (k0_t3 : Fin k0_t3_loop.trips), k0_off180 i k0_t3 = ![24, (20 * (i 0).val + k0_t3.val + 549755813868) / 128 * 128 % 4294967296] := by decide +kernel
instance closedOff_k0_off180 (i : grid0.Coords) (k0_t3 : Fin k0_t3_loop.trips) : ClosedOff (k0_off180 i k0_t3) := ⟨_, k0_off180_eq i k0_t3⟩

theorem k0_off229_eq : ∀ (i : grid0.Coords) (k0_t3 : Fin k0_t3_loop.trips), k0_off229 i k0_t3 = ![32, (20 * (i 0).val + k0_t3.val + 549755813868) / 128 * 128 % 4294967296] := by decide +kernel
instance closedOff_k0_off229 (i : grid0.Coords) (k0_t3 : Fin k0_t3_loop.trips) : ClosedOff (k0_off229 i k0_t3) := ⟨_, k0_off229_eq i k0_t3⟩

theorem k0_off278_eq : ∀ (i : grid0.Coords) (k0_t3 : Fin k0_t3_loop.trips), k0_off278 i k0_t3 = ![40, (20 * (i 0).val + k0_t3.val + 549755813868) / 128 * 128 % 4294967296] := by decide +kernel
instance closedOff_k0_off278 (i : grid0.Coords) (k0_t3 : Fin k0_t3_loop.trips) : ClosedOff (k0_off278 i k0_t3) := ⟨_, k0_off278_eq i k0_t3⟩

theorem k0_off327_eq : ∀ (i : grid0.Coords) (k0_t4 : Fin k0_t4_loop.trips), k0_off327 i k0_t4 = ![0, (20 * (i 0).val + k0_t4.val + 549755813868) / 128 * 128 % 4294967296] := by decide +kernel
instance closedOff_k0_off327 (i : grid0.Coords) (k0_t4 : Fin k0_t4_loop.trips) : ClosedOff (k0_off327 i k0_t4) := ⟨_, k0_off327_eq i k0_t4⟩

theorem k0_off376_eq : ∀ (i : grid0.Coords) (k0_t4 : Fin k0_t4_loop.trips), k0_off376 i k0_t4 = ![8, (20 * (i 0).val + k0_t4.val + 549755813868) / 128 * 128 % 4294967296] := by decide +kernel
instance closedOff_k0_off376 (i : grid0.Coords) (k0_t4 : Fin k0_t4_loop.trips) : ClosedOff (k0_off376 i k0_t4) := ⟨_, k0_off376_eq i k0_t4⟩

theorem k0_off425_eq : ∀ (i : grid0.Coords) (k0_t4 : Fin k0_t4_loop.trips), k0_off425 i k0_t4 = ![16, (20 * (i 0).val + k0_t4.val + 549755813868) / 128 * 128 % 4294967296] := by decide +kernel
instance closedOff_k0_off425 (i : grid0.Coords) (k0_t4 : Fin k0_t4_loop.trips) : ClosedOff (k0_off425 i k0_t4) := ⟨_, k0_off425_eq i k0_t4⟩

theorem k0_off474_eq : ∀ (i : grid0.Coords) (k0_t4 : Fin k0_t4_loop.trips), k0_off474 i k0_t4 = ![24, (20 * (i 0).val + k0_t4.val + 549755813868) / 128 * 128 % 4294967296] := by decide +kernel
instance closedOff_k0_off474 (i : grid0.Coords) (k0_t4 : Fin k0_t4_loop.trips) : ClosedOff (k0_off474 i k0_t4) := ⟨_, k0_off474_eq i k0_t4⟩

theorem k0_off523_eq : ∀ (i : grid0.Coords) (k0_t4 : Fin k0_t4_loop.trips), k0_off523 i k0_t4 = ![32, (20 * (i 0).val + k0_t4.val + 549755813868) / 128 * 128 % 4294967296] := by decide +kernel
instance closedOff_k0_off523 (i : grid0.Coords) (k0_t4 : Fin k0_t4_loop.trips) : ClosedOff (k0_off523 i k0_t4) := ⟨_, k0_off523_eq i k0_t4⟩

theorem k0_off572_eq : ∀ (i : grid0.Coords) (k0_t4 : Fin k0_t4_loop.trips), k0_off572 i k0_t4 = ![40, (20 * (i 0).val + k0_t4.val + 549755813868) / 128 * 128 % 4294967296] := by decide +kernel
instance closedOff_k0_off572 (i : grid0.Coords) (k0_t4 : Fin k0_t4_loop.trips) : ClosedOff (k0_off572 i k0_t4) := ⟨_, k0_off572_eq i k0_t4⟩

theorem k0_off614_eq : ∀ (i : grid0.Coords), k0_off614 i = ![(20 * (i 0).val + 4294967276) % 4294967296, 0, 0, 0] := by decide +kernel
instance closedOff_k0_off614 (i : grid0.Coords) : ClosedOff (k0_off614 i) := ⟨_, k0_off614_eq i⟩

end Cert.KernelIdeal.Gen

end
-- ==== Proof.Ideal.T1.lean ====
/- One trip of the loop that spreads the row scales over the lanes, at an algebra with transfers. -/
module

public import proofs.«01_k».proof.Proof.Ideal.Geo
public import proofs.«01_k».proof.Proof.Gen.KernelIdeal.Loops
public import proofs.«01_k».proof.Proof.Gen.KernelIdeal.Skeleton
public import Idealize.ShloMosaic.Lib.Pipeline.FrameValue

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

@[irreducible] def trip1 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (k0_h4 : k0_cond4 i = 1#1) (X_arg2 : BufTy.Contents (Elt F) arg2.view.ty)  (k : Fin k0_t1_loop.trips) :
    { L : List (View.Piece (Elt F) S20x48x128 .f32) // ∀ (E : Set ℕ) (f_arg11 : BufTy.Contents (Elt F) arg11.view.ty),
      (iprop((arg2.view.loc (c : Thread nD τ) ↦[arg2.view.set]{fullShare} X_arg2) ∗ (arg11.view.loc (c : Thread nD τ) ↦[arg11.view.set]{fullShare} f_arg11)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 arg0 k0_h4 k PUnit.unit)
          (fun _ => (iprop((arg2.view.loc (c : Thread nD τ) ↦[arg2.view.set]{fullShare} X_arg2) ∗ (arg11.view.loc (c : Thread nD τ) ↦[arg11.view.set]{fullShare} (arg11.view.writes (Elt F) f_arg11 L))) : sProp 𝕄G)) } := by
  have hk : k.val < 20 := Nat.lt_of_lt_of_le k.isLt k0_t1_abs.2.1
  refine ⟨?_, fun E f_arg11 => ?run⟩
  case run =>
    skip
    unfold k0_t1_body
    iintro ⟨HR_arg2, HW_arg11⟩
    sl_exec_parts
    sl_step
    sl_close

end Cert.KernelIdeal.Hand

end
-- ==== Proof.Ideal.T2.lean ====
/- One trip of the loop that computes a tile of scores, at an algebra with transfers. -/
module

public import proofs.«01_k».proof.Proof.Ideal.Geo
public import proofs.«01_k».proof.Proof.Gen.KernelIdeal.Loops
public import proofs.«01_k».proof.Proof.Gen.KernelIdeal.Skeleton
public import Idealize.ShloMosaic.Lib.Pipeline.FrameValue

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

def trip2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (k0_h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  (k : Fin k0_t2_loop.trips) :
    { L : List (View.Piece (Elt F) S2x20x5x48x1024 .bf16) // ∀ (E : Set ℕ) (f_arg12 : BufTy.Contents (Elt F) arg12.view.ty),
      (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} f_arg12)) : sProp 𝕄G)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 k0_h5 k PUnit.unit)
          (fun _ => (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} (arg12.view.writes (Elt F) f_arg12 L))) : sProp 𝕄G)) } := by
  have hk : k.val < 20 := Nat.lt_of_lt_of_le k.isLt k0_t2_abs.2.1
  refine ⟨?_, fun E f_arg12 => ?run⟩
  case run =>
    skip
    unfold k0_t2_body
    iintro ⟨HR_arg3, HR_arg4, HR_arg5, HR_arg10, HR_arg11, HW_arg12⟩
    sl_exec
    sl_step
    sl_close

end Cert.KernelIdeal.Hand

end
-- ==== Proof.Ideal.T3.lean ====
/- One trip of the loop that computes a tile of scores and takes a step of the recursion, at an algebra with transfers. -/
module

public import proofs.«01_k».proof.Proof.Ideal.Geo
public import proofs.«01_k».proof.Proof.Gen.KernelIdeal.Loops
public import proofs.«01_k».proof.Proof.Gen.KernelIdeal.Skeleton
public import Idealize.ShloMosaic.Lib.Pipeline.FrameValue

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

/-- A resource set aside: held, and not read by the run. -/
@[irreducible] def Aside (P : sProp 𝕄G) : sProp 𝕄G := P
theorem aside_in (P : sProp 𝕄G) : P ⊢ Aside (F := F) P := by unfold Aside; exact .rfl
theorem aside_out (P : sProp 𝕄G) : Aside (F := F) P ⊢ P := by unfold Aside; exact .rfl

theorem slotC_in : ∀ i : grid0.Coords, ∀ a, (k0_off3 i) a + S1x20x5x48x1024.size a ≤ S2x20x5x48x1024.size a := by decide +kernel
theorem slotP_in : ∀ i : grid0.Coords, ∀ a, (k0_off6 i) a + S1x20x5x48x1024.size a ≤ S2x20x5x48x1024.size a := by decide +kernel

/-- The slot of scores point `i` writes. -/
abbrev slotC (i : grid0.Coords) : Rect S2x20x5x48x1024 := Rect.unit (s := S2x20x5x48x1024) (k0_off3 i) S1x20x5x48x1024.size (slotC_in i)
/-- The slot of scores the recursion reads at point `i`. -/
abbrev slotP (i : grid0.Coords) : Rect S2x20x5x48x1024 := Rect.unit (s := S2x20x5x48x1024) (k0_off6 i) S1x20x5x48x1024.size (slotP_in i)

@[irreducible] def trip3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v0 : BitVec 32) (v1 : BitVec 32) (k0_h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty) (k : Fin k0_t3_loop.trips) :
    { L : List (View.Piece (Elt F) S2x20x5x48x1024 .bf16) × List (View.Piece (Elt F) S20x48x1024 .f32) × List (View.Piece (Elt F) S48x1280 .f32) × List (View.Piece (Elt F) S48x1024 .f32) // ∀ (E : Set ℕ) (f_arg12 : BufTy.Contents (Elt F) arg12.view.ty) (f_arg7 : BufTy.Contents (Elt F) arg7.view.ty),
      (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.setOn (slotC i).set]{fullShare} f_arg12) ∗ (arg7.view.loc (c : Thread nD τ) ↦[arg7.view.set]{fullShare} f_arg7) ∗ (arg9.view.loc (c : Thread nD τ) ↦[arg9.view.set]{fullShare} G_arg9) ∗ (arg13.view.loc (c : Thread nD τ) ↦[arg13.view.set]{fullShare} G_arg13) ∗ (arg12.view.loc (c : Thread nD τ) ↦[arg12.view.setOn (slotP i).set]{q} X_arg12)) : sProp 𝕄G)
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 k PUnit.unit)
          (fun _ => (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.setOn (slotC i).set]{fullShare} (arg12.view.writes (Elt F) f_arg12 L.1)) ∗ (arg7.view.loc (c : Thread nD τ) ↦[arg7.view.set]{fullShare} (arg7.view.writes (Elt F) f_arg7 L.2.1)) ∗ (arg9.view.loc (c : Thread nD τ) ↦[arg9.view.set]{fullShare} (arg9.view.writes (Elt F) G_arg9 L.2.2.1)) ∗ (arg13.view.loc (c : Thread nD τ) ↦[arg13.view.set]{fullShare} (arg13.view.writes (Elt F) G_arg13 L.2.2.2)) ∗ (arg12.view.loc (c : Thread nD τ) ↦[arg12.view.setOn (slotP i).set]{q} X_arg12)) : sProp 𝕄G)) } := by
  have hk : k.val < 20 := Nat.lt_of_lt_of_le k.isLt k0_t3_abs.2.1
  refine ⟨(?_, ?_, ?_, ?_), fun E f_arg12 f_arg7 => ?run⟩
  case run =>
    skip
    unfold k0_t3_body
    iintro ⟨HR_arg3, HR_arg4, HR_arg5, HR_arg10, HR_arg11, HW_arg12, HW_arg7, HW_arg9, HW_arg13, HX⟩
    sl_exec_parts
    ihave HW_arg12 := aside_in _ $$ HW_arg12
    sl_exec_parts
    ihave HW_arg12 := aside_out _ $$ HW_arg12
    sl_step
    sl_close

end Cert.KernelIdeal.Hand

end
-- ==== Proof.Ideal.T4.lean ====
/- One trip of the loop that takes a step of the recursion on the last grid point, at an algebra with transfers. -/
module

public import proofs.«01_k».proof.Proof.Ideal.Geo
public import proofs.«01_k».proof.Proof.Gen.KernelIdeal.Loops
public import proofs.«01_k».proof.Proof.Gen.KernelIdeal.Skeleton
public import Idealize.ShloMosaic.Lib.Pipeline.FrameValue

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

@[irreducible] def trip4 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v1 : BitVec 32) (k0_h7 : k0_cond7 i = 1#1)  (G_arg9 : BufTy.Contents (Elt F) arg9.view.ty) (G_arg13 : BufTy.Contents (Elt F) arg13.view.ty) (q : PosShare TreeShare) (X_arg12 : BufTy.Contents (Elt F) arg12.view.ty) (k : Fin k0_t4_loop.trips) :
    { L : List (View.Piece (Elt F) S20x48x1024 .f32) × List (View.Piece (Elt F) S48x1280 .f32) × List (View.Piece (Elt F) S48x1024 .f32) // ∀ (E : Set ℕ) (f_arg7 : BufTy.Contents (Elt F) arg7.view.ty),
      (iprop((arg7.view.loc (c : Thread nD τ) ↦[arg7.view.set]{fullShare} f_arg7) ∗ (arg9.view.loc (c : Thread nD τ) ↦[arg9.view.set]{fullShare} G_arg9) ∗ (arg13.view.loc (c : Thread nD τ) ↦[arg13.view.set]{fullShare} G_arg13) ∗ (arg12.view.loc (c : Thread nD τ) ↦[arg12.view.set]{q} X_arg12)) : sProp 𝕄G)
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 arg0 v1 k0_h7 k PUnit.unit)
          (fun _ => (iprop((arg7.view.loc (c : Thread nD τ) ↦[arg7.view.set]{fullShare} (arg7.view.writes (Elt F) f_arg7 L.1)) ∗ (arg9.view.loc (c : Thread nD τ) ↦[arg9.view.set]{fullShare} (arg9.view.writes (Elt F) G_arg9 L.2.1)) ∗ (arg13.view.loc (c : Thread nD τ) ↦[arg13.view.set]{fullShare} (arg13.view.writes (Elt F) G_arg13 L.2.2)) ∗ (arg12.view.loc (c : Thread nD τ) ↦[arg12.view.set]{q} X_arg12)) : sProp 𝕄G)) } := by
  have hk : k.val < 20 := Nat.lt_of_lt_of_le k.isLt k0_t4_abs.2.1
  refine ⟨(?_, ?_, ?_), fun E f_arg7 => ?run⟩
  case run =>
    skip
    unfold k0_t4_body
    iintro ⟨HW_arg7, HW_arg9, HW_arg13, HX⟩
    sl_exec_parts
    sl_step
    sl_close

end Cert.KernelIdeal.Hand

end
-- ==== Proof.Ideal.LI.lean ====
/- The four counted loops by their invariants, at an algebra with transfers. -/
module

public import proofs.«01_k».proof.Proof.Ideal.T1
public import proofs.«01_k».proof.Proof.Ideal.T2
public import proofs.«01_k».proof.Proof.Ideal.T3
public import proofs.«01_k».proof.Proof.Ideal.T4

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

/-- What trip `k` of the loop that spreads the row scales over the lanes adds to the state `s` of the trips before it. -/
def step1 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (k0_h4 : k0_cond4 i = 1#1) (X_arg2 : BufTy.Contents (Elt F) arg2.view.ty) (k : ℕ) (s : List (View.Piece (Elt F) S20x48x128 .f32)) : List (View.Piece (Elt F) S20x48x128 .f32) :=
  if h : k < k0_t1_loop.trips then
    let L := (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  ⟨k, h⟩).1
    (L ++ s)
  else s

/-- The state before trip `k` of the loop that spreads the row scales over the lanes: the pieces written so far (last first). -/
def st1 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (k0_h4 : k0_cond4 i = 1#1) (X_arg2 : BufTy.Contents (Elt F) arg2.view.ty)  : ℕ → List (View.Piece (Elt F) S20x48x128 .f32)
  | 0 => []
  | k + 1 => step1 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2 k (st1 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k)

theorem st1_succ (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (k0_h4 : k0_cond4 i = 1#1) (X_arg2 : BufTy.Contents (Elt F) arg2.view.ty)  (k : Fin k0_t1_loop.trips) (s : List (View.Piece (Elt F) S20x48x128 .f32)) (hs : s = st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k.val) (L) (hL : L = (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k).1) :
    st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  (k.val + 1) = (L ++ s) := by
  subst hL; subst hs
  show step1 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2 k.val (st1 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k.val) = _
  unfold step1; rw [dif_pos k.isLt]

set_option warn.classDefReducibility false in
/-- The loop by its invariant: the loop that spreads the row scales over the lanes. -/
@[sl_loop] def loopInv_t1 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (k0_h4 : k0_cond4 i = 1#1) (X_arg2 : BufTy.Contents (Elt F) arg2.view.ty)  (E : Set ℕ) (G_arg11 : BufTy.Contents (Elt F) arg11.view.ty) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 arg0 k0_h4 where
  inv := fun k _ => iprop((arg2.view.loc (c : Thread nD τ) ↦[arg2.view.set]{fullShare} X_arg2) ∗ (∃ f, (arg11.view.loc (c : Thread nD τ) ↦[arg11.view.set]{fullShare} f) ∗ ⌜f = arg11.view.writes (Elt F) G_arg11 (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k)⌝))
  step k acc := by
    iintro ⟨HR_arg2, ⟨%f_arg11, HW_arg11, %h_arg11⟩⟩
    iapply (wp_wand_r Idealize.ShloMosaic.frame (wpE (defs₀ (F := F)) 𝒱 (c : Thread nD τ) bd) E)
    isplitl [HR_arg2 HW_arg11]
    · iapply ((trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k).2 E f_arg11)
      isplitl [HR_arg2]; · iexact HR_arg2
      iexact HW_arg11
    · iintro %_ ⟨HR_arg2, HW_arg11⟩
      have hst := st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 k0_h4 X_arg2  k
      isplitl [HR_arg2]; · iexact HR_arg2
      iexists _; isplitl [HW_arg11]; · iexact HW_arg11
      ipureintro; rw [hst _ rfl _ rfl]; rw [h_arg11, ← View.writes_append]

/-- What trip `k` of the loop that computes the first tiles of scores adds to the state `s` of the trips before it. -/
def step2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (k0_h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (k : ℕ) (s : List (View.Piece (Elt F) S2x20x5x48x1024 .bf16)) : List (View.Piece (Elt F) S2x20x5x48x1024 .bf16) :=
  if h : k < k0_t2_loop.trips then
    let L := (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  ⟨k, h⟩).1
    (L ++ s)
  else s

/-- The state before trip `k` of the loop that computes the first tiles of scores: the pieces written so far (last first). -/
def st2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (k0_h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  : ℕ → List (View.Piece (Elt F) S2x20x5x48x1024 .bf16)
  | 0 => []
  | k + 1 => step2 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11 k (st2 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k)

theorem st2_succ (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (k0_h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  (k : Fin k0_t2_loop.trips) (s : List (View.Piece (Elt F) S2x20x5x48x1024 .bf16)) (hs : s = st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k.val) (L) (hL : L = (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k).1) :
    st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  (k.val + 1) = (L ++ s) := by
  subst hL; subst hs
  show step2 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11 k.val (st2 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k.val) = _
  unfold step2; rw [dif_pos k.isLt]

set_option warn.classDefReducibility false in
/-- The loop by its invariant: the loop that computes the first tiles of scores. -/
@[sl_loop] def loopInv_t2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (k0_h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  (E : Set ℕ) (G_arg12 : BufTy.Contents (Elt F) arg12.view.ty) :
    LoopInvTy_k0_t2 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 k0_h5 where
  inv := fun k _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg10.view.loc (c : Thread nD τ) ↦[arg10.view.set]{fullShare} X_arg10) ∗ (arg11.view.loc (c : Thread nD τ) ↦[arg11.view.set]{fullShare} X_arg11) ∗ (∃ f, (arg12.view.loc (c : Thread nD τ) ↦[arg12.view.set]{fullShare} f) ∗ ⌜f = arg12.view.writes (Elt F) G_arg12 (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k)⌝))
  step k acc := by
    iintro ⟨HR_arg3, HR_arg4, HR_arg5, HR_arg10, HR_arg11, ⟨%f_arg12, HW_arg12, %h_arg12⟩⟩
    iapply (wp_wand_r Idealize.ShloMosaic.frame (wpE (defs₀ (F := F)) 𝒱 (c : Thread nD τ) bd) E)
    isplitl [HR_arg3 HR_arg4 HR_arg5 HR_arg10 HR_arg11 HW_arg12]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k).2 E f_arg12)
      isplitl [HR_arg3]; · iexact HR_arg3
      isplitl [HR_arg4]; · iexact HR_arg4
      isplitl [HR_arg5]; · iexact HR_arg5
      isplitl [HR_arg10]; · iexact HR_arg10
      isplitl [HR_arg11]; · iexact HR_arg11
      iexact HW_arg12
    · iintro %_ ⟨HR_arg3, HR_arg4, HR_arg5, HR_arg10, HR_arg11, HW_arg12⟩
      have hst := st2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 k0_h5 X_arg3 X_arg4 X_arg5 X_arg10 X_arg11  k
      isplitl [HR_arg3]; · iexact HR_arg3
      isplitl [HR_arg4]; · iexact HR_arg4
      isplitl [HR_arg5]; · iexact HR_arg5
      isplitl [HR_arg10]; · iexact HR_arg10
      isplitl [HR_arg11]; · iexact HR_arg11
      iexists _; isplitl [HW_arg12]; · iexact HW_arg12
      ipureintro; rw [hst _ rfl _ rfl]; rw [h_arg12, ← View.writes_append]

/-- What trip `k` of the loop that computes tiles of scores and steps the recursion adds to the state `s` of the trips before it. -/
def step3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v0 : BitVec 32) (v1 : BitVec 32) (k0_h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (q : PosShare TreeShare) (X_arg12 : BufTy.Contents (Elt F) arg12.view.ty) (k : ℕ) (s : List (View.Piece (Elt F) S2x20x5x48x1024 .bf16) × List (View.Piece (Elt F) S20x48x1024 .f32) × BufTy.Contents (Elt F) arg9.view.ty × BufTy.Contents (Elt F) arg13.view.ty) : List (View.Piece (Elt F) S2x20x5x48x1024 .bf16) × List (View.Piece (Elt F) S20x48x1024 .f32) × BufTy.Contents (Elt F) arg9.view.ty × BufTy.Contents (Elt F) arg13.view.ty :=
  if h : k < k0_t3_loop.trips then
    let L := (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 s.2.2.1 s.2.2.2 q X_arg12 ⟨k, h⟩).1
    ((L.1 ++ s.1), (L.2.1 ++ s.2.1), (arg9.view.writes (Elt F) s.2.2.1 L.2.2.1), (arg13.view.writes (Elt F) s.2.2.2 L.2.2.2))
  else s

/-- The state before trip `k` of the loop that computes tiles of scores and steps the recursion: the pieces written so far (last first), and the contents of the buffers it reads back. -/
def st3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v0 : BitVec 32) (v1 : BitVec 32) (k0_h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty) : ℕ → List (View.Piece (Elt F) S2x20x5x48x1024 .bf16) × List (View.Piece (Elt F) S20x48x1024 .f32) × BufTy.Contents (Elt F) arg9.view.ty × BufTy.Contents (Elt F) arg13.view.ty
  | 0 => ([], [], G_arg9, G_arg13)
  | k + 1 => step3 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 q X_arg12 k (st3 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k)

theorem st3_succ (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v0 : BitVec 32) (v1 : BitVec 32) (k0_h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty) (k : Fin k0_t3_loop.trips) (s : List (View.Piece (Elt F) S2x20x5x48x1024 .bf16) × List (View.Piece (Elt F) S20x48x1024 .f32) × BufTy.Contents (Elt F) arg9.view.ty × BufTy.Contents (Elt F) arg13.view.ty) (hs : s = st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k.val) (L) (hL : L = (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 s.2.2.1 s.2.2.2 q X_arg12 k).1) :
    st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 (k.val + 1) = ((L.1 ++ s.1), (L.2.1 ++ s.2.1), (arg9.view.writes (Elt F) s.2.2.1 L.2.2.1), (arg13.view.writes (Elt F) s.2.2.2 L.2.2.2)) := by
  subst hL; subst hs
  show step3 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 q X_arg12 k.val (st3 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k.val) = _
  unfold step3; rw [dif_pos k.isLt]

set_option warn.classDefReducibility false in
/-- The loop by its invariant: the loop that computes tiles of scores and steps the recursion. -/
@[sl_loop] def loopInv_t3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v0 : BitVec 32) (v1 : BitVec 32) (k0_h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (E : Set ℕ) (G_arg12 : BufTy.Contents (Elt F) arg12.view.ty) (G_arg7 : BufTy.Contents (Elt F) arg7.view.ty) (q : PosShare TreeShare) (X_arg12 : BufTy.Contents (Elt F) arg12.view.ty) :
    LoopInvTy_k0_t3 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 where
  inv := fun k _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg10.view.loc (c : Thread nD τ) ↦[arg10.view.set]{fullShare} X_arg10) ∗ (arg11.view.loc (c : Thread nD τ) ↦[arg11.view.set]{fullShare} X_arg11) ∗ (∃ f, (arg12.view.loc (c : Thread nD τ) ↦[arg12.view.setOn (slotC i).set]{fullShare} f) ∗ ⌜f = arg12.view.writes (Elt F) G_arg12 (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k).1⌝) ∗ (∃ f, (arg7.view.loc (c : Thread nD τ) ↦[arg7.view.set]{fullShare} f) ∗ ⌜f = arg7.view.writes (Elt F) G_arg7 (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k).2.1⌝) ∗ (∃ f, (arg9.view.loc (c : Thread nD τ) ↦[arg9.view.set]{fullShare} f) ∗ ⌜f = (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k).2.2.1⌝) ∗ (∃ f, (arg13.view.loc (c : Thread nD τ) ↦[arg13.view.set]{fullShare} f) ∗ ⌜f = (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k).2.2.2⌝) ∗ (arg12.view.loc (c : Thread nD τ) ↦[arg12.view.setOn (slotP i).set]{q} X_arg12))
  step k acc := by
    iintro ⟨HR_arg3, HR_arg4, HR_arg5, HR_arg10, HR_arg11, ⟨%f_arg12, HW_arg12, %h_arg12⟩, ⟨%f_arg7, HW_arg7, %h_arg7⟩, ⟨%f_arg9, HW_arg9, %h_arg9⟩, ⟨%f_arg13, HW_arg13, %h_arg13⟩, HX⟩
    iapply (wp_wand_r Idealize.ShloMosaic.frame (wpE (defs₀ (F := F)) 𝒱 (c : Thread nD τ) bd) E)
    isplitl [HR_arg3 HR_arg4 HR_arg5 HR_arg10 HR_arg11 HW_arg12 HW_arg7 HW_arg9 HW_arg13 HX]
    · iapply ((trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 f_arg9 f_arg13 q X_arg12 k).2 E f_arg12 f_arg7)
      isplitl [HR_arg3]; · iexact HR_arg3
      isplitl [HR_arg4]; · iexact HR_arg4
      isplitl [HR_arg5]; · iexact HR_arg5
      isplitl [HR_arg10]; · iexact HR_arg10
      isplitl [HR_arg11]; · iexact HR_arg11
      isplitl [HW_arg12]; · iexact HW_arg12
      isplitl [HW_arg7]; · iexact HW_arg7
      isplitl [HW_arg9]; · iexact HW_arg9
      isplitl [HW_arg13]; · iexact HW_arg13
      iexact HX
    · iintro %_ ⟨HR_arg3, HR_arg4, HR_arg5, HR_arg10, HR_arg11, HW_arg12, HW_arg7, HW_arg9, HW_arg13, HX⟩
      have hst := st3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 k0_h6 X_arg3 X_arg4 X_arg5 X_arg10 X_arg11 G_arg9 G_arg13 q X_arg12 k
      isplitl [HR_arg3]; · iexact HR_arg3
      isplitl [HR_arg4]; · iexact HR_arg4
      isplitl [HR_arg5]; · iexact HR_arg5
      isplitl [HR_arg10]; · iexact HR_arg10
      isplitl [HR_arg11]; · iexact HR_arg11
      subst h_arg9 h_arg13
      isplitl [HW_arg12]
      · iexists _; isplitl [HW_arg12]; · iexact HW_arg12
        ipureintro; rw [hst _ rfl _ rfl]; rw [h_arg12, ← View.writes_append]
      isplitl [HW_arg7]
      · iexists _; isplitl [HW_arg7]; · iexact HW_arg7
        ipureintro; rw [hst _ rfl _ rfl]; rw [h_arg7, ← View.writes_append]
      isplitl [HW_arg9]
      · iexists _; isplitl [HW_arg9]; · iexact HW_arg9
        ipureintro; rw [hst _ rfl _ rfl]
      isplitl [HW_arg13]
      · iexists _; isplitl [HW_arg13]; · iexact HW_arg13
        ipureintro; rw [hst _ rfl _ rfl]
      iexact HX

/-- What trip `k` of the loop that steps the recursion on the last grid point adds to the state `s` of the trips before it. -/
def step4 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v1 : BitVec 32) (k0_h7 : k0_cond7 i = 1#1)  (q : PosShare TreeShare) (X_arg12 : BufTy.Contents (Elt F) arg12.view.ty) (k : ℕ) (s : List (View.Piece (Elt F) S20x48x1024 .f32) × BufTy.Contents (Elt F) arg9.view.ty × BufTy.Contents (Elt F) arg13.view.ty) : List (View.Piece (Elt F) S20x48x1024 .f32) × BufTy.Contents (Elt F) arg9.view.ty × BufTy.Contents (Elt F) arg13.view.ty :=
  if h : k < k0_t4_loop.trips then
    let L := (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  s.2.1 s.2.2 q X_arg12 ⟨k, h⟩).1
    ((L.1 ++ s.1), (arg9.view.writes (Elt F) s.2.1 L.2.1), (arg13.view.writes (Elt F) s.2.2 L.2.2))
  else s

/-- The state before trip `k` of the loop that steps the recursion on the last grid point: the pieces written so far (last first), and the contents of the buffers it reads back. -/
def st4 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v1 : BitVec 32) (k0_h7 : k0_cond7 i = 1#1)  (G_arg9 : BufTy.Contents (Elt F) arg9.view.ty) (G_arg13 : BufTy.Contents (Elt F) arg13.view.ty) (q : PosShare TreeShare) (X_arg12 : BufTy.Contents (Elt F) arg12.view.ty) : ℕ → List (View.Piece (Elt F) S20x48x1024 .f32) × BufTy.Contents (Elt F) arg9.view.ty × BufTy.Contents (Elt F) arg13.view.ty
  | 0 => ([], G_arg9, G_arg13)
  | k + 1 => step4 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  q X_arg12 k (st4 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k)

theorem st4_succ (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v1 : BitVec 32) (k0_h7 : k0_cond7 i = 1#1)  (G_arg9 : BufTy.Contents (Elt F) arg9.view.ty) (G_arg13 : BufTy.Contents (Elt F) arg13.view.ty) (q : PosShare TreeShare) (X_arg12 : BufTy.Contents (Elt F) arg12.view.ty) (k : Fin k0_t4_loop.trips) (s : List (View.Piece (Elt F) S20x48x1024 .f32) × BufTy.Contents (Elt F) arg9.view.ty × BufTy.Contents (Elt F) arg13.view.ty) (hs : s = st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k.val) (L) (hL : L = (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  s.2.1 s.2.2 q X_arg12 k).1) :
    st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 (k.val + 1) = ((L.1 ++ s.1), (arg9.view.writes (Elt F) s.2.1 L.2.1), (arg13.view.writes (Elt F) s.2.2 L.2.2)) := by
  subst hL; subst hs
  show step4 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  q X_arg12 k.val (st4 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k.val) = _
  unfold step4; rw [dif_pos k.isLt]

set_option warn.classDefReducibility false in
/-- The loop by its invariant: the loop that steps the recursion on the last grid point. -/
@[sl_loop] def loopInv_t4 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 : BitVec 32) (v1 : BitVec 32) (k0_h7 : k0_cond7 i = 1#1)  (G_arg9 : BufTy.Contents (Elt F) arg9.view.ty) (G_arg13 : BufTy.Contents (Elt F) arg13.view.ty) (E : Set ℕ) (G_arg7 : BufTy.Contents (Elt F) arg7.view.ty) (q : PosShare TreeShare) (X_arg12 : BufTy.Contents (Elt F) arg12.view.ty) :
    LoopInvTy_k0_t4 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 arg0 v1 k0_h7 where
  inv := fun k _ => iprop((∃ f, (arg7.view.loc (c : Thread nD τ) ↦[arg7.view.set]{fullShare} f) ∗ ⌜f = arg7.view.writes (Elt F) G_arg7 (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k).1⌝) ∗ (∃ f, (arg9.view.loc (c : Thread nD τ) ↦[arg9.view.set]{fullShare} f) ∗ ⌜f = (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k).2.1⌝) ∗ (∃ f, (arg13.view.loc (c : Thread nD τ) ↦[arg13.view.set]{fullShare} f) ∗ ⌜f = (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k).2.2⌝) ∗ (arg12.view.loc (c : Thread nD τ) ↦[arg12.view.set]{q} X_arg12))
  step k acc := by
    iintro ⟨⟨%f_arg7, HW_arg7, %h_arg7⟩, ⟨%f_arg9, HW_arg9, %h_arg9⟩, ⟨%f_arg13, HW_arg13, %h_arg13⟩, HX⟩
    iapply (wp_wand_r Idealize.ShloMosaic.frame (wpE (defs₀ (F := F)) 𝒱 (c : Thread nD τ) bd) E)
    isplitl [HW_arg7 HW_arg9 HW_arg13 HX]
    · iapply ((trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  f_arg9 f_arg13 q X_arg12 k).2 E f_arg7)
      isplitl [HW_arg7]; · iexact HW_arg7
      isplitl [HW_arg9]; · iexact HW_arg9
      isplitl [HW_arg13]; · iexact HW_arg13
      iexact HX
    · iintro %_ ⟨HW_arg7, HW_arg9, HW_arg13, HX⟩
      have hst := st4_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v1 k0_h7  G_arg9 G_arg13 q X_arg12 k
      subst h_arg9 h_arg13
      isplitl [HW_arg7]
      · iexists _; isplitl [HW_arg7]; · iexact HW_arg7
        ipureintro; rw [hst _ rfl _ rfl]; rw [h_arg7, ← View.writes_append]
      isplitl [HW_arg9]
      · iexists _; isplitl [HW_arg9]; · iexact HW_arg9
        ipureintro; rw [hst _ rfl _ rfl]
      isplitl [HW_arg13]
      · iexists _; isplitl [HW_arg13]; · iexact HW_arg13
        ipureintro; rw [hst _ rfl _ rfl]
      iexact HX

end Cert.KernelIdeal.Hand

end
-- ==== Proof.Ideal.Val.lean ====
/- What the scratch buffers of a grid point hold: the rows of the block, the scales of the rows, and the tiles of scores. -/
module

public import proofs.«01_k».proof.Proof.Ideal.LI
public import Idealize.ShloMosaic.Lib.ValueIdx
public import Idealize.ShloMosaic.Lib.ValueLayout

@[expose] public section

set_option maxRecDepth 16384
set_option maxHeartbeats 200000

noncomputable section

namespace Cert.KernelIdeal.Hand

open Idealize.ShloMosaic.ValueIdx
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

/-! ## The values -/

/-- The rows of a block of `x`, one under the other: row `48 t + n` is `x[t, n]`. -/
def xt (x1 : Vec F S20x48x2560 .fp8e4m3) : Vec F S960x2560 .fp8e4m3 := fun y =>
  x1 (ix3 (⟨(y 0).val / 48, by have := idx2_lt0 y; omega⟩ : Fin 20) (⟨(y 0).val % 48, by omega⟩ : Fin 48) (⟨(y 1).val, idx2_lt1 y⟩ : Fin 2560))

/-- The scales of the rows of chunk `p`, the same in every lane: entry `[t, n, l]` is `x_scale[20 p + t, n]` (the array is held transposed). -/
def xs (p : ℕ) (x2 : Vec F S48x1280 .f32) : Vec F S20x48x128 .f32 := fun y =>
  x2 (ix2 (⟨(y 1).val, (y 1).isLt⟩ : Fin 48) (⟨(20 * p + (y 0).val) % 1280, by omega⟩ : Fin 1280))

/-- Tile `j` of the scores of chunk `p`: 256 columns. -/
def tileOf (p : ℕ) (x1 : Vec F S20x48x2560 .fp8e4m3) (x2 : Vec F S48x1280 .f32) (x3 : Vec F S2560x5120 .fp8e4m3) (x4 x5 : Vec F S1x5120 .f32) (j : ℕ) : Vec F S1x20x1x48x256 .bf16 :=
  k0_pay8 (xt x1) (fun y => x3 (ix2 (⟨(y 0).val, idx2_lt0 y⟩ : Fin 2560) (⟨(j * 256 + (y 1).val) % 5120, by omega⟩ : Fin 5120)))
    (fun y => x4 (ix2 (0 : Fin 1) (⟨(j * 256 + (y 1).val) % 5120, by omega⟩ : Fin 5120)))
    (fun y => x5 (ix2 (0 : Fin 1) (⟨(j * 256 + (y 1).val) % 5120, by omega⟩ : Fin 5120))) (xs p x2)

/-- The scores of chunk `p`, by step, plane, sequence and lane (the slot that holds them put aside). -/
def zt (p : ℕ) (x1 : Vec F S20x48x2560 .fp8e4m3) (x2 : Vec F S48x1280 .f32) (x3 : Vec F S2560x5120 .fp8e4m3) (x4 x5 : Vec F S1x5120 .f32) : S2x20x5x48x1024.Idx → Elt F .bf16 := fun y =>
  tileOf p x1 x2 x3 x4 x5 ((y 2).val * 4 + (y 4).val / 256)
    (ix5 (0 : Fin 1) (⟨(y 1).val, (y 1).isLt⟩ : Fin 20) (0 : Fin 1) (⟨(y 3).val, (y 3).isLt⟩ : Fin 48) (⟨(y 4).val % 256, by omega⟩ : Fin 256))

/-! ## The scales -/

theorem pay7_apply (v : FVec F S8x128 .f32) (w : IVec S8x128 32) (l : ℕ) (hl : l < 128) (hw : ∀ j, w j = BitVec.ofNat 32 l) (x : S1x8x128.Idx) :
    k0_pay7 v w 0#32 x = v (ix2 (⟨(x 1).val, (x 1).isLt⟩ : Fin 8) (⟨l, hl⟩ : Fin 128)) := by
  have hs : Scalar.select (IntOp.cmpi .slt (BitVec.ofNat 32 l) 0#32) (BitVec.ofNat 32 l + 128#32) (BitVec.ofNat 32 l) = BitVec.ofNat 32 l := by
    have : ∀ l : Fin 128, Scalar.select (IntOp.cmpi .slt (BitVec.ofNat 32 l.val) 0#32) (BitVec.ofNat 32 l.val + 128#32) (BitVec.ofNat 32 l.val) = BitVec.ofNat 32 l.val := by decide +kernel
    exact this ⟨l, hl⟩
  have hx : x = ix3 (0 : Fin 1) (⟨(x 1).val, (x 1).isLt⟩ : Fin 8) (⟨(x 2).val, (x 2).isLt⟩ : Fin 128) := by
    funext a; fin_cases a
    · exact Fin.ext (by have : (x 0).val < 1 := (x 0).isLt; show (x 0).val = 0; omega)
    · rfl
    · rfl
  rw [hx]
  unfold k0_pay7
  rw [shapeCast_ab_1ab_apply, shapeCast_shapeCast]
  show v _ = v _
  congr 1
  funext b
  show (if b = 1 then _ else _) = _
  fin_cases b
  · rfl
  · refine Fin.ext ?_
    show (Scalar.select (IntOp.cmpi .slt (w _) 0#32) (w _ + 128#32) (w _)).toNat % 128 = l
    rw [hw, hs, BitVec.toNat_ofNat]; omega

theorem lane_word : ∀ (i : grid0.Coords) (k : Fin k0_t1_loop.trips),
    (0#32 + trip1.sl.v137 (BitVec.ofNat 32 (i 0).val) k : BitVec 32) = BitVec.ofNat 32 ((20 * (i 0).val + k.val) % 128) := by decide +kernel

theorem pay42_eq (a : Vec F S960x2560 .fp8e4m3) (b : Vec F S2560x256 .fp8e4m3) (d e : Vec F S1x256 .f32) (g : Vec F S20x48x128 .f32) : k0_pay42 a b d e g = k0_pay8 a b d e g := rfl
theorem off18_eq : ∀ k : Fin k0_t1_loop.trips, k0_off18 k = ![k.val, 40, 0] := by decide +kernel
theorem off16_eq : ∀ k : Fin k0_t1_loop.trips, k0_off16 k = ![k.val, 32, 0] := by decide +kernel
theorem off14_eq : ∀ k : Fin k0_t1_loop.trips, k0_off14 k = ![k.val, 24, 0] := by decide +kernel
theorem off12_eq : ∀ k : Fin k0_t1_loop.trips, k0_off12 k = ![k.val, 16, 0] := by decide +kernel
theorem off10_eq : ∀ k : Fin k0_t1_loop.trips, k0_off10 k = ![k.val, 8, 0] := by decide +kernel
theorem off8_eq : ∀ k : Fin k0_t1_loop.trips, k0_off8 k = ![k.val, 0, 0] := by decide +kernel
theorem off22_eq : ∀ k : Fin k0_t3_loop.trips, k0_off22 k = ![0, k.val * 256] := by decide +kernel
theorem off23_eq : ∀ k : Fin k0_t3_loop.trips, k0_off23 k = ![0, k.val * 256] := by decide +kernel

theorem off19_eq : ∀ k : Fin k0_t2_loop.trips, k0_off19 k = ![0, k.val * 256] := by decide +kernel
theorem off20_eq : ∀ k : Fin k0_t2_loop.trips, k0_off20 k = ![0, k.val * 256] := by decide +kernel
theorem t1_trips : k0_t1_loop.trips = 20 := by decide +kernel
theorem t2_trips : k0_t2_loop.trips = 20 := by decide +kernel
theorem t3_trips : k0_t3_loop.trips = 20 := by decide +kernel
theorem tile_mem (p k : ℕ) (y : S2x20x5x48x1024.Idx) (h0 : (y 0).val = p % 2) (hy : (y 2).val * 4 + (y 4).val / 256 = k) :
    ∀ a, (![p % 2, 0, k / 4, 0, k % 4 * 256] : Fin 5 → ℕ) a ≤ (y a).val ∧ (y a).val < (![p % 2, 0, k / 4, 0, k % 4 * 256] : Fin 5 → ℕ) a + S1x20x1x48x256.size a := by
  have y1 : (y 1).val < 20 := (y 1).isLt
  have y2 : (y 2).val < 5 := (y 2).isLt
  have y3 : (y 3).val < 48 := (y 3).isLt
  have y4 : (y 4).val < 1024 := (y 4).isLt
  intro a; fin_cases a
  · show p % 2 ≤ (y 0).val ∧ (y 0).val < p % 2 + 1; omega
  · show 0 ≤ (y 1).val ∧ (y 1).val < 0 + 20; omega
  · show k / 4 ≤ (y 2).val ∧ (y 2).val < k / 4 + 1; omega
  · show 0 ≤ (y 3).val ∧ (y 3).val < 0 + 48; omega
  · show k % 4 * 256 ≤ (y 4).val ∧ (y 4).val < k % 4 * 256 + 256; omega

/-- A payload of the loop that spreads the scales: rows `r0 … r0 + 7` of column `20 p + k`, in every lane. -/
theorem scale_core (p k r0 : ℕ) (hp : p < 64) (hk : k < 20) (hr : r0 + 8 ≤ 48) {arg2 : Memref sig .tc .vmem S48x1280 .f32} (X_arg2 : BufTy.Contents (Elt F) arg2.view.ty) (x2 : Vec F S48x1280 .f32)
    (harg2_read : ∀ y, arg2.view.read (Elt F) X_arg2 y = x2 y) {o o' : Fin _ → ℕ} (e : o = ![r0, (20 * p + k) / 128 * 128]) (e' : o' = ![k, r0, 0])
    (b : ∀ a, o a + S8x128.size a ≤ S48x1280.size a) (b' : ∀ a, o' a + S1x8x128.size a ≤ S20x48x128.size a)
    (w : IVec S8x128 32) (hw : ∀ j, w j = BitVec.ofNat 32 ((20 * p + k) % 128)) (x : S1x8x128.Idx) :
    k0_pay7 (shapeCast S8x128 (View.readAt (Elt F) arg2.view (Rect.unit (s := S48x1280) o S8x128.size b).toLoadRect X_arg2) shapeCasts_S8x128_S8x128) w 0#32 x
      = xs p x2 ((Rect.unit (s := S20x48x128) o' S1x8x128.size b').emb x) := by
  subst e; subst e'
  have x0 : (x 0).val < 1 := (x 0).isLt
  have x1 : (x 1).val < 8 := (x 1).isLt
  rw [pay7_apply _ _ _ (by omega) hw]
  refine (congrFun (shapeCast_self (s := S8x128) _ _) _).trans ?_
  rw [View.readAt_apply, harg2_read]
  unfold xs
  congr 1
  funext a
  fin_cases a <;> refine Fin.ext ?_
  · show r0 + 1 * (x 1).val = r0 + 1 * (x 1).val; rfl
  · show (20 * p + k) / 128 * 128 + 1 * ((20 * p + k) % 128) = (20 * p + (k + 1 * (x 0).val)) % 1280
    omega

theorem scale_mem (k r0 : ℕ) (y : S20x48x128.Idx) (h0 : (y 0).val = k) (hy : r0 ≤ (y 1).val ∧ (y 1).val < r0 + 8) :
    ∀ a, (![k, r0, 0] : Fin 3 → ℕ) a ≤ (y a).val ∧ (y a).val < (![k, r0, 0] : Fin 3 → ℕ) a + S1x8x128.size a := by
  have y2 : (y 2).val < 128 := (y 2).isLt
  intro a; fin_cases a
  · show k ≤ (y 0).val ∧ (y 0).val < k + 1; omega
  · show r0 ≤ (y 1).val ∧ (y 1).val < r0 + 8; omega
  · show 0 ≤ (y 2).val ∧ (y 2).val < 0 + 128; omega

theorem lt64 : ∀ i : grid0.Coords, k0_cond4 i = 1#1 → (i 0).val < 64 := by decide +kernel

theorem scale_piece (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h4 : k0_cond4 i = 1#1) (X_arg2 : BufTy.Contents (Elt F) arg2.view.ty) (k : Fin k0_t1_loop.trips) (x2 : Vec F S48x1280 .f32)
    (harg2_read : ∀ y, arg2.view.read (Elt F) X_arg2 y = x2 y) :
    ∀ p ∈ (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 (BitVec.ofNat 32 (i 0).val) h4 X_arg2 k).1, (∀ x, p.2 x = xs (i 0).val x2 (p.1.emb x)) := by
  unfold trip1 trip1.sl.HW_arg11_3
  dsimp only
  have hk : k.val < 20 := Nat.lt_of_lt_of_le k.isLt k0_t1_abs.2.1
  have hw : ∀ j : S8x128.Idx, (addi trip1.sl.v136 (trip1.sl.v138 (BitVec.ofNat 32 (i 0).val) k)) j = BitVec.ofNat 32 ((20 * (i 0).val + k.val) % 128) := fun _ => lane_word i k
  rintro p hp
  simp only [List.mem_cons, trip1.sl.HW_arg11_1, List.not_mem_nil, or_false] at hp
  rcases hp with rfl | rfl | rfl | rfl | rfl | rfl
  · exact fun x => scale_core (i 0).val k.val 40 (lt64 i h4) hk (by omega) X_arg2 x2 harg2_read (k0_off17_eq i k) (off18_eq k) (k0_off17_inb i k h4) (k0_off18_inb i k h4) _ hw x
  · exact fun x => scale_core (i 0).val k.val 32 (lt64 i h4) hk (by omega) X_arg2 x2 harg2_read (k0_off15_eq i k) (off16_eq k) (k0_off15_inb i k h4) (k0_off16_inb i k h4) _ hw x
  · exact fun x => scale_core (i 0).val k.val 24 (lt64 i h4) hk (by omega) X_arg2 x2 harg2_read (k0_off13_eq i k) (off14_eq k) (k0_off13_inb i k h4) (k0_off14_inb i k h4) _ hw x
  · exact fun x => scale_core (i 0).val k.val 16 (lt64 i h4) hk (by omega) X_arg2 x2 harg2_read (k0_off11_eq i k) (off12_eq k) (k0_off11_inb i k h4) (k0_off12_inb i k h4) _ hw x
  · exact fun x => scale_core (i 0).val k.val 8 (lt64 i h4) hk (by omega) X_arg2 x2 harg2_read (k0_off9_eq i k) (off10_eq k) (k0_off9_inb i k h4) (k0_off10_inb i k h4) _ hw x
  · exact fun x => scale_core (i 0).val k.val 0 (lt64 i h4) hk (by omega) X_arg2 x2 harg2_read (k0_off7_eq i k) (off8_eq k) (k0_off7_inb i k h4) (k0_off8_inb i k h4) _ hw x

theorem scale_cover (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h4 : k0_cond4 i = 1#1) (X_arg2 : BufTy.Contents (Elt F) arg2.view.ty) (k : Fin k0_t1_loop.trips) (y : S20x48x128.Idx) (h0 : (y 0).val = k.val) :
    ∃ p ∈ (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 (BitVec.ofNat 32 (i 0).val) h4 X_arg2 k).1, y ∈ p.1.set := by
  unfold trip1 trip1.sl.HW_arg11_3 trip1.sl.HW_arg11_1
  dsimp only
  have y1 : (y 1).val < 48 := (y 1).isLt
  have hd : (y 1).val / 8 < 6 := by omega
  interval_cases hq : (y 1).val / 8
  · exact ⟨_, List.mem_cons_of_mem _ (List.mem_cons_of_mem _ (List.mem_cons_of_mem _ (List.mem_cons_of_mem _ (List.mem_cons_of_mem _ (List.mem_cons_self))))), by dsimp only; rw [Rect.mem_set_unit, off8_eq]; exact scale_mem k.val 0 y h0 (by omega)⟩
  · exact ⟨_, List.mem_cons_of_mem _ (List.mem_cons_of_mem _ (List.mem_cons_of_mem _ (List.mem_cons_of_mem _ (List.mem_cons_self)))), by dsimp only; rw [Rect.mem_set_unit, off10_eq]; exact scale_mem k.val 8 y h0 (by omega)⟩
  · exact ⟨_, List.mem_cons_of_mem _ (List.mem_cons_of_mem _ (List.mem_cons_of_mem _ (List.mem_cons_self))), by dsimp only; rw [Rect.mem_set_unit, off12_eq]; exact scale_mem k.val 16 y h0 (by omega)⟩
  · exact ⟨_, List.mem_cons_of_mem _ (List.mem_cons_of_mem _ (List.mem_cons_self)), by dsimp only; rw [Rect.mem_set_unit, off14_eq]; exact scale_mem k.val 24 y h0 (by omega)⟩
  · exact ⟨_, List.mem_cons_of_mem _ (List.mem_cons_self), by dsimp only; rw [Rect.mem_set_unit, off16_eq]; exact scale_mem k.val 32 y h0 (by omega)⟩
  · exact ⟨_, List.mem_cons_self, by dsimp only; rw [Rect.mem_set_unit, off18_eq]; exact scale_mem k.val 40 y h0 (by omega)⟩

theorem st1_piece (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h4 : k0_cond4 i = 1#1) (X_arg2 : BufTy.Contents (Elt F) arg2.view.ty) (x2 : Vec F S48x1280 .f32)
    (harg2_read : ∀ y, arg2.view.read (Elt F) X_arg2 y = x2 y) : ∀ n,
    ∀ p ∈ st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 (BitVec.ofNat 32 (i 0).val) h4 X_arg2 n, (∀ x, p.2 x = xs (i 0).val x2 (p.1.emb x))
  | 0 => fun p hp => absurd hp List.not_mem_nil
  | n + 1 => by
    intro p hp
    unfold st1 step1 at hp
    split at hp
    · rcases List.mem_append.1 hp with hp | hp
      · exact scale_piece 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 _ x2 harg2_read p hp
      · exact st1_piece 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 x2 harg2_read n p hp
    · exact st1_piece 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 x2 harg2_read n p hp

theorem st1_cover (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h4 : k0_cond4 i = 1#1) (X_arg2 : BufTy.Contents (Elt F) arg2.view.ty) : ∀ n ≤ k0_t1_loop.trips, ∀ y : S20x48x128.Idx, (y 0).val < n →
    ∃ p ∈ st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 (BitVec.ofNat 32 (i 0).val) h4 X_arg2 n, y ∈ p.1.set
  | 0 => fun _ y hy => absurd hy (Nat.not_lt_zero _)
  | n + 1 => by
    intro hn y hy
    unfold st1 step1
    rw [dif_pos (show n < k0_t1_loop.trips from hn)]
    by_cases e : (y 0).val = n
    · obtain ⟨p, hp, hm⟩ := scale_cover 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 ⟨n, hn⟩ y e
      exact ⟨p, List.mem_append_left _ hp, hm⟩
    · obtain ⟨p, hp, hm⟩ := st1_cover 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 n (Nat.le_of_succ_le hn) y (by omega)
      exact ⟨p, List.mem_append_right _ hp, hm⟩

/-- What the scratch of the scales reads when the loop is done. -/
theorem scales1 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h4 : k0_cond4 i = 1#1) (X_arg2 : BufTy.Contents (Elt F) arg2.view.ty) (x2 : Vec F S48x1280 .f32)
    (harg2_read : ∀ y, arg2.view.read (Elt F) X_arg2 y = x2 y) (f : BufTy.Contents (Elt F) arg11.view.ty) (y : S20x48x128.Idx) :
    arg11.view.read (Elt F) (arg11.view.writes (Elt F) f (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 (BitVec.ofNat 32 (i 0).val) h4 X_arg2 k0_t1_loop.trips)) y
      = xs (i 0).val x2 y :=
  View.read_writes_apply_of_pieces _ _ (xs (i 0).val x2) _ (st1_piece 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 x2 harg2_read _) y
    (st1_cover 𝒱 c bd i arg1 harg1 arg2 harg2 arg3 harg3 arg4 harg4 arg5 harg5 arg6 harg6 arg7 harg7 arg8 harg8 arg9 harg9 arg10 harg10 arg11 harg11 arg12 harg12 arg13 harg13 arg14 h4 X_arg2 _ le_rfl y (by have y0 : (y 0).val < 20 := (y 0).isLt; rw [t1_trips]; omega))

/-! ## The tiles -/

theorem tile_core (p k : ℕ) (hk : k < 20) {arg10 : Memref sig .tc .vmem S960x2560 .fp8e4m3} {arg3 : Memref sig .tc .vmem S2560x5120 .fp8e4m3} {arg4 arg5 : Memref sig .tc .vmem S1x5120 .f32} {arg11 : Memref sig .tc .vmem S20x48x128 .f32} (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs p x2 y)
    {o12 : Fin 5 → ℕ} {o3 o4 : Fin 2 → ℕ} (e12 : o12 = ![p % 2, 0, k / 4, 0, k % 4 * 256]) (e3 : o3 = ![0, k * 256]) (e4 : o4 = ![0, k * 256])
    (b12 : ∀ a, o12 a + S1x20x1x48x256.size a ≤ S2x20x5x48x1024.size a) (b3 : ∀ a, o3 a + S2560x256.size a ≤ S2560x5120.size a) (b4 : ∀ a, o4 a + S1x256.size a ≤ S1x5120.size a)
    (x : S1x20x1x48x256.Idx) :
    k0_pay8 (View.readAt (Elt F) arg10.view (Rect.unit (s := S960x2560) ![0, 0] S960x2560.size inb_S960x2560_S960x2560_0_0).toLoadRect X_arg10)
      (View.readAt (Elt F) arg3.view (Rect.unit (s := S2560x5120) o3 S2560x256.size b3).toLoadRect X_arg3)
      (View.readAt (Elt F) arg4.view (Rect.unit (s := S1x5120) o4 S1x256.size b4).toLoadRect X_arg4)
      (View.readAt (Elt F) arg5.view (Rect.unit (s := S1x5120) o4 S1x256.size b4).toLoadRect X_arg5)
      (View.readAt (Elt F) arg11.view (Rect.unit (s := S20x48x128) ![0, 0, 0] S20x48x128.size inb_S20x48x128_S20x48x128_0_0_0).toLoadRect X_arg11) x
    = zt p x1 x2 x3 x4 x5 ((Rect.unit (s := S2x20x5x48x1024) o12 S1x20x1x48x256.size b12).emb x) := by
  subst e12; subst e3; subst e4
  have x0 : (x 0).val < 1 := (x 0).isLt
  have x2' : (x 2).val < 1 := (x 2).isLt
  have x4' : (x 4).val < 256 := (x 4).isLt
  have hj : (((Rect.unit (s := S2x20x5x48x1024) ![p % 2, 0, k / 4, 0, k % 4 * 256] S1x20x1x48x256.size b12).emb x) 2).val * 4
      + (((Rect.unit (s := S2x20x5x48x1024) ![p % 2, 0, k / 4, 0, k % 4 * 256] S1x20x1x48x256.size b12).emb x) 4).val / 256 = k := by
    show (k / 4 + 1 * (x 2).val) * 4 + (k % 4 * 256 + 1 * (x 4).val) / 256 = k; omega
  unfold zt
  rw [hj]
  unfold tileOf
  congr 1
  · funext y; rw [View.readAt_apply, harg10_read]; congr 1; funext a; fin_cases a <;> refine Fin.ext ?_
    · show 0 + 1 * (y 0).val = (y 0).val; omega
    · show 0 + 1 * (y 1).val = (y 1).val; omega
  · funext y; rw [View.readAt_apply, harg3_read]; congr 1; funext a
    have y1 := idx2_lt1 y
    fin_cases a <;> refine Fin.ext ?_
    · show 0 + 1 * (y 0).val = (y 0).val; omega
    · show k * 256 + 1 * (y 1).val = (k * 256 + (y 1).val) % 5120
      rw [Nat.mod_eq_of_lt (by omega)]; omega
  · funext y; rw [View.readAt_apply, harg4_read]; congr 1; funext a
    have y1 := idx2_lt1 y
    have y0 := idx2_lt0 y
    fin_cases a <;> refine Fin.ext ?_
    · show 0 + 1 * (y 0).val = 0; omega
    · show k * 256 + 1 * (y 1).val = (k * 256 + (y 1).val) % 5120
      rw [Nat.mod_eq_of_lt (by omega)]; omega
  · funext y; rw [View.readAt_apply, harg5_read]; congr 1; funext a
    have y1 := idx2_lt1 y
    have y0 := idx2_lt0 y
    fin_cases a <;> refine Fin.ext ?_
    · show 0 + 1 * (y 0).val = 0; omega
    · show k * 256 + 1 * (y 1).val = (k * 256 + (y 1).val) % 5120
      rw [Nat.mod_eq_of_lt (by omega)]; omega
  · funext y; rw [View.readAt_apply, harg11_read]; congr 1; funext a; fin_cases a <;> refine Fin.ext ?_
    · show 0 + 1 * (y 0).val = (y 0).val; omega
    · show 0 + 1 * (y 1).val = (y 1).val; omega
    · show 0 + 1 * (y 2).val = (y 2).val; omega
  · funext a; fin_cases a <;> refine Fin.ext ?_
    · show (x 0).val = 0; omega
    · show (x 1).val = 0 + 1 * (x 1).val; omega
    · show (x 2).val = 0; omega
    · show (x 3).val = 0 + 1 * (x 3).val; omega
    · show (x 4).val = (k % 4 * 256 + 1 * (x 4).val) % 256; omega

theorem tile_piece3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 v0 v1 : BitVec 32) (h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty) (k : Fin k0_t3_loop.trips)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs (i 0).val x2 y) :
    ∀ p ∈ (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 k).1.1,
      (∀ x, p.2 x = zt (i 0).val x1 x2 x3 x4 x5 (p.1.emb x)) := by
  unfold trip3 trip3.sl.HW_arg12_1
  dsimp only
  rintro p hp
  rw [List.mem_singleton] at hp; subst hp
  intro x
  have hk : k.val < 20 := Nat.lt_of_lt_of_le k.isLt k0_t3_abs.2.1
  exact (congrFun (pay42_eq _ _ _ _ _) x).trans (tile_core (i 0).val k.val hk X_arg3 X_arg4 X_arg5 X_arg10 X_arg11 x1 x2 x3 x4 x5 harg3_read harg4_read harg5_read harg10_read harg11_read (k0_off24_eq i k) (off22_eq k) (off23_eq k) (k0_off24_inb i k h6) (k0_off22_inb i k h6) (k0_off23_inb i k h6) x)

theorem tile_cover3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 v0 v1 : BitVec 32) (h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty) (k : Fin k0_t3_loop.trips)
    (y : S2x20x5x48x1024.Idx) (h0 : (y 0).val = (i 0).val % 2) (hy : (y 2).val * 4 + (y 4).val / 256 = k.val) :
    ∃ p ∈ (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 k).1.1, y ∈ p.1.set := by
  unfold trip3 trip3.sl.HW_arg12_1
  dsimp only
  refine ⟨_, List.mem_singleton.2 rfl, ?_⟩
  dsimp only
  rw [Rect.mem_set_unit, k0_off24_eq]
  exact tile_mem (i 0).val k.val y h0 hy

/-- After `n` trips every piece of the slot is a part of the tiles. -/
theorem st3_piece (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 v0 v1 : BitVec 32) (h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs (i 0).val x2 y) : ∀ n,
    ∀ p ∈ (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 n).1,
      (∀ x, p.2 x = zt (i 0).val x1 x2 x3 x4 x5 (p.1.emb x))
  | 0 => fun p hp => absurd hp List.not_mem_nil
  | n + 1 => by
    intro p hp
    unfold st3 step3 at hp
    split at hp
    · rcases List.mem_append.1 hp with hp | hp
      · exact tile_piece3 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 _ _ q X_arg12 _ x1 x2 x3 x4 x5 harg3_read harg4_read harg5_read harg10_read harg11_read p hp
      · exact st3_piece 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 x1 x2 x3 x4 x5 harg3_read harg4_read harg5_read harg10_read harg11_read n p hp
    · exact st3_piece 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 x1 x2 x3 x4 x5 harg3_read harg4_read harg5_read harg10_read harg11_read n p hp

theorem st3_cover (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 v0 v1 : BitVec 32) (h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty) : ∀ n ≤ k0_t3_loop.trips,
    ∀ y : S2x20x5x48x1024.Idx, (y 0).val = (i 0).val % 2 → (y 2).val * 4 + (y 4).val / 256 < n →
    ∃ p ∈ (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 n).1, y ∈ p.1.set
  | 0 => fun _ y _ hy => absurd hy (Nat.not_lt_zero _)
  | n + 1 => by
    intro hn y h0 hy
    unfold st3 step3
    rw [dif_pos (show n < k0_t3_loop.trips from hn)]
    by_cases e : (y 2).val * 4 + (y 4).val / 256 = n
    · obtain ⟨p, hp, hm⟩ := tile_cover3 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 _ _ q X_arg12 ⟨n, hn⟩ y h0 e
      exact ⟨p, List.mem_append_left _ hp, hm⟩
    · obtain ⟨p, hp, hm⟩ := st3_cover 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 n (Nat.le_of_succ_le hn) y h0 (by omega)
      exact ⟨p, List.mem_append_right _ hp, hm⟩

/-- What the slot reads when the loop is done: the scores of the chunk. -/
theorem slot3 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (arg0 v0 v1 : BitVec 32) (h6 : k0_cond6 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty) (G_arg9 : BufTy.Contents (Elt F) arg9.view.ty) (G_arg13 : BufTy.Contents (Elt F) arg13.view.ty) (q : PosShare TreeShare) (X_arg12 : BufTy.Contents (Elt F) arg12.view.ty)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs (i 0).val x2 y) (f : BufTy.Contents (Elt F) arg12.view.ty) (y : S2x20x5x48x1024.Idx) (h0 : (y 0).val = (i 0).val % 2) :
    arg12.view.read (Elt F) (arg12.view.writes (Elt F) f (st3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 k0_t3_loop.trips).1) y
      = zt (i 0).val x1 x2 x3 x4 x5 y :=
  View.read_writes_apply_of_pieces _ _ (zt (i 0).val x1 x2 x3 x4 x5) _
    (st3_piece 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 x1 x2 x3 x4 x5 harg3_read harg4_read harg5_read harg10_read harg11_read _) y
    (st3_cover 𝒱 c bd i arg1 harg1 arg2 harg2 arg3 harg3 arg4 harg4 arg5 harg5 arg6 harg6 arg7 harg7 arg8 harg8 arg9 harg9 arg10 harg10 arg11 harg11 arg12 harg12 arg13 harg13 arg14 arg0 v0 v1 h6 X_arg3 X_arg4 X_arg5 X_arg10 X_arg11 G_arg9 G_arg13 q X_arg12 _ le_rfl y h0 (by
      have y2 : (y 2).val < 5 := (y 2).isLt
      have y4 : (y 4).val < 1024 := (y 4).isLt
      rw [t3_trips]; omega))
theorem tile_piece2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  (k : Fin k0_t2_loop.trips)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs (i 0).val x2 y) :
    ∀ p ∈ (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  k).1,
      (∀ x, p.2 x = zt (i 0).val x1 x2 x3 x4 x5 (p.1.emb x)) := by
  unfold trip2
  dsimp only
  rintro p hp
  rw [List.mem_singleton] at hp; subst hp
  intro x
  have hk : k.val < 20 := Nat.lt_of_lt_of_le k.isLt k0_t2_abs.2.1
  exact (tile_core (i 0).val k.val hk X_arg3 X_arg4 X_arg5 X_arg10 X_arg11 x1 x2 x3 x4 x5 harg3_read harg4_read harg5_read harg10_read harg11_read (k0_off21_eq i k) (off19_eq k) (off20_eq k) (k0_off21_inb i k h5) (k0_off19_inb i k h5) (k0_off20_inb i k h5) x)

theorem tile_cover2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  (k : Fin k0_t2_loop.trips)
    (y : S2x20x5x48x1024.Idx) (h0 : (y 0).val = (i 0).val % 2) (hy : (y 2).val * 4 + (y 4).val / 256 = k.val) :
    ∃ p ∈ (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  k).1, y ∈ p.1.set := by
  unfold trip2
  dsimp only
  refine ⟨_, List.mem_singleton.2 rfl, ?_⟩
  dsimp only
  rw [Rect.mem_set_unit, k0_off21_eq]
  exact tile_mem (i 0).val k.val y h0 hy

/-- After `n` trips every piece of the slot is a part of the tiles. -/
theorem st2_piece (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs (i 0).val x2 y) : ∀ n,
    ∀ p ∈ (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  n),
      (∀ x, p.2 x = zt (i 0).val x1 x2 x3 x4 x5 (p.1.emb x))
  | 0 => fun p hp => absurd hp List.not_mem_nil
  | n + 1 => by
    intro p hp
    unfold st2 step2 at hp
    split at hp
    · rcases List.mem_append.1 hp with hp | hp
      · exact tile_piece2 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11 _ x1 x2 x3 x4 x5 harg3_read harg4_read harg5_read harg10_read harg11_read p hp
      · exact st2_piece 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  x1 x2 x3 x4 x5 harg3_read harg4_read harg5_read harg10_read harg11_read n p hp
    · exact st2_piece 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  x1 x2 x3 x4 x5 harg3_read harg4_read harg5_read harg10_read harg11_read n p hp

theorem st2_cover (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)  : ∀ n ≤ k0_t2_loop.trips,
    ∀ y : S2x20x5x48x1024.Idx, (y 0).val = (i 0).val % 2 → (y 2).val * 4 + (y 4).val / 256 < n →
    ∃ p ∈ (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  n), y ∈ p.1.set
  | 0 => fun _ y _ hy => absurd hy (Nat.not_lt_zero _)
  | n + 1 => by
    intro hn y h0 hy
    unfold st2 step2
    rw [dif_pos (show n < k0_t2_loop.trips from hn)]
    by_cases e : (y 2).val * 4 + (y 4).val / 256 = n
    · obtain ⟨p, hp, hm⟩ := tile_cover2 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11 ⟨n, hn⟩ y h0 e
      exact ⟨p, List.mem_append_left _ hp, hm⟩
    · obtain ⟨p, hp, hm⟩ := st2_cover 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  n (Nat.le_of_succ_le hn) y h0 (by omega)
      exact ⟨p, List.mem_append_right _ hp, hm⟩

/-- What the slot reads when the loop is done: the scores of the chunk. -/
theorem slot2 (𝒱 : Variants) (c : Dev nD) (bd : Option 𝒱.V) (i : grid0.Coords) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg6 : Memref sig .tc .hbm S1280x5x48x1024 .bf16) (harg6 : arg6.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (arg10 : Memref sig .tc .vmem S960x2560 .fp8e4m3) (harg10 : arg10.IsWhole) (arg11 : Memref sig .tc .vmem S20x48x128 .f32) (harg11 : arg11.IsWhole) (arg12 : Memref sig .tc .vmem S2x20x5x48x1024 .bf16) (harg12 : arg12.IsWhole) (arg13 : Memref sig .tc .vmem S48x1024 .f32) (harg13 : arg13.IsWhole) (arg14 : DmaSems sig S2) (h5 : k0_cond5 i = 1#1) (X_arg3 : BufTy.Contents (Elt F) arg3.view.ty) (X_arg4 : BufTy.Contents (Elt F) arg4.view.ty) (X_arg5 : BufTy.Contents (Elt F) arg5.view.ty) (X_arg10 : BufTy.Contents (Elt F) arg10.view.ty) (X_arg11 : BufTy.Contents (Elt F) arg11.view.ty)
    (x1 : Vec F S20x48x2560 .fp8e4m3) (x2 : Vec F S48x1280 .f32) (x3 : Vec F S2560x5120 .fp8e4m3) (x4 x5 : Vec F S1x5120 .f32)
    (harg3_read : ∀ y, arg3.view.read (Elt F) X_arg3 y = x3 y)
    (harg4_read : ∀ y, arg4.view.read (Elt F) X_arg4 y = x4 y)
    (harg5_read : ∀ y, arg5.view.read (Elt F) X_arg5 y = x5 y)
    (harg10_read : ∀ y, arg10.view.read (Elt F) X_arg10 y = xt x1 y)
    (harg11_read : ∀ y, arg11.view.read (Elt F) X_arg11 y = xs (i 0).val x2 y) (f : BufTy.Contents (Elt F) arg12.view.ty) (y : S2x20x5x48x1024.Idx) (h0 : (y 0).val = (i 0).val % 2) :
    arg12.view.read (Elt F) (arg12.view.writes (Elt F) f (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  k0_t2_loop.trips)) y
      = zt (i 0).val x1 x2 x3 x4 x5 y :=
  View.read_writes_apply_of_pieces _ _ (zt (i 0).val x1 x2 x3 x4 x5) _
    (st2_piece 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  x1 x2 x3 x4 x5 harg3_read harg4_read harg5_read harg10_read harg11_read _) y
    (st2_cover 𝒱 c bd i arg1 harg1 arg2 harg2 arg3 harg3 arg4 harg4 arg5 harg5 arg6 harg6 arg7 harg7 arg8 harg8 arg9 harg9 arg10 harg10 arg11 harg11 arg12 harg12 arg13 harg13 arg14 h5 X_arg3 X_arg4 X_arg5 X_arg10 X_arg11  _ le_rfl y h0 (by
      have y2 : (y 2).val < 5 := (y 2).isLt
      have y4 : (y 4).val < 1024 := (y 4).isLt
      rw [t2_trips]; omega))

end Cert.KernelIdeal.Hand

end
-- ==== Proof.Ideal.Copies.lean ====
/- The copies that lay the rows of a block one under the other. -/
module

public import proofs.«01_k».proof.Proof.Ideal.LI
public import Idealize.ShloMosaic.Lib.ValueIdx
public import Idealize.ShloMosaic.Lib.ValueLayout
public import proofs.«01_k».proof.Proof.Ideal.Val

@[expose] public section

set_option maxRecDepth 16384
set_option maxHeartbeats 400000

noncomputable section

namespace Cert.KernelIdeal.Hand

open Idealize.ShloMosaic.ValueIdx
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

/-- The rows of one step, read out of the block and written as a row block. -/
def copyOf (v : Vec F S1x48x2560 .fp8e4m3) : Vec F S48x2560 .fp8e4m3 :=
  shapeCast S48x2560 (shapeCast S48x2560 v shapeCasts_S1x48x2560_S48x2560) shapeCasts_S48x2560_S48x2560

theorem copyOf_apply (v : Vec F S1x48x2560 .fp8e4m3) (x : S48x2560.Idx) :
    copyOf v x = v (ix3 (0 : Fin 1) (⟨(x 0).val, (x 0).isLt⟩ : Fin 48) (⟨(x 1).val, (x 1).isLt⟩ : Fin 2560)) := by
  unfold copyOf
  refine (congrFun (shapeCast_self (s := S48x2560) _ _) _).trans ?_
  conv_lhs => rw [eq_ix2 x]
  exact shapeCast_1ab_ab_apply _ _ _ _

theorem copy_core (t : ℕ) (ht : t < 20) {arg1 : Memref sig .tc .vmem S20x48x2560 .fp8e4m3} (X1 : BufTy.Contents (Elt F) arg1.view.ty) (x1 : Vec F S20x48x2560 .fp8e4m3)
    (hx1 : ∀ y, arg1.view.read (Elt F) X1 y = x1 y) {o : Fin _ → ℕ} {o' : Fin _ → ℕ} (e : o = ![t, 0, 0]) (e' : o' = ![48 * t, 0])
    (b : ∀ a, o a + S1x48x2560.size a ≤ S20x48x2560.size a) (b' : ∀ a, o' a + S48x2560.size a ≤ S960x2560.size a) (x : S48x2560.Idx) :
    copyOf (F := F) (View.readAt (Elt F) arg1.view (Rect.unit (s := S20x48x2560) o S1x48x2560.size b).toLoadRect X1) x
      = xt x1 ((Rect.unit (s := S960x2560) o' S48x2560.size b').emb x) := by
  subst e; subst e'
  have x0 : (x 0).val < 48 := (x 0).isLt
  rw [copyOf_apply, View.readAt_apply, hx1]
  unfold xt
  congr 1
  funext a
  fin_cases a <;> refine Fin.ext ?_
  · show t + 1 * 0 = (48 * t + 1 * (x 0).val) / 48; omega
  · show 0 + 1 * (x 0).val = (48 * t + 1 * (x 0).val) % 48; omega
  · show 0 + 1 * (x 1).val = 0 + 1 * (x 1).val; rfl

theorem copy_mem (t : ℕ) (y : S960x2560.Idx) (h : (y 0).val / 48 = t) :
    ∀ a, (![48 * t, 0] : Fin 2 → ℕ) a ≤ (y a).val ∧ (y a).val < (![48 * t, 0] : Fin 2 → ℕ) a + S48x2560.size a := by
  have y1 : (y 1).val < 2560 := (y 1).isLt
  intro a; fin_cases a
  · show 48 * t ≤ (y 0).val ∧ (y 0).val < 48 * t + 48; omega
  · show 0 ≤ (y 1).val ∧ (y 1).val < 0 + 2560; omega

/-- The twenty copies, last first. -/
def copies (arg1 : Memref sig .tc .vmem S20x48x2560 .fp8e4m3) (X1 : BufTy.Contents (Elt F) arg1.view.ty) : List (View.Piece (Elt F) S960x2560 .fp8e4m3) :=
  [⟨Rect.unit (s := S960x2560) ![912, 0] S48x2560.size inb_S960x2560_S48x2560_912_0, copyOf (F := F) (View.readAt (Elt F) arg1.view (Rect.unit (s := S20x48x2560) ![19, 0, 0] S1x48x2560.size inb_S20x48x2560_S1x48x2560_19_0_0).toLoadRect X1)⟩,
   ⟨Rect.unit (s := S960x2560) ![864, 0] S48x2560.size inb_S960x2560_S48x2560_864_0, copyOf (F := F) (View.readAt (Elt F) arg1.view (Rect.unit (s := S20x48x2560) ![18, 0, 0] S1x48x2560.size inb_S20x48x2560_S1x48x2560_18_0_0).toLoadRect X1)⟩,
   ⟨Rect.unit (s := S960x2560) ![816, 0] S48x2560.size inb_S960x2560_S48x2560_816_0, copyOf (F := F) (View.readAt (Elt F) arg1.view (Rect.unit (s := S20x48x2560) ![17, 0, 0] S1x48x2560.size inb_S20x48x2560_S1x48x2560_17_0_0).toLoadRect X1)⟩,
   ⟨Rect.unit (s := S960x2560) ![768, 0] S48x2560.size inb_S960x2560_S48x2560_768_0, copyOf (F := F) (View.readAt (Elt F) arg1.view (Rect.unit (s := S20x48x2560) ![16, 0, 0] S1x48x2560.size inb_S20x48x2560_S1x48x2560_16_0_0).toLoadRect X1)⟩,
   ⟨Rect.unit (s := S960x2560) ![720, 0] S48x2560.size inb_S960x2560_S48x2560_720_0, copyOf (F := F) (View.readAt (Elt F) arg1.view (Rect.unit (s := S20x48x2560) ![15, 0, 0] S1x48x2560.size inb_S20x48x2560_S1x48x2560_15_0_0).toLoadRect X1)⟩,
   ⟨Rect.unit (s := S960x2560) ![672, 0] S48x2560.size inb_S960x2560_S48x2560_672_0, copyOf (F := F) (View.readAt (Elt F) arg1.view (Rect.unit (s := S20x48x2560) ![14, 0, 0] S1x48x2560.size inb_S20x48x2560_S1x48x2560_14_0_0).toLoadRect X1)⟩,
   ⟨Rect.unit (s := S960x2560) ![624, 0] S48x2560.size inb_S960x2560_S48x2560_624_0, copyOf (F := F) (View.readAt (Elt F) arg1.view (Rect.unit (s := S20x48x2560) ![13, 0, 0] S1x48x2560.size inb_S20x48x2560_S1x48x2560_13_0_0).toLoadRect X1)⟩,
   ⟨Rect.unit (s := S960x2560) ![576, 0] S48x2560.size inb_S960x2560_S48x2560_576_0, copyOf (F := F) (View.readAt (Elt F) arg1.view (Rect.unit (s := S20x48x2560) ![12, 0, 0] S1x48x2560.size inb_S20x48x2560_S1x48x2560_12_0_0).toLoadRect X1)⟩,
   ⟨Rect.unit (s := S960x2560) ![528, 0] S48x2560.size inb_S960x2560_S48x2560_528_0, copyOf (F := F) (View.readAt (Elt F) arg1.view (Rect.unit (s := S20x48x2560) ![11, 0, 0] S1x48x2560.size inb_S20x48x2560_S1x48x2560_11_0_0).toLoadRect X1)⟩,
   ⟨Rect.unit (s := S960x2560) ![480, 0] S48x2560.size inb_S960x2560_S48x2560_480_0, copyOf (F := F) (View.readAt (Elt F) arg1.view (Rect.unit (s := S20x48x2560) ![10, 0, 0] S1x48x2560.size inb_S20x48x2560_S1x48x2560_10_0_0).toLoadRect X1)⟩,
   ⟨Rect.unit (s := S960x2560) ![432, 0] S48x2560.size inb_S960x2560_S48x2560_432_0, copyOf (F := F) (View.readAt (Elt F) arg1.view (Rect.unit (s := S20x48x2560) ![9, 0, 0] S1x48x2560.size inb_S20x48x2560_S1x48x2560_9_0_0).toLoadRect X1)⟩,
   ⟨Rect.unit (s := S960x2560) ![384, 0] S48x2560.size inb_S960x2560_S48x2560_384_0, copyOf (F := F) (View.readAt (Elt F) arg1.view (Rect.unit (s := S20x48x2560) ![8, 0, 0] S1x48x2560.size inb_S20x48x2560_S1x48x2560_8_0_0).toLoadRect X1)⟩,
   ⟨Rect.unit (s := S960x2560) ![336, 0] S48x2560.size inb_S960x2560_S48x2560_336_0, copyOf (F := F) (View.readAt (Elt F) arg1.view (Rect.unit (s := S20x48x2560) ![7, 0, 0] S1x48x2560.size inb_S20x48x2560_S1x48x2560_7_0_0).toLoadRect X1)⟩,
   ⟨Rect.unit (s := S960x2560) ![288, 0] S48x2560.size inb_S960x2560_S48x2560_288_0, copyOf (F := F) (View.readAt (Elt F) arg1.view (Rect.unit (s := S20x48x2560) ![6, 0, 0] S1x48x2560.size inb_S20x48x2560_S1x48x2560_6_0_0).toLoadRect X1)⟩,
   ⟨Rect.unit (s := S960x2560) ![240, 0] S48x2560.size inb_S960x2560_S48x2560_240_0, copyOf (F := F) (View.readAt (Elt F) arg1.view (Rect.unit (s := S20x48x2560) ![5, 0, 0] S1x48x2560.size inb_S20x48x2560_S1x48x2560_5_0_0).toLoadRect X1)⟩,
   ⟨Rect.unit (s := S960x2560) ![192, 0] S48x2560.size inb_S960x2560_S48x2560_192_0, copyOf (F := F) (View.readAt (Elt F) arg1.view (Rect.unit (s := S20x48x2560) ![4, 0, 0] S1x48x2560.size inb_S20x48x2560_S1x48x2560_4_0_0).toLoadRect X1)⟩,
   ⟨Rect.unit (s := S960x2560) ![144, 0] S48x2560.size inb_S960x2560_S48x2560_144_0, copyOf (F := F) (View.readAt (Elt F) arg1.view (Rect.unit (s := S20x48x2560) ![3, 0, 0] S1x48x2560.size inb_S20x48x2560_S1x48x2560_3_0_0).toLoadRect X1)⟩,
   ⟨Rect.unit (s := S960x2560) ![96, 0] S48x2560.size inb_S960x2560_S48x2560_96_0, copyOf (F := F) (View.readAt (Elt F) arg1.view (Rect.unit (s := S20x48x2560) ![2, 0, 0] S1x48x2560.size inb_S20x48x2560_S1x48x2560_2_0_0).toLoadRect X1)⟩,
   ⟨Rect.unit (s := S960x2560) ![48, 0] S48x2560.size inb_S960x2560_S48x2560_48_0, copyOf (F := F) (View.readAt (Elt F) arg1.view (Rect.unit (s := S20x48x2560) ![1, 0, 0] S1x48x2560.size inb_S20x48x2560_S1x48x2560_1_0_0).toLoadRect X1)⟩,
   ⟨Rect.unit (s := S960x2560) ![0, 0] S48x2560.size inb_S960x2560_S48x2560_0_0, copyOf (F := F) (View.readAt (Elt F) arg1.view (Rect.unit (s := S20x48x2560) ![0, 0, 0] S1x48x2560.size inb_S20x48x2560_S1x48x2560_0_0_0).toLoadRect X1)⟩]

theorem copies_piece (arg1 : Memref sig .tc .vmem S20x48x2560 .fp8e4m3) (X1 : BufTy.Contents (Elt F) arg1.view.ty) (x1 : Vec F S20x48x2560 .fp8e4m3) (hx1 : ∀ y, arg1.view.read (Elt F) X1 y = x1 y) :
    ∀ p ∈ copies arg1 X1, ∀ x, p.2 x = xt x1 (p.1.emb x) := by
  unfold copies
  refine List.forall_mem_cons.2 ⟨fun x => copy_core 19 (by omega) X1 x1 hx1 (by decide) (by decide) inb_S20x48x2560_S1x48x2560_19_0_0 inb_S960x2560_S48x2560_912_0 x, ?_⟩
  refine List.forall_mem_cons.2 ⟨fun x => copy_core 18 (by omega) X1 x1 hx1 (by decide) (by decide) inb_S20x48x2560_S1x48x2560_18_0_0 inb_S960x2560_S48x2560_864_0 x, ?_⟩
  refine List.forall_mem_cons.2 ⟨fun x => copy_core 17 (by omega) X1 x1 hx1 (by decide) (by decide) inb_S20x48x2560_S1x48x2560_17_0_0 inb_S960x2560_S48x2560_816_0 x, ?_⟩
  refine List.forall_mem_cons.2 ⟨fun x => copy_core 16 (by omega) X1 x1 hx1 (by decide) (by decide) inb_S20x48x2560_S1x48x2560_16_0_0 inb_S960x2560_S48x2560_768_0 x, ?_⟩
  refine List.forall_mem_cons.2 ⟨fun x => copy_core 15 (by omega) X1 x1 hx1 (by decide) (by decide) inb_S20x48x2560_S1x48x2560_15_0_0 inb_S960x2560_S48x2560_720_0 x, ?_⟩
  refine List.forall_mem_cons.2 ⟨fun x => copy_core 14 (by omega) X1 x1 hx1 (by decide) (by decide) inb_S20x48x2560_S1x48x2560_14_0_0 inb_S960x2560_S48x2560_672_0 x, ?_⟩
  refine List.forall_mem_cons.2 ⟨fun x => copy_core 13 (by omega) X1 x1 hx1 (by decide) (by decide) inb_S20x48x2560_S1x48x2560_13_0_0 inb_S960x2560_S48x2560_624_0 x, ?_⟩
  refine List.forall_mem_cons.2 ⟨fun x => copy_core 12 (by omega) X1 x1 hx1 (by decide) (by decide) inb_S20x48x2560_S1x48x2560_12_0_0 inb_S960x2560_S48x2560_576_0 x, ?_⟩
  refine List.forall_mem_cons.2 ⟨fun x => copy_core 11 (by omega) X1 x1 hx1 (by decide) (by decide) inb_S20x48x2560_S1x48x2560_11_0_0 inb_S960x2560_S48x2560_528_0 x, ?_⟩
  refine List.forall_mem_cons.2 ⟨fun x => copy_core 10 (by omega) X1 x1 hx1 (by decide) (by decide) inb_S20x48x2560_S1x48x2560_10_0_0 inb_S960x2560_S48x2560_480_0 x, ?_⟩
  refine List.forall_mem_cons.2 ⟨fun x => copy_core 9 (by omega) X1 x1 hx1 (by decide) (by decide) inb_S20x48x2560_S1x48x2560_9_0_0 inb_S960x2560_S48x2560_432_0 x, ?_⟩
  refine List.forall_mem_cons.2 ⟨fun x => copy_core 8 (by omega) X1 x1 hx1 (by decide) (by decide) inb_S20x48x2560_S1x48x2560_8_0_0 inb_S960x2560_S48x2560_384_0 x, ?_⟩
  refine List.forall_mem_cons.2 ⟨fun x => copy_core 7 (by omega) X1 x1 hx1 (by decide) (by decide) inb_S20x48x2560_S1x48x2560_7_0_0 inb_S960x2560_S48x2560_336_0 x, ?_⟩
  refine List.forall_mem_cons.2 ⟨fun x => copy_core 6 (by omega) X1 x1 hx1 (by decide) (by decide) inb_S20x48x2560_S1x48x2560_6_0_0 inb_S960x2560_S48x2560_288_0 x, ?_⟩
  refine List.forall_mem_cons.2 ⟨fun x => copy_core 5 (by omega) X1 x1 hx1 (by decide) (by decide) inb_S20x48x2560_S1x48x2560_5_0_0 inb_S960x2560_S48x2560_240_0 x, ?_⟩
  refine List.forall_mem_cons.2 ⟨fun x => copy_core 4 (by omega) X1 x1 hx1 (by decide) (by decide) inb_S20x48x2560_S1x48x2560_4_0_0 inb_S960x2560_S48x2560_192_0 x, ?_⟩
  refine List.forall_mem_cons.2 ⟨fun x => copy_core 3 (by omega) X1 x1 hx1 (by decide) (by decide) inb_S20x48x2560_S1x48x2560_3_0_0 inb_S960x2560_S48x2560_144_0 x, ?_⟩
  refine List.forall_mem_cons.2 ⟨fun x => copy_core 2 (by omega) X1 x1 hx1 (by decide) (by decide) inb_S20x48x2560_S1x48x2560_2_0_0 inb_S960x2560_S48x2560_96_0 x, ?_⟩
  refine List.forall_mem_cons.2 ⟨fun x => copy_core 1 (by omega) X1 x1 hx1 (by decide) (by decide) inb_S20x48x2560_S1x48x2560_1_0_0 inb_S960x2560_S48x2560_48_0 x, ?_⟩
  refine List.forall_mem_cons.2 ⟨fun x => copy_core 0 (by omega) X1 x1 hx1 (by decide) (by decide) inb_S20x48x2560_S1x48x2560_0_0_0 inb_S960x2560_S48x2560_0_0 x, ?_⟩
  exact fun p hp => absurd hp List.not_mem_nil

theorem copies_cover (arg1 : Memref sig .tc .vmem S20x48x2560 .fp8e4m3) (X1 : BufTy.Contents (Elt F) arg1.view.ty) (y : S960x2560.Idx) : ∃ p ∈ copies arg1 X1, y ∈ p.1.set := by
  unfold copies
  have y0 : (y 0).val < 960 := (y 0).isLt
  have hd : (y 0).val / 48 < 20 := by omega
  interval_cases hq : (y 0).val / 48
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), by dsimp only; rw [Rect.mem_set_unit]; exact copy_mem 0 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), by dsimp only; rw [Rect.mem_set_unit]; exact copy_mem 1 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), by dsimp only; rw [Rect.mem_set_unit]; exact copy_mem 2 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), by dsimp only; rw [Rect.mem_set_unit]; exact copy_mem 3 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), by dsimp only; rw [Rect.mem_set_unit]; exact copy_mem 4 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), by dsimp only; rw [Rect.mem_set_unit]; exact copy_mem 5 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), by dsimp only; rw [Rect.mem_set_unit]; exact copy_mem 6 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), by dsimp only; rw [Rect.mem_set_unit]; exact copy_mem 7 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), by dsimp only; rw [Rect.mem_set_unit]; exact copy_mem 8 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), by dsimp only; rw [Rect.mem_set_unit]; exact copy_mem 9 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), by dsimp only; rw [Rect.mem_set_unit]; exact copy_mem 10 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), by dsimp only; rw [Rect.mem_set_unit]; exact copy_mem 11 y hq⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), by dsimp only; rw [Rect.mem_set_unit]; exact copy_mem 12 y hq⟩
  · exact ⟨_, List.mem_cons_of_mem _ (List.mem_cons_of_mem _ (List.mem_cons_of_mem _ (List.mem_cons_of_mem _ (List.mem_cons_of_mem _ (List.mem_cons_of_mem _ (List.mem_cons_self)))))), by dsimp only; rw [Rect.mem_set_unit]; exact copy_mem 13 y hq⟩
  · exact ⟨_, List.mem_cons_of_mem _ (List.mem_cons_of_mem _ (List.mem_cons_of_mem _ (List.mem_cons_of_mem _ (List.mem_cons_of_mem _ (List.mem_cons_self))))), by dsimp only; rw [Rect.mem_set_unit]; exact copy_mem 14 y hq⟩
  · exact ⟨_, List.mem_cons_of_mem _ (List.mem_cons_of_mem _ (List.mem_cons_of_mem _ (List.mem_cons_of_mem _ (List.mem_cons_self)))), by dsimp only; rw [Rect.mem_set_unit]; exact copy_mem 15 y hq⟩
  · exact ⟨_, List.mem_cons_of_mem _ (List.mem_cons_of_mem _ (List.mem_cons_of_mem _ (List.mem_cons_self))), by dsimp only; rw [Rect.mem_set_unit]; exact copy_mem 16 y hq⟩
  · exact ⟨_, List.mem_cons_of_mem _ (List.mem_cons_of_mem _ (List.mem_cons_self)), by dsimp only; rw [Rect.mem_set_unit]; exact copy_mem 17 y hq⟩
  · exact ⟨_, List.mem_cons_of_mem _ (List.mem_cons_self), by dsimp only; rw [Rect.mem_set_unit]; exact copy_mem 18 y hq⟩
  · exact ⟨_, List.mem_cons_self, by dsimp only; rw [Rect.mem_set_unit]; exact copy_mem 19 y hq⟩

/-- What the scratch of the rows reads after the copies. -/
theorem copies_read (arg1 : Memref sig .tc .vmem S20x48x2560 .fp8e4m3) (X1 : BufTy.Contents (Elt F) arg1.view.ty) (x1 : Vec F S20x48x2560 .fp8e4m3) (hx1 : ∀ y, arg1.view.read (Elt F) X1 y = x1 y)
    {arg10 : Memref sig .tc .vmem S960x2560 .fp8e4m3} (f : BufTy.Contents (Elt F) arg10.view.ty) (y : S960x2560.Idx) :
    arg10.view.read (Elt F) (arg10.view.writes (Elt F) f (copies arg1 X1)) y = xt x1 y :=
  View.read_writes_apply_of_pieces _ _ (xt x1) _ (copies_piece arg1 X1 x1 hx1) y (copies_cover arg1 X1 y)

end Cert.KernelIdeal.Hand

end
-- ==== Proof.Ideal.Parts.lean ====
/- The parts of the buffers and the semaphores that the transfers of a grid point name. -/
module

public import proofs.«01_k».proof.Proof.Ideal.Copies
public import proofs.«01_k».proof.Proof.Gen.KernelIdeal.Frame
public import Idealize.ShloMosaic.Lib.Transfers

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

/-! ## The operands that are constants -/

abbrev hM : Memref sig .tc .hbm S1280x5x48x1024 .bf16 := Memref.whole main_v27_0
abbrev aX : Memref sig .tc .vmem S960x2560 .fp8e4m3 := Memref.whole cc0_scratch0
abbrev aR : Memref sig .tc .vmem S20x48x128 .f32 := Memref.whole cc0_scratch1
abbrev aS : Memref sig .tc .vmem S2x20x5x48x1024 .bf16 := Memref.whole cc0_scratch2
abbrev aA : Memref sig .tc .vmem S48x1024 .f32 := Memref.whole cc0_scratch3

/-! ## What the two transfers of a point name -/

/-- The semaphore a point waits on, and the part of the array and the slot its wait names. -/
abbrev semW (i : grid0.Coords) (h : k0_cond2 i = 1#1) : DmaSem sig :=
  (((cc0_scratch4 : DmaSems sig S2).slice (Rect.unit (s := S2) (k0_off1 i) S1.size (k0_off1_inb i h))).squeeze S_ squeezes_S1_S_).sem
abbrev dstW (i : grid0.Coords) (h : k0_cond2 i = 1#1) : Memref sig .tc .hbm S20x5x48x1024 .bf16 :=
  hM.slice (Rect.unit (s := S1280x5x48x1024) (k0_off2 i) S20x5x48x1024.size (k0_off2_inb i h)) (fun _ => rfl)
/-- The semaphore, the part of the array and the slot the transfer a point starts names. -/
abbrev semP (i : grid0.Coords) (h : k0_cond3 i = 1#1) : DmaSem sig :=
  (((cc0_scratch4 : DmaSems sig S2).slice (Rect.unit (s := S2) (k0_off4 i) S1.size (k0_off4_inb i h))).squeeze S_ squeezes_S1_S_).sem
abbrev dstP (i : grid0.Coords) (h : k0_cond3 i = 1#1) : Memref sig .tc .hbm S20x5x48x1024 .bf16 :=
  hM.slice (Rect.unit (s := S1280x5x48x1024) (k0_off5 i) S20x5x48x1024.size (k0_off5_inb i h)) (fun _ => rfl)
abbrev srcP (i : grid0.Coords) (h : k0_cond3 i = 1#1) : Memref sig .tc .vmem S20x5x48x1024 .bf16 :=
  (aS.slice (Rect.unit (s := S2x20x5x48x1024) (k0_off6 i) S1x20x5x48x1024.size (k0_off6_inb i h)) (fun _ => rfl)).squeeze S20x5x48x1024 squeezes_S1x20x5x48x1024_S20x5x48x1024

theorem contents_of_read {sp : Space} {S : Shape} {e : EltTy} (m : Memref sig .tc sp S e) (f g : BufTy.Contents (Elt F) m.view.ty)
    (h : ∀ x, m.view.read (Elt F) f x = m.view.read (Elt F) g x) : ∀ j ∈ m.view.set, f j = g j := by
  intro j hj
  obtain ⟨x, -, rfl⟩ := Finset.mem_map.1 hj
  have := h x
  rw [View.read_apply, View.read_apply] at this
  exact (_root_.cast_inj _).1 this

/-- What a transfer leaves in its part of the array is what its slot held. -/
theorem landed {sp : Space} {S : Shape} {e : EltTy} (m : Memref sig .tc sp S e) (fh zh : BufTy.Contents (Elt F) m.view.ty) (w : (Rect.whole S).shape.Idx → Elt F e)
    (hz : ∀ y : S.Idx, m.view.read (Elt F) zh y = w y) (c : Dev nD) :
    ((m.view.loc (c : Thread nD τ) ↦[m.view.set]{fullShare} (m.view.writes (Elt F) fh [⟨Rect.whole S, w⟩])) : sProp 𝕄G)
      = (m.view.loc (c : Thread nD τ) ↦[m.view.set]{fullShare} zh) := by
  refine pointsTo_congr (contents_of_read m _ _ fun x => ?_)
  rw [hz]
  exact View.read_writes_cons_hit m.view fh (Rect.whole S) w [] x x (Rect.emb_eq_of_coords _ _ _ fun a => by show (x a).val = 0 + 1 * (x a).val; omega)

end Cert.KernelIdeal.Hand

end
-- ==== Proof.Ideal.RunMid.lean ====
/- A grid point between the second and the last: it waits for the transfer of two points before, starts the transfer of the scores of the point before, prepares its rows and scales, and computes its tiles of scores while it steps the recursion. -/
module

public import proofs.«01_k».proof.Proof.Ideal.Parts

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

/-- A grid point between the second and the last: it waits for the transfer of two points before, starts the transfer of the scores of the point before, prepares its rows and scales, and computes its tiles of scores while it steps the recursion. -/
theorem runMid (c : Dev nD) (i : grid0.Coords) (h1 : ¬ (k0_cond1 i = 1#1)) (h2 : k0_cond2 i = 1#1) (h3 : k0_cond3 i = 1#1) (h4 : k0_cond4 i = 1#1) (h5 : ¬ (k0_cond5 i = 1#1)) (h6 : k0_cond6 i = 1#1) (h7 : ¬ (k0_cond7 i = 1#1)) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f7 : BufTy.Contents (Elt F) arg7.view.ty) (f9 : BufTy.Contents (Elt F) arg9.view.ty) (fX : BufTy.Contents (Elt F) aX.view.ty) (fR : BufTy.Contents (Elt F) aR.view.ty) (fA : BufTy.Contents (Elt F) aA.view.ty) (zC : BufTy.Contents (Elt F) aS.view.ty) (zP : BufTy.Contents (Elt F) aS.view.ty) (fh : BufTy.Contents (Elt F) hM.view.ty) (zh : BufTy.Contents (Elt F) hM.view.ty) (Dd : sProp 𝕄G) (W : Waits sig Unit) (K : PUnit → sProp 𝕄G) (x1 : Vec F S20x48x2560 .fp8e4m3) (x2 : Vec F S48x1280 .f32) (x3 : Vec F S2560x5120 .fp8e4m3) (x4 x5 : Vec F S1x5120 .f32) (hx1 : ∀ y, arg1.view.read (Elt F) X1 y = x1 y) (hx2 : ∀ y, arg2.view.read (Elt F) X2 y = x2 y) (hx3 : ∀ y, arg3.view.read (Elt F) X3 y = x3 y) (hx4 : ∀ y, arg4.view.read (Elt F) X4 y = x4 y) (hx5 : ∀ y, arg5.view.read (Elt F) X5 y = x5 y) (hz : ∀ y, (dstP i h3).view.read (Elt F) zh y = (srcP i h3).view.read (Elt F) zP y) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} f7) ∗ (arg9.view.loc (c : Thread nD τ) ↦[arg9.view.set]{fullShare} f9) ∗ (aX.view.loc (c : Thread nD τ) ↦[aX.view.set]{fullShare} fX) ∗ (aR.view.loc (c : Thread nD τ) ↦[aR.view.set]{fullShare} fR) ∗ (aA.view.loc (c : Thread nD τ) ↦[aA.view.set]{fullShare} fA) ∗ Transfers.Flight countersEmb (c : Thread nD τ) (SemLoc.dma (semW i h2)) () (dstW i h2).view.dmaCredit iprop(Dd ∗ (aS.view.loc (c : Thread nD τ) ↦[aS.view.setOn (slotC i).set]{fullShare.left} zC)) ∗ Aside (aS.view.loc (c : Thread nD τ) ↦[aS.view.setOn (slotC i).set]{fullShare.right} zC) ∗ ((srcP i h3).view.loc (c : Thread nD τ) ↦[(srcP i h3).view.set]{fullShare.left} zP) ∗ (aS.view.loc (c : Thread nD τ) ↦[aS.view.setOn (slotP i).set]{fullShare.right} zP) ∗ ((dstP i h3).view.loc (c : Thread nD τ) ↦[(dstP i h3).view.set]{fullShare} fh) ∗ semVal ((c : Thread nD τ), SemLoc.dma (semP i h3)) 0 ∗ owes (c : Thread nD τ) 0 W ∗ (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg7.view.loc (c : Thread nD τ) ↦[arg7.view.set]{fullShare} g)) ∗ (∃ g, (arg9.view.loc (c : Thread nD τ) ↦[arg9.view.set]{fullShare} g)) ∗ (∃ g, (aX.view.loc (c : Thread nD τ) ↦[aX.view.set]{fullShare} g)) ∗ (∃ g, (aR.view.loc (c : Thread nD τ) ↦[aR.view.set]{fullShare} g)) ∗ (∃ g, (aA.view.loc (c : Thread nD τ) ↦[aA.view.set]{fullShare} g)) ∗ (∃ g, (aS.view.loc (c : Thread nD τ) ↦[aS.view.setOn (slotC i).set]{fullShare} g) ∗ ⌜∀ y : S2x20x5x48x1024.Idx, (y 0).val = (i 0).val % 2 → aS.view.read (Elt F) g y = zt (i 0).val x1 x2 x3 x4 x5 y⌝) ∗ Dd ∗ semVal ((c : Thread nD τ), SemLoc.dma (semW i h2)) 0 ∗ Transfers.Flight countersEmb (c : Thread nD τ) (SemLoc.dma (semP i h3)) default 307200 iprop(((dstP i h3).view.loc (c : Thread nD τ) ↦[(dstP i h3).view.set]{fullShare} zh) ∗ ((srcP i h3).view.loc (c : Thread nD τ) ↦[(srcP i h3).view.set]{fullShare.left} zP)) ∗ (aS.view.loc (c : Thread nD τ) ↦[aS.view.setOn (slotP i).set]{fullShare.right} zP) ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  rw [cc0_crf_forward_eq_skeleton]; unfold cc0_crf_forward_skel
  iintro ⟨H1, H2, H3, H4, H5, H7, H9, HX, HR, HA, HF, HC2, HP1, HP2, Hh, Hs, HO, Hk⟩
  sl_exec_parts
  ihave HC2 := aside_out _ $$ HC2
  ihave HC := (pointsTo_share (PosShare.mem_left_op_right fullShare)).2 $$ [HF_src HC2]
  · isplitl [HF_src] <;> iassumption
  sl_exec_parts
  sl_step
  ihave Hs := (Transfers.Flight_mono (EC := countersEmb) (c := (c : Thread nD τ)) (sm := SemLoc.dma (semP i h3)) (ι := default) (N := 307200)
    (sep_mono (Entails.of_eq (landed (dstP i h3) fh zh (runMid.sl.dma0 i h3 zP) hz c)) .rfl : iprop(_ ∗ ((srcP i h3).view.loc (c : Thread nD τ) ↦[(srcP i h3).view.set]{fullShare.left} zP)) ⊢ (iprop(_ ∗ _) : sProp 𝕄G))) $$ Hs
  iapply Hk
  isplitl [H1]
  · iassumption
  isplitl [H2]
  · iassumption
  isplitl [H3]
  · iassumption
  isplitl [H4]
  · iassumption
  isplitl [H5]
  · iassumption
  isplitl [H7]
  · iexists _; iassumption
  isplitl [H9]
  · iexists _; iassumption
  isplitl [HX]
  · iexists _; iassumption
  isplitl [HR]
  · iexists _; iassumption
  isplitl [HA]
  · iexists _; iassumption
  isplitl [HC]
  · iexists _
    isplitl [HC]
    · iassumption
    · ipureintro
      intro y hy
      exact slot3 (F := F) Variants.none c none i _ _ _ _ _ _ _ _ _ _ _ _ _ _ _ _ _ _ _ _ _ _ _ _ _ _ _ _ _ _ h6 _ _ _ _ _ _ _ _ _ x1 x2 x3 x4 x5 hx3 hx4 hx5
        (copies_read arg1 X1 x1 hx1 _) (scales1 Variants.none c none i _ _ _ _ _ _ _ _ _ _ _ _ _ _ _ _ _ _ _ _ _ _ _ _ _ _ _ h4 X2 x2 hx2 _) _ y hy
  isplitl [HF_dst]
  · iassumption
  isplitl [HF]
  · iassumption
  isplitl [Hs]
  · iassumption
  isplitl [HP2]
  · iassumption
  iexists _; iassumption

end Cert.KernelIdeal.Hand

end
-- ==== Proof.Ideal.RunOne.lean ====
/- The second grid point: nothing to wait for; it starts the transfer of the scores of the first. -/
module

public import proofs.«01_k».proof.Proof.Ideal.Parts

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

/-- The second grid point: nothing to wait for; it starts the transfer of the scores of the first. -/
theorem runOne (c : Dev nD) (i : grid0.Coords) (h1 : ¬ (k0_cond1 i = 1#1)) (h2 : ¬ (k0_cond2 i = 1#1)) (h3 : k0_cond3 i = 1#1) (h4 : k0_cond4 i = 1#1) (h5 : ¬ (k0_cond5 i = 1#1)) (h6 : k0_cond6 i = 1#1) (h7 : ¬ (k0_cond7 i = 1#1)) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f7 : BufTy.Contents (Elt F) arg7.view.ty) (f9 : BufTy.Contents (Elt F) arg9.view.ty) (fX : BufTy.Contents (Elt F) aX.view.ty) (fR : BufTy.Contents (Elt F) aR.view.ty) (fA : BufTy.Contents (Elt F) aA.view.ty) (zC : BufTy.Contents (Elt F) aS.view.ty) (zP : BufTy.Contents (Elt F) aS.view.ty) (fh : BufTy.Contents (Elt F) hM.view.ty) (zh : BufTy.Contents (Elt F) hM.view.ty) (W : Waits sig Unit) (K : PUnit → sProp 𝕄G) (x1 : Vec F S20x48x2560 .fp8e4m3) (x2 : Vec F S48x1280 .f32) (x3 : Vec F S2560x5120 .fp8e4m3) (x4 x5 : Vec F S1x5120 .f32) (hx1 : ∀ y, arg1.view.read (Elt F) X1 y = x1 y) (hx2 : ∀ y, arg2.view.read (Elt F) X2 y = x2 y) (hx3 : ∀ y, arg3.view.read (Elt F) X3 y = x3 y) (hx4 : ∀ y, arg4.view.read (Elt F) X4 y = x4 y) (hx5 : ∀ y, arg5.view.read (Elt F) X5 y = x5 y) (hz : ∀ y, (dstP i h3).view.read (Elt F) zh y = (srcP i h3).view.read (Elt F) zP y) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} f7) ∗ (arg9.view.loc (c : Thread nD τ) ↦[arg9.view.set]{fullShare} f9) ∗ (aX.view.loc (c : Thread nD τ) ↦[aX.view.set]{fullShare} fX) ∗ (aR.view.loc (c : Thread nD τ) ↦[aR.view.set]{fullShare} fR) ∗ (aA.view.loc (c : Thread nD τ) ↦[aA.view.set]{fullShare} fA) ∗ Aside (aS.view.loc (c : Thread nD τ) ↦[aS.view.setOn (slotC i).set]{fullShare} zC) ∗ ((srcP i h3).view.loc (c : Thread nD τ) ↦[(srcP i h3).view.set]{fullShare.left} zP) ∗ (aS.view.loc (c : Thread nD τ) ↦[aS.view.setOn (slotP i).set]{fullShare.right} zP) ∗ ((dstP i h3).view.loc (c : Thread nD τ) ↦[(dstP i h3).view.set]{fullShare} fh) ∗ semVal ((c : Thread nD τ), SemLoc.dma (semP i h3)) 0 ∗ owes (c : Thread nD τ) 0 W ∗ (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg7.view.loc (c : Thread nD τ) ↦[arg7.view.set]{fullShare} g)) ∗ (∃ g, (arg9.view.loc (c : Thread nD τ) ↦[arg9.view.set]{fullShare} g)) ∗ (∃ g, (aX.view.loc (c : Thread nD τ) ↦[aX.view.set]{fullShare} g)) ∗ (∃ g, (aR.view.loc (c : Thread nD τ) ↦[aR.view.set]{fullShare} g)) ∗ (∃ g, (aA.view.loc (c : Thread nD τ) ↦[aA.view.set]{fullShare} g)) ∗ (∃ g, (aS.view.loc (c : Thread nD τ) ↦[aS.view.setOn (slotC i).set]{fullShare} g) ∗ ⌜∀ y : S2x20x5x48x1024.Idx, (y 0).val = (i 0).val % 2 → aS.view.read (Elt F) g y = zt (i 0).val x1 x2 x3 x4 x5 y⌝) ∗ Transfers.Flight countersEmb (c : Thread nD τ) (SemLoc.dma (semP i h3)) default 307200 iprop(((dstP i h3).view.loc (c : Thread nD τ) ↦[(dstP i h3).view.set]{fullShare} zh) ∗ ((srcP i h3).view.loc (c : Thread nD τ) ↦[(srcP i h3).view.set]{fullShare.left} zP)) ∗ (aS.view.loc (c : Thread nD τ) ↦[aS.view.setOn (slotP i).set]{fullShare.right} zP) ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  rw [cc0_crf_forward_eq_skeleton]; unfold cc0_crf_forward_skel
  iintro ⟨H1, H2, H3, H4, H5, H7, H9, HX, HR, HA, HC, HP1, HP2, Hh, Hs, HO, Hk⟩
  sl_exec_parts
  ihave HC := aside_out _ $$ HC
  sl_exec_parts
  sl_step
  ihave Hs := (Transfers.Flight_mono (EC := countersEmb) (c := (c : Thread nD τ)) (sm := SemLoc.dma (semP i h3)) (ι := default) (N := 307200)
    (sep_mono (Entails.of_eq (landed (dstP i h3) fh zh (runOne.sl.dma0 i h3 zP) hz c)) .rfl : iprop(_ ∗ ((srcP i h3).view.loc (c : Thread nD τ) ↦[(srcP i h3).view.set]{fullShare.left} zP)) ⊢ (iprop(_ ∗ _) : sProp 𝕄G))) $$ Hs
  iapply Hk
  isplitl [H1]
  · iassumption
  isplitl [H2]
  · iassumption
  isplitl [H3]
  · iassumption
  isplitl [H4]
  · iassumption
  isplitl [H5]
  · iassumption
  isplitl [H7]
  · iexists _; iassumption
  isplitl [H9]
  · iexists _; iassumption
  isplitl [HX]
  · iexists _; iassumption
  isplitl [HR]
  · iexists _; iassumption
  isplitl [HA]
  · iexists _; iassumption
  isplitl [HC]
  · iexists _
    isplitl [HC]
    · iassumption
    · ipureintro
      intro y hy
      exact slot3 (F := F) Variants.none c none i _ _ _ _ _ _ _ _ _ _ _ _ _ _ _ _ _ _ _ _ _ _ _ _ _ _ _ _ _ _ h6 _ _ _ _ _ _ _ _ _ x1 x2 x3 x4 x5 hx3 hx4 hx5
        (copies_read arg1 X1 x1 hx1 _) (scales1 Variants.none c none i _ _ _ _ _ _ _ _ _ _ _ _ _ _ _ _ _ _ _ _ _ _ _ _ _ _ _ h4 X2 x2 hx2 _) _ y hy
  isplitl [Hs]
  · iassumption
  isplitl [HP2]
  · iassumption
  iexists _; iassumption

end Cert.KernelIdeal.Hand

end
-- ==== Proof.Ideal.RunZero.lean ====
/- The first grid point: it sets the recursion to its start, prepares its rows and scales and computes its tiles of scores. -/
module

public import proofs.«01_k».proof.Proof.Ideal.Parts

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

/-- The first grid point: it sets the recursion to its start, prepares its rows and scales and computes its tiles of scores. -/
theorem runZero (c : Dev nD) (i : grid0.Coords) (h1 : k0_cond1 i = 1#1) (h2 : ¬ (k0_cond2 i = 1#1)) (h3 : ¬ (k0_cond3 i = 1#1)) (h4 : k0_cond4 i = 1#1) (h5 : k0_cond5 i = 1#1) (h6 : ¬ (k0_cond6 i = 1#1)) (h7 : ¬ (k0_cond7 i = 1#1)) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f9 : BufTy.Contents (Elt F) arg9.view.ty) (fX : BufTy.Contents (Elt F) aX.view.ty) (fR : BufTy.Contents (Elt F) aR.view.ty) (fA : BufTy.Contents (Elt F) aA.view.ty) (zC : BufTy.Contents (Elt F) aS.view.ty) (W : Waits sig Unit) (K : PUnit → sProp 𝕄G) (x1 : Vec F S20x48x2560 .fp8e4m3) (x2 : Vec F S48x1280 .f32) (x3 : Vec F S2560x5120 .fp8e4m3) (x4 x5 : Vec F S1x5120 .f32) (hx1 : ∀ y, arg1.view.read (Elt F) X1 y = x1 y) (hx2 : ∀ y, arg2.view.read (Elt F) X2 y = x2 y) (hx3 : ∀ y, arg3.view.read (Elt F) X3 y = x3 y) (hx4 : ∀ y, arg4.view.read (Elt F) X4 y = x4 y) (hx5 : ∀ y, arg5.view.read (Elt F) X5 y = x5 y)  :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} f9) ∗ (aX.view.loc (c : Thread nD τ) ↦[aX.view.set]{fullShare} fX) ∗ (aR.view.loc (c : Thread nD τ) ↦[aR.view.set]{fullShare} fR) ∗ (aA.view.loc (c : Thread nD τ) ↦[aA.view.set]{fullShare} fA) ∗ (aS.view.loc (c : Thread nD τ) ↦[aS.view.set]{fullShare} zC) ∗ owes (c : Thread nD τ) 0 W ∗ (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg9.view.loc (c : Thread nD τ) ↦[arg9.view.set]{fullShare} g)) ∗ (∃ g, (aX.view.loc (c : Thread nD τ) ↦[aX.view.set]{fullShare} g)) ∗ (∃ g, (aR.view.loc (c : Thread nD τ) ↦[aR.view.set]{fullShare} g)) ∗ (∃ g, (aA.view.loc (c : Thread nD τ) ↦[aA.view.set]{fullShare} g)) ∗ (∃ g, (aS.view.loc (c : Thread nD τ) ↦[aS.view.set]{fullShare} g) ∗ ⌜∀ y : S2x20x5x48x1024.Idx, (y 0).val = (i 0).val % 2 → aS.view.read (Elt F) g y = zt (i 0).val x1 x2 x3 x4 x5 y⌝) ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  rw [cc0_crf_forward_eq_skeleton]; unfold cc0_crf_forward_skel
  iintro ⟨H1, H2, H3, H4, H5, H9, HX, HR, HA, HC, HO, Hk⟩
  sl_exec_parts
  sl_step
  iapply Hk
  isplitl [H1]
  · iassumption
  isplitl [H2]
  · iassumption
  isplitl [H3]
  · iassumption
  isplitl [H4]
  · iassumption
  isplitl [H5]
  · iassumption
  isplitl [H9]
  · iexists _; iassumption
  isplitl [HX]
  · iexists _; iassumption
  isplitl [HR]
  · iexists _; iassumption
  isplitl [HA]
  · iexists _; iassumption
  isplitl [HC]
  · iexists _
    isplitl [HC]
    · iassumption
    · ipureintro
      intro y hy
      exact slot2 (F := F) Variants.none c none i _ _ _ _ _ _ _ _ _ _ _ _ _ _ _ _ _ _ _ _ _ _ _ _ _ _ _ h5 _ _ _ _ _ x1 x2 x3 x4 x5 hx3 hx4 hx5
        (copies_read arg1 X1 x1 hx1 _) (scales1 Variants.none c none i _ _ _ _ _ _ _ _ _ _ _ _ _ _ _ _ _ _ _ _ _ _ _ _ _ _ _ h4 X2 x2 hx2 _) _ y hy
  iexists _; iassumption

end Cert.KernelIdeal.Hand

end
-- ==== Proof.Ideal.RunLast.lean ====
/- The last grid point: it waits for the transfer of two points before, transfers the last scores and waits for them, steps the recursion to its end and stores the sums. -/
module

public import proofs.«01_k».proof.Proof.Ideal.Parts

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

/-- The last grid point: it waits for the transfer of two points before, transfers the last scores and waits for them, steps the recursion to its end and stores the sums. -/
theorem runLast (c : Dev nD) (i : grid0.Coords) (h1 : ¬ (k0_cond1 i = 1#1)) (h2 : k0_cond2 i = 1#1) (h3 : k0_cond3 i = 1#1) (h4 : ¬ (k0_cond4 i = 1#1)) (h5 : ¬ (k0_cond5 i = 1#1)) (h6 : ¬ (k0_cond6 i = 1#1)) (h7 : k0_cond7 i = 1#1) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole)  (f7 : BufTy.Contents (Elt F) arg7.view.ty) (f8 : BufTy.Contents (Elt F) arg8.view.ty) (f9 : BufTy.Contents (Elt F) arg9.view.ty) (fA : BufTy.Contents (Elt F) aA.view.ty) (zC : BufTy.Contents (Elt F) aS.view.ty) (zP : BufTy.Contents (Elt F) aS.view.ty) (zW : BufTy.Contents (Elt F) aS.view.ty) (fh : BufTy.Contents (Elt F) hM.view.ty) (zh : BufTy.Contents (Elt F) hM.view.ty) (Dd : sProp 𝕄G) (W : Waits sig Unit) (K : PUnit → sProp 𝕄G) (hz : ∀ y, (dstP i h3).view.read (Elt F) zh y = (srcP i h3).view.read (Elt F) zP y) :
    iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (aA.view.loc (c : Thread nD τ) ↦[aA.view.set]{fullShare} fA) ∗ Transfers.Flight countersEmb (c : Thread nD τ) (SemLoc.dma (semW i h2)) () (dstW i h2).view.dmaCredit iprop(Dd ∗ (aS.view.loc (c : Thread nD τ) ↦[aS.view.setOn (slotC i).set]{fullShare.left} zC)) ∗ (aS.view.loc (c : Thread nD τ) ↦[aS.view.set]{fullShare.right} zW) ∗ ((srcP i h3).view.loc (c : Thread nD τ) ↦[(srcP i h3).view.set]{fullShare.left} zP) ∗ ((dstP i h3).view.loc (c : Thread nD τ) ↦[(dstP i h3).view.set]{fullShare} fh) ∗ semVal ((c : Thread nD τ), SemLoc.dma (semP i h3)) 0 ∗ owes (c : Thread nD τ) 0 W ∗ (((∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (aA.view.loc (c : Thread nD τ) ↦[aA.view.set]{fullShare} g)) ∗ Dd ∗ (aS.view.loc (c : Thread nD τ) ↦[aS.view.setOn (slotC i).set]{fullShare.left} zC) ∗ semVal ((c : Thread nD τ), SemLoc.dma (semW i h2)) 0 ∗ ((dstP i h3).view.loc (c : Thread nD τ) ↦[(dstP i h3).view.set]{fullShare} zh) ∗ ((srcP i h3).view.loc (c : Thread nD τ) ↦[(srcP i h3).view.set]{fullShare.left} zP) ∗ (aS.view.loc (c : Thread nD τ) ↦[aS.view.set]{fullShare.right} zW) ∗ semVal ((c : Thread nD τ), SemLoc.dma (semP i h3)) 0 ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  rw [cc0_crf_forward_eq_skeleton]; unfold cc0_crf_forward_skel
  iintro ⟨H7, H8, H9, HA, HF, HW, HP1, Hh, Hs, HO, Hk⟩
  sl_exec_parts
  sl_step
  ihave Hh := (Entails.of_eq (landed (dstP i h3) fh zh (runLast.sl.dma0 i h3 zP) hz c)) $$ Hh
  iapply Hk
  isplitl [H7]
  · iexists _; iassumption
  isplitl [H8]
  · iexists _; iassumption
  isplitl [H9]
  · iexists _; iassumption
  isplitl [HA]
  · iexists _; iassumption
  isplitl [HF_dst]
  · iassumption
  isplitl [HF_src]
  · iassumption
  isplitl [HF]
  · iassumption
  isplitl [Hh]
  · iassumption
  isplitl [HP1]
  · iassumption
  isplitl [HW]
  · iassumption
  isplitl [Hs]
  · iassumption
  iexists _; iassumption

end Cert.KernelIdeal.Hand

end
-- ==== Proof.Ideal.Inv.lean ====
/- What is held between two grid points: the slots of the ring, the parts of the array of scores and the transfer in flight, with the contents of each named. -/
module

public import proofs.«01_k».proof.Proof.Ideal.RunMid
public import proofs.«01_k».proof.Proof.Ideal.RunOne
public import proofs.«01_k».proof.Proof.Ideal.RunZero
public import proofs.«01_k».proof.Proof.Ideal.RunLast
public import Idealize.ShloMosaic.Lib.Pipeline.FrameValue
public import Idealize.ShloMosaic.Lib.ValueIdx

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ
open Idealize.ShloMosaic.ValueIdx

variable (m : (ℓ : Loc nD τ sig) → Buf (Elt F) ℓ) (ρ : Dev nD → PrngReg)

/-! ## The parts, by number -/

/-- The cell of slot `b`. -/
abbrev sq (b : ℕ) : DmaSem sig := if b % 2 = 0 then 10 else 11

theorem slotR_in (b : ℕ) : ∀ a, (![b % 2, 0, 0, 0, 0] : Fin 5 → ℕ) a + S1x20x5x48x1024.size a ≤ S2x20x5x48x1024.size a := by
  intro a; fin_cases a
  · show b % 2 + 1 ≤ 2; omega
  all_goals exact Nat.le_refl _
/-- Slot `b` of the ring. -/
abbrev slotR (b : ℕ) : Rect S2x20x5x48x1024 := Rect.unit (s := S2x20x5x48x1024) ![b % 2, 0, 0, 0, 0] S1x20x5x48x1024.size (slotR_in b)
abbrev slotM (b : ℕ) : Memref sig .tc .vmem S20x5x48x1024 .bf16 :=
  (aS.slice (slotR b) (fun _ => rfl)).squeeze S20x5x48x1024 squeezes_S1x20x5x48x1024_S20x5x48x1024

theorem chunkR_in (k : ℕ) : ∀ a, (![20 * (k % 64), 0, 0, 0] : Fin 4 → ℕ) a + S20x5x48x1024.size a ≤ S1280x5x48x1024.size a := by
  intro a; fin_cases a
  · show 20 * (k % 64) + 20 ≤ 1280; omega
  all_goals exact Nat.le_refl _
/-- Chunk `k` of the array of scores. -/
abbrev chunkR (k : ℕ) : Rect S1280x5x48x1024 := Rect.unit (s := S1280x5x48x1024) ![20 * (k % 64), 0, 0, 0] S20x5x48x1024.size (chunkR_in k)
abbrev chunkM (k : ℕ) : Memref sig .tc .hbm S20x5x48x1024 .bf16 := hM.slice (chunkR k) (fun _ => rfl)

theorem semW_eq : ∀ (i : grid0.Coords) (h : k0_cond2 i = 1#1), semW i h = sq (i 0).val := by decide +kernel
theorem semP_eq : ∀ (i : grid0.Coords) (h : k0_cond3 i = 1#1), semP i h = sq ((i 0).val + 1) := by decide +kernel
theorem offW_eq : ∀ (i : grid0.Coords) (h : k0_cond2 i = 1#1), k0_off2 i = ![20 * (((i 0).val - 2) % 64), 0, 0, 0] := by decide +kernel
theorem offP_eq : ∀ (i : grid0.Coords) (h : k0_cond3 i = 1#1), k0_off5 i = ![20 * (((i 0).val - 1) % 64), 0, 0, 0] := by decide +kernel
theorem offC_eq : ∀ (i : grid0.Coords), k0_off3 i = ![(i 0).val % 2, 0, 0, 0, 0] := by decide +kernel
theorem offQ_eq : ∀ (i : grid0.Coords), k0_off6 i = ![((i 0).val + 1) % 2, 0, 0, 0, 0] := by decide +kernel

theorem slice_congr {sp : Space} {S : Shape} {e : EltTy} (M : Memref sig .tc sp S e) {o o' sz : Fin S.rank → ℕ} (h : ∀ a, o a + sz a ≤ S.size a) (h' : ∀ a, o' a + sz a ≤ S.size a)
    (eq : o = o') : M.slice (Rect.unit (s := S) o sz h) (fun _ => rfl) = M.slice (Rect.unit (s := S) o' sz h') (fun _ => rfl) := by subst eq; rfl

theorem dstW_eq (i : grid0.Coords) (h : k0_cond2 i = 1#1) : dstW i h = chunkM ((i 0).val - 2) := slice_congr hM _ _ (offW_eq i h)
theorem dstP_eq (i : grid0.Coords) (h : k0_cond3 i = 1#1) : dstP i h = chunkM ((i 0).val - 1) := slice_congr hM _ _ (offP_eq i h)
theorem slotC_eq (i : grid0.Coords) : slotC i = slotR (i 0).val := by unfold slotC slotR; congr 1; exact offC_eq i
theorem slotP_eq (i : grid0.Coords) : slotP i = slotR ((i 0).val + 1) := by unfold slotP slotR; congr 1; exact offQ_eq i
theorem srcP_eq (i : grid0.Coords) (h : k0_cond3 i = 1#1) : srcP i h = slotM ((i 0).val + 1) := by
  unfold srcP slotM; rw [slice_congr aS (k0_off6_inb i h) (slotR_in _) (offQ_eq i)]

/-! ## Their elements -/

theorem mem_slot (b : ℕ) (y : S2x20x5x48x1024.Idx) : (y ∈ aS.view.setOn (slotR b).set) ↔ (y 0).val = b % 2 := by
  have h1 : (y ∈ aS.view.setOn (slotR b).set) ↔ y ∈ (slotR b).set := View.mem_setOn (v := aS.view) (x := y) (M := (slotR b).set)
  rw [h1, Rect.mem_set_unit]
  have y0 : (y 0).val < 2 := (y 0).isLt
  have y1 : (y 1).val < 20 := (y 1).isLt
  have y2 : (y 2).val < 5 := (y 2).isLt
  have y3 : (y 3).val < 48 := (y 3).isLt
  have y4 : (y 4).val < 1024 := (y 4).isLt
  constructor
  · intro h
    have h0 : b % 2 ≤ (y 0).val ∧ (y 0).val < b % 2 + 1 := h 0
    omega
  · intro h a; fin_cases a
    · show b % 2 ≤ (y 0).val ∧ (y 0).val < b % 2 + 1; omega
    · show 0 ≤ (y 1).val ∧ (y 1).val < 0 + 20; omega
    · show 0 ≤ (y 2).val ∧ (y 2).val < 0 + 5; omega
    · show 0 ≤ (y 3).val ∧ (y 3).val < 0 + 48; omega
    · show 0 ≤ (y 4).val ∧ (y 4).val < 0 + 1024; omega

/-- The elements of chunk `k`. -/
def chunkS (k : ℕ) : Finset S1280x5x48x1024.Idx := (chunkR k).set

theorem mem_chunk (k : ℕ) (j : S1280x5x48x1024.Idx) : (j ∈ chunkS k) ↔ 20 * (k % 64) ≤ (j 0).val ∧ (j 0).val < 20 * (k % 64) + 20 := by
  unfold chunkS
  rw [Rect.mem_set_unit]
  have y1 : (j 1).val < 5 := (j 1).isLt
  have y2 : (j 2).val < 48 := (j 2).isLt
  have y3 : (j 3).val < 1024 := (j 3).isLt
  constructor
  · intro h; exact h 0
  · intro h a; fin_cases a
    · exact h
    · show 0 ≤ (j 1).val ∧ (j 1).val < 0 + 5; omega
    · show 0 ≤ (j 2).val ∧ (j 2).val < 0 + 48; omega
    · show 0 ≤ (j 3).val ∧ (j 3).val < 0 + 1024; omega

theorem aS_univ : aS.view.set = Finset.univ := View.set_whole _
theorem hM_univ : hM.view.set = Finset.univ := View.set_whole _

theorem slot_other (b : ℕ) : aS.view.setOn (slotR (b + 1)).set = aS.view.set \ aS.view.setOn (slotR b).set := by
  ext y
  rw [aS_univ, Finset.mem_sdiff]
  have a := mem_slot (b + 1) y
  have a' := mem_slot b y
  have y0 : (y 0).val < 2 := (y 0).isLt
  rw [a, a']
  constructor
  · intro h; exact ⟨Finset.mem_univ _, by omega⟩
  · intro h; have := h.2; omega

theorem slotM_set (b : ℕ) : (slotM b).view.set = aS.view.setOn (slotR b).set :=
  (View.set_reshape _ _).trans (View.set_slice aS.view (slotR b))

theorem slotR_add (b : ℕ) : slotR (b + 1 + 1) = slotR b := by
  unfold slotR; congr 1; rw [show (b + 1 + 1) % 2 = b % 2 by omega]
theorem sq_add (b : ℕ) : sq (b + 1 + 1) = sq b := by unfold sq; rw [show (b + 1 + 1) % 2 = b % 2 by omega]

/-! ## The contents, by name -/

/-- The grid point of number `p`. -/
def pt (p : ℕ) : Fin cfg0.N := ⟨p % 65, by rw [show cfg0.N = 65 from N_0]; omega⟩

/-- What point `p` computes, in either slot of the ring. -/
def Zb (c : Dev nD) (p : ℕ) : BufTy.Contents (Elt F) aS.view.ty :=
  zt p (iblk m c 0 (pt p)) (iblk m c 1 (pt p)) (iblk m c 2 (pt p)) (iblk m c 3 (pt p)) (iblk m c 4 (pt p))

/-- The array of scores when all is done. -/
def Zfull (c : Dev nD) : BufTy.Contents (Elt F) hM.view.ty := fun (j : S1280x5x48x1024.Idx) =>
  (Zb m c ((j 0).val / 20) (ix5 (0 : Fin 2) (⟨(j 0).val % 20, by omega⟩ : Fin 20) (⟨(j 1).val, (j 1).isLt⟩ : Fin 5) (⟨(j 2).val, (j 2).isLt⟩ : Fin 48) (⟨(j 3).val, (j 3).isLt⟩ : Fin 1024)) : Elt F .bf16)

/-- The array of scores with the chunks before `k` done. -/
def mix (c : Dev nD) (k : ℕ) : BufTy.Contents (Elt F) hM.view.ty := fun (j : S1280x5x48x1024.Idx) =>
  (if (j 0).val < 20 * k then Zfull m c j else V m c main_v27_0 j : Elt F .bf16)

theorem slotM_emb (b : ℕ) (y : S20x5x48x1024.Idx) : ((slotM b).view.emb y : S2x20x5x48x1024.Idx)
    = ix5 (⟨b % 2, by omega⟩ : Fin 2) (⟨(y 0).val, (y 0).isLt⟩ : Fin 20) (⟨(y 1).val, (y 1).isLt⟩ : Fin 5) (⟨(y 2).val, (y 2).isLt⟩ : Fin 48) (⟨(y 3).val, (y 3).isLt⟩ : Fin 1024) := by
  have e : ((slotM b).view.emb y : S2x20x5x48x1024.Idx) = (slotR b).emb (Shape.reshapeEquiv (s := S1x20x5x48x1024) (s' := S20x5x48x1024) squeezes_S1x20x5x48x1024_S20x5x48x1024.numel_eq y) := rfl
  rw [e, show Shape.reshapeEquiv (s := S1x20x5x48x1024) (s' := S20x5x48x1024) squeezes_S1x20x5x48x1024_S20x5x48x1024.numel_eq y = Fin.cons (⟨0, Nat.one_pos⟩ : Fin 1) y from Shape.reshapeEquiv_cons_one (n := 4) (d := ![20, 5, 48, 1024]) _ y]
  funext a
  fin_cases a <;> refine Fin.ext ?_
  · show b % 2 + 1 * 0 = b % 2; omega
  · show 0 + 1 * (y 0).val = (y 0).val; omega
  · show 0 + 1 * (y 1).val = (y 1).val; omega
  · show 0 + 1 * (y 2).val = (y 2).val; omega
  · show 0 + 1 * (y 3).val = (y 3).val; omega

/-- A chunk of the finished array is what its point computed. -/
theorem chunk_slot (c : Dev nD) (k : ℕ) (hk : k < 64) (b : ℕ) (y : S20x5x48x1024.Idx) :
    (chunkM k).view.read (Elt F) (Zfull m c) y = (slotM b).view.read (Elt F) (Zb m c k) y := by
  rw [View.read_apply, View.read_apply]
  have y0 : (y 0).val < 20 := (y 0).isLt
  have e1 : ((chunkM k).view.emb y : S1280x5x48x1024.Idx) = ix4 (⟨20 * k + (y 0).val, by omega⟩ : Fin 1280) (⟨(y 1).val, (y 1).isLt⟩ : Fin 5) (⟨(y 2).val, (y 2).isLt⟩ : Fin 48) (⟨(y 3).val, (y 3).isLt⟩ : Fin 1024) := by
    funext a
    fin_cases a <;> refine Fin.ext ?_
    · show 20 * (k % 64) + 1 * (y 0).val = 20 * k + (y 0).val; omega
    · show 0 + 1 * (y 1).val = (y 1).val; omega
    · show 0 + 1 * (y 2).val = (y 2).val; omega
    · show 0 + 1 * (y 3).val = (y 3).val; omega
  show (Zfull m c ((chunkM k).view.emb y) : Elt F .bf16) = Zb m c k ((slotM b).view.emb y)
  rw [e1, slotM_emb]
  show (Zb m c ((20 * k + (y 0).val) / 20) _ : Elt F .bf16) = _
  rw [show (20 * k + (y 0).val) / 20 = k by omega]
  unfold Zb zt
  have q : (20 * k + (y 0).val) % 20 = (y 0).val := by omega
  simp only [ix4, ix5]
  show tileOf (F := F) _ _ _ _ _ _ _ (ix5 _ (⟨(20 * k + (y 0).val) % 20, _⟩ : Fin 20) _ _ _) = _
  simp only [q]

theorem mix_zero (c : Dev nD) : mix m c 0 = V m c main_v27_0 := by
  funext j; unfold mix; rw [if_neg (by omega)]

theorem mix_next (c : Dev nD) (k : ℕ) (hk : k < 64) : ∀ j ∈ (Finset.univ \ chunkS k), mix m c k j = mix m c (k + 1) j := by
  intro j hj
  have := (Finset.mem_sdiff.1 hj).2
  rw [mem_chunk] at this
  unfold mix
  by_cases h : (j 0).val < 20 * k
  · rw [if_pos h, if_pos (by omega)]
  · rw [if_neg h, if_neg (by omega)]

theorem mix_done (c : Dev nD) (k : ℕ) (hk : k < 64) : ∀ j ∈ chunkS k, Zfull m c j = mix m c (k + 1) j := by
  intro j hj
  rw [mem_chunk] at hj
  unfold mix
  rw [if_pos (by omega)]

theorem mix_all (c : Dev nD) : mix m c 64 = Zfull m c := by
  funext j; unfold mix; rw [if_pos (by have : (j 0).val < 1280 := (j 0).isLt; omega)]

end Cert.KernelIdeal.Hand

end
-- ==== Proof.Ideal.Named.lean ====
/- The parts and conditions of a grid point by its number. -/
module

public import proofs.«01_k».proof.Proof.Ideal.Inv

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

variable (m : (ℓ : Loc nD τ sig) → Buf (Elt F) ℓ) (ρ : Dev nD → PrngReg)

/-- A slot of the ring at a share. -/
abbrev slotPt (c : Dev nD) (q : PosShare TreeShare) (b : ℕ) (z : BufTy.Contents (Elt F) aS.view.ty) : sProp 𝕄G :=
  aS.view.loc (c : Thread nD τ) ↦[aS.view.setOn (slotR b).set]{q} z
/-- Some elements of the array of scores. -/
abbrev hPt (c : Dev nD) (S : Finset S1280x5x48x1024.Idx) (f : BufTy.Contents (Elt F) hM.view.ty) : sProp 𝕄G :=
  hM.view.loc (c : Thread nD τ) ↦[S]{fullShare} f
/-- The cell of a slot at zero. -/
abbrev sv (c : Dev nD) (b : ℕ) : sProp 𝕄G := semVal ((c : Thread nD τ), SemLoc.dma (sq b)) 0

/-! ## The numbers of the points -/

theorem coord_val : ∀ t : Fin grid0.N, (grid0.coords t 0).val = t.val := by decide +kernel
theorem c1 : ∀ i : grid0.Coords, (k0_cond1 i = 1#1) ↔ (i 0).val = 0 := by decide +kernel
theorem c2 : ∀ i : grid0.Coords, (k0_cond2 i = 1#1) ↔ 2 ≤ (i 0).val := by decide +kernel
theorem c3 : ∀ i : grid0.Coords, (k0_cond3 i = 1#1) ↔ 1 ≤ (i 0).val := by decide +kernel
theorem c4 : ∀ i : grid0.Coords, (k0_cond4 i = 1#1) ↔ (i 0).val < 64 := by decide +kernel
theorem c5 : ∀ i : grid0.Coords, (k0_cond5 i = 1#1) ↔ (i 0).val = 0 := by decide +kernel
theorem c6 : ∀ i : grid0.Coords, (k0_cond6 i = 1#1) ↔ 1 ≤ (i 0).val ∧ (i 0).val < 64 := by decide +kernel
theorem c7 : ∀ i : grid0.Coords, (k0_cond7 i = 1#1) ↔ (i 0).val = 64 := by decide +kernel

theorem pt_val (t : Fin cfg0.N) : pt t.val = t := Fin.ext (Nat.mod_eq_of_lt (t.isLt.trans_eq N_0))

/-! ## The parts a point names, by number -/

theorem credit (k : ℕ) : (chunkM k).view.dmaCredit = 307200 := rfl
theorem creditW (i : grid0.Coords) (h : k0_cond2 i = 1#1) : (dstW i h).view.dmaCredit = 307200 := rfl

theorem rect_congr {S : Shape} {o o' sz : Fin S.rank → ℕ} (h : ∀ a, o a + sz a ≤ S.size a) (h' : ∀ a, o' a + sz a ≤ S.size a)
    (eq : o = o') : (Rect.unit (s := S) o sz h).set = (Rect.unit (s := S) o' sz h').set := by subst eq; rfl
theorem srcP_pt (c : Dev nD) (i : grid0.Coords) (h : k0_cond3 i = 1#1) (q : PosShare TreeShare) (z : BufTy.Contents (Elt F) aS.view.ty) :
    (((srcP i h).view.loc (c : Thread nD τ) ↦[(srcP i h).view.set]{q} z) : sProp 𝕄G) = slotPt c q ((i 0).val + 1) z :=
  congrArg (fun S : Finset (Idx (aS.view.loc (c : Thread nD τ))) => (aS.view.loc (c : Thread nD τ) ↦[S]{q} z : sProp 𝕄G))
    (((View.set_reshape _ _).trans (View.set_slice aS.view (slotP i))).trans (congrArg (fun R : Rect S2x20x5x48x1024 => aS.view.setOn R.set) (slotP_eq i)))
theorem dstP_pt (c : Dev nD) (i : grid0.Coords) (h : k0_cond3 i = 1#1) (z : BufTy.Contents (Elt F) hM.view.ty) :
    (((dstP i h).view.loc (c : Thread nD τ) ↦[(dstP i h).view.set]{fullShare} z) : sProp 𝕄G) = hPt c (chunkS ((i 0).val - 1)) z :=
  congrArg (fun S : Finset (Idx (hM.view.loc (c : Thread nD τ))) => (hM.view.loc (c : Thread nD τ) ↦[S]{fullShare} z : sProp 𝕄G))
    ((View.set_slice_whole main_v27_0 _).trans (rect_congr (S := S1280x5x48x1024) (k0_off5_inb i h) (chunkR_in _) (offP_eq i h)))

theorem read_slice_congr {o o' : Fin 4 → ℕ} (h : ∀ a, o a + S20x5x48x1024.size a ≤ S1280x5x48x1024.size a) (h' : ∀ a, o' a + S20x5x48x1024.size a ≤ S1280x5x48x1024.size a) (e : o = o')
    (f : BufTy.Contents (Elt F) hM.view.ty) (y : S20x5x48x1024.Idx) :
    (hM.slice (Rect.unit (s := S1280x5x48x1024) o S20x5x48x1024.size h) (fun _ => rfl)).view.read (Elt F) f y = (hM.slice (Rect.unit (s := S1280x5x48x1024) o' S20x5x48x1024.size h') (fun _ => rfl)).view.read (Elt F) f y := by subst e; rfl
theorem read_slot_congr {o o' : Fin 5 → ℕ} (h : ∀ a, o a + S1x20x5x48x1024.size a ≤ S2x20x5x48x1024.size a) (h' : ∀ a, o' a + S1x20x5x48x1024.size a ≤ S2x20x5x48x1024.size a) (e : o = o')
    (f : BufTy.Contents (Elt F) aS.view.ty) (y : S20x5x48x1024.Idx) :
    ((aS.slice (Rect.unit (s := S2x20x5x48x1024) o S1x20x5x48x1024.size h) (fun _ => rfl)).squeeze S20x5x48x1024 squeezes_S1x20x5x48x1024_S20x5x48x1024).view.read (Elt F) f y
      = ((aS.slice (Rect.unit (s := S2x20x5x48x1024) o' S1x20x5x48x1024.size h') (fun _ => rfl)).squeeze S20x5x48x1024 squeezes_S1x20x5x48x1024_S20x5x48x1024).view.read (Elt F) f y := by subst e; rfl

theorem hz_of (c : Dev nD) (i : grid0.Coords) (h : k0_cond3 i = 1#1) (k : ℕ) (hk : k < 64) (hi : (i 0).val = k + 1) :
    ∀ y, (dstP i h).view.read (Elt F) (Zfull m c) y = (srcP i h).view.read (Elt F) (Zb m c k) y := fun y =>
  (read_slice_congr (k0_off5_inb i h) (chunkR_in k) ((offP_eq i h).trans (by rw [hi]; rfl)) (Zfull m c) y).trans
    ((chunk_slot m c k hk k y).trans (read_slot_congr (slotR_in k) (k0_off6_inb i h) (((offQ_eq i).trans (by rw [hi, show (k + 1 + 1) % 2 = k % 2 by omega])).symm) (Zb m c k) y))

/-- A slot holding what a point computed is at that point's name. -/
theorem slot_named (c : Dev nD) (b p : ℕ) (hb : b % 2 = p % 2) (g : BufTy.Contents (Elt F) aS.view.ty)
    (h : ∀ y : S2x20x5x48x1024.Idx, (y 0).val = p % 2 → aS.view.read (Elt F) g y = Zb m c p y) :
    slotPt c fullShare b g = slotPt c fullShare b (Zb m c p) :=
  pointsTo_congr fun j hj => h j (((mem_slot b j).1 hj).trans hb)

theorem slotPt_add (c : Dev nD) (q : PosShare TreeShare) (b : ℕ) (z : BufTy.Contents (Elt F) aS.view.ty) : slotPt c q (b + 1 + 1) z = slotPt c q b z := by
  unfold slotPt; rw [slotR_add]
theorem sv_add (c : Dev nD) (b : ℕ) : (sv c (b + 1 + 1) : sProp 𝕄G) = sv c b := by unfold sv; rw [sq_add]

/-- The next chunk taken out of the array while one is in flight. -/
theorem chunk_next (k : ℕ) (hk : k + 1 < 64) : chunkS (k + 1) ⊆ Finset.univ \ chunkS k := fun j hj => by
  rw [Finset.mem_sdiff]
  refine ⟨Finset.mem_univ _, ?_⟩
  rw [mem_chunk] at hj ⊢
  omega

/-- The chunk that landed joins the rest of the array, but for the next. -/
theorem land_join (c : Dev nD) (k : ℕ) (hk : k + 1 < 64) :
    iprop(hPt c (chunkS k) (Zfull m c) ∗ hPt c ((Finset.univ \ chunkS k) \ chunkS (k + 1)) (mix m c k))
      ⊢ (hPt c (Finset.univ \ chunkS (k + 1)) (mix m c (k + 1)) : sProp 𝕄G) := by
  have e1 : hPt c (chunkS k) (Zfull m c) = hPt c (chunkS k) (mix m c (k + 1)) := pointsTo_congr (mix_done m c k (by omega))
  have e2 : hPt c ((Finset.univ \ chunkS k) \ chunkS (k + 1)) (mix m c k) = hPt c ((Finset.univ \ chunkS k) \ chunkS (k + 1)) (mix m c (k + 1)) :=
    pointsTo_congr fun j hj => mix_next m c k (by omega) j (Finset.mem_sdiff.1 hj).1
  have sub : chunkS k ⊆ Finset.univ \ chunkS (k + 1) := fun j hj => by
    rw [Finset.mem_sdiff]
    refine ⟨Finset.mem_univ _, ?_⟩
    rw [mem_chunk] at hj ⊢
    omega
  rw [e1, e2, show ((Finset.univ \ chunkS k) \ chunkS (k + 1) : Finset S1280x5x48x1024.Idx) = (Finset.univ \ chunkS (k + 1)) \ chunkS k from sdiff_right_comm _ _ _]
  exact (pointsTo_split_subset sub).2

end Cert.KernelIdeal.Hand

end
-- ==== Proof.Ideal.Canon.lean ====
/- The runs of a grid point with the parts of the buffers it names given by number. -/
module

public import proofs.«01_k».proof.Proof.Ideal.Named

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

theorem midC (c : Dev nD) (i : grid0.Coords) (k : ℕ) (hi : (i 0).val = k + 2) (h1 : ¬ (k0_cond1 i = 1#1)) (h2 : k0_cond2 i = 1#1) (h3 : k0_cond3 i = 1#1) (h4 : k0_cond4 i = 1#1) (h5 : ¬ (k0_cond5 i = 1#1)) (h6 : k0_cond6 i = 1#1) (h7 : ¬ (k0_cond7 i = 1#1)) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f7 : BufTy.Contents (Elt F) arg7.view.ty) (f9 : BufTy.Contents (Elt F) arg9.view.ty) (fX : BufTy.Contents (Elt F) aX.view.ty) (fR : BufTy.Contents (Elt F) aR.view.ty) (fA : BufTy.Contents (Elt F) aA.view.ty) (zC : BufTy.Contents (Elt F) aS.view.ty) (zP : BufTy.Contents (Elt F) aS.view.ty) (fh : BufTy.Contents (Elt F) hM.view.ty) (zh : BufTy.Contents (Elt F) hM.view.ty) (Dd : sProp 𝕄G) (W : Waits sig Unit) (K : PUnit → sProp 𝕄G) (x1 : Vec F S20x48x2560 .fp8e4m3) (x2 : Vec F S48x1280 .f32) (x3 : Vec F S2560x5120 .fp8e4m3) (x4 x5 : Vec F S1x5120 .f32) (hx1 : ∀ y, arg1.view.read (Elt F) X1 y = x1 y) (hx2 : ∀ y, arg2.view.read (Elt F) X2 y = x2 y) (hx3 : ∀ y, arg3.view.read (Elt F) X3 y = x3 y) (hx4 : ∀ y, arg4.view.read (Elt F) X4 y = x4 y) (hx5 : ∀ y, arg5.view.read (Elt F) X5 y = x5 y) (hz : ∀ y, (dstP i h3).view.read (Elt F) zh y = (srcP i h3).view.read (Elt F) zP y) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} f7) ∗ (arg9.view.loc (c : Thread nD τ) ↦[arg9.view.set]{fullShare} f9) ∗ (aX.view.loc (c : Thread nD τ) ↦[aX.view.set]{fullShare} fX) ∗ (aR.view.loc (c : Thread nD τ) ↦[aR.view.set]{fullShare} fR) ∗ (aA.view.loc (c : Thread nD τ) ↦[aA.view.set]{fullShare} fA) ∗ Transfers.Flight countersEmb (c : Thread nD τ) (SemLoc.dma (sq k)) () 307200 iprop(Dd ∗ (slotPt c fullShare.left k zC)) ∗ Aside (slotPt c fullShare.right k zC) ∗ (slotPt c fullShare.left (k + 1) zP) ∗ (slotPt c fullShare.right (k + 1) zP) ∗ (hPt c (chunkS (k + 1)) fh) ∗ sv c (k + 1) ∗ owes (c : Thread nD τ) 0 W ∗ (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg7.view.loc (c : Thread nD τ) ↦[arg7.view.set]{fullShare} g)) ∗ (∃ g, (arg9.view.loc (c : Thread nD τ) ↦[arg9.view.set]{fullShare} g)) ∗ (∃ g, (aX.view.loc (c : Thread nD τ) ↦[aX.view.set]{fullShare} g)) ∗ (∃ g, (aR.view.loc (c : Thread nD τ) ↦[aR.view.set]{fullShare} g)) ∗ (∃ g, (aA.view.loc (c : Thread nD τ) ↦[aA.view.set]{fullShare} g)) ∗ (∃ g, (slotPt c fullShare k g) ∗ ⌜∀ y : S2x20x5x48x1024.Idx, (y 0).val = (k + 2) % 2 → aS.view.read (Elt F) g y = zt (k + 2) x1 x2 x3 x4 x5 y⌝) ∗ Dd ∗ sv c k ∗ Transfers.Flight countersEmb (c : Thread nD τ) (SemLoc.dma (sq (k + 1))) () 307200 iprop((hPt c (chunkS (k + 1)) zh) ∗ (slotPt c fullShare.left (k + 1) zP)) ∗ (slotPt c fullShare.right (k + 1) zP) ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  have R := runMid (F := F) c i h1 h2 h3 h4 h5 h6 h7 arg1 harg1 arg2 harg2 arg3 harg3 arg4 harg4 arg5 harg5 arg7 harg7 arg8 harg8 arg9 harg9 X1 X2 X3 X4 X5 f7 f9 fX fR fA zC zP fh zh Dd W K x1 x2 x3 x4 x5 hx1 hx2 hx3 hx4 hx5 hz
  rw [srcP_pt, dstP_pt, dstP_pt, slotC_eq, slotP_eq, semW_eq, semP_eq, creditW, hi, show slotR (k + 2) = slotR k from slotR_add k, show slotR (k + 2 + 1) = slotR (k + 1) from slotR_add (k + 1), show slotPt c fullShare.left (k + 2 + 1) zP = slotPt c fullShare.left (k + 1) zP from slotPt_add c _ (k + 1) zP, show (sq (k + 2) : DmaSem sig) = sq k from sq_add k, show (sq (k + 2 + 1) : DmaSem sig) = sq (k + 1) from sq_add (k + 1), show k + 2 - 1 = k + 1 by omega] at R
  exact R

theorem oneC (c : Dev nD) (i : grid0.Coords) (hi : (i 0).val = 1) (h1 : ¬ (k0_cond1 i = 1#1)) (h2 : ¬ (k0_cond2 i = 1#1)) (h3 : k0_cond3 i = 1#1) (h4 : k0_cond4 i = 1#1) (h5 : ¬ (k0_cond5 i = 1#1)) (h6 : k0_cond6 i = 1#1) (h7 : ¬ (k0_cond7 i = 1#1)) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f7 : BufTy.Contents (Elt F) arg7.view.ty) (f9 : BufTy.Contents (Elt F) arg9.view.ty) (fX : BufTy.Contents (Elt F) aX.view.ty) (fR : BufTy.Contents (Elt F) aR.view.ty) (fA : BufTy.Contents (Elt F) aA.view.ty) (zC : BufTy.Contents (Elt F) aS.view.ty) (zP : BufTy.Contents (Elt F) aS.view.ty) (fh : BufTy.Contents (Elt F) hM.view.ty) (zh : BufTy.Contents (Elt F) hM.view.ty) (W : Waits sig Unit) (K : PUnit → sProp 𝕄G) (x1 : Vec F S20x48x2560 .fp8e4m3) (x2 : Vec F S48x1280 .f32) (x3 : Vec F S2560x5120 .fp8e4m3) (x4 x5 : Vec F S1x5120 .f32) (hx1 : ∀ y, arg1.view.read (Elt F) X1 y = x1 y) (hx2 : ∀ y, arg2.view.read (Elt F) X2 y = x2 y) (hx3 : ∀ y, arg3.view.read (Elt F) X3 y = x3 y) (hx4 : ∀ y, arg4.view.read (Elt F) X4 y = x4 y) (hx5 : ∀ y, arg5.view.read (Elt F) X5 y = x5 y) (hz : ∀ y, (dstP i h3).view.read (Elt F) zh y = (srcP i h3).view.read (Elt F) zP y) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} f7) ∗ (arg9.view.loc (c : Thread nD τ) ↦[arg9.view.set]{fullShare} f9) ∗ (aX.view.loc (c : Thread nD τ) ↦[aX.view.set]{fullShare} fX) ∗ (aR.view.loc (c : Thread nD τ) ↦[aR.view.set]{fullShare} fR) ∗ (aA.view.loc (c : Thread nD τ) ↦[aA.view.set]{fullShare} fA) ∗ Aside (slotPt c fullShare 1 zC) ∗ (slotPt c fullShare.left 0 zP) ∗ (slotPt c fullShare.right 0 zP) ∗ (hPt c (chunkS 0) fh) ∗ sv c 0 ∗ owes (c : Thread nD τ) 0 W ∗ (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg7.view.loc (c : Thread nD τ) ↦[arg7.view.set]{fullShare} g)) ∗ (∃ g, (arg9.view.loc (c : Thread nD τ) ↦[arg9.view.set]{fullShare} g)) ∗ (∃ g, (aX.view.loc (c : Thread nD τ) ↦[aX.view.set]{fullShare} g)) ∗ (∃ g, (aR.view.loc (c : Thread nD τ) ↦[aR.view.set]{fullShare} g)) ∗ (∃ g, (aA.view.loc (c : Thread nD τ) ↦[aA.view.set]{fullShare} g)) ∗ (∃ g, (slotPt c fullShare 1 g) ∗ ⌜∀ y : S2x20x5x48x1024.Idx, (y 0).val = (1) % 2 → aS.view.read (Elt F) g y = zt (1) x1 x2 x3 x4 x5 y⌝) ∗ Transfers.Flight countersEmb (c : Thread nD τ) (SemLoc.dma (sq 0)) () 307200 iprop((hPt c (chunkS 0) zh) ∗ (slotPt c fullShare.left 0 zP)) ∗ (slotPt c fullShare.right 0 zP) ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  have R := runOne (F := F) c i h1 h2 h3 h4 h5 h6 h7 arg1 harg1 arg2 harg2 arg3 harg3 arg4 harg4 arg5 harg5 arg7 harg7 arg8 harg8 arg9 harg9 X1 X2 X3 X4 X5 f7 f9 fX fR fA zC zP fh zh W K x1 x2 x3 x4 x5 hx1 hx2 hx3 hx4 hx5 hz
  rw [srcP_pt, dstP_pt, dstP_pt, slotC_eq, slotP_eq, semP_eq, hi, show 1 - 1 = 0 from rfl, show slotR (1 + 1) = slotR 0 from slotR_add 0, show slotPt c fullShare.left (1 + 1) zP = slotPt c fullShare.left 0 zP from slotPt_add c _ 0 zP, show (sq (1 + 1) : DmaSem sig) = sq 0 from sq_add 0] at R
  exact R

theorem lastC (c : Dev nD) (i : grid0.Coords) (k : ℕ) (hi : (i 0).val = k + 2) (h1 : ¬ (k0_cond1 i = 1#1)) (h2 : k0_cond2 i = 1#1) (h3 : k0_cond3 i = 1#1) (h4 : ¬ (k0_cond4 i = 1#1)) (h5 : ¬ (k0_cond5 i = 1#1)) (h6 : ¬ (k0_cond6 i = 1#1)) (h7 : k0_cond7 i = 1#1) (arg1 : Memref sig .tc .vmem S20x48x2560 .fp8e4m3) (harg1 : arg1.IsWhole) (arg2 : Memref sig .tc .vmem S48x1280 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S1x5120 .f32) (harg5 : arg5.IsWhole) (arg7 : Memref sig .tc .vmem S20x48x1024 .f32) (harg7 : arg7.IsWhole) (arg8 : Memref sig .tc .vmem S48x1280 .f32) (harg8 : arg8.IsWhole) (arg9 : Memref sig .tc .vmem S48x1280 .f32) (harg9 : arg9.IsWhole)  (f7 : BufTy.Contents (Elt F) arg7.view.ty) (f8 : BufTy.Contents (Elt F) arg8.view.ty) (f9 : BufTy.Contents (Elt F) arg9.view.ty) (fA : BufTy.Contents (Elt F) aA.view.ty) (zC : BufTy.Contents (Elt F) aS.view.ty) (zP : BufTy.Contents (Elt F) aS.view.ty) (zW : BufTy.Contents (Elt F) aS.view.ty) (fh : BufTy.Contents (Elt F) hM.view.ty) (zh : BufTy.Contents (Elt F) hM.view.ty) (Dd : sProp 𝕄G) (W : Waits sig Unit) (K : PUnit → sProp 𝕄G) (hz : ∀ y, (dstP i h3).view.read (Elt F) zh y = (srcP i h3).view.read (Elt F) zP y) :
    iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (aA.view.loc (c : Thread nD τ) ↦[aA.view.set]{fullShare} fA) ∗ Transfers.Flight countersEmb (c : Thread nD τ) (SemLoc.dma (sq k)) () 307200 iprop(Dd ∗ (slotPt c fullShare.left k zC)) ∗ (aS.view.loc (c : Thread nD τ) ↦[aS.view.set]{fullShare.right} zW) ∗ (slotPt c fullShare.left (k + 1) zP) ∗ (hPt c (chunkS (k + 1)) fh) ∗ sv c (k + 1) ∗ owes (c : Thread nD τ) 0 W ∗ (((∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (aA.view.loc (c : Thread nD τ) ↦[aA.view.set]{fullShare} g)) ∗ Dd ∗ (slotPt c fullShare.left k zC) ∗ sv c k ∗ (hPt c (chunkS (k + 1)) zh) ∗ (slotPt c fullShare.left (k + 1) zP) ∗ (aS.view.loc (c : Thread nD τ) ↦[aS.view.set]{fullShare.right} zW) ∗ sv c (k + 1) ∗ (∃ W', owes (c : Thread nD τ) 0 W')) -∗ K ⟨⟩)) ⊢ wp frame (wpE (defs₀ (F := F)) Variants.none c none) Set.univ (cc0_crf_forward i arg1 harg1 arg2 harg2 arg3 harg3 arg4 harg4 arg5 harg5 hM (Memref.isWhole_whole _) arg7 harg7 arg8 harg8 arg9 harg9 aX (Memref.isWhole_whole _) aR (Memref.isWhole_whole _) aS (Memref.isWhole_whole _) aA (Memref.isWhole_whole _) cc0_scratch4) K := by
  have R := runLast (F := F) c i h1 h2 h3 h4 h5 h6 h7 arg1 harg1 arg2 harg2 arg3 harg3 arg4 harg4 arg5 harg5 arg7 harg7 arg8 harg8 arg9 harg9 f7 f8 f9 fA zC zP zW fh zh Dd W K hz
  rw [srcP_pt, dstP_pt, dstP_pt, slotC_eq, semW_eq, semP_eq, creditW, hi, show slotR (k + 2) = slotR k from slotR_add k, show slotPt c fullShare.left (k + 2 + 1) zP = slotPt c fullShare.left (k + 1) zP from slotPt_add c _ (k + 1) zP, show (sq (k + 2) : DmaSem sig) = sq k from sq_add k, show (sq (k + 2 + 1) : DmaSem sig) = sq (k + 1) from sq_add (k + 1), show k + 2 - 1 = k + 1 by omega] at R
  exact R

end Cert.KernelIdeal.Hand

end
-- ==== Proof.Ideal.Body.lean ====
/- The invariant between two grid points, the body at each of the four kinds of grid point, and the launch of the kernel. -/
module

public import proofs.«01_k».proof.Proof.Ideal.Named

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ
open Idealize.ShloMosaic.Pipeline (Dat BodyObligation)

variable [∀ e, Nonempty (Elt F e)]
variable (m : (ℓ : Loc nD τ sig) → Buf (Elt F) ℓ) (ρ : Dev nD → PrngReg)

/-! ## The invariant -/

/-- The buffers whose contents are not named. -/
abbrev Scr (c : Dev nD) : sProp 𝕄G :=
  iprop((∃ g, aX.view.loc (c : Thread nD τ) ↦[aX.view.set]{fullShare} g) ∗ (∃ g, aR.view.loc (c : Thread nD τ) ↦[aR.view.set]{fullShare} g)
    ∗ (∃ g, aA.view.loc (c : Thread nD τ) ↦[aA.view.set]{fullShare} g) ∗ (∃ r, prngReg c r))

/-- Before the first point. -/
def PhiA (c : Dev nD) : sProp 𝕄G :=
  iprop(Scr c ∗ (∃ g, aS.view.loc (c : Thread nD τ) ↦[aS.view.set]{fullShare} g) ∗ hPt c Finset.univ (mix m c 0) ∗ sv c 0 ∗ sv c 1)
/-- Between the first point and the second. -/
def PhiB (c : Dev nD) : sProp 𝕄G :=
  iprop(Scr c ∗ slotPt c fullShare 0 (Zb m c 0) ∗ (∃ g, slotPt c fullShare 1 g) ∗ hPt c Finset.univ (mix m c 0) ∗ sv c 0 ∗ sv c 1)
/-- With the transfer of chunk `k` in flight and the scores of chunk `k + 1` computed. -/
def PhiC (c : Dev nD) (k : ℕ) : sProp 𝕄G :=
  iprop(Scr c ∗ Transfers.Flight countersEmb (c : Thread nD τ) (SemLoc.dma (sq k)) () 307200 iprop(hPt c (chunkS k) (Zfull m c) ∗ slotPt c fullShare.left k (Zb m c k))
    ∗ slotPt c fullShare.right k (Zb m c k) ∗ slotPt c fullShare (k + 1) (Zb m c (k + 1)) ∗ hPt c (Finset.univ \ chunkS k) (mix m c k) ∗ sv c (k + 1))
/-- After the last point. -/
def PhiD (c : Dev nD) : sProp 𝕄G :=
  iprop(Scr c ∗ (∃ g, aS.view.loc (c : Thread nD τ) ↦[aS.view.set]{fullShare} g) ∗ hPt c Finset.univ (Zfull m c) ∗ sv c 0 ∗ sv c 1)

/-- What is held before point `p`. -/
def Phi (c : Dev nD) (p : ℕ) : sProp 𝕄G :=
  if p = 0 then PhiA m c else if p = 1 then PhiB m c else if p < 65 then PhiC m c (p - 2) else PhiD m c

/-! ## The proof data -/

/-- The recursion's arrays and the logarithms are not named. -/
def forgets0 : Fin 8 → Bool := fun w => decide (4 < w.val)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨n + 5, h⟩ => Pipeline.Dat.unnamed (cfg := cfg0) ⟨n + 5, h⟩ t
  Φ p := Phi m c p.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- What the body is called with at a point, and what it returns. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d))

end Cert.KernelIdeal.Hand

end
-- ==== Proof.Ideal.StepMid.lean ====
/- The body at a point between the second and the last. -/
module

public import proofs.«01_k».proof.Proof.Ideal.Canon
public import proofs.«01_k».proof.Proof.Ideal.Body

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ
open Idealize.ShloMosaic.Pipeline (Dat BodyObligation)

variable [∀ e, Nonempty (Elt F e)]
variable (m : (ℓ : Loc nD τ sig) → Buf (Elt F) ℓ) (ρ : Dev nD → PrngReg)

/-- A point between the second and the last. -/
theorem stepMid (c : Dev nD) (t : Fin cfg0.N) (k : ℕ) (ht : t.val = k + 2) (hk : k + 2 < 64) :
    bodyPre m c t ⊢ wp frame (wpE (defs₀ (F := F)) Variants.none c none) Set.univ (bodyAt0 t) (fun _ => bodyPost m c t) := by
  have hi : (grid0.coords t 0).val = k + 2 := (coord_val t).trans ht
  unfold bodyPre bodyPost bodyAt0
  simp only [before0_0, before0_1, before0_2, before0_3, before0_4, after0_0, after0_1, after0_2, after0_3, after0_4]
  rw [show (dats m 0 c).Φ t.castSucc = PhiC m c k from by show Phi m c t.val = _; rw [ht]; unfold Phi; rw [if_neg (by omega), if_neg (by omega), if_pos (by omega)]; rfl,
    show (dats m 0 c).Φ t.succ = PhiC m c (k + 1) from by show Phi m c (t.val + 1) = _; rw [ht]; unfold Phi; rw [if_neg (by omega), if_neg (by omega), if_pos (by omega)]; rfl]
  unfold Dat.owesAt Pipeline.owesWithin
  rw [show (dats m 0 c).owed t.castSucc = 0 from rfl, show (dats m 0 c).owed t.succ = 0 from rfl]
  unfold owns
  unfold PhiC
  iintro ⟨⟨⟨⟨%fX, HX⟩, ⟨%fR, HR⟩, ⟨%fA, HA⟩, Hg⟩, HF, HC, HP, Hh, Hs⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩, ⟨%d6, %f6, -, H6⟩, ⟨%d7, %f7, -, H7⟩⟩
  ihave ⟨HP1, HP2⟩ := (pointsTo_share (PosShare.mem_left_op_right fullShare)).1 $$ HP
  ihave ⟨Hh1, Hh2⟩ := (pointsTo_split_subset (chunk_next k (by omega))).1 $$ Hh
  ihave HC := aside_in _ $$ HC
  iapply (midC c (grid0.coords t) k hi (fun h => absurd ((c1 (grid0.coords t)).1 h) (by omega)) ((c2 (grid0.coords t)).2 (by omega)) ((c3 (grid0.coords t)).2 (by omega)) ((c4 (grid0.coords t)).2 (by omega)) (fun h => absurd ((c5 (grid0.coords t)).1 h) (by omega)) ((c6 (grid0.coords t)).2 (by omega)) (fun h => absurd ((c7 (grid0.coords t)).1 h) (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) f0 f1 f2 f3 f4 f5 f7 fX fR fA (Zb m c k) (Zb m c (k + 1)) (mix m c k) (Zfull m c) (hPt c (chunkS k) (Zfull m c)) W _ (iblk m c 0 t) (iblk m c 1 t) (iblk m c 2 t) (iblk m c 3 t) (iblk m c 4 t) (fun y => congrFun e0 y) (fun y => congrFun e1 y) (fun y => congrFun e2 y) (fun y => congrFun e3 y) (fun y => congrFun e4 y) (hz_of m c (grid0.coords t) _ (k + 1) (by omega) hi))
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [HX]; · iexact HX
  isplitl [HR]; · iexact HR
  isplitl [HA]; · iexact HA
  isplitl [HF]; · iexact HF
  isplitl [HC]; · iexact HC
  isplitl [HP1]; · iexact HP1
  isplitl [HP2]; · iexact HP2
  isplitl [Hh1]; · iexact Hh1
  isplitl [Hs]; · iexact Hs
  isplitl [HO]; · iexact HO
  iintro ⟨H0, H1, H2, H3, H4, ⟨%g5, H5⟩, ⟨%g7, H7⟩, HX, HR, HA, ⟨%g, HS, %hg⟩, HD, Hsw, HF, HP2, ⟨%W', HO⟩⟩
  ihave Hh := (land_join m c k (by omega)) $$ [HD Hh2]
  · isplitl [HD] <;> iassumption
  isplitl [HX HR HA Hg HF HP2 HS Hh Hsw]
  · isplitl [HX HR HA Hg]
    · isplitl [HX]; · iexact HX
      isplitl [HR]; · iexact HR
      isplitl [HA]; · iexact HA
      iexact Hg
    isplitl [HF]; · iexact HF
    isplitl [HP2]; · iexact HP2
    isplitl [HS]
    · iapply (Entails.of_eq ((slot_named m c k (k + 2) (by omega) g (fun y hy => (hg y hy).trans (by unfold Zb; rw [← ht, pt_val]))).trans (slotPt_add c fullShare k (Zb m c (k + 2))).symm)); iexact HS
    isplitl [Hh]; · iexact Hh
    iapply (Entails.of_eq (sv_add c k).symm); iexact Hsw
  isplitl [HO]
  · iexists W'; isplitr; · ipureintro; exact fun _ _ => Or.inl trivial
    iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

end Cert.KernelIdeal.Hand

end
-- ==== Proof.Ideal.StepOne.lean ====
/- The body at the second point. -/
module

public import proofs.«01_k».proof.Proof.Ideal.Canon
public import proofs.«01_k».proof.Proof.Ideal.Body

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ
open Idealize.ShloMosaic.Pipeline (Dat BodyObligation)

variable [∀ e, Nonempty (Elt F e)]
variable (m : (ℓ : Loc nD τ sig) → Buf (Elt F) ℓ) (ρ : Dev nD → PrngReg)

/-- The second point. -/
theorem stepOne (c : Dev nD) (t : Fin cfg0.N) (ht : t.val = 1) :
    bodyPre m c t ⊢ wp frame (wpE (defs₀ (F := F)) Variants.none c none) Set.univ (bodyAt0 t) (fun _ => bodyPost m c t) := by
  have hi : (grid0.coords t 0).val = 1 := (coord_val t).trans ht
  unfold bodyPre bodyPost bodyAt0
  simp only [before0_0, before0_1, before0_2, before0_3, before0_4, after0_0, after0_1, after0_2, after0_3, after0_4]
  rw [show (dats m 0 c).Φ t.castSucc = PhiB m c from by show Phi m c t.val = _; rw [ht]; unfold Phi; rw [if_neg (by omega), if_pos rfl],
    show (dats m 0 c).Φ t.succ = PhiC m c 0 from by show Phi m c (t.val + 1) = _; rw [ht]; unfold Phi; rw [if_neg (by omega), if_neg (by omega), if_pos (by omega)]]
  unfold Dat.owesAt Pipeline.owesWithin
  rw [show (dats m 0 c).owed t.castSucc = 0 from rfl, show (dats m 0 c).owed t.succ = 0 from rfl]
  unfold owns
  unfold PhiB PhiC
  iintro ⟨⟨⟨⟨%fX, HX⟩, ⟨%fR, HR⟩, ⟨%fA, HA⟩, Hg⟩, HP, ⟨%zC, HC⟩, Hh, Hs, Hs1⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩, ⟨%d6, %f6, -, H6⟩, ⟨%d7, %f7, -, H7⟩⟩
  ihave ⟨HP1, HP2⟩ := (pointsTo_share (PosShare.mem_left_op_right fullShare)).1 $$ HP
  ihave ⟨Hh1, Hh2⟩ := (pointsTo_split_subset (Finset.subset_univ (chunkS 0))).1 $$ Hh
  ihave HC := aside_in _ $$ HC
  iapply (oneC c (grid0.coords t) hi (fun h => absurd ((c1 (grid0.coords t)).1 h) (by omega)) (fun h => absurd ((c2 (grid0.coords t)).1 h) (by omega)) ((c3 (grid0.coords t)).2 (by omega)) ((c4 (grid0.coords t)).2 (by omega)) (fun h => absurd ((c5 (grid0.coords t)).1 h) (by omega)) ((c6 (grid0.coords t)).2 (by omega)) (fun h => absurd ((c7 (grid0.coords t)).1 h) (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) f0 f1 f2 f3 f4 f5 f7 fX fR fA zC (Zb m c 0) (mix m c 0) (Zfull m c) W _ (iblk m c 0 t) (iblk m c 1 t) (iblk m c 2 t) (iblk m c 3 t) (iblk m c 4 t) (fun y => congrFun e0 y) (fun y => congrFun e1 y) (fun y => congrFun e2 y) (fun y => congrFun e3 y) (fun y => congrFun e4 y) (hz_of m c (grid0.coords t) _ 0 (by omega) hi))
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [HX]; · iexact HX
  isplitl [HR]; · iexact HR
  isplitl [HA]; · iexact HA
  isplitl [HC]; · iexact HC
  isplitl [HP1]; · iexact HP1
  isplitl [HP2]; · iexact HP2
  isplitl [Hh1]; · iexact Hh1
  isplitl [Hs]; · iexact Hs
  isplitl [HO]; · iexact HO
  iintro ⟨H0, H1, H2, H3, H4, ⟨%g5, H5⟩, ⟨%g7, H7⟩, HX, HR, HA, ⟨%g, HS, %hg⟩, HF, HP2, ⟨%W', HO⟩⟩
  isplitl [HX HR HA Hg HF HP2 HS Hh2 Hs1]
  · isplitl [HX HR HA Hg]
    · isplitl [HX]; · iexact HX
      isplitl [HR]; · iexact HR
      isplitl [HA]; · iexact HA
      iexact Hg
    isplitl [HF]; · iexact HF
    isplitl [HP2]; · iexact HP2
    isplitl [HS]
    · iapply (Entails.of_eq (slot_named m c 1 1 rfl g (fun y hy => (hg y hy).trans (by unfold Zb; rw [← ht, pt_val])))); iexact HS
    isplitl [Hh2]; · iexact Hh2
    iexact Hs1
  isplitl [HO]
  · iexists W'; isplitr; · ipureintro; exact fun _ _ => Or.inl trivial
    iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

end Cert.KernelIdeal.Hand

end
-- ==== Proof.Ideal.StepZero.lean ====
/- The body at the first point. -/
module

public import proofs.«01_k».proof.Proof.Ideal.Canon
public import proofs.«01_k».proof.Proof.Ideal.Body

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ
open Idealize.ShloMosaic.Pipeline (Dat BodyObligation)

variable [∀ e, Nonempty (Elt F e)]
variable (m : (ℓ : Loc nD τ sig) → Buf (Elt F) ℓ) (ρ : Dev nD → PrngReg)

/-- The first point. -/
theorem stepZero (c : Dev nD) (t : Fin cfg0.N) (ht : t.val = 0) :
    bodyPre m c t ⊢ wp frame (wpE (defs₀ (F := F)) Variants.none c none) Set.univ (bodyAt0 t) (fun _ => bodyPost m c t) := by
  have hi : (grid0.coords t 0).val = 0 := (coord_val t).trans ht
  unfold bodyPre bodyPost bodyAt0
  simp only [before0_0, before0_1, before0_2, before0_3, before0_4, after0_0, after0_1, after0_2, after0_3, after0_4]
  rw [show (dats m 0 c).Φ t.castSucc = PhiA m c from by show Phi m c t.val = _; rw [ht]; unfold Phi; rw [if_pos rfl],
    show (dats m 0 c).Φ t.succ = PhiB m c from by show Phi m c (t.val + 1) = _; rw [ht]; unfold Phi; rw [if_neg (by omega), if_pos rfl]]
  unfold Dat.owesAt Pipeline.owesWithin
  rw [show (dats m 0 c).owed t.castSucc = 0 from rfl, show (dats m 0 c).owed t.succ = 0 from rfl]
  unfold owns
  unfold PhiA PhiB
  iintro ⟨⟨⟨⟨%fX, HX⟩, ⟨%fR, HR⟩, ⟨%fA, HA⟩, Hg⟩, ⟨%zC, HC⟩, Hh, Hs, Hs1⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩, ⟨%d6, %f6, -, H6⟩, ⟨%d7, %f7, -, H7⟩⟩
  iapply (runZero c (grid0.coords t) ((c1 (grid0.coords t)).2 (by omega)) (fun h => absurd ((c2 (grid0.coords t)).1 h) (by omega)) (fun h => absurd ((c3 (grid0.coords t)).1 h) (by omega)) ((c4 (grid0.coords t)).2 (by omega)) ((c5 (grid0.coords t)).2 (by omega)) (fun h => absurd ((c6 (grid0.coords t)).1 h) (by omega)) (fun h => absurd ((c7 (grid0.coords t)).1 h) (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) f0 f1 f2 f3 f4 f7 fX fR fA zC W _ (iblk m c 0 t) (iblk m c 1 t) (iblk m c 2 t) (iblk m c 3 t) (iblk m c 4 t) (fun y => congrFun e0 y) (fun y => congrFun e1 y) (fun y => congrFun e2 y) (fun y => congrFun e3 y) (fun y => congrFun e4 y))
  isplitl [H0]; · iexact H0
  isplitl [H1]; · iexact H1
  isplitl [H2]; · iexact H2
  isplitl [H3]; · iexact H3
  isplitl [H4]; · iexact H4
  isplitl [H7]; · iexact H7
  isplitl [HX]; · iexact HX
  isplitl [HR]; · iexact HR
  isplitl [HA]; · iexact HA
  isplitl [HC]; · iexact HC
  isplitl [HO]; · iexact HO
  iintro ⟨H0, H1, H2, H3, H4, ⟨%g7, H7⟩, HX, HR, HA, ⟨%g, HS, %hg⟩, ⟨%W', HO⟩⟩
  ihave ⟨HS0, HS1⟩ := (pointsTo_split_subset (show aS.view.setOn (slotR 0).set ⊆ aS.view.set from fun j _ => by rw [aS_univ]; exact Finset.mem_univ _)).1 $$ HS
  isplitl [HX HR HA Hg HS0 HS1 Hh Hs Hs1]
  · isplitl [HX HR HA Hg]
    · isplitl [HX]; · iexact HX
      isplitl [HR]; · iexact HR
      isplitl [HA]; · iexact HA
      iexact Hg
    isplitl [HS0]
    · iapply (Entails.of_eq (slot_named m c 0 0 rfl g (fun y hy => (hg y (by omega)).trans (by rw [hi]; unfold Zb; rw [← ht, pt_val])))); iexact HS0
    isplitl [HS1]
    · iexists g; iapply (Entails.of_eq (congrArg (fun S => (aS.view.loc (c : Thread nD τ) ↦[S]{fullShare} g : sProp 𝕄G)) (slot_other 0).symm)); iexact HS1
    isplitl [Hh]; · iexact Hh
    isplitl [Hs]; · iexact Hs
    iexact Hs1
  isplitl [HO]
  · iexists W'; isplitr; · ipureintro; exact fun _ _ => Or.inl trivial
    iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

end Cert.KernelIdeal.Hand

end
-- ==== Proof.Ideal.StepLast.lean ====
/- The body at the last point. -/
module

public import proofs.«01_k».proof.Proof.Ideal.Canon
public import proofs.«01_k».proof.Proof.Ideal.Body

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ
open Idealize.ShloMosaic.Pipeline (Dat BodyObligation)

variable [∀ e, Nonempty (Elt F e)]
variable (m : (ℓ : Loc nD τ sig) → Buf (Elt F) ℓ) (ρ : Dev nD → PrngReg)

/-- But for the last chunk, the array is done when that one starts. -/
theorem rest_done (c : Dev nD) (k : ℕ) (hk : k = 62) :
    (hPt c (Finset.univ \ chunkS (k + 1)) (mix m c (k + 1)) : sProp 𝕄G) = hPt c (Finset.univ \ chunkS (k + 1)) (Zfull m c) :=
  pointsTo_congr fun j hj => by
    have h := (Finset.mem_sdiff.1 hj).2
    rw [mem_chunk] at h
    have hj0 : (j 0).val < 1280 := (j 0).isLt
    unfold mix
    rw [if_pos (by omega)]

/-- The rights of the two slots make the right of the ring. -/
theorem ring_join (c : Dev nD) (q : PosShare TreeShare) (b : ℕ) (z z' : BufTy.Contents (Elt F) aS.view.ty) :
    iprop(slotPt c q b z ∗ slotPt c q (b + 1) z') ⊢ (aS.view.loc (c : Thread nD τ) ↦[aS.view.set]{q} ((aS.view.setOn (slotR b).set).piecewise z z') : sProp 𝕄G) := by
  unfold slotPt
  rw [slot_other]
  exact pointsTo_join_subset (fun j _ => by rw [aS_univ]; exact Finset.mem_univ _)

/-- The last point. -/
theorem stepLast (c : Dev nD) (t : Fin cfg0.N) (k : ℕ) (ht : t.val = k + 2) (hk : k = 62) :
    bodyPre m c t ⊢ wp frame (wpE (defs₀ (F := F)) Variants.none c none) Set.univ (bodyAt0 t) (fun _ => bodyPost m c t) := by
  have hi : (grid0.coords t 0).val = k + 2 := (coord_val t).trans ht
  unfold bodyPre bodyPost bodyAt0
  simp only [before0_0, before0_1, before0_2, before0_3, before0_4, after0_0, after0_1, after0_2, after0_3, after0_4]
  rw [show (dats m 0 c).Φ t.castSucc = PhiC m c k from by show Phi m c t.val = _; rw [ht]; unfold Phi; rw [if_neg (by omega), if_neg (by omega), if_pos (by omega)]; rfl,
    show (dats m 0 c).Φ t.succ = PhiD m c from by show Phi m c (t.val + 1) = _; rw [ht]; unfold Phi; rw [if_neg (by omega), if_neg (by omega), if_neg (by omega)]]
  unfold Dat.owesAt Pipeline.owesWithin
  rw [show (dats m 0 c).owed t.castSucc = 0 from rfl, show (dats m 0 c).owed t.succ = 0 from rfl]
  unfold owns
  unfold PhiC PhiD
  iintro ⟨⟨⟨⟨%fX, HX⟩, ⟨%fR, HR⟩, ⟨%fA, HA⟩, Hg⟩, HF, HC, HP, Hh, Hs⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩, ⟨%d6, %f6, -, H6⟩, ⟨%d7, %f7, -, H7⟩⟩
  ihave ⟨HP1, HP2⟩ := (pointsTo_share (PosShare.mem_left_op_right fullShare)).1 $$ HP
  ihave ⟨Hh1, Hh2⟩ := (pointsTo_split_subset (chunk_next k (by omega))).1 $$ Hh
  ihave HW := (ring_join c fullShare.right k (Zb m c k) (Zb m c (k + 1))) $$ [HC HP2]
  · isplitl [HC] <;> iassumption
  iapply (lastC c (grid0.coords t) k hi (fun h => absurd ((c1 (grid0.coords t)).1 h) (by omega)) ((c2 (grid0.coords t)).2 (by omega)) ((c3 (grid0.coords t)).2 (by omega)) (fun h => absurd ((c4 (grid0.coords t)).1 h) (by omega)) (fun h => absurd ((c5 (grid0.coords t)).1 h) (by omega)) (fun h => absurd ((c6 (grid0.coords t)).1 h) (by omega)) ((c7 (grid0.coords t)).2 (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) f5 f6 f7 fA (Zb m c k) (Zb m c (k + 1)) _ (mix m c k) (Zfull m c) (hPt c (chunkS k) (Zfull m c)) W _ (hz_of m c (grid0.coords t) _ (k + 1) (by omega) hi))
  isplitl [H5]; · iexact H5
  isplitl [H6]; · iexact H6
  isplitl [H7]; · iexact H7
  isplitl [HA]; · iexact HA
  isplitl [HF]; · iexact HF
  isplitl [HW]; · iexact HW
  isplitl [HP1]; · iexact HP1
  isplitl [Hh1]; · iexact Hh1
  isplitl [Hs]; · iexact Hs
  isplitl [HO]; · iexact HO
  iintro ⟨⟨%g5, H5⟩, ⟨%g6, H6⟩, ⟨%g7, H7⟩, HA, HD, HC, Hsw, Hh1, HP1, HW, Hs, ⟨%W', HO⟩⟩
  ihave Hh := (land_join m c k (by omega)) $$ [HD Hh2]
  · isplitl [HD] <;> iassumption
  ihave Hh := (Entails.of_eq (rest_done m c k hk)) $$ Hh
  ihave HW2 := (ring_join c fullShare.left k (Zb m c k) (Zb m c (k + 1))) $$ [HC HP1]
  · isplitl [HC] <;> iassumption
  isplitl [HX HR HA Hg HW HW2 Hh Hh1 Hs Hsw]
  · isplitl [HX HR HA Hg]
    · isplitl [HX]; · iexists fX; iexact HX
      isplitl [HR]; · iexists fR; iexact HR
      isplitl [HA]; · iexact HA
      iexact Hg
    isplitl [HW HW2]
    · iexists _; iapply (pointsTo_share (PosShare.mem_left_op_right fullShare)).2; isplitl [HW2] <;> iassumption
    isplitl [Hh Hh1]
    · iapply (pointsTo_split_subset (Finset.subset_univ (chunkS (k + 1)))).2; isplitl [Hh1] <;> iassumption
    subst hk
    isplitl [Hsw]; · iexact Hsw
    iexact Hs
  isplitl [HO]
  · iexists W'; isplitr; · ipureintro; exact fun _ _ => Or.inl trivial
    iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

end Cert.KernelIdeal.Hand

end
-- ==== Proof.Ideal.Run.lean ====
/- The launch: every run of the program ends, with the array of scores at its named contents. -/
module

public import proofs.«01_k».proof.Proof.Ideal.StepMid
public import proofs.«01_k».proof.Proof.Ideal.StepOne
public import proofs.«01_k».proof.Proof.Ideal.StepZero
public import proofs.«01_k».proof.Proof.Ideal.StepLast

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ
open Idealize.ShloMosaic.Pipeline (Dat BodyObligation)

variable [∀ e, Nonempty (Elt F e)]
variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  have hlt : t.val < 65 := t.isLt.trans_eq N_0
  rcases Nat.lt_or_ge t.val 2 with h | h
  · rcases Nat.lt_or_ge t.val 1 with h' | h'
    · exact stepZero m c t (by omega)
    · exact stepOne m c t (by omega)
  · rcases Nat.lt_or_ge t.val 64 with h' | h'
    · exact stepMid m c t (t.val - 2) (by omega) (by omega)
    · exact stepLast m c t (t.val - 2) (by omega) (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The ends of the invariant -/

/-- The two cells of the kernel. -/
abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄G)
      = iprop(sv c 0 ∗ sv c 1) := by
  rw [Pipeline.ownSems0_eq_of_list c osem0 [0, 1] (by decide) (by decide)]; rfl
/-- The array of scores, written by the kernel's own transfers. -/
def R0 : Finset (Ref sig .tc) := {main_v27_0}
theorem H0_sub : (∅ : Finset (Ref sig .tc)) ⊆ Pipeline.restRefs sig spec0 := Finset.empty_subset _
theorem R0_sub : R0 ⊆ Pipeline.restRefs sig spec0 \ ∅ := by decide
theorem routed0_eq (c : Dev nD) (W : (b : Ref sig .tc) → Buf (Elt F) ((c : Thread nD τ).loc b)) :
    (Pipeline.routed R0 c W : sProp 𝕄G) = hPt c Finset.univ (W main_v27_0) := by
  unfold Pipeline.routed
  rw [BI.bigSep_eq_bigSepL_of_eq [main_v27_0] (by decide) (by decide)]; rfl

theorem ends_eq (G : (c : Dev nD) → (b : Ref sig .tc) → Buf (Elt F) ((c : Thread nD τ).loc b)) (c : Dev nD) :
    (Pipeline.ΦDRG osem0 spec0 ∅ R0 (V m) G c : sProp 𝕄G)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)) ∗ (∃ r, prngReg c r) ∗ (sv c 0 ∗ sv c 1) ∗ hPt c Finset.univ (G c main_v27_0)) := by
  rw [Pipeline.ΦDRG_eq, scopedRest0_eq, ownSems00_eq, routed0_eq, bigSep_empty, show iprop(BI.emp ∗ hPt c Finset.univ (G c main_v27_0)) = hPt c Finset.univ (G c main_v27_0) from equiv_iff.mp BI.emp_sep]

/-- The final contents of the written buffers. -/
def Gfin (c : Dev nD) (b : Ref sig .tc) : Buf (Elt F) ((c : Thread nD τ).loc b) :=
  if h : b = main_v27_0 then h ▸ Zfull m c else V m c b
theorem Gfin_eq (c : Dev nD) : Gfin m c main_v27_0 = Zfull m c := by unfold Gfin; rw [dif_pos rfl]

theorem hin (c : Dev nD) : Pipeline.ΦDRG osem0 spec0 ∅ R0 (V m) (V m) c ⊢ (dats m 0 c).Φ 0 := by
  rw [ends_eq, show (dats m 0 c).Φ 0 = PhiA m c from by show Phi m c 0 = _; unfold Phi; rw [if_pos rfl]]
  unfold PhiA Scr
  rw [mix_zero, aS_univ, show aX.view.set = Finset.univ from View.set_whole _, show aR.view.set = Finset.univ from View.set_whole _, show aA.view.set = Finset.univ from View.set_whole _]
  iintro ⟨⟨HX, HR, HS, HA⟩, Hg, ⟨Hs, Hs1⟩, Hh⟩
  isplitl [HX HR HA Hg]
  · isplitl [HX]; · iexact HX
    isplitl [HR]; · iexact HR
    isplitl [HA]; · iexact HA
    iexact Hg
  isplitl [HS]; · iexact HS
  isplitl [Hh]; · iexact Hh
  isplitl [Hs]; · iexact Hs
  iexact Hs1

theorem hout (c : Dev nD) : (dats m 0 c).Φ (Fin.last cfg0.N) ⊢ Pipeline.ΦDRG osem0 spec0 ∅ R0 (V m) (Gfin m) c := by
  rw [ends_eq, Gfin_eq, show (dats m 0 c).Φ (Fin.last cfg0.N) = PhiD m c from by
    show Phi m c cfg0.N = _; rw [show cfg0.N = 65 from N_0]; unfold Phi; rw [if_neg (by omega), if_neg (by omega), if_neg (by omega)]]
  unfold PhiD Scr
  rw [aS_univ, show aX.view.set = Finset.univ from View.set_whole _, show aR.view.set = Finset.univ from View.set_whole _, show aA.view.set = Finset.univ from View.set_whole _]
  iintro ⟨⟨HX, HR, HA, Hg⟩, HS, Hh, Hs, Hs1⟩
  isplitl [HX HR HA HS]
  · isplitl [HX]; · iexact HX
    isplitl [HR]; · iexact HR
    isplitl [HS]; · iexact HS
    iexact HA
  isplitl [Hg]; · iexact Hg
  isplitl [Hs Hs1]
  · isplitl [Hs]; · iexact Hs
    iexact Hs1
  iexact Hh

/-! ## The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main :
    θ_run defs (onTc (τ := τ) (main (F := F))) (s₀ m ρ)
      (fun r => Pipeline.RDat.FramePostRG (cfgs 0) (fun c => (dats m 0 c).toRForget forgets0) R0 (V m) (Gfin m) r ∧ r.2.sem = fun _ => 0) :=
  Pipeline.θ_run_frame_dmaRG_forget (Q' := _) cfgs (dats m) (0 : Fin 1) launch0 osem0 defs₀ Variants.none forgets0 ownSemFacts0 ∅ R0 H0_sub R0_sub m ρ main
    (hbody := fun c => (body_obligation m c).loose) (hshare := fun c => (dats m 0 c).share_full fun _ => rfl)
    (howed := fun _ _ => rfl) (V := V m) (hmain := hmainD m Variants.none) (hA := A_eq m) (G := Gfin m)
    (hin := hin m) (hout := hout m)

/-- From any memory with zero counters, every weakly fair run of the program ends with its arguments unchanged, the array of scores at
    its named contents and every counter at zero. -/
theorem run_facts :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v27_0) = Zfull m c)
      ∧ r.2.sem = fun _ => 0) :=
  (θ_run defs _ _).mono (fun r h => ⟨fun c => ⟨
      (Pipeline.RDat.FramePostR.arr_in h.1.1 c 0 rfl).trans ((A_eq m c 0).trans (V_main_arg0 m c)),
      ((h.1.1 c).2 main_arg1 (by decide)).trans (V_main_arg1 m c),
      ((h.1.1 c).2 main_arg2 (by decide)).trans (V_main_arg2 m c),
      ((h.1.1 c).2 main_arg3 (by decide)).trans (V_main_arg3 m c),
      ((h.1.1 c).2 main_arg4 (by decide)).trans (V_main_arg4 m c),
      (h.1.2 c main_v27_0 (by decide)).trans (Gfin_eq m c)⟩, h.2⟩) (run_main m ρ)

end Cert.KernelIdeal.Hand

end
-- ==== Proof.RefTerm.lean ====
/- What the plain formula computes, as one term of its arguments, and that term read at an index over the extended reals. -/
module

public import proofs.«01_k».proof.Proof.Gen.ReferenceIdeal
public import Idealize.ShloMosaic.Lib.Pointwise

@[expose] public section

set_option maxRecDepth 16384
set_option maxHeartbeats 200000

noncomputable section

namespace Cert.ReferenceIdeal.Hand

open Cert.ReferenceIdeal Cert.ReferenceIdeal.Gen
open Idealize.ShloMosaic

/-- The matrix product of the flattened rows with the weights. -/
def dotT {F : FTy → Type} [FloatOps F] (x : Vec F S61440x2560 .fp8e4m3) (w : Vec F S2560x5120 .fp8e4m3) : FVec F S61440x5120 .f32 :=
  matmul dot_S61440x2560_S2560x5120_S61440x5120_1_0_0_1_n_n none (shapeCast S61440x2560 x shapeCasts_S61440x2560_S61440x2560) w
    (constant S61440x5120 .f32 0x00000000#32)

/-- The scores, state by state, from the matrix product and the scales. -/
def scoreT {F : FTy → Type} [FloatOps F] (acc : FVec F S61440x5120 .f32) (xs : FVec F S1280x48 .f32) (ws b : FVec F S5120 .f32) :
    FVec F S1280x48x1024x5 .bf16 :=
  shapeCast S1280x48x1024x5 (truncf .bf16
    (mulf (broadcastInDim S1280x48x5120 ![] bcast_S_S1280x48x5120 (constant S_ .f32 0x40A00000#32))
      (Host.tanh (addf (mulf (mulf (shapeCast S1280x48x5120 acc shapeCasts_S61440x5120_S1280x48x5120)
          (broadcastInDim S1280x48x5120 ![0, 1, 2] bcast_S1280x48x1_S1280x48x5120_0_1_2 (broadcastInDim S1280x48x1 ![0, 1] bcast_S1280x48_S1280x48x1_0_1 xs)))
          (broadcastInDim S1280x48x5120 ![0, 1, 2] bcast_S1x1x5120_S1280x48x5120_0_1_2 (broadcastInDim S1x1x5120 ![2] bcast_S5120_S1x1x5120_2 ws)))
        (broadcastInDim S1280x48x5120 ![0, 1, 2] bcast_S1x1x5120_S1280x48x5120_0_1_2 (broadcastInDim S1x1x5120 ![2] bcast_S5120_S1x1x5120_2 b)))))
    bitsLt_bf16_f32) shapeCasts_S1280x48x5120_S1280x48x1024x5

/-- The scores in plane order. -/
def planeT {F : FTy → Type} [FloatOps F] (s : FVec F S1280x48x1024x5 .bf16) : FVec F S1280x5x48x1024 .bf16 :=
  transpose S1280x5x48x1024 [0, 2, 1, 3] (concatenate S1280x48x5x1024 2
    [⟨S1280x48x1x1024, shapeCast S1280x48x1x1024 (shapeCast S1280x48x1024 (extractStridedSlice S1280x48x1024x1 ![0, 0, 0, 0] s slices_S1280x48x1024x5_S1280x48x1024x1_0_0_0_0)
        shapeCasts_S1280x48x1024x1_S1280x48x1024) shapeCasts_S1280x48x1024_S1280x48x1x1024⟩,
      ⟨S1280x48x4x1024, shapeCast S1280x48x4x1024 (transpose S1280x48x4x2x4x128 [0, 1, 5, 2, 4, 3] (shapeCast S1280x48x2x128x4x4
        (extractStridedSlice S1280x48x1024x4 ![0, 0, 0, 1] s slices_S1280x48x1024x5_S1280x48x1024x4_0_0_0_1) shapeCasts_S1280x48x1024x4_S1280x48x2x128x4x4)
        transposes_S1280x48x2x128x4x4_S1280x48x4x2x4x128_0_1_5_2_4_3) shapeCasts_S1280x48x4x2x4x128_S1280x48x4x1024⟩]
    concatenates_S1280x48x1x1024_S1280x48x4x1024_S1280x48x5x1024_d2) transposes_S1280x48x5x1024_S1280x5x48x1024_0_2_1_3

/-- The column of the weights that plane `p`, place `l` of the scores is computed from. -/
def qcol (p l : ℕ) : ℕ := if p < 1 then l * 5 else (l / 512 * 512 + l % 128 * 4 + l / 128 % 4) * 5 + (1 + (p - 1))

theorem qcol_lt {p l : ℕ} (hp : p < 5) (hl : l < 1024) : qcol p l < 5120 := by
  unfold qcol; split <;> omega

theorem qcol_zero {p l : ℕ} (h : p < 1) : l = qcol p l / 5 ∧ 0 = qcol p l % 5 := by
  unfold qcol; rw [if_pos h]; omega

theorem qcol_succ {p l : ℕ} (h : ¬p < 1) (hp : p < 5) : l / 512 * 512 + l % 128 * 4 + l / 128 % 4 = qcol p l / 5 ∧ 1 + (p - 1) = qcol p l % 5 := by
  unfold qcol; rw [if_neg h]; omega

theorem planeT_apply (s : FVec Ideal S1280x48x1024x5 .bf16) (j : S1280x5x48x1024.Idx) :
    planeT s j = s (ix4 (j 0) (j 2) ⟨qcol (j 1).val (j 3).val / 5, by have := qcol_lt (p := (j 1).val) (l := (j 3).val) (j 1).isLt (j 3).isLt; omega⟩
      ⟨qcol (j 1).val (j 3).val % 5, Nat.mod_lt _ (by decide)⟩) := by
  unfold planeT
  pointwise
  split
  · rename_i h
    exact congrArg s (congrArg₂ (ix4 (j 0) (j 2)) (Fin.ext (qcol_zero h).1) (Fin.ext (qcol_zero h).2))
  · rename_i h
    exact congrArg s (congrArg₂ (ix4 (j 0) (j 2)) (Fin.ext (qcol_succ h (j 1).isLt).1) (Fin.ext (qcol_succ h (j 1).isLt).2))

theorem scoreT_apply (acc : FVec Ideal S61440x5120 .f32) (xs : FVec Ideal S1280x48 .f32) (ws b : FVec Ideal S5120 .f32)
    (j : S1280x48x1024x5.Idx) (q : Fin 5120) (hq : (j 2).val * 5 + (j 3).val = q.val) (r : Fin 61440) (hr : (j 0).val * 48 + (j 1).val = r.val) :
    scoreT acc xs ws b j = Ideal.ofBits .f32 0x40A00000#32 * Ideal.tanh (acc (ix2 r q) * xs (ix2 (j 0) (j 1)) * ws (ix1 q) + b (ix1 q)) := by
  unfold scoreT
  obtain ⟨q, hql⟩ := q
  obtain ⟨r, hrl⟩ := r
  subst hq hr
  pointwise

theorem dotT_apply (x : Vec Ideal S1280x48x2560 .fp8e4m3) (w : Vec Ideal S2560x5120 .fp8e4m3)
    (j : S61440x5120.Idx) (s : Fin 1280) (n : Fin 48) (hs : (j 0).val / 48 = s.val) (hn : (j 0).val % 48 = n.val) :
    dotT (shapeCast S61440x2560 x shapeCasts_S1280x48x2560_S61440x2560) w j = ∑ k, x (ix3 s n k) * w (ix2 k (j 1)) := by
  unfold dotT
  obtain ⟨s, hsl⟩ := s
  obtain ⟨n, hnl⟩ := n
  subst hs hn
  pointwise

/-- The whole formula, as one term of the arguments. -/
def refT {F : FTy → Type} [FloatOps F] (x : Vec F S1280x48x2560 .fp8e4m3) (xs : FVec F S1280x48 .f32) (w : Vec F S2560x5120 .fp8e4m3) (ws b : FVec F S5120 .f32) :
    FVec F S1280x5x48x1024 .bf16 :=
  planeT (scoreT (dotT (shapeCast S61440x2560 x shapeCasts_S1280x48x2560_S61440x2560) w) xs ws b)

theorem planeT_at (t : FVec Ideal S1280x48x1024x5 .bf16) (s : Fin 1280) (p : Fin 5) (n : Fin 48) (l : Fin 1024) (u : Fin 1024) (v : Fin 5)
    (hu : qcol p.val l.val / 5 = u.val) (hv : qcol p.val l.val % 5 = v.val) : planeT t (ix4 s p n l) = t (ix4 s n u v) := by
  obtain ⟨u, hul⟩ := u
  obtain ⟨v, hvl⟩ := v
  subst hu hv
  exact planeT_apply t (ix4 s p n l)

theorem scoreT_at (acc : FVec Ideal S61440x5120 .f32) (xs : FVec Ideal S1280x48 .f32) (ws b : FVec Ideal S5120 .f32)
    (s : Fin 1280) (n : Fin 48) (u : Fin 1024) (v : Fin 5) (q : Fin 5120) (hq : u.val * 5 + v.val = q.val) (r : Fin 61440) (hr : s.val * 48 + n.val = r.val) :
    scoreT acc xs ws b (ix4 s n u v) = Ideal.ofBits .f32 0x40A00000#32 * Ideal.tanh (acc (ix2 r q) * xs (ix2 s n) * ws (ix1 q) + b (ix1 q)) :=
  scoreT_apply acc xs ws b (ix4 s n u v) q hq r hr

theorem dotT_at (x : Vec Ideal S1280x48x2560 .fp8e4m3) (w : Vec Ideal S2560x5120 .fp8e4m3)
    (r : Fin 61440) (q : Fin 5120) (s : Fin 1280) (n : Fin 48) (hs : r.val / 48 = s.val) (hn : r.val % 48 = n.val) :
    dotT (shapeCast S61440x2560 x shapeCasts_S1280x48x2560_S61440x2560) w (ix2 r q) = ∑ k, x (ix3 s n k) * w (ix2 k q) :=
  dotT_apply x w (ix2 r q) s n hs hn

/-- Read at an index: five times the hyperbolic tangent of the scaled and shifted product of a row and a column. -/
theorem refT_apply (x : Vec Ideal S1280x48x2560 .fp8e4m3) (xs : FVec Ideal S1280x48 .f32) (w : Vec Ideal S2560x5120 .fp8e4m3) (ws b : FVec Ideal S5120 .f32)
    (s : Fin 1280) (p : Fin 5) (n : Fin 48) (l : Fin 1024) (q : Fin 5120) (hq : qcol p.val l.val = q.val) :
    refT x xs w ws b (ix4 s p n l) = Ideal.ofBits .f32 0x40A00000#32
      * Ideal.tanh ((∑ k, x (ix3 s n k) * w (ix2 k q)) * xs (ix2 s n) * ws (ix1 q) + b (ix1 q)) := by
  have hs : s.val < 1280 := s.isLt
  have hn : n.val < 48 := n.isLt
  have hqv : q.val < 5120 := q.isLt
  have h1 : qcol p.val l.val / 5 < 1024 := by omega
  have h2 : qcol p.val l.val % 5 < 5 := Nat.mod_lt _ (by decide)
  have h3 : s.val * 48 + n.val < 61440 := by omega
  have h4 : (s.val * 48 + n.val) / 48 = s.val := by omega
  have h5 : (s.val * 48 + n.val) % 48 = n.val := by omega
  have e1 := planeT_at (scoreT (dotT (shapeCast S61440x2560 x shapeCasts_S1280x48x2560_S61440x2560) w) xs ws b) s p n l ⟨_, h1⟩ ⟨_, h2⟩ rfl rfl
  have e2 := scoreT_at (dotT (shapeCast S61440x2560 x shapeCasts_S1280x48x2560_S61440x2560) w) xs ws b s n ⟨_, h1⟩ ⟨_, h2⟩ q
    ((Nat.div_add_mod' _ 5).trans hq) ⟨_, h3⟩ rfl
  have e3 := dotT_at x w ⟨_, h3⟩ q s n h4 h5
  unfold refT
  rw [e1, e2, e3]

end Cert.ReferenceIdeal.Hand

end
-- ==== Proof.Plane.lean ====
/- The arrays the kernel is launched on, as terms of its arguments, and one tile of scores, both read at an index over the extended reals. -/
module

public import proofs.«01_k».proof.Proof.Gen.KernelIdeal.Frame
public import proofs.«01_k».proof.Proof.Gen.KernelIdeal.Skeleton
public import proofs.«01_k».proof.Proof.RefTerm
public import Idealize.ShloMosaic.Lib.Claim
public import Idealize.ShloMosaic.Lib.Pointwise

@[expose] public section

set_option maxRecDepth 16384
set_option maxHeartbeats 400000

noncomputable section

namespace Cert.KernelIdeal.Hand

open Cert.KernelIdeal Cert.KernelIdeal.Gen
open Idealize.ShloMosaic Idealize.ShloMosaic.TcCoe

/-- The weights with their columns in plane order. -/
def planeW {F : FTy → Type} [FloatOps F] (w : Vec F S2560x5120 .fp8e4m3) : Vec F S2560x5120 .fp8e4m3 :=
  concatenate S2560x5120 1
    [⟨S2560x1024, shapeCast S2560x1024 (shapeCast S2560x2x128x4 (extractStridedSlice S2560x2x128x4x1 ![0, 0, 0, 0, 0]
        (shapeCast S2560x2x128x4x5 w shapeCasts_S2560x5120_S2560x2x128x4x5) slices_S2560x2x128x4x5_S2560x2x128x4x1_0_0_0_0_0)
        shapeCasts_S2560x2x128x4x1_S2560x2x128x4) shapeCasts_S2560x2x128x4_S2560x1024⟩,
      ⟨S2560x4096, shapeCast S2560x4096 (transpose S2560x4x2x4x128 [0, 4, 1, 3, 2] (extractStridedSlice S2560x2x128x4x4 ![0, 0, 0, 0, 1]
        (shapeCast S2560x2x128x4x5 w shapeCasts_S2560x5120_S2560x2x128x4x5) slices_S2560x2x128x4x5_S2560x2x128x4x4_0_0_0_0_1)
        transposes_S2560x2x128x4x4_S2560x4x2x4x128_0_4_1_3_2) shapeCasts_S2560x4x2x4x128_S2560x4096⟩]
    concatenates_S2560x1024_S2560x4096_S2560x5120_d1

/-- A vector over the columns, in plane order, as one row. -/
def planeV {F : FTy → Type} [FloatOps F] (v : Vec F S5120 .f32) : Vec F S1x5120 .f32 :=
  broadcastInDim S1x5120 ![1] bcast_S5120_S1x5120_1 (concatenate S5120 0
    [⟨S1024, shapeCast S1024 (shapeCast S2x128x4 (extractStridedSlice S2x128x4x1 ![0, 0, 0, 0]
        (shapeCast S2x128x4x5 v shapeCasts_S5120_S2x128x4x5) slices_S2x128x4x5_S2x128x4x1_0_0_0_0)
        shapeCasts_S2x128x4x1_S2x128x4) shapeCasts_S2x128x4_S1024⟩,
      ⟨S4096, shapeCast S4096 (transpose S4x2x4x128 [3, 0, 2, 1] (extractStridedSlice S2x128x4x4 ![0, 0, 0, 1]
        (shapeCast S2x128x4x5 v shapeCasts_S5120_S2x128x4x5) slices_S2x128x4x5_S2x128x4x4_0_0_0_1)
        transposes_S2x128x4x4_S4x2x4x128_3_0_2_1) shapeCasts_S4x2x4x128_S4096⟩]
    concatenates_S1024_S4096_S5120_d0)

/-- The row scales with the batch in front. -/
def rowS {F : FTy → Type} [FloatOps F] (v : Vec F S1280x48 .f32) : Vec F S48x1280 .f32 :=
  transpose S48x1280 [1, 0] v transposes_S1280x48_S48x1280_1_0

theorem qcol_lo {p l Q : ℕ} (hl : l < 1024) (hQ : p * 1024 + l = Q) (h : Q < 1024) :
    Q / 512 * 2560 + Q / 4 % 128 * 20 + Q % 4 * 5 = Cert.ReferenceIdeal.Hand.qcol p l := by
  unfold Cert.ReferenceIdeal.Hand.qcol; rw [if_pos (by omega)]; omega

theorem qcol_hi {p l Q : ℕ} (hp : p < 5) (hl : l < 1024) (hQ : p * 1024 + l = Q) (h : ¬Q < 1024) :
    (Q - 1024) / 512 % 2 * 2560 + (Q - 1024) % 128 * 20 + (Q - 1024) / 128 % 4 * 5 + (1 + (Q - 1024) / 1024) = Cert.ReferenceIdeal.Hand.qcol p l := by
  unfold Cert.ReferenceIdeal.Hand.qcol; rw [if_neg (by omega)]; omega

theorem planeW_at (w : Vec Ideal S2560x5120 .fp8e4m3) (k : Fin 2560) (Q q : Fin 5120) (p l : ℕ) (hp : p < 5) (hl : l < 1024)
    (hQ : p * 1024 + l = Q.val) (hq : Cert.ReferenceIdeal.Hand.qcol p l = q.val) : planeW w (ix2 k Q) = w (ix2 k q) := by
  unfold planeW
  pointwise
  split
  · rename_i h
    exact congrArg (fun z => w (ix2 k z)) (Fin.ext ((qcol_lo hl hQ h).trans hq))
  · rename_i h
    exact congrArg (fun z => w (ix2 k z)) (Fin.ext ((qcol_hi hp hl hQ h).trans hq))

theorem planeV_at (v : Vec Ideal S5120 .f32) (i : Fin 1) (Q q : Fin 5120) (p l : ℕ) (hp : p < 5) (hl : l < 1024)
    (hQ : p * 1024 + l = Q.val) (hq : Cert.ReferenceIdeal.Hand.qcol p l = q.val) : planeV v (ix2 i Q) = v (ix1 q) := by
  unfold planeV
  pointwise
  split
  · rename_i h
    exact congrArg (fun z => v (ix1 z)) (Fin.ext ((qcol_lo hl hQ h).trans hq))
  · rename_i h
    exact congrArg (fun z => v (ix1 z)) (Fin.ext ((qcol_hi hp hl hQ h).trans hq))

theorem rowS_at (v : Vec Ideal S1280x48 .f32) (n : Fin 48) (s : Fin 1280) : rowS v (ix2 n s) = v (ix2 s n) := by
  unfold rowS
  pointwise

/-- One entry of a tile of scores, the row scale the same in every lane. -/
theorem pay8_at (x : Vec Ideal S960x2560 .fp8e4m3) (w : Vec Ideal S2560x256 .fp8e4m3) (ws b : Vec Ideal S1x256 .f32)
    (xs : Vec Ideal S20x48x128 .f32) (t : Fin 20) (n : Fin 48) (q : Fin 256) (r : Fin 960) (hr : t.val * 48 + n.val = r.val)
    (σ : EReal) (hσ : ∀ l, xs (ix3 t n l) = σ) :
    k0_pay8 x w ws b xs (ix5 0 t 0 n q) = Ideal.ofBits .f32 0x40A00000#32
      * Ideal.tanh ((∑ k, x (ix2 r k) * w (ix2 k q)) * σ * ws (ix2 0 q) + b (ix2 0 q)) := by
  obtain ⟨r, hrl⟩ := r
  subst hr
  unfold k0_pay8
  pointwise [hσ]
  split <;> rfl

section
variable {F : FTy → Type} [FloatOps F] [Named F]
variable (m : (ℓ : Loc nD τ sig) → Buf (Elt F) ℓ)

theorem V_v0 (c : Dev nD) : V m c main_v0 = rowS (m ((c.tc : Thread nD τ).loc main_arg1)) := by
  unfold_abbrev_sides
  after_results
  rfl
theorem V_v8 (c : Dev nD) : V m c main_v8 = planeW (m ((c.tc : Thread nD τ).loc main_arg2)) := by
  unfold_abbrev_sides
  after_results
  rfl
theorem V_v17 (c : Dev nD) : V m c main_v17 = planeV (m ((c.tc : Thread nD τ).loc main_arg3)) := by
  unfold_abbrev_sides
  after_results
  rfl
theorem V_v26 (c : Dev nD) : V m c main_v26 = planeV (m ((c.tc : Thread nD τ).loc main_arg4)) := by
  unfold_abbrev_sides
  after_results
  rfl
end

end Cert.KernelIdeal.Hand

end
-- ==== Proof.Final.lean ====
/- Over the extended reals the array of scores the kernel leaves is the plain formula of the arguments. -/
module

public import proofs.«01_k».proof.Proof.Plane
public import proofs.«01_k».proof.Proof.Ideal.Inv

@[expose] public section

set_option maxRecDepth 16384
set_option maxHeartbeats 400000

noncomputable section

namespace Cert.KernelIdeal.Hand

open Cert.KernelIdeal Cert.KernelIdeal.Gen
open Idealize.ShloMosaic Idealize.ShloMosaic.TcCoe
open Cert.ReferenceIdeal.Hand (qcol qcol_lt refT refT_apply)

/-! ## The blocks the windows hold -/

theorem idx0 : ∀ t : Fin cfg0.N, win0_0.index t (0 : Fin 3) = min t.val 63 ∧ win0_0.index t (1 : Fin 3) = 0 ∧ win0_0.index t (2 : Fin 3) = 0 :=
  (by decide +kernel : ∀ t : Fin grid0.N, win0_0.index t (0 : Fin 3) = min t.val 63 ∧ win0_0.index t (1 : Fin 3) = 0 ∧ win0_0.index t (2 : Fin 3) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem emb0 (t : Fin cfg0.N) (ht : t.val < 64) (j : S20x48x2560.Idx) (z : S1280x48x2560.Idx)
    (h0 : (z 0).val = 20 * t.val + (j 0).val) (h1 : (z 1).val = (j 1).val) (h2 : (z 2).val = (j 2).val) : ((cfg0.win 0).blk t).view.emb j = z := by
  obtain ⟨e0, e1, e2⟩ := idx0 t
  funext a; apply Fin.ext
  match a with
  | ⟨0, _⟩ => show win0_0.index t (0 : Fin 3) * 20 + 1 * (j 0).val = (z 0).val; rw [e0, h0]; omega
  | ⟨1, _⟩ => show win0_0.index t (1 : Fin 3) * 48 + 1 * (j 1).val = (z 1).val; rw [e1, h1]; omega
  | ⟨2, _⟩ => show win0_0.index t (2 : Fin 3) * 2560 + 1 * (j 2).val = (z 2).val; rw [e2, h2]; omega
theorem emb1 (t : Fin cfg0.N) (j : S48x1280.Idx) : ((cfg0.win 1).blk t).view.emb j = j := by
  obtain ⟨e0, e1⟩ := idx1 t
  funext a; apply Fin.ext
  match a with
  | ⟨0, _⟩ => show win0_1.index t (0 : Fin 2) * 48 + 1 * (j 0).val = (j 0).val; omega
  | ⟨1, _⟩ => show win0_1.index t (1 : Fin 2) * 1280 + 1 * (j 1).val = (j 1).val; omega
theorem emb2 (t : Fin cfg0.N) (j : S2560x5120.Idx) : ((cfg0.win 2).blk t).view.emb j = j := by
  obtain ⟨e0, e1⟩ := idx2 t
  funext a; apply Fin.ext
  match a with
  | ⟨0, _⟩ => show win0_2.index t (0 : Fin 2) * 2560 + 1 * (j 0).val = (j 0).val; omega
  | ⟨1, _⟩ => show win0_2.index t (1 : Fin 2) * 5120 + 1 * (j 1).val = (j 1).val; omega
theorem emb3 (t : Fin cfg0.N) (j : S1x5120.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 5120 + 1 * (j 1).val = (j 1).val; omega
theorem emb4 (t : Fin cfg0.N) (j : S1x5120.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 5120 + 1 * (j 1).val = (j 1).val; omega

section
variable {F : FTy → Type} [FloatOps F] [Named F]
variable (m : (ℓ : Loc nD τ sig) → Buf (Elt F) ℓ)

theorem iblk0_at (c : Dev nD) (t : Fin cfg0.N) (ht : t.val < 64) (j : S20x48x2560.Idx) (z : S1280x48x2560.Idx)
    (h0 : (z 0).val = 20 * t.val + (j 0).val) (h1 : (z 1).val = (j 1).val) (h2 : (z 2).val = (j 2).val) :
    iblk m c 0 t j = m ((c.tc : Thread nD τ).loc main_arg0) z := by
  show V m c main_arg0 (((cfg0.win 0).blk t).view.emb j) = _
  rw [emb0 t ht j z h0 h1 h2, V_main_arg0]
theorem iblk1_eq (c : Dev nD) (t : Fin cfg0.N) : (iblk m c 1 t : Vec F S48x1280 .f32) = rowS (m ((c.tc : Thread nD τ).loc main_arg1)) := by
  funext j; show V m c main_v0 (((cfg0.win 1).blk t).view.emb j) = _; rw [emb1, V_v0]
theorem iblk2_eq (c : Dev nD) (t : Fin cfg0.N) : (iblk m c 2 t : Vec F S2560x5120 .fp8e4m3) = planeW (m ((c.tc : Thread nD τ).loc main_arg2)) := by
  funext j; show V m c main_v8 (((cfg0.win 2).blk t).view.emb j) = _; rw [emb2, V_v8]
theorem iblk3_eq (c : Dev nD) (t : Fin cfg0.N) : (iblk m c 3 t : Vec F S1x5120 .f32) = planeV (m ((c.tc : Thread nD τ).loc main_arg3)) := by
  funext j; show V m c main_v17 (((cfg0.win 3).blk t).view.emb j) = _; rw [emb3, V_v17]
theorem iblk4_eq (c : Dev nD) (t : Fin cfg0.N) : (iblk m c 4 t : Vec F S1x5120 .f32) = planeV (m ((c.tc : Thread nD τ).loc main_arg4)) := by
  funext j; show V m c main_v26 (((cfg0.win 4).blk t).view.emb j) = _; rw [emb4, V_v26]
end

/-! ## The scores -/

/-- One entry of the scores of chunk `p`, from the arrays the windows hold. -/
theorem zt_at (p : ℕ) (hp : p < 64) (x1 : Vec Ideal S20x48x2560 .fp8e4m3) (xsc : Vec Ideal S1280x48 .f32) (w : Vec Ideal S2560x5120 .fp8e4m3) (ws b : Vec Ideal S5120 .f32)
    (i : Fin 2) (t : Fin 20) (pl : Fin 5) (n : Fin 48) (l : Fin 1024) (q : Fin 5120) (hq : qcol pl.val l.val = q.val) (s : Fin 1280) (hs : 20 * p + t.val = s.val) :
    zt p x1 (rowS xsc) (planeW w) (planeV ws) (planeV b) (ValueIdx.ix5 i t pl n l) = Ideal.ofBits .f32 0x40A00000#32
      * Ideal.tanh ((∑ k, x1 (ix3 t n k) * w (ix2 k q)) * xsc (ix2 s n) * ws (ix1 q) + b (ix1 q)) := by
  have ht : t.val < 20 := t.isLt
  have hn : n.val < 48 := n.isLt
  have hl : l.val < 1024 := l.isLt
  have hpl : pl.val < 5 := pl.isLt
  have e0 : pl.val * 1024 + l.val = ((pl.val * 4 + l.val / 256) * 256 + l.val % 256) % 5120 := by omega
  have hr : t.val * 48 + n.val < 960 := by omega
  have hm : l.val % 256 < 256 := Nat.mod_lt _ (by decide)
  have hQl : ((pl.val * 4 + l.val / 256) * 256 + l.val % 256) % 5120 < 5120 := Nat.mod_lt _ (by decide)
  have h1 : (t.val * 48 + n.val) / 48 = t.val := by omega
  have h2 : (t.val * 48 + n.val) % 48 = n.val := by omega
  have h3 : (20 * p + t.val) % 1280 = s.val := by have := s.isLt; omega
  have key := pay8_at (xt x1) (fun y => planeW w (ValueIdx.ix2 (⟨(y 0).val, ValueIdx.idx2_lt0 y⟩ : Fin 2560) (⟨((pl.val * 4 + l.val / 256) * 256 + (y 1).val) % 5120, Nat.mod_lt _ (by decide)⟩ : Fin 5120)))
    (fun y => planeV ws (ValueIdx.ix2 (0 : Fin 1) (⟨((pl.val * 4 + l.val / 256) * 256 + (y 1).val) % 5120, Nat.mod_lt _ (by decide)⟩ : Fin 5120)))
    (fun y => planeV b (ValueIdx.ix2 (0 : Fin 1) (⟨((pl.val * 4 + l.val / 256) * 256 + (y 1).val) % 5120, Nat.mod_lt _ (by decide)⟩ : Fin 5120)))
    (xs p (rowS xsc)) t n ⟨_, hm⟩ ⟨_, hr⟩ rfl (xsc (ix2 s n)) (fun l' => by
      show rowS xsc (ValueIdx.ix2 (⟨n.val, _⟩ : Fin 48) (⟨(20 * p + t.val) % 1280, _⟩ : Fin 1280)) = _
      rw [← rowS_at xsc n s, ix2_eq_valueIdx]
      exact congrArg (rowS xsc) (congrArg (ValueIdx.ix2 n) (Fin.ext h3)))
  have ex : ∀ k, xt x1 (ix2 ⟨_, hr⟩ k) = x1 (ix3 t n k) := fun k => by
    rw [ix3_eq_valueIdx]
    show x1 (ValueIdx.ix3 (⟨(t.val * 48 + n.val) / 48, _⟩ : Fin 20) (⟨(t.val * 48 + n.val) % 48, _⟩ : Fin 48) k) = _
    exact congrArg x1 (congrArg₂ (fun a b => ValueIdx.ix3 a b k) (Fin.ext h1) (Fin.ext h2))
  have ew : ∀ k, planeW w (ValueIdx.ix2 k ⟨_, hQl⟩) = w (ix2 k q) := fun k => by
    rw [← ix2_eq_valueIdx]; exact planeW_at w k _ q _ _ hpl hl e0 hq
  have es : planeV ws (ValueIdx.ix2 0 ⟨_, hQl⟩) = ws (ix1 q) := by
    rw [← ix2_eq_valueIdx]; exact planeV_at ws 0 _ q _ _ hpl hl e0 hq
  have eb : planeV b (ValueIdx.ix2 0 ⟨_, hQl⟩) = b (ix1 q) := by
    rw [← ix2_eq_valueIdx]; exact planeV_at b 0 _ q _ _ hpl hl e0 hq
  rw [ix5_eq_valueIdx] at key
  refine Eq.trans (b := k0_pay8 _ _ _ _ _ (ValueIdx.ix5 0 t 0 n ⟨_, hm⟩)) rfl (key.trans ?_)
  have hsum := Finset.sum_congr (rfl : (Finset.univ : Finset (Fin 2560)) = Finset.univ) fun k _ => congrArg₂ (· * ·) (ex k) (ew k)
  exact congrArg (Ideal.ofBits .f32 0x40A00000#32 * Ideal.tanh ·) (congrArg₂ (· + ·) (congrArg₂ (· * ·) (congrArg (· * xsc (ix2 s n)) hsum) es) eb)

/-- THE SCORES: what the kernel leaves is the plain formula of its arguments. -/
theorem Zfull_eq (m : (ℓ : Loc nD τ sig) → Buf (Elt Ideal) ℓ) (c : Dev nD) : Zfull m c = refT (F := Ideal) (m ((c.tc : Thread nD τ).loc main_arg0))
    (m ((c.tc : Thread nD τ).loc main_arg1)) (m ((c.tc : Thread nD τ).loc main_arg2)) (m ((c.tc : Thread nD τ).loc main_arg3)) (m ((c.tc : Thread nD τ).loc main_arg4)) := by
  funext (j : S1280x5x48x1024.Idx)
  obtain ⟨s, pl, n, l, rfl⟩ : ∃ (s : Fin 1280) (pl : Fin 5) (n : Fin 48) (l : Fin 1024), j = ix4 s pl n l := ⟨_, _, _, _, eq_ix4 j⟩
  have hs : s.val < 1280 := s.isLt
  have hp : s.val / 20 < 64 := by omega
  have hq := qcol_lt pl.isLt l.isLt
  refine Eq.trans ?_ (refT_apply _ _ _ _ _ s pl n l ⟨_, hq⟩ rfl).symm
  show Zb m c (s.val / 20) (ValueIdx.ix5 (0 : Fin 2) (⟨s.val % 20, _⟩ : Fin 20) pl n l) = _
  unfold Zb
  rw [iblk1_eq, iblk2_eq, iblk3_eq, iblk4_eq]
  refine (zt_at _ hp _ _ _ _ _ _ _ _ _ _ ⟨_, hq⟩ rfl s (Nat.div_add_mod _ _)).trans ?_
  refine congrArg (fun z => Ideal.ofBits .f32 0x40A00000#32 * Ideal.tanh (z * _ * _ + _)) (Finset.sum_congr rfl fun k _ => congrArg (· * _) ?_)
  have h65 : s.val / 20 % 65 = s.val / 20 := Nat.mod_eq_of_lt (by omega)
  exact iblk0_at m c _ (by show s.val / 20 % 65 < 64; omega) _ _ (by show s.val = 20 * (s.val / 20 % 65) + s.val % 20; omega) rfl rfl

end Cert.KernelIdeal.Hand

end
-- ==== Proof.RefRun.lean ====
/- The plain formula's program run from any memory: its result array is the term of RefTerm.lean. -/
module

public import proofs.«01_k».proof.Proof.Gen.ReferenceIdeal.Frame
public import proofs.«01_k».proof.Proof.RefTerm
public import Idealize.ShloMosaic.Lib.Claim
public import Idealize.ShloMosaic.Lib.Pipeline.ValueKit

@[expose] public section

set_option maxRecDepth 16384
set_option maxHeartbeats 400000

noncomputable section

namespace Cert.ReferenceIdeal.Hand

open Cert.ReferenceIdeal Cert.ReferenceIdeal.Gen
open Idealize.ShloMosaic Idealize.ShloMosaic.TcCoe
open Idealize.SL.Sem
open Idealize.ShloMosaic.Pipeline (Dat)

variable {F : FTy → Type} [FloatOps F] [∀ e, Nonempty (Elt F e)]

theorem idx_zero0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx_zero1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_zero2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- An index of a window's block is the same index of its array. -/
theorem emb0 (t : Fin cfg0.N) (j : S61440x2560.Idx) : ((cfg0.win 0).blk t).view.emb j = j := by
  obtain ⟨e0, e1⟩ := idx_zero0 t
  funext a; apply Fin.ext
  match a with
  | ⟨0, _⟩ => show win0_0.index t (0 : Fin 2) * 61440 + 1 * (j 0).val = (j 0).val; omega
  | ⟨1, _⟩ => show win0_0.index t (1 : Fin 2) * 2560 + 1 * (j 1).val = (j 1).val; omega
theorem emb1 (t : Fin cfg0.N) (j : S2560x5120.Idx) : ((cfg0.win 1).blk t).view.emb j = j := by
  obtain ⟨e0, e1⟩ := idx_zero1 t
  funext a; apply Fin.ext
  match a with
  | ⟨0, _⟩ => show win0_1.index t (0 : Fin 2) * 2560 + 1 * (j 0).val = (j 0).val; omega
  | ⟨1, _⟩ => show win0_1.index t (1 : Fin 2) * 5120 + 1 * (j 1).val = (j 1).val; omega
theorem emb2 (t : Fin cfg0.N) (j : S61440x5120.Idx) : ((cfg0.win 2).blk t).view.emb j = j := by
  obtain ⟨e0, e1⟩ := idx_zero2 t
  funext a; apply Fin.ext
  match a with
  | ⟨0, _⟩ => show win0_2.index t (0 : Fin 2) * 61440 + 1 * (j 0).val = (j 0).val; omega
  | ⟨1, _⟩ => show win0_2.index t (1 : Fin 2) * 5120 + 1 * (j 1).val = (j 1).val; omega

/-- The one store, whole, of the matrix product of the two blocks. -/
theorem out_eq (x0 : Vec F S61440x2560 .fp8e4m3) (x1 : Vec F S2560x5120 .fp8e4m3) : out0_2 x0 x1 = dotT x0 x1 := by
  unfold out0_2 r0_0 r0_1 r0_2
  rw [View.canon_cons_unit_lit _ _ _ (by decide), View.ld_unit_lit _ _ (by decide), View.ld_unit_lit _ _ (by decide)]
  rfl

variable (m : (ℓ : Loc nD τ sig) → Buf (Elt F) ℓ) (ρ : Dev nD → PrngReg)

theorem iblk0_eq (c : Dev nD) (t : Fin cfg0.N) : iblk m c 0 t = V m c main_v0 := by
  funext j; show V m c main_v0 (((cfg0.win 0).blk t).view.emb j) = V m c main_v0 j; rw [emb0]
theorem iblk1_eq (c : Dev nD) (t : Fin cfg0.N) : iblk m c 1 t = V m c main_arg2 := by
  funext j; show V m c main_arg2 (((cfg0.win 1).blk t).view.emb j) = V m c main_arg2 j; rw [emb1]

theorem cut2_eq (t : Fin cfg0.N) (X : Vec F S61440x5120 .f32) :
    (cfg0.win 2).cut (grid0.coords t) X = ((cfg0.win 2).blk t).view.read (Elt F) X := by
  funext j
  show X j = X (((cfg0.win 2).blk t).view.emb j)
  rw [emb2]

theorem flushed2_eq (c : Dev nD) (t : Fin cfg0.N) :
    (dats m 0 c).flushed 2 t = ((cfg0.win 2).blk t).view.read (Elt F) (dotT (V m c main_v0) (V m c main_arg2)) := by
  show (cfg0.win 2).cut (grid0.coords t) ((dats m 0 c).after 2 t) = _
  rw [after0_2, out_eq, iblk0_eq, iblk1_eq]
  exact cut2_eq t _

theorem covered2 (i : S61440x5120.Idx) :
    ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb2] at h⟩

/-- The product array after the call. -/
theorem final2 (c : Dev nD) : (dats m 0 c).arrAt 2 cfg0.N = dotT (V m c main_v0) (V m c main_arg2) :=
  (dats m 0 c).arrAt_eq_of_cover 2 (dotT (V m c main_v0) (V m c main_arg2)) (fun t _ => flushed2_eq m c t) covered2

theorem V_v0 (c : Dev nD) : V m c main_v0 = shapeCast S61440x2560 (m ((c.tc : Thread nD τ).loc main_arg0)) shapeCasts_S1280x48x2560_S61440x2560 := by
  rfl

/-- The lines after the call. -/
theorem tail_eq (U : Valuation τ sig (Elt F)) : StableHlo.after hostOps1 U (Proc.devRef .tc main_v25)
    = planeT (scoreT (U (Proc.devRef .tc main_v1)) (U (Proc.devRef .tc main_arg1)) (U (Proc.devRef .tc main_arg3)) (U (Proc.devRef .tc main_arg4))) := by
  unfold_abbrev_sides
  after_results
  rfl

theorem result_eq (c : Dev nD) : Pipeline.afterTail₀ cfgs (dats m) 0 (V0 m) [hostOps1] c main_v25
    = refT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  have hinj : Function.Injective (Pipeline.arrRef spec0) := by decide
  have e1 := Pipeline.withArrays_arr spec0 hinj c (V0 m c) (fun w => (dats m 0 c).arrAt w cfg0.N) 2
  have eA := fun (b : Ref sig .tc) hb => Pipeline.withArrays_of_ne spec0 c (V0 m c) (fun w => (dats m 0 c).arrAt w cfg0.N) b hb
  refine (tail_eq (Pipeline.withArrays spec0 c (V0 m c) (fun w => (dats m 0 c).arrAt w cfg0.N))).trans ?_
  unfold refT
  refine congrArg planeT ?_
  rw [← V_v0 m c, ← V_main_arg1 m c, ← V_main_arg2 m c, ← V_main_arg3 m c, ← V_main_arg4 m c, ← final2 m c]
  have h1 := e1
  have h2 := eA main_arg1 (by decide)
  have h3 := eA main_arg3 (by decide)
  have h4 := eA main_arg4 (by decide)
  exact congr (congr (congrArg₂ scoreT h1 h2) h3) h4

/-- THE RUN with the result array at its term, and the arguments unchanged. -/
theorem run_value : θ_run defs (onTc (τ := τ) (main (F := F))) ⟨m, fun _ => 0, ρ⟩ (fun r => ∀ c : Dev nD,
      r.2.mem ((c.tc : Thread nD τ).loc main_v25) = refT (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.2 c).2 main_v25 (Pipeline.mem_restRefs_of main_v25 (by decide) (by decide))).trans (result_eq m c), h.1 c⟩)
    (θ_run_and (unchanged m ρ) (run_main m ρ))

end Cert.ReferenceIdeal.Hand

end
-- ==== Proof.lean ====
module

public import proofs.«01_k».proof.Defs
public import proofs.«01_k».proof.Proof.Run
public import proofs.«01_k».proof.Proof.Ideal.Run
public import proofs.«01_k».proof.Proof.Final
public import proofs.«01_k».proof.Proof.RefRun

@[expose] public section

noncomputable section

namespace Cert.Proof

open Idealize.ShloMosaic Idealize.SL.Sem

/-- On memories that agree on the arguments, the plain formula of the one is what the kernel leaves from the other. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Hand.refT (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = Cert.KernelIdeal.Hand.Zfull m c :=
  (congr (congr (congr (congr (congrArg (Cert.ReferenceIdeal.Hand.refT (F := Ideal)) h.1) h.2.1) h.2.2.1) h.2.2.2.1) h.2.2.2.2).trans
    (Cert.KernelIdeal.Hand.Zfull_eq m c).symm

/-- The kernel over the extended reals and the plain formula leave one array of scores. -/
theorem algebraic : Cert.algebraic_KernelIdeal_ReferenceIdeal (hKernelIdeal := Cert.KernelIdeal.Gen.facts) (hReferenceIdeal := Cert.ReferenceIdeal.Gen.facts) :=
  fun m g m' g' _ hm => ⟨fun c => Cert.KernelIdeal.Hand.Zfull m c,
    (θ_run _ _ _).mono (fun _ h c => let ⟨h0, h1, h2, h3, h4, hz⟩ := h.1 c; ⟨hz, h0, h1, h2, h3, h4⟩) (Cert.KernelIdeal.Hand.run_facts (F := Ideal) m g),
    (θ_run _ _ _).mono (fun _ h c => ⟨(h c).1.trans (same m m' c (hm c)), (h c).2⟩)
      (Cert.ReferenceIdeal.Hand.run_value (F := Ideal) m' g')⟩

theorem claim : Cert.Claim := ⟨Cert.Kernel.Gen.facts, Cert.KernelIdeal.Gen.facts, Cert.ReferenceIdeal.Gen.facts,
  fun m g _ => (θ_run _ _ _).mono (fun _ h => ⟨fun c => let ⟨h0, h1, h2, h3, h4, _⟩ := h.1 c; ⟨h0, h1, h2, h3, h4⟩, h.2⟩) (Cert.Kernel.Hand.run_facts (F := Bits) m g),
  fun m g _ => (θ_run _ _ _).mono (fun _ h => ⟨fun c => let ⟨h0, h1, h2, h3, h4, _⟩ := h.1 c; ⟨h0, h1, h2, h3, h4⟩, h.2⟩) (Cert.KernelIdeal.Hand.run_facts (F := Ideal) m g),
  fun m g _ => Cert.ReferenceIdeal.Gen.frame (F := Ideal) m g,
  IdealRules.named_const.statement Cert.KernelIdeal.κ "log2_e" .f32 0x3FB8AA3B#32 (((Real.log 2)⁻¹ : ℝ) : EReal) rfl,
  algebraic⟩

end Cert.Proof

end
